-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def Pre_InEvenCtx (m : (ℓ : Loc Cert.InEvenCtx.nD Cert.InEvenCtx.τ Cert.InEvenCtx.sig) → Buf (Elt Bits) ℓ) : Prop :=
  True

def Pre_InEvenCtxIdeal (m : (ℓ : Loc Cert.InEvenCtxIdeal.nD Cert.InEvenCtxIdeal.τ Cert.InEvenCtxIdeal.sig) → Buf (Elt Ideal) ℓ) : Prop :=
  True

def Pre_InEvenCtxReferenceIdeal (m : (ℓ : Loc Cert.InEvenCtxReferenceIdeal.nD Cert.InEvenCtxReferenceIdeal.τ Cert.InEvenCtxReferenceIdeal.sig) → Buf (Elt Ideal) ℓ) : Prop :=
  True

def Pre_InOddCtx (m : (ℓ : Loc Cert.InOddCtx.nD Cert.InOddCtx.τ Cert.InOddCtx.sig) → Buf (Elt Bits) ℓ) : Prop :=
  True

def Pre_InOddCtxIdeal (m : (ℓ : Loc Cert.InOddCtxIdeal.nD Cert.InOddCtxIdeal.τ Cert.InOddCtxIdeal.sig) → Buf (Elt Ideal) ℓ) : Prop :=
  True

def Pre_InOddCtxReferenceIdeal (m : (ℓ : Loc Cert.InOddCtxReferenceIdeal.nD Cert.InOddCtxReferenceIdeal.τ Cert.InOddCtxReferenceIdeal.sig) → Buf (Elt Ideal) ℓ) : Prop :=
  True

def Pre_OutProjCtx (m : (ℓ : Loc Cert.OutProjCtx.nD Cert.OutProjCtx.τ Cert.OutProjCtx.sig) → Buf (Elt Bits) ℓ) : Prop :=
  True

def Pre_OutProjCtxIdeal (m : (ℓ : Loc Cert.OutProjCtxIdeal.nD Cert.OutProjCtxIdeal.τ Cert.OutProjCtxIdeal.sig) → Buf (Elt Ideal) ℓ) : Prop :=
  True

def Pre_OutProjCtxReferenceIdeal (m : (ℓ : Loc Cert.OutProjCtxReferenceIdeal.nD Cert.OutProjCtxReferenceIdeal.τ Cert.OutProjCtxReferenceIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateReferenceIdeal (m : (ℓ : Loc Cert.ModulateReferenceIdeal.nD Cert.ModulateReferenceIdeal.τ Cert.ModulateReferenceIdeal.sig) → Buf (Elt Ideal) ℓ) : Prop :=
  True

def Pre_Neighbour (m : (ℓ : Loc Cert.Neighbour.nD Cert.Neighbour.τ Cert.Neighbour.sig) → Buf (Elt Bits) ℓ) : Prop :=
  True

def Pre_NeighbourIdeal (m : (ℓ : Loc Cert.NeighbourIdeal.nD Cert.NeighbourIdeal.τ Cert.NeighbourIdeal.sig) → Buf (Elt Ideal) ℓ) : Prop :=
  True

def Pre_NeighbourIdeal_finite_scores [hPre_finite_scores : Cert.Pre_finite_scores.Facts] (m : (ℓ : Loc Cert.NeighbourIdeal.nD Cert.NeighbourIdeal.τ Cert.NeighbourIdeal.sig) → Buf (Elt Ideal) ℓ) : Prop :=
  ∀ c : Dev Cert.NeighbourIdeal.nD,
    (Cert.Pre_finite_scores.fn (F := Ideal) (m ((c.tc : Thread Cert.NeighbourIdeal.nD Cert.NeighbourIdeal.τ).loc Cert.NeighbourIdeal.main_arg0)) (m ((c.tc : Thread Cert.NeighbourIdeal.nD Cert.NeighbourIdeal.τ).loc Cert.NeighbourIdeal.main_arg1)) (m ((c.tc : Thread Cert.NeighbourIdeal.nD Cert.NeighbourIdeal.τ).loc Cert.NeighbourIdeal.main_arg2))).1 = (fun _ => 1#1)
    ∧ (Cert.Pre_finite_scores.fn (F := Ideal) (m ((c.tc : Thread Cert.NeighbourIdeal.nD Cert.NeighbourIdeal.τ).loc Cert.NeighbourIdeal.main_arg0)) (m ((c.tc : Thread Cert.NeighbourIdeal.nD Cert.NeighbourIdeal.τ).loc Cert.NeighbourIdeal.main_arg1)) (m ((c.tc : Thread Cert.NeighbourIdeal.nD Cert.NeighbourIdeal.τ).loc Cert.NeighbourIdeal.main_arg2))).2.1 = (fun _ => 1#1)
    ∧ (Cert.Pre_finite_scores.fn (F := Ideal) (m ((c.tc : Thread Cert.NeighbourIdeal.nD Cert.NeighbourIdeal.τ).loc Cert.NeighbourIdeal.main_arg0)) (m ((c.tc : Thread Cert.NeighbourIdeal.nD Cert.NeighbourIdeal.τ).loc Cert.NeighbourIdeal.main_arg1)) (m ((c.tc : Thread Cert.NeighbourIdeal.nD Cert.NeighbourIdeal.τ).loc Cert.NeighbourIdeal.main_arg2))).2.2 = (fun _ => 1#1)

def Pre_NeighbourReferenceIdeal (m : (ℓ : Loc Cert.NeighbourReferenceIdeal.nD Cert.NeighbourReferenceIdeal.τ Cert.NeighbourReferenceIdeal.sig) → Buf (Elt Ideal) ℓ) : Prop :=
  True

def Pre_NeighbourReferenceIdeal_finite_scores [hPre_finite_scores : Cert.Pre_finite_scores.Facts] (m : (ℓ : Loc Cert.NeighbourReferenceIdeal.nD Cert.NeighbourReferenceIdeal.τ Cert.NeighbourReferenceIdeal.sig) → Buf (Elt Ideal) ℓ) : Prop :=
  ∀ c : Dev Cert.NeighbourReferenceIdeal.nD,
    (Cert.Pre_finite_scores.fn (F := Ideal) (m ((c.tc : Thread Cert.NeighbourReferenceIdeal.nD Cert.NeighbourReferenceIdeal.τ).loc Cert.NeighbourReferenceIdeal.main_arg0)) (m ((c.tc : Thread Cert.NeighbourReferenceIdeal.nD Cert.NeighbourReferenceIdeal.τ).loc Cert.NeighbourReferenceIdeal.main_arg1)) (m ((c.tc : Thread Cert.NeighbourReferenceIdeal.nD Cert.NeighbourReferenceIdeal.τ).loc Cert.NeighbourReferenceIdeal.main_arg2))).1 = (fun _ => 1#1)
    ∧ (Cert.Pre_finite_scores.fn (F := Ideal) (m ((c.tc : Thread Cert.NeighbourReferenceIdeal.nD Cert.NeighbourReferenceIdeal.τ).loc Cert.NeighbourReferenceIdeal.main_arg0)) (m ((c.tc : Thread Cert.NeighbourReferenceIdeal.nD Cert.NeighbourReferenceIdeal.τ).loc Cert.NeighbourReferenceIdeal.main_arg1)) (m ((c.tc : Thread Cert.NeighbourReferenceIdeal.nD Cert.NeighbourReferenceIdeal.τ).loc Cert.NeighbourReferenceIdeal.main_arg2))).2.1 = (fun _ => 1#1)
    ∧ (Cert.Pre_finite_scores.fn (F := Ideal) (m ((c.tc : Thread Cert.NeighbourReferenceIdeal.nD Cert.NeighbourReferenceIdeal.τ).loc Cert.NeighbourReferenceIdeal.main_arg0)) (m ((c.tc : Thread Cert.NeighbourReferenceIdeal.nD Cert.NeighbourReferenceIdeal.τ).loc Cert.NeighbourReferenceIdeal.main_arg1)) (m ((c.tc : Thread Cert.NeighbourReferenceIdeal.nD Cert.NeighbourReferenceIdeal.τ).loc Cert.NeighbourReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def quiescent_InEvenCtx [hInEvenCtx : Cert.InEvenCtx.Facts] : Prop :=
  ∀ (m : (ℓ : Loc Cert.InEvenCtx.nD Cert.InEvenCtx.τ Cert.InEvenCtx.sig) → Buf (Elt Bits) ℓ) (g : Dev Cert.InEvenCtx.nD → PrngReg), Pre_InEvenCtx m →
    θ_run (Cert.InEvenCtx.defs (F := Bits)) (onTc (τ := Cert.InEvenCtx.τ) (Cert.InEvenCtx.main (F := Bits))) ⟨m, fun _ => 0, g⟩ (fun r => (∀ c : Dev Cert.InEvenCtx.nD,
      r.2.mem ((c.tc : Thread Cert.InEvenCtx.nD Cert.InEvenCtx.τ).loc Cert.InEvenCtx.main_arg0) = m ((c.tc : Thread Cert.InEvenCtx.nD Cert.InEvenCtx.τ).loc Cert.InEvenCtx.main_arg0)
      ∧ r.2.mem ((c.tc : Thread Cert.InEvenCtx.nD Cert.InEvenCtx.τ).loc Cert.InEvenCtx.main_arg1) = m ((c.tc : Thread Cert.InEvenCtx.nD Cert.InEvenCtx.τ).loc Cert.InEvenCtx.main_arg1))
      ∧ r.2.sem = fun _ => 0)

def quiescent_InEvenCtxIdeal [hInEvenCtxIdeal : Cert.InEvenCtxIdeal.Facts] : Prop :=
  ∀ (m : (ℓ : Loc Cert.InEvenCtxIdeal.nD Cert.InEvenCtxIdeal.τ Cert.InEvenCtxIdeal.sig) → Buf (Elt Ideal) ℓ) (g : Dev Cert.InEvenCtxIdeal.nD → PrngReg), Pre_InEvenCtxIdeal m →
    θ_run (Cert.InEvenCtxIdeal.defs (F := Ideal)) (onTc (τ := Cert.InEvenCtxIdeal.τ) (Cert.InEvenCtxIdeal.main (F := Ideal))) ⟨m, fun _ => 0, g⟩ (fun r => (∀ c : Dev Cert.InEvenCtxIdeal.nD,
      r.2.mem ((c.tc : Thread Cert.InEvenCtxIdeal.nD Cert.InEvenCtxIdeal.τ).loc Cert.InEvenCtxIdeal.main_arg0) = m ((c.tc : Thread Cert.InEvenCtxIdeal.nD Cert.InEvenCtxIdeal.τ).loc Cert.InEvenCtxIdeal.main_arg0)
      ∧ r.2.mem ((c.tc : Thread Cert.InEvenCtxIdeal.nD Cert.InEvenCtxIdeal.τ).loc Cert.InEvenCtxIdeal.main_arg1) = m ((c.tc : Thread Cert.InEvenCtxIdeal.nD Cert.InEvenCtxIdeal.τ).loc Cert.InEvenCtxIdeal.main_arg1))
      ∧ r.2.sem = fun _ => 0)

def quiescent_InEvenCtxReferenceIdeal [hInEvenCtxReferenceIdeal : Cert.InEvenCtxReferenceIdeal.Facts] : Prop :=
  ∀ (m : (ℓ : Loc Cert.InEvenCtxReferenceIdeal.nD Cert.InEvenCtxReferenceIdeal.τ Cert.InEvenCtxReferenceIdeal.sig) → Buf (Elt Ideal) ℓ) (g : Dev Cert.InEvenCtxReferenceIdeal.nD → PrngReg), Pre_InEvenCtxReferenceIdeal m →
    θ_run (Cert.InEvenCtxReferenceIdeal.defs (F := Ideal)) (onTc (τ := Cert.InEvenCtxReferenceIdeal.τ) (Cert.InEvenCtxReferenceIdeal.main (F := Ideal))) ⟨m, fun _ => 0, g⟩ (fun r => (∀ c : Dev Cert.InEvenCtxReferenceIdeal.nD,
      r.2.mem ((c.tc : Thread Cert.InEvenCtxReferenceIdeal.nD Cert.InEvenCtxReferenceIdeal.τ).loc Cert.InEvenCtxReferenceIdeal.main_arg0) = m ((c.tc : Thread Cert.InEvenCtxReferenceIdeal.nD Cert.InEvenCtxReferenceIdeal.τ).loc Cert.InEvenCtxReferenceIdeal.main_arg0)
      ∧ r.2.mem ((c.tc : Thread Cert.InEvenCtxReferenceIdeal.nD Cert.InEvenCtxReferenceIdeal.τ).loc Cert.InEvenCtxReferenceIdeal.main_arg1) = m ((c.tc : Thread Cert.InEvenCtxReferenceIdeal.nD Cert.InEvenCtxReferenceIdeal.τ).loc Cert.InEvenCtxReferenceIdeal.main_arg1))
      ∧ r.2.sem = fun _ => 0)

def quiescent_InOddCtx [hInOddCtx : Cert.InOddCtx.Facts] : Prop :=
  ∀ (m : (ℓ : Loc Cert.InOddCtx.nD Cert.InOddCtx.τ Cert.InOddCtx.sig) → Buf (Elt Bits) ℓ) (g : Dev Cert.InOddCtx.nD → PrngReg), Pre_InOddCtx m →
    θ_run (Cert.InOddCtx.defs (F := Bits)) (onTc (τ := Cert.InOddCtx.τ) (Cert.InOddCtx.main (F := Bits))) ⟨m, fun _ => 0, g⟩ (fun r => (∀ c : Dev Cert.InOddCtx.nD,
      r.2.mem ((c.tc : Thread Cert.InOddCtx.nD Cert.InOddCtx.τ).loc Cert.InOddCtx.main_arg0) = m ((c.tc : Thread Cert.InOddCtx.nD Cert.InOddCtx.τ).loc Cert.InOddCtx.main_arg0)
      ∧ r.2.mem ((c.tc : Thread Cert.InOddCtx.nD Cert.InOddCtx.τ).loc Cert.InOddCtx.main_arg1) = m ((c.tc : Thread Cert.InOddCtx.nD Cert.InOddCtx.τ).loc Cert.InOddCtx.main_arg1))
      ∧ r.2.sem = fun _ => 0)

def quiescent_InOddCtxIdeal [hInOddCtxIdeal : Cert.InOddCtxIdeal.Facts] : Prop :=
  ∀ (m : (ℓ : Loc Cert.InOddCtxIdeal.nD Cert.InOddCtxIdeal.τ Cert.InOddCtxIdeal.sig) → Buf (Elt Ideal) ℓ) (g : Dev Cert.InOddCtxIdeal.nD → PrngReg), Pre_InOddCtxIdeal m →
    θ_run (Cert.InOddCtxIdeal.defs (F := Ideal)) (onTc (τ := Cert.InOddCtxIdeal.τ) (Cert.InOddCtxIdeal.main (F := Ideal))) ⟨m, fun _ => 0, g⟩ (fun r => (∀ c : Dev Cert.InOddCtxIdeal.nD,
      r.2.mem ((c.tc : Thread Cert.InOddCtxIdeal.nD Cert.InOddCtxIdeal.τ).loc Cert.InOddCtxIdeal.main_arg0) = m ((c.tc : Thread Cert.InOddCtxIdeal.nD Cert.InOddCtxIdeal.τ).loc Cert.InOddCtxIdeal.main_arg0)
      ∧ r.2.mem ((c.tc : Thread Cert.InOddCtxIdeal.nD Cert.InOddCtxIdeal.τ).loc Cert.InOddCtxIdeal.main_arg1) = m ((c.tc : Thread Cert.InOddCtxIdeal.nD Cert.InOddCtxIdeal.τ).loc Cert.InOddCtxIdeal.main_arg1))
      ∧ r.2.sem = fun _ => 0)

def quiescent_InOddCtxReferenceIdeal [hInOddCtxReferenceIdeal : Cert.InOddCtxReferenceIdeal.Facts] : Prop :=
  ∀ (m : (ℓ : Loc Cert.InOddCtxReferenceIdeal.nD Cert.InOddCtxReferenceIdeal.τ Cert.InOddCtxReferenceIdeal.sig) → Buf (Elt Ideal) ℓ) (g : Dev Cert.InOddCtxReferenceIdeal.nD → PrngReg), Pre_InOddCtxReferenceIdeal m →
    θ_run (Cert.InOddCtxReferenceIdeal.defs (F := Ideal)) (onTc (τ := Cert.InOddCtxReferenceIdeal.τ) (Cert.InOddCtxReferenceIdeal.main (F := Ideal))) ⟨m, fun _ => 0, g⟩ (fun r => (∀ c : Dev Cert.InOddCtxReferenceIdeal.nD,
      r.2.mem ((c.tc : Thread Cert.InOddCtxReferenceIdeal.nD Cert.InOddCtxReferenceIdeal.τ).loc Cert.InOddCtxReferenceIdeal.main_arg0) = m ((c.tc : Thread Cert.InOddCtxReferenceIdeal.nD Cert.InOddCtxReferenceIdeal.τ).loc Cert.InOddCtxReferenceIdeal.main_arg0)
      ∧ r.2.mem ((c.tc : Thread Cert.InOddCtxReferenceIdeal.nD Cert.InOddCtxReferenceIdeal.τ).loc Cert.InOddCtxReferenceIdeal.main_arg1) = m ((c.tc : Thread Cert.InOddCtxReferenceIdeal.nD Cert.InOddCtxReferenceIdeal.τ).loc Cert.InOddCtxReferenceIdeal.main_arg1))
      ∧ r.2.sem = fun _ => 0)

def quiescent_OutProjCtx [hOutProjCtx : Cert.OutProjCtx.Facts] : Prop :=
  ∀ (m : (ℓ : Loc Cert.OutProjCtx.nD Cert.OutProjCtx.τ Cert.OutProjCtx.sig) → Buf (Elt Bits) ℓ) (g : Dev Cert.OutProjCtx.nD → PrngReg), Pre_OutProjCtx m →
    θ_run (Cert.OutProjCtx.defs (F := Bits)) (onTc (τ := Cert.OutProjCtx.τ) (Cert.OutProjCtx.main (F := Bits))) ⟨m, fun _ => 0, g⟩ (fun r => (∀ c : Dev Cert.OutProjCtx.nD,
      r.2.mem ((c.tc : Thread Cert.OutProjCtx.nD Cert.OutProjCtx.τ).loc Cert.OutProjCtx.main_arg0) = m ((c.tc : Thread Cert.OutProjCtx.nD Cert.OutProjCtx.τ).loc Cert.OutProjCtx.main_arg0)
      ∧ r.2.mem ((c.tc : Thread Cert.OutProjCtx.nD Cert.OutProjCtx.τ).loc Cert.OutProjCtx.main_arg1) = m ((c.tc : Thread Cert.OutProjCtx.nD Cert.OutProjCtx.τ).loc Cert.OutProjCtx.main_arg1)
      ∧ r.2.mem ((c.tc : Thread Cert.OutProjCtx.nD Cert.OutProjCtx.τ).loc Cert.OutProjCtx.main_arg2) = m ((c.tc : Thread Cert.OutProjCtx.nD Cert.OutProjCtx.τ).loc Cert.OutProjCtx.main_arg2)
      ∧ r.2.mem ((c.tc : Thread Cert.OutProjCtx.nD Cert.OutProjCtx.τ).loc Cert.OutProjCtx.main_arg3) = m ((c.tc : Thread Cert.OutProjCtx.nD Cert.OutProjCtx.τ).loc Cert.OutProjCtx.main_arg3)
      ∧ r.2.mem ((c.tc : Thread Cert.OutProjCtx.nD Cert.OutProjCtx.τ).loc Cert.OutProjCtx.main_arg4) = m ((c.tc : Thread Cert.OutProjCtx.nD Cert.OutProjCtx.τ).loc Cert.OutProjCtx.main_arg4))
      ∧ r.2.sem = fun _ => 0)

def quiescent_OutProjCtxIdeal [hOutProjCtxIdeal : Cert.OutProjCtxIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg), Pre_OutProjCtxIdeal m →
    θ_run (Cert.OutProjCtxIdeal.defs (F := Ideal)) (onTc (τ := Cert.OutProjCtxIdeal.τ) (Cert.OutProjCtxIdeal.main (F := Ideal))) ⟨m, fun _ => 0, g⟩ (fun r => (∀ c : Dev Cert.OutProjCtxIdeal.nD,
      r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
      ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1)
      ∧ r.2.mem ((c.tc : Thread Cert.OutProjCtxIdeal.nD Cert.OutProjCtxIdeal.τ).loc Cert.OutProjCtxIdeal.main_arg2) = m ((c.tc : Thread Cert.OutProjCtxIdeal.nD Cert.OutProjCtxIdeal.τ).loc Cert.OutProjCtxIdeal.main_arg2)
      ∧ r.2.mem ((c.tc : Thread Cert.OutProjCtxIdeal.nD Cert.OutProjCtxIdeal.τ).loc Cert.OutProjCtxIdeal.main_arg3) = m ((c.tc : Thread Cert.OutProjCtxIdeal.nD Cert.OutProjCtxIdeal.τ).loc Cert.OutProjCtxIdeal.main_arg3)
      ∧ r.2.mem ((c.tc : Thread Cert.OutProjCtxIdeal.nD Cert.OutProjCtxIdeal.τ).loc Cert.OutProjCtxIdeal.main_arg4) = m ((c.tc : Thread Cert.OutProjCtxIdeal.nD Cert.OutProjCtxIdeal.τ).loc Cert.OutProjCtxIdeal.main_arg4))
      ∧ r.2.sem = fun _ => 0)

def quiescent_OutProjCtxReferenceIdeal [hOutProjCtxReferenceIdeal : Cert.OutProjCtxReferenceIdeal.Facts] : Prop :=
  ∀ (m : (ℓ : Loc Cert.OutProjCtxReferenceIdeal.nD Cert.OutProjCtxReferenceIdeal.τ Cert.OutProjCtxReferenceIdeal.sig) → Buf (Elt Ideal) ℓ) (g : Dev Cert.OutProjCtxReferenceIdeal.nD → PrngReg), Pre_OutProjCtxReferenceIdeal m →
    θ_run (Cert.OutProjCtxReferenceIdeal.defs (F := Ideal)) (onTc (τ := Cert.OutProjCtxReferenceIdeal.τ) (Cert.OutProjCtxReferenceIdeal.main (F := Ideal))) ⟨m, fun _ => 0, g⟩ (fun r => (∀ c : Dev Cert.OutProjCtxReferenceIdeal.nD,
      r.2.mem ((c.tc : Thread Cert.OutProjCtxReferenceIdeal.nD Cert.OutProjCtxReferenceIdeal.τ).loc Cert.OutProjCtxReferenceIdeal.main_arg0) = m ((c.tc : Thread Cert.OutProjCtxReferenceIdeal.nD Cert.OutProjCtxReferenceIdeal.τ).loc Cert.OutProjCtxReferenceIdeal.main_arg0)
      ∧ r.2.mem ((c.tc : Thread Cert.OutProjCtxReferenceIdeal.nD Cert.OutProjCtxReferenceIdeal.τ).loc Cert.OutProjCtxReferenceIdeal.main_arg1) = m ((c.tc : Thread Cert.OutProjCtxReferenceIdeal.nD Cert.OutProjCtxReferenceIdeal.τ).loc Cert.OutProjCtxReferenceIdeal.main_arg1)
      ∧ r.2.mem ((c.tc : Thread Cert.OutProjCtxReferenceIdeal.nD Cert.OutProjCtxReferenceIdeal.τ).loc Cert.OutProjCtxReferenceIdeal.main_arg2) = m ((c.tc : Thread Cert.OutProjCtxReferenceIdeal.nD Cert.OutProjCtxReferenceIdeal.τ).loc Cert.OutProjCtxReferenceIdeal.main_arg2)
      ∧ r.2.mem ((c.tc : Thread Cert.OutProjCtxReferenceIdeal.nD Cert.OutProjCtxReferenceIdeal.τ).loc Cert.OutProjCtxReferenceIdeal.main_arg3) = m ((c.tc : Thread Cert.OutProjCtxReferenceIdeal.nD Cert.OutProjCtxReferenceIdeal.τ).loc Cert.OutProjCtxReferenceIdeal.main_arg3)
      ∧ r.2.mem ((c.tc : Thread Cert.OutProjCtxReferenceIdeal.nD Cert.OutProjCtxReferenceIdeal.τ).loc Cert.OutProjCtxReferenceIdeal.main_arg4) = m ((c.tc : Thread Cert.OutProjCtxReferenceIdeal.nD Cert.OutProjCtxReferenceIdeal.τ).loc Cert.OutProjCtxReferenceIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2)
      ∧ r.2.mem ((c.tc : Thread Cert.Modulate.nD Cert.Modulate.τ).loc Cert.Modulate.main_arg3) = m ((c.tc : Thread Cert.Modulate.nD Cert.Modulate.τ).loc Cert.Modulate.main_arg3))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
      ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ r.2.sem = fun _ => 0)

def quiescent_ModulateReferenceIdeal [hModulateReferenceIdeal : Cert.ModulateReferenceIdeal.Facts] : Prop :=
  ∀ (m : (ℓ : Loc Cert.ModulateReferenceIdeal.nD Cert.ModulateReferenceIdeal.τ Cert.ModulateReferenceIdeal.sig) → Buf (Elt Ideal) ℓ) (g : Dev Cert.ModulateReferenceIdeal.nD → PrngReg), Pre_ModulateReferenceIdeal m →
    θ_run (Cert.ModulateReferenceIdeal.defs (F := Ideal)) (onTc (τ := Cert.ModulateReferenceIdeal.τ) (Cert.ModulateReferenceIdeal.main (F := Ideal))) ⟨m, fun _ => 0, g⟩ (fun r => (∀ c : Dev Cert.ModulateReferenceIdeal.nD,
      r.2.mem ((c.tc : Thread Cert.ModulateReferenceIdeal.nD Cert.ModulateReferenceIdeal.τ).loc Cert.ModulateReferenceIdeal.main_arg0) = m ((c.tc : Thread Cert.ModulateReferenceIdeal.nD Cert.ModulateReferenceIdeal.τ).loc Cert.ModulateReferenceIdeal.main_arg0)
      ∧ r.2.mem ((c.tc : Thread Cert.ModulateReferenceIdeal.nD Cert.ModulateReferenceIdeal.τ).loc Cert.ModulateReferenceIdeal.main_arg1) = m ((c.tc : Thread Cert.ModulateReferenceIdeal.nD Cert.ModulateReferenceIdeal.τ).loc Cert.ModulateReferenceIdeal.main_arg1)
      ∧ r.2.mem ((c.tc : Thread Cert.ModulateReferenceIdeal.nD Cert.ModulateReferenceIdeal.τ).loc Cert.ModulateReferenceIdeal.main_arg2) = m ((c.tc : Thread Cert.ModulateReferenceIdeal.nD Cert.ModulateReferenceIdeal.τ).loc Cert.ModulateReferenceIdeal.main_arg2)
      ∧ r.2.mem ((c.tc : Thread Cert.ModulateReferenceIdeal.nD Cert.ModulateReferenceIdeal.τ).loc Cert.ModulateReferenceIdeal.main_arg3) = m ((c.tc : Thread Cert.ModulateReferenceIdeal.nD Cert.ModulateReferenceIdeal.τ).loc Cert.ModulateReferenceIdeal.main_arg3))
      ∧ r.2.sem = fun _ => 0)

def quiescent_Neighbour [hNeighbour : Cert.Neighbour.Facts] : Prop :=
  ∀ (m : (ℓ : Loc Cert.Neighbour.nD Cert.Neighbour.τ Cert.Neighbour.sig) → Buf (Elt Bits) ℓ) (g : Dev Cert.Neighbour.nD → PrngReg), Pre_Neighbour m →
    θ_run (Cert.Neighbour.defs (F := Bits)) (onTc (τ := Cert.Neighbour.τ) (Cert.Neighbour.main (F := Bits))) ⟨m, fun _ => 0, g⟩ (fun r => (∀ c : Dev Cert.Neighbour.nD,
      r.2.mem ((c.tc : Thread Cert.Neighbour.nD Cert.Neighbour.τ).loc Cert.Neighbour.main_arg0) = m ((c.tc : Thread Cert.Neighbour.nD Cert.Neighbour.τ).loc Cert.Neighbour.main_arg0)
      ∧ r.2.mem ((c.tc : Thread Cert.Neighbour.nD Cert.Neighbour.τ).loc Cert.Neighbour.main_arg1) = m ((c.tc : Thread Cert.Neighbour.nD Cert.Neighbour.τ).loc Cert.Neighbour.main_arg1)
      ∧ r.2.mem ((c.tc : Thread Cert.Neighbour.nD Cert.Neighbour.τ).loc Cert.Neighbour.main_arg2) = m ((c.tc : Thread Cert.Neighbour.nD Cert.Neighbour.τ).loc Cert.Neighbour.main_arg2))
      ∧ r.2.sem = fun _ => 0)

def quiescent_NeighbourIdeal [hNeighbourIdeal : Cert.NeighbourIdeal.Facts] : Prop :=
  ∀ (m : (ℓ : Loc Cert.NeighbourIdeal.nD Cert.NeighbourIdeal.τ Cert.NeighbourIdeal.sig) → Buf (Elt Ideal) ℓ) (g : Dev Cert.NeighbourIdeal.nD → PrngReg), Pre_NeighbourIdeal m →
    θ_run (Cert.NeighbourIdeal.defs (F := Ideal)) (onTc (τ := Cert.NeighbourIdeal.τ) (Cert.NeighbourIdeal.main (F := Ideal))) ⟨m, fun _ => 0, g⟩ (fun r => (∀ c : Dev Cert.NeighbourIdeal.nD,
      r.2.mem ((c.tc : Thread Cert.NeighbourIdeal.nD Cert.NeighbourIdeal.τ).loc Cert.NeighbourIdeal.main_arg0) = m ((c.tc : Thread Cert.NeighbourIdeal.nD Cert.NeighbourIdeal.τ).loc Cert.NeighbourIdeal.main_arg0)
      ∧ r.2.mem ((c.tc : Thread Cert.NeighbourIdeal.nD Cert.NeighbourIdeal.τ).loc Cert.NeighbourIdeal.main_arg1) = m ((c.tc : Thread Cert.NeighbourIdeal.nD Cert.NeighbourIdeal.τ).loc Cert.NeighbourIdeal.main_arg1)
      ∧ r.2.mem ((c.tc : Thread Cert.NeighbourIdeal.nD Cert.NeighbourIdeal.τ).loc Cert.NeighbourIdeal.main_arg2) = m ((c.tc : Thread Cert.NeighbourIdeal.nD Cert.NeighbourIdeal.τ).loc Cert.NeighbourIdeal.main_arg2))
      ∧ r.2.sem = fun _ => 0)

def quiescent_NeighbourIdeal_pre_finite_scores [hNeighbourIdeal : Cert.NeighbourIdeal.Facts] [hPre_finite_scores : Cert.Pre_finite_scores.Facts] : Prop :=
  ∀ (m : (ℓ : Loc Cert.NeighbourIdeal.nD Cert.NeighbourIdeal.τ Cert.NeighbourIdeal.sig) → Buf (Elt Ideal) ℓ) (g : Dev Cert.NeighbourIdeal.nD → PrngReg), Pre_NeighbourIdeal_finite_scores m →
    θ_run (Cert.NeighbourIdeal.defs (F := Ideal)) (onTc (τ := Cert.NeighbourIdeal.τ) (Cert.NeighbourIdeal.main (F := Ideal))) ⟨m, fun _ => 0, g⟩ (fun r => (∀ c : Dev Cert.NeighbourIdeal.nD,
      r.2.mem ((c.tc : Thread Cert.NeighbourIdeal.nD Cert.NeighbourIdeal.τ).loc Cert.NeighbourIdeal.main_arg0) = m ((c.tc : Thread Cert.NeighbourIdeal.nD Cert.NeighbourIdeal.τ).loc Cert.NeighbourIdeal.main_arg0)
      ∧ r.2.mem ((c.tc : Thread Cert.NeighbourIdeal.nD Cert.NeighbourIdeal.τ).loc Cert.NeighbourIdeal.main_arg1) = m ((c.tc : Thread Cert.NeighbourIdeal.nD Cert.NeighbourIdeal.τ).loc Cert.NeighbourIdeal.main_arg1)
      ∧ r.2.mem ((c.tc : Thread Cert.NeighbourIdeal.nD Cert.NeighbourIdeal.τ).loc Cert.NeighbourIdeal.main_arg2) = m ((c.tc : Thread Cert.NeighbourIdeal.nD Cert.NeighbourIdeal.τ).loc Cert.NeighbourIdeal.main_arg2))
      ∧ r.2.sem = fun _ => 0)

def quiescent_NeighbourReferenceIdeal [hNeighbourReferenceIdeal : Cert.NeighbourReferenceIdeal.Facts] : Prop :=
  ∀ (m : (ℓ : Loc Cert.NeighbourReferenceIdeal.nD Cert.NeighbourReferenceIdeal.τ Cert.NeighbourReferenceIdeal.sig) → Buf (Elt Ideal) ℓ) (g : Dev Cert.NeighbourReferenceIdeal.nD → PrngReg), Pre_NeighbourReferenceIdeal m →
    θ_run (Cert.NeighbourReferenceIdeal.defs (F := Ideal)) (onTc (τ := Cert.NeighbourReferenceIdeal.τ) (Cert.NeighbourReferenceIdeal.main (F := Ideal))) ⟨m, fun _ => 0, g⟩ (fun r => (∀ c : Dev Cert.NeighbourReferenceIdeal.nD,
      r.2.mem ((c.tc : Thread Cert.NeighbourReferenceIdeal.nD Cert.NeighbourReferenceIdeal.τ).loc Cert.NeighbourReferenceIdeal.main_arg0) = m ((c.tc : Thread Cert.NeighbourReferenceIdeal.nD Cert.NeighbourReferenceIdeal.τ).loc Cert.NeighbourReferenceIdeal.main_arg0)
      ∧ r.2.mem ((c.tc : Thread Cert.NeighbourReferenceIdeal.nD Cert.NeighbourReferenceIdeal.τ).loc Cert.NeighbourReferenceIdeal.main_arg1) = m ((c.tc : Thread Cert.NeighbourReferenceIdeal.nD Cert.NeighbourReferenceIdeal.τ).loc Cert.NeighbourReferenceIdeal.main_arg1)
      ∧ r.2.mem ((c.tc : Thread Cert.NeighbourReferenceIdeal.nD Cert.NeighbourReferenceIdeal.τ).loc Cert.NeighbourReferenceIdeal.main_arg2) = m ((c.tc : Thread Cert.NeighbourReferenceIdeal.nD Cert.NeighbourReferenceIdeal.τ).loc Cert.NeighbourReferenceIdeal.main_arg2))
      ∧ r.2.sem = fun _ => 0)

def quiescent_NeighbourReferenceIdeal_pre_finite_scores [hNeighbourReferenceIdeal : Cert.NeighbourReferenceIdeal.Facts] [hPre_finite_scores : Cert.Pre_finite_scores.Facts] : Prop :=
  ∀ (m : (ℓ : Loc Cert.NeighbourReferenceIdeal.nD Cert.NeighbourReferenceIdeal.τ Cert.NeighbourReferenceIdeal.sig) → Buf (Elt Ideal) ℓ) (g : Dev Cert.NeighbourReferenceIdeal.nD → PrngReg), Pre_NeighbourReferenceIdeal_finite_scores m →
    θ_run (Cert.NeighbourReferenceIdeal.defs (F := Ideal)) (onTc (τ := Cert.NeighbourReferenceIdeal.τ) (Cert.NeighbourReferenceIdeal.main (F := Ideal))) ⟨m, fun _ => 0, g⟩ (fun r => (∀ c : Dev Cert.NeighbourReferenceIdeal.nD,
      r.2.mem ((c.tc : Thread Cert.NeighbourReferenceIdeal.nD Cert.NeighbourReferenceIdeal.τ).loc Cert.NeighbourReferenceIdeal.main_arg0) = m ((c.tc : Thread Cert.NeighbourReferenceIdeal.nD Cert.NeighbourReferenceIdeal.τ).loc Cert.NeighbourReferenceIdeal.main_arg0)
      ∧ r.2.mem ((c.tc : Thread Cert.NeighbourReferenceIdeal.nD Cert.NeighbourReferenceIdeal.τ).loc Cert.NeighbourReferenceIdeal.main_arg1) = m ((c.tc : Thread Cert.NeighbourReferenceIdeal.nD Cert.NeighbourReferenceIdeal.τ).loc Cert.NeighbourReferenceIdeal.main_arg1)
      ∧ r.2.mem ((c.tc : Thread Cert.NeighbourReferenceIdeal.nD Cert.NeighbourReferenceIdeal.τ).loc Cert.NeighbourReferenceIdeal.main_arg2) = m ((c.tc : Thread Cert.NeighbourReferenceIdeal.nD Cert.NeighbourReferenceIdeal.τ).loc Cert.NeighbourReferenceIdeal.main_arg2))
      ∧ r.2.sem = fun _ => 0)

def preserves_Kernel_KernelIdeal : Prop :=
  IdealRules.named_const.Statement Cert.KernelIdeal.κ "q_scale" .f32 0x3E0293EE#32 (((11863283 / 134217728) * (Real.log 2)⁻¹ : ℝ) : EReal)

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InEven_InEvenIdeal : Prop :=
  True

def algebraic_InEvenIdeal_InEvenReferenceIdeal [hInEvenIdeal : Cert.InEvenIdeal.Facts] [hInEvenReferenceIdeal : Cert.InEvenReferenceIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v1) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v5) = v0 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1))

def preserves_InOdd_InOddIdeal : Prop :=
  True

def algebraic_InOddIdeal_InOddReferenceIdeal [hInOddIdeal : Cert.InOddIdeal.Facts] [hInOddReferenceIdeal : Cert.InOddReferenceIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v1) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v5) = v0 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v9) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v12) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def preserves_InEvenCtx_InEvenCtxIdeal : Prop :=
  True

def algebraic_InEvenCtxIdeal_InEvenCtxReferenceIdeal [hInEvenCtxIdeal : Cert.InEvenCtxIdeal.Facts] [hInEvenCtxReferenceIdeal : Cert.InEvenCtxReferenceIdeal.Facts] : Prop :=
  ∀ (m : (ℓ : Loc Cert.InEvenCtxIdeal.nD Cert.InEvenCtxIdeal.τ Cert.InEvenCtxIdeal.sig) → Buf (Elt Ideal) ℓ) (g : Dev Cert.InEvenCtxIdeal.nD → PrngReg)
    (m' : (ℓ : Loc Cert.InEvenCtxReferenceIdeal.nD Cert.InEvenCtxReferenceIdeal.τ Cert.InEvenCtxReferenceIdeal.sig) → Buf (Elt Ideal) ℓ) (g' : Dev Cert.InEvenCtxReferenceIdeal.nD → PrngReg), Pre_InEvenCtxIdeal m →
    (∀ c : Dev Cert.InEvenCtxIdeal.nD,
      m' ((c.tc : Thread Cert.InEvenCtxReferenceIdeal.nD Cert.InEvenCtxReferenceIdeal.τ).loc Cert.InEvenCtxReferenceIdeal.main_arg0) = m ((c.tc : Thread Cert.InEvenCtxIdeal.nD Cert.InEvenCtxIdeal.τ).loc Cert.InEvenCtxIdeal.main_arg0)
      ∧ m' ((c.tc : Thread Cert.InEvenCtxReferenceIdeal.nD Cert.InEvenCtxReferenceIdeal.τ).loc Cert.InEvenCtxReferenceIdeal.main_arg1) = m ((c.tc : Thread Cert.InEvenCtxIdeal.nD Cert.InEvenCtxIdeal.τ).loc Cert.InEvenCtxIdeal.main_arg1)) →
    ∃ (v0 : (c : Dev Cert.InEvenCtxIdeal.nD) → Buf (Elt Ideal) ((c.tc : Thread Cert.InEvenCtxIdeal.nD Cert.InEvenCtxIdeal.τ).loc Cert.InEvenCtxIdeal.main_v1)),
      θ_run (Cert.InEvenCtxIdeal.defs (F := Ideal)) (onTc (τ := Cert.InEvenCtxIdeal.τ) (Cert.InEvenCtxIdeal.main (F := Ideal))) ⟨m, fun _ => 0, g⟩ (fun r => ∀ c : Dev Cert.InEvenCtxIdeal.nD,
          r.2.mem ((c.tc : Thread Cert.InEvenCtxIdeal.nD Cert.InEvenCtxIdeal.τ).loc Cert.InEvenCtxIdeal.main_v1) = v0 c
          ∧ r.2.mem ((c.tc : Thread Cert.InEvenCtxIdeal.nD Cert.InEvenCtxIdeal.τ).loc Cert.InEvenCtxIdeal.main_arg0) = m ((c.tc : Thread Cert.InEvenCtxIdeal.nD Cert.InEvenCtxIdeal.τ).loc Cert.InEvenCtxIdeal.main_arg0)
          ∧ r.2.mem ((c.tc : Thread Cert.InEvenCtxIdeal.nD Cert.InEvenCtxIdeal.τ).loc Cert.InEvenCtxIdeal.main_arg1) = m ((c.tc : Thread Cert.InEvenCtxIdeal.nD Cert.InEvenCtxIdeal.τ).loc Cert.InEvenCtxIdeal.main_arg1))
      ∧ θ_run (Cert.InEvenCtxReferenceIdeal.defs (F := Ideal)) (onTc (τ := Cert.InEvenCtxReferenceIdeal.τ) (Cert.InEvenCtxReferenceIdeal.main (F := Ideal))) ⟨m', fun _ => 0, g'⟩ (fun r => ∀ c : Dev Cert.InEvenCtxReferenceIdeal.nD,
          r.2.mem ((c.tc : Thread Cert.InEvenCtxReferenceIdeal.nD Cert.InEvenCtxReferenceIdeal.τ).loc Cert.InEvenCtxReferenceIdeal.main_v5) = v0 c
          ∧ r.2.mem ((c.tc : Thread Cert.InEvenCtxReferenceIdeal.nD Cert.InEvenCtxReferenceIdeal.τ).loc Cert.InEvenCtxReferenceIdeal.main_arg0) = m' ((c.tc : Thread Cert.InEvenCtxReferenceIdeal.nD Cert.InEvenCtxReferenceIdeal.τ).loc Cert.InEvenCtxReferenceIdeal.main_arg0)
          ∧ r.2.mem ((c.tc : Thread Cert.InEvenCtxReferenceIdeal.nD Cert.InEvenCtxReferenceIdeal.τ).loc Cert.InEvenCtxReferenceIdeal.main_arg1) = m' ((c.tc : Thread Cert.InEvenCtxReferenceIdeal.nD Cert.InEvenCtxReferenceIdeal.τ).loc Cert.InEvenCtxReferenceIdeal.main_arg1))

def preserves_InOddCtx_InOddCtxIdeal : Prop :=
  True

def algebraic_InOddCtxIdeal_InOddCtxReferenceIdeal [hInOddCtxIdeal : Cert.InOddCtxIdeal.Facts] [hInOddCtxReferenceIdeal : Cert.InOddCtxReferenceIdeal.Facts] : Prop :=
  ∀ (m : (ℓ : Loc Cert.InOddCtxIdeal.nD Cert.InOddCtxIdeal.τ Cert.InOddCtxIdeal.sig) → Buf (Elt Ideal) ℓ) (g : Dev Cert.InOddCtxIdeal.nD → PrngReg)
    (m' : (ℓ : Loc Cert.InOddCtxReferenceIdeal.nD Cert.InOddCtxReferenceIdeal.τ Cert.InOddCtxReferenceIdeal.sig) → Buf (Elt Ideal) ℓ) (g' : Dev Cert.InOddCtxReferenceIdeal.nD → PrngReg), Pre_InOddCtxIdeal m →
    (∀ c : Dev Cert.InOddCtxIdeal.nD,
      m' ((c.tc : Thread Cert.InOddCtxReferenceIdeal.nD Cert.InOddCtxReferenceIdeal.τ).loc Cert.InOddCtxReferenceIdeal.main_arg0) = m ((c.tc : Thread Cert.InOddCtxIdeal.nD Cert.InOddCtxIdeal.τ).loc Cert.InOddCtxIdeal.main_arg0)
      ∧ m' ((c.tc : Thread Cert.InOddCtxReferenceIdeal.nD Cert.InOddCtxReferenceIdeal.τ).loc Cert.InOddCtxReferenceIdeal.main_arg1) = m ((c.tc : Thread Cert.InOddCtxIdeal.nD Cert.InOddCtxIdeal.τ).loc Cert.InOddCtxIdeal.main_arg1)) →
    ∃ (v0 : (c : Dev Cert.InOddCtxIdeal.nD) → Buf (Elt Ideal) ((c.tc : Thread Cert.InOddCtxIdeal.nD Cert.InOddCtxIdeal.τ).loc Cert.InOddCtxIdeal.main_v1)),
      θ_run (Cert.InOddCtxIdeal.defs (F := Ideal)) (onTc (τ := Cert.InOddCtxIdeal.τ) (Cert.InOddCtxIdeal.main (F := Ideal))) ⟨m, fun _ => 0, g⟩ (fun r => ∀ c : Dev Cert.InOddCtxIdeal.nD,
          r.2.mem ((c.tc : Thread Cert.InOddCtxIdeal.nD Cert.InOddCtxIdeal.τ).loc Cert.InOddCtxIdeal.main_v1) = v0 c
          ∧ r.2.mem ((c.tc : Thread Cert.InOddCtxIdeal.nD Cert.InOddCtxIdeal.τ).loc Cert.InOddCtxIdeal.main_arg0) = m ((c.tc : Thread Cert.InOddCtxIdeal.nD Cert.InOddCtxIdeal.τ).loc Cert.InOddCtxIdeal.main_arg0)
          ∧ r.2.mem ((c.tc : Thread Cert.InOddCtxIdeal.nD Cert.InOddCtxIdeal.τ).loc Cert.InOddCtxIdeal.main_arg1) = m ((c.tc : Thread Cert.InOddCtxIdeal.nD Cert.InOddCtxIdeal.τ).loc Cert.InOddCtxIdeal.main_arg1))
      ∧ θ_run (Cert.InOddCtxReferenceIdeal.defs (F := Ideal)) (onTc (τ := Cert.InOddCtxReferenceIdeal.τ) (Cert.InOddCtxReferenceIdeal.main (F := Ideal))) ⟨m', fun _ => 0, g'⟩ (fun r => ∀ c : Dev Cert.InOddCtxReferenceIdeal.nD,
          r.2.mem ((c.tc : Thread Cert.InOddCtxReferenceIdeal.nD Cert.InOddCtxReferenceIdeal.τ).loc Cert.InOddCtxReferenceIdeal.main_v5) = v0 c
          ∧ r.2.mem ((c.tc : Thread Cert.InOddCtxReferenceIdeal.nD Cert.InOddCtxReferenceIdeal.τ).loc Cert.InOddCtxReferenceIdeal.main_arg0) = m' ((c.tc : Thread Cert.InOddCtxReferenceIdeal.nD Cert.InOddCtxReferenceIdeal.τ).loc Cert.InOddCtxReferenceIdeal.main_arg0)
          ∧ r.2.mem ((c.tc : Thread Cert.InOddCtxReferenceIdeal.nD Cert.InOddCtxReferenceIdeal.τ).loc Cert.InOddCtxReferenceIdeal.main_arg1) = m' ((c.tc : Thread Cert.InOddCtxReferenceIdeal.nD Cert.InOddCtxReferenceIdeal.τ).loc Cert.InOddCtxReferenceIdeal.main_arg1))

def preserves_OutProjCtx_OutProjCtxIdeal : Prop :=
  True

def algebraic_OutProjCtxIdeal_OutProjCtxReferenceIdeal [hOutProjCtxIdeal : Cert.OutProjCtxIdeal.Facts] [hOutProjCtxReferenceIdeal : Cert.OutProjCtxReferenceIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg)
    (m' : (ℓ : Loc Cert.OutProjCtxReferenceIdeal.nD Cert.OutProjCtxReferenceIdeal.τ Cert.OutProjCtxReferenceIdeal.sig) → Buf (Elt Ideal) ℓ) (g' : Dev Cert.OutProjCtxReferenceIdeal.nD → PrngReg), Pre_OutProjCtxIdeal m →
    (∀ c : Dev Cert.OutProjCtxIdeal.nD,
      m' ((c.tc : Thread Cert.OutProjCtxReferenceIdeal.nD Cert.OutProjCtxReferenceIdeal.τ).loc Cert.OutProjCtxReferenceIdeal.main_arg0) = m ((c.tc : Thread Cert.OutProjCtxIdeal.nD Cert.OutProjCtxIdeal.τ).loc Cert.OutProjCtxIdeal.main_arg0)
      ∧ m' ((c.tc : Thread Cert.OutProjCtxReferenceIdeal.nD Cert.OutProjCtxReferenceIdeal.τ).loc Cert.OutProjCtxReferenceIdeal.main_arg1) = m ((c.tc : Thread Cert.OutProjCtxIdeal.nD Cert.OutProjCtxIdeal.τ).loc Cert.OutProjCtxIdeal.main_arg1)
      ∧ m' ((c.tc : Thread Cert.OutProjCtxReferenceIdeal.nD Cert.OutProjCtxReferenceIdeal.τ).loc Cert.OutProjCtxReferenceIdeal.main_arg2) = m ((c.tc : Thread Cert.OutProjCtxIdeal.nD Cert.OutProjCtxIdeal.τ).loc Cert.OutProjCtxIdeal.main_arg2)
      ∧ m' ((c.tc : Thread Cert.OutProjCtxReferenceIdeal.nD Cert.OutProjCtxReferenceIdeal.τ).loc Cert.OutProjCtxReferenceIdeal.main_arg3) = m ((c.tc : Thread Cert.OutProjCtxIdeal.nD Cert.OutProjCtxIdeal.τ).loc Cert.OutProjCtxIdeal.main_arg3)
      ∧ m' ((c.tc : Thread Cert.OutProjCtxReferenceIdeal.nD Cert.OutProjCtxReferenceIdeal.τ).loc Cert.OutProjCtxReferenceIdeal.main_arg4) = m ((c.tc : Thread Cert.OutProjCtxIdeal.nD Cert.OutProjCtxIdeal.τ).loc Cert.OutProjCtxIdeal.main_arg4)) →
    ∃ (v0 : (c : Dev Cert.OutProjCtxIdeal.nD) → Buf (Elt Ideal) ((c.tc : Thread Cert.OutProjCtxIdeal.nD Cert.OutProjCtxIdeal.τ).loc Cert.OutProjCtxIdeal.main_v4)),
      θ_run (Cert.OutProjCtxIdeal.defs (F := Ideal)) (onTc (τ := Cert.OutProjCtxIdeal.τ) (Cert.OutProjCtxIdeal.main (F := Ideal))) ⟨m, fun _ => 0, g⟩ (fun r => ∀ c : Dev Cert.OutProjCtxIdeal.nD,
          r.2.mem ((c.tc : Thread Cert.OutProjCtxIdeal.nD Cert.OutProjCtxIdeal.τ).loc Cert.OutProjCtxIdeal.main_v4) = v0 c
          ∧ r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
          ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1)
          ∧ r.2.mem ((c.tc : Thread Cert.OutProjCtxIdeal.nD Cert.OutProjCtxIdeal.τ).loc Cert.OutProjCtxIdeal.main_arg2) = m ((c.tc : Thread Cert.OutProjCtxIdeal.nD Cert.OutProjCtxIdeal.τ).loc Cert.OutProjCtxIdeal.main_arg2)
          ∧ r.2.mem ((c.tc : Thread Cert.OutProjCtxIdeal.nD Cert.OutProjCtxIdeal.τ).loc Cert.OutProjCtxIdeal.main_arg3) = m ((c.tc : Thread Cert.OutProjCtxIdeal.nD Cert.OutProjCtxIdeal.τ).loc Cert.OutProjCtxIdeal.main_arg3)
          ∧ r.2.mem ((c.tc : Thread Cert.OutProjCtxIdeal.nD Cert.OutProjCtxIdeal.τ).loc Cert.OutProjCtxIdeal.main_arg4) = m ((c.tc : Thread Cert.OutProjCtxIdeal.nD Cert.OutProjCtxIdeal.τ).loc Cert.OutProjCtxIdeal.main_arg4))
      ∧ θ_run (Cert.OutProjCtxReferenceIdeal.defs (F := Ideal)) (onTc (τ := Cert.OutProjCtxReferenceIdeal.τ) (Cert.OutProjCtxReferenceIdeal.main (F := Ideal))) ⟨m', fun _ => 0, g'⟩ (fun r => ∀ c : Dev Cert.OutProjCtxReferenceIdeal.nD,
          r.2.mem ((c.tc : Thread Cert.OutProjCtxReferenceIdeal.nD Cert.OutProjCtxReferenceIdeal.τ).loc Cert.OutProjCtxReferenceIdeal.main_v9) = v0 c
          ∧ r.2.mem ((c.tc : Thread Cert.OutProjCtxReferenceIdeal.nD Cert.OutProjCtxReferenceIdeal.τ).loc Cert.OutProjCtxReferenceIdeal.main_arg0) = m' ((c.tc : Thread Cert.OutProjCtxReferenceIdeal.nD Cert.OutProjCtxReferenceIdeal.τ).loc Cert.OutProjCtxReferenceIdeal.main_arg0)
          ∧ r.2.mem ((c.tc : Thread Cert.OutProjCtxReferenceIdeal.nD Cert.OutProjCtxReferenceIdeal.τ).loc Cert.OutProjCtxReferenceIdeal.main_arg1) = m' ((c.tc : Thread Cert.OutProjCtxReferenceIdeal.nD Cert.OutProjCtxReferenceIdeal.τ).loc Cert.OutProjCtxReferenceIdeal.main_arg1)
          ∧ r.2.mem ((c.tc : Thread Cert.OutProjCtxReferenceIdeal.nD Cert.OutProjCtxReferenceIdeal.τ).loc Cert.OutProjCtxReferenceIdeal.main_arg2) = m' ((c.tc : Thread Cert.OutProjCtxReferenceIdeal.nD Cert.OutProjCtxReferenceIdeal.τ).loc Cert.OutProjCtxReferenceIdeal.main_arg2)
          ∧ r.2.mem ((c.tc : Thread Cert.OutProjCtxReferenceIdeal.nD Cert.OutProjCtxReferenceIdeal.τ).loc Cert.OutProjCtxReferenceIdeal.main_arg3) = m' ((c.tc : Thread Cert.OutProjCtxReferenceIdeal.nD Cert.OutProjCtxReferenceIdeal.τ).loc Cert.OutProjCtxReferenceIdeal.main_arg3)
          ∧ r.2.mem ((c.tc : Thread Cert.OutProjCtxReferenceIdeal.nD Cert.OutProjCtxReferenceIdeal.τ).loc Cert.OutProjCtxReferenceIdeal.main_arg4) = m' ((c.tc : Thread Cert.OutProjCtxReferenceIdeal.nD Cert.OutProjCtxReferenceIdeal.τ).loc Cert.OutProjCtxReferenceIdeal.main_arg4))

def preserves_Modulate_ModulateIdeal : Prop :=
  True

def algebraic_ModulateIdeal_ModulateReferenceIdeal [hModulateIdeal : Cert.ModulateIdeal.Facts] [hModulateReferenceIdeal : Cert.ModulateReferenceIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateReferenceIdeal.nD Cert.ModulateReferenceIdeal.τ Cert.ModulateReferenceIdeal.sig) → Buf (Elt Ideal) ℓ) (g' : Dev Cert.ModulateReferenceIdeal.nD → PrngReg), Pre_ModulateIdeal m →
    (∀ c : Dev Cert.ModulateIdeal.nD,
      m' ((c.tc : Thread Cert.ModulateReferenceIdeal.nD Cert.ModulateReferenceIdeal.τ).loc Cert.ModulateReferenceIdeal.main_arg0) = m ((c.tc : Thread Cert.ModulateIdeal.nD Cert.ModulateIdeal.τ).loc Cert.ModulateIdeal.main_arg0)
      ∧ m' ((c.tc : Thread Cert.ModulateReferenceIdeal.nD Cert.ModulateReferenceIdeal.τ).loc Cert.ModulateReferenceIdeal.main_arg1) = m ((c.tc : Thread Cert.ModulateIdeal.nD Cert.ModulateIdeal.τ).loc Cert.ModulateIdeal.main_arg1)
      ∧ m' ((c.tc : Thread Cert.ModulateReferenceIdeal.nD Cert.ModulateReferenceIdeal.τ).loc Cert.ModulateReferenceIdeal.main_arg2) = m ((c.tc : Thread Cert.ModulateIdeal.nD Cert.ModulateIdeal.τ).loc Cert.ModulateIdeal.main_arg2)
      ∧ m' ((c.tc : Thread Cert.ModulateReferenceIdeal.nD Cert.ModulateReferenceIdeal.τ).loc Cert.ModulateReferenceIdeal.main_arg3) = m ((c.tc : Thread Cert.ModulateIdeal.nD Cert.ModulateIdeal.τ).loc Cert.ModulateIdeal.main_arg3)) →
    ∃ (v0 : (c : Dev Cert.ModulateIdeal.nD) → Buf (Elt Ideal) ((c.tc : Thread Cert.ModulateIdeal.nD Cert.ModulateIdeal.τ).loc Cert.ModulateIdeal.main_v1)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v1) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
          ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ θ_run (Cert.ModulateReferenceIdeal.defs (F := Ideal)) (onTc (τ := Cert.ModulateReferenceIdeal.τ) (Cert.ModulateReferenceIdeal.main (F := Ideal))) ⟨m', fun _ => 0, g'⟩ (fun r => ∀ c : Dev Cert.ModulateReferenceIdeal.nD,
          r.2.mem ((c.tc : Thread Cert.ModulateReferenceIdeal.nD Cert.ModulateReferenceIdeal.τ).loc Cert.ModulateReferenceIdeal.main_v19) = v0 c
          ∧ r.2.mem ((c.tc : Thread Cert.ModulateReferenceIdeal.nD Cert.ModulateReferenceIdeal.τ).loc Cert.ModulateReferenceIdeal.main_arg0) = m' ((c.tc : Thread Cert.ModulateReferenceIdeal.nD Cert.ModulateReferenceIdeal.τ).loc Cert.ModulateReferenceIdeal.main_arg0)
          ∧ r.2.mem ((c.tc : Thread Cert.ModulateReferenceIdeal.nD Cert.ModulateReferenceIdeal.τ).loc Cert.ModulateReferenceIdeal.main_arg1) = m' ((c.tc : Thread Cert.ModulateReferenceIdeal.nD Cert.ModulateReferenceIdeal.τ).loc Cert.ModulateReferenceIdeal.main_arg1)
          ∧ r.2.mem ((c.tc : Thread Cert.ModulateReferenceIdeal.nD Cert.ModulateReferenceIdeal.τ).loc Cert.ModulateReferenceIdeal.main_arg2) = m' ((c.tc : Thread Cert.ModulateReferenceIdeal.nD Cert.ModulateReferenceIdeal.τ).loc Cert.ModulateReferenceIdeal.main_arg2)
          ∧ r.2.mem ((c.tc : Thread Cert.ModulateReferenceIdeal.nD Cert.ModulateReferenceIdeal.τ).loc Cert.ModulateReferenceIdeal.main_arg3) = m' ((c.tc : Thread Cert.ModulateReferenceIdeal.nD Cert.ModulateReferenceIdeal.τ).loc Cert.ModulateReferenceIdeal.main_arg3))

def preserves_Neighbour_NeighbourIdeal : Prop :=
  IdealRules.named_const.Statement Cert.NeighbourIdeal.κ "na_scale" .f32 0x3E0293EE#32 (((11863283 / 134217728) * (Real.log 2)⁻¹ : ℝ) : EReal)
  ∧ IdealRules.named_const.Statement Cert.NeighbourIdeal.κ "log2e" .f32 0x3FB8AA3B#32 (((Real.log 2)⁻¹ : ℝ) : EReal)

def algebraic_NeighbourIdeal_NeighbourReferenceIdeal_pre_finite_scores [hNeighbourIdeal : Cert.NeighbourIdeal.Facts] [hNeighbourReferenceIdeal : Cert.NeighbourReferenceIdeal.Facts] [hPre_finite_scores : Cert.Pre_finite_scores.Facts] : Prop :=
  ∀ (m : (ℓ : Loc Cert.NeighbourIdeal.nD Cert.NeighbourIdeal.τ Cert.NeighbourIdeal.sig) → Buf (Elt Ideal) ℓ) (g : Dev Cert.NeighbourIdeal.nD → PrngReg)
    (m' : (ℓ : Loc Cert.NeighbourReferenceIdeal.nD Cert.NeighbourReferenceIdeal.τ Cert.NeighbourReferenceIdeal.sig) → Buf (Elt Ideal) ℓ) (g' : Dev Cert.NeighbourReferenceIdeal.nD → PrngReg), Pre_NeighbourIdeal_finite_scores m →
    (∀ c : Dev Cert.NeighbourIdeal.nD,
      m' ((c.tc : Thread Cert.NeighbourReferenceIdeal.nD Cert.NeighbourReferenceIdeal.τ).loc Cert.NeighbourReferenceIdeal.main_arg0) = m ((c.tc : Thread Cert.NeighbourIdeal.nD Cert.NeighbourIdeal.τ).loc Cert.NeighbourIdeal.main_arg0)
      ∧ m' ((c.tc : Thread Cert.NeighbourReferenceIdeal.nD Cert.NeighbourReferenceIdeal.τ).loc Cert.NeighbourReferenceIdeal.main_arg1) = m ((c.tc : Thread Cert.NeighbourIdeal.nD Cert.NeighbourIdeal.τ).loc Cert.NeighbourIdeal.main_arg1)
      ∧ m' ((c.tc : Thread Cert.NeighbourReferenceIdeal.nD Cert.NeighbourReferenceIdeal.τ).loc Cert.NeighbourReferenceIdeal.main_arg2) = m ((c.tc : Thread Cert.NeighbourIdeal.nD Cert.NeighbourIdeal.τ).loc Cert.NeighbourIdeal.main_arg2)) →
    ∃ (v0 : (c : Dev Cert.NeighbourIdeal.nD) → Buf (Elt Ideal) ((c.tc : Thread Cert.NeighbourIdeal.nD Cert.NeighbourIdeal.τ).loc Cert.NeighbourIdeal.main_v49)),
      θ_run (Cert.NeighbourIdeal.defs (F := Ideal)) (onTc (τ := Cert.NeighbourIdeal.τ) (Cert.NeighbourIdeal.main (F := Ideal))) ⟨m, fun _ => 0, g⟩ (fun r => ∀ c : Dev Cert.NeighbourIdeal.nD,
          r.2.mem ((c.tc : Thread Cert.NeighbourIdeal.nD Cert.NeighbourIdeal.τ).loc Cert.NeighbourIdeal.main_v49) = v0 c
          ∧ r.2.mem ((c.tc : Thread Cert.NeighbourIdeal.nD Cert.NeighbourIdeal.τ).loc Cert.NeighbourIdeal.main_arg0) = m ((c.tc : Thread Cert.NeighbourIdeal.nD Cert.NeighbourIdeal.τ).loc Cert.NeighbourIdeal.main_arg0)
          ∧ r.2.mem ((c.tc : Thread Cert.NeighbourIdeal.nD Cert.NeighbourIdeal.τ).loc Cert.NeighbourIdeal.main_arg1) = m ((c.tc : Thread Cert.NeighbourIdeal.nD Cert.NeighbourIdeal.τ).loc Cert.NeighbourIdeal.main_arg1)
          ∧ r.2.mem ((c.tc : Thread Cert.NeighbourIdeal.nD Cert.NeighbourIdeal.τ).loc Cert.NeighbourIdeal.main_arg2) = m ((c.tc : Thread Cert.NeighbourIdeal.nD Cert.NeighbourIdeal.τ).loc Cert.NeighbourIdeal.main_arg2))
      ∧ θ_run (Cert.NeighbourReferenceIdeal.defs (F := Ideal)) (onTc (τ := Cert.NeighbourReferenceIdeal.τ) (Cert.NeighbourReferenceIdeal.main (F := Ideal))) ⟨m', fun _ => 0, g'⟩ (fun r => ∀ c : Dev Cert.NeighbourReferenceIdeal.nD,
          r.2.mem ((c.tc : Thread Cert.NeighbourReferenceIdeal.nD Cert.NeighbourReferenceIdeal.τ).loc Cert.NeighbourReferenceIdeal.main_v97) = v0 c
          ∧ r.2.mem ((c.tc : Thread Cert.NeighbourReferenceIdeal.nD Cert.NeighbourReferenceIdeal.τ).loc Cert.NeighbourReferenceIdeal.main_arg0) = m' ((c.tc : Thread Cert.NeighbourReferenceIdeal.nD Cert.NeighbourReferenceIdeal.τ).loc Cert.NeighbourReferenceIdeal.main_arg0)
          ∧ r.2.mem ((c.tc : Thread Cert.NeighbourReferenceIdeal.nD Cert.NeighbourReferenceIdeal.τ).loc Cert.NeighbourReferenceIdeal.main_arg1) = m' ((c.tc : Thread Cert.NeighbourReferenceIdeal.nD Cert.NeighbourReferenceIdeal.τ).loc Cert.NeighbourReferenceIdeal.main_arg1)
          ∧ r.2.mem ((c.tc : Thread Cert.NeighbourReferenceIdeal.nD Cert.NeighbourReferenceIdeal.τ).loc Cert.NeighbourReferenceIdeal.main_arg2) = m' ((c.tc : Thread Cert.NeighbourReferenceIdeal.nD Cert.NeighbourReferenceIdeal.τ).loc Cert.NeighbourReferenceIdeal.main_arg2))

def Claim : Prop :=
  ∃ (hKernel : Cert.Kernel.Facts) (hKernelIdeal : Cert.KernelIdeal.Facts) (hReferenceIdeal : Cert.ReferenceIdeal.Facts) (hInEven : Cert.InEven.Facts) (hInEvenIdeal : Cert.InEvenIdeal.Facts) (hInEvenReferenceIdeal : Cert.InEvenReferenceIdeal.Facts) (hInOdd : Cert.InOdd.Facts) (hInOddIdeal : Cert.InOddIdeal.Facts) (hInOddReferenceIdeal : Cert.InOddReferenceIdeal.Facts) (hOutProj : Cert.OutProj.Facts) (hOutProjIdeal : Cert.OutProjIdeal.Facts) (hOutProjReferenceIdeal : Cert.OutProjReferenceIdeal.Facts) (hFinalNorm : Cert.FinalNorm.Facts) (hFinalNormIdeal : Cert.FinalNormIdeal.Facts) (hFinalNormReferenceIdeal : Cert.FinalNormReferenceIdeal.Facts) (hInEvenCtx : Cert.InEvenCtx.Facts) (hInEvenCtxIdeal : Cert.InEvenCtxIdeal.Facts) (hInEvenCtxReferenceIdeal : Cert.InEvenCtxReferenceIdeal.Facts) (hInOddCtx : Cert.InOddCtx.Facts) (hInOddCtxIdeal : Cert.InOddCtxIdeal.Facts) (hInOddCtxReferenceIdeal : Cert.InOddCtxReferenceIdeal.Facts) (hOutProjCtx : Cert.OutProjCtx.Facts) (hOutProjCtxIdeal : Cert.OutProjCtxIdeal.Facts) (hOutProjCtxReferenceIdeal : Cert.OutProjCtxReferenceIdeal.Facts) (hModulate : Cert.Modulate.Facts) (hModulateIdeal : Cert.ModulateIdeal.Facts) (hModulateReferenceIdeal : Cert.ModulateReferenceIdeal.Facts) (hNeighbour : Cert.Neighbour.Facts) (hNeighbourIdeal : Cert.NeighbourIdeal.Facts) (hNeighbourReferenceIdeal : Cert.NeighbourReferenceIdeal.Facts) (hPre_finite_keys : Cert.Pre_finite_keys.Facts) (hPre_finite_scores : Cert.Pre_finite_scores.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_InEven (hInEven := hInEven)
    ∧ quiescent_InEvenIdeal (hInEvenIdeal := hInEvenIdeal)
    ∧ quiescent_InEvenReferenceIdeal (hInEvenReferenceIdeal := hInEvenReferenceIdeal)
    ∧ quiescent_InOdd (hInOdd := hInOdd)
    ∧ quiescent_InOddIdeal (hInOddIdeal := hInOddIdeal)
    ∧ quiescent_InOddReferenceIdeal (hInOddReferenceIdeal := hInOddReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ quiescent_InEvenCtx (hInEvenCtx := hInEvenCtx)
    ∧ quiescent_InEvenCtxIdeal (hInEvenCtxIdeal := hInEvenCtxIdeal)
    ∧ quiescent_InEvenCtxReferenceIdeal (hInEvenCtxReferenceIdeal := hInEvenCtxReferenceIdeal)
    ∧ quiescent_InOddCtx (hInOddCtx := hInOddCtx)
    ∧ quiescent_InOddCtxIdeal (hInOddCtxIdeal := hInOddCtxIdeal)
    ∧ quiescent_InOddCtxReferenceIdeal (hInOddCtxReferenceIdeal := hInOddCtxReferenceIdeal)
    ∧ quiescent_OutProjCtx (hOutProjCtx := hOutProjCtx)
    ∧ quiescent_OutProjCtxIdeal (hOutProjCtxIdeal := hOutProjCtxIdeal)
    ∧ quiescent_OutProjCtxReferenceIdeal (hOutProjCtxReferenceIdeal := hOutProjCtxReferenceIdeal)
    ∧ quiescent_Modulate (hModulate := hModulate)
    ∧ quiescent_ModulateIdeal (hModulateIdeal := hModulateIdeal)
    ∧ quiescent_ModulateReferenceIdeal (hModulateReferenceIdeal := hModulateReferenceIdeal)
    ∧ quiescent_Neighbour (hNeighbour := hNeighbour)
    ∧ quiescent_NeighbourIdeal (hNeighbourIdeal := hNeighbourIdeal)
    ∧ quiescent_NeighbourIdeal_pre_finite_scores (hNeighbourIdeal := hNeighbourIdeal) (hPre_finite_scores := hPre_finite_scores)
    ∧ quiescent_NeighbourReferenceIdeal (hNeighbourReferenceIdeal := hNeighbourReferenceIdeal)
    ∧ quiescent_NeighbourReferenceIdeal_pre_finite_scores (hNeighbourReferenceIdeal := hNeighbourReferenceIdeal) (hPre_finite_scores := hPre_finite_scores)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_InEven_InEvenIdeal
    ∧ algebraic_InEvenIdeal_InEvenReferenceIdeal (hInEvenIdeal := hInEvenIdeal) (hInEvenReferenceIdeal := hInEvenReferenceIdeal)
    ∧ preserves_InOdd_InOddIdeal
    ∧ algebraic_InOddIdeal_InOddReferenceIdeal (hInOddIdeal := hInOddIdeal) (hInOddReferenceIdeal := hInOddReferenceIdeal)
    ∧ preserves_OutProj_OutProjIdeal
    ∧ algebraic_OutProjIdeal_OutProjReferenceIdeal (hOutProjIdeal := hOutProjIdeal) (hOutProjReferenceIdeal := hOutProjReferenceIdeal)
    ∧ preserves_FinalNorm_FinalNormIdeal
    ∧ algebraic_FinalNormIdeal_FinalNormReferenceIdeal (hFinalNormIdeal := hFinalNormIdeal) (hFinalNormReferenceIdeal := hFinalNormReferenceIdeal)
    ∧ preserves_InEvenCtx_InEvenCtxIdeal
    ∧ algebraic_InEvenCtxIdeal_InEvenCtxReferenceIdeal (hInEvenCtxIdeal := hInEvenCtxIdeal) (hInEvenCtxReferenceIdeal := hInEvenCtxReferenceIdeal)
    ∧ preserves_InOddCtx_InOddCtxIdeal
    ∧ algebraic_InOddCtxIdeal_InOddCtxReferenceIdeal (hInOddCtxIdeal := hInOddCtxIdeal) (hInOddCtxReferenceIdeal := hInOddCtxReferenceIdeal)
    ∧ preserves_OutProjCtx_OutProjCtxIdeal
    ∧ algebraic_OutProjCtxIdeal_OutProjCtxReferenceIdeal (hOutProjCtxIdeal := hOutProjCtxIdeal) (hOutProjCtxReferenceIdeal := hOutProjCtxReferenceIdeal)
    ∧ preserves_Modulate_ModulateIdeal
    ∧ algebraic_ModulateIdeal_ModulateReferenceIdeal (hModulateIdeal := hModulateIdeal) (hModulateReferenceIdeal := hModulateReferenceIdeal)
    ∧ preserves_Neighbour_NeighbourIdeal
    ∧ algebraic_NeighbourIdeal_NeighbourReferenceIdeal_pre_finite_scores (hNeighbourIdeal := hNeighbourIdeal) (hNeighbourReferenceIdeal := hNeighbourReferenceIdeal) (hPre_finite_scores := hPre_finite_scores)
-- ==== Pre_finite_keys.lean ====
abbrev S4x4096x13312 : Shape := ⟨3, ![4, 4096, 13312]⟩
abbrev S4x4x4352x128 : Shape := ⟨4, ![4, 4, 4352, 128]⟩
abbrev S128 : Shape := ⟨1, ![128]⟩
abbrev S_ : Shape := ⟨0, ![]⟩

class Facts : Prop where
  bitsLt_bf16_f32 : FTy.bits .bf16 < FTy.bits .f32
  bcast_S_S4x4x4352x128 : S_.BroadcastsInDim S4x4x4352x128 (![] : Fin 0 → Fin S4x4x4352x128.rank)
  reducesTo_S4x4x4352x128_S_d0_1_2_3 : S4x4x4352x128.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S4x4096x13312 .bf16) (main_arg1 : FVec F S4x4x4352x128 .bf16) (main_arg2 : FVec F S4x4x4352x128 .bf16) (main_arg3 : FVec F S128 .f32) : IVec S_ 1 × IVec S_ 1 :=
  let main_v0 : FVec F S4x4x4352x128 .f32 := (extf .f32 · bitsLt_bf16_f32) main_arg1
  let main_v1 : FVec F S4x4x4352x128 .f32 := Host.absf main_v0
  let main_cst : FVec F S_ .f32 := constant S_ .f32 0x7F800000#32
  let main_v2 : FVec F S4x4x4352x128 .f32 := broadcastInDim S4x4x4352x128 ![] bcast_S_S4x4x4352x128 main_cst
  let main_v3 : IVec S4x4x4352x128 1 := cmpf .olt main_v1 main_v2
  let main_c : IVec S_ 1 := constantI S_ 1 1#1
  let main_v4 : IVec S_ 1 := (fun x v => Host.reduce IntOp.andi x v reducesTo_S4x4x4352x128_S_d0_1_2_3 h_S_) main_v3 main_c
  let main_v5 : FVec F S128 .f32 := Host.absf main_arg3
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  (main_v4, main_v8)
-- ==== Pre_finite_scores.lean ====
abbrev S4x4096x12288 : Shape := ⟨3, ![4, 4096, 12288]⟩
abbrev S4x256x12288 : Shape := ⟨3, ![4, 256, 12288]⟩
abbrev S16x15x31 : Shape := ⟨3, ![16, 15, 31]⟩
abbrev S4x4096x4096 : Shape := ⟨3, ![4, 4096, 4096]⟩
abbrev S4x256x2048 : Shape := ⟨3, ![4, 256, 2048]⟩
abbrev S_ : Shape := ⟨0, ![]⟩

class Facts : Prop where
  slices_S4x4096x12288_S4x4096x4096_0_0_4096 : S4x4096x12288.Slices ![0, 0, 4096] S4x4096x4096
  bitsLt_bf16_f32 : FTy.bits .bf16 < FTy.bits .f32
  slices_S4x256x12288_S4x256x2048_0_0_6144 : S4x256x12288.Slices ![0, 0, 6144] S4x256x2048
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x256x2048 : S_.BroadcastsInDim S4x256x2048 (![] : Fin 0 → Fin S4x256x2048.rank)
  reducesTo_S4x256x2048_S_d0_1_2 : S4x256x2048.ReducesTo [0, 1, 2] S_
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S4x4096x12288 .bf16) (main_arg1 : FVec F S4x256x12288 .bf16) (main_arg2 : FVec F S16x15x31 .f32) : IVec S_ 1 × IVec S_ 1 × IVec S_ 1 :=
  let main_v0 : FVec F S4x4096x4096 .bf16 := (extractStridedSlice S4x4096x4096 ![0, 0, 4096] · slices_S4x4096x12288_S4x4096x4096_0_0_4096) main_arg0
  let main_v1 : FVec F S4x4096x4096 .f32 := (extf .f32 · bitsLt_bf16_f32) main_v0
  let main_v2 : FVec F S4x256x2048 .bf16 := (extractStridedSlice S4x256x2048 ![0, 0, 6144] · slices_S4x256x12288_S4x256x2048_0_0_6144) main_arg1
  let main_v3 : FVec F S4x256x2048 .f32 := (extf .f32 · bitsLt_bf16_f32) main_v2
  let main_v4 : FVec F S4x4096x4096 .f32 := Host.absf main_v1
  let main_cst : FVec F S_ .f32 := constant S_ .f32 0x7F800000#32
  let main_v5 : FVec F S4x4096x4096 .f32 := broadcastInDim S4x4096x4096 ![] bcast_S_S4x4096x4096 main_cst
  let main_v6 : IVec S4x4096x4096 1 := cmpf .olt main_v4 main_v5
  let main_c : IVec S_ 1 := constantI S_ 1 1#1
  let main_v7 : IVec S_ 1 := (fun x v => Host.reduce IntOp.andi x v reducesTo_S4x4096x4096_S_d0_1_2 h_S_) main_v6 main_c
  let main_v8 : FVec F S4x256x2048 .f32 := Host.absf main_v3
  let main_cst_0 : FVec F S_ .f32 := constant S_ .f32 0x7F800000#32
  let main_v9 : FVec F S4x256x2048 .f32 := broadcastInDim S4x256x2048 ![] bcast_S_S4x256x2048 main_cst_0
  let main_v10 : IVec S4x256x2048 1 := cmpf .olt main_v8 main_v9
  let main_c_1 : IVec S_ 1 := constantI S_ 1 1#1
  let main_v11 : IVec S_ 1 := (fun x v => Host.reduce IntOp.andi x v reducesTo_S4x256x2048_S_d0_1_2 h_S_) main_v10 main_c_1
  let main_v12 : FVec F S16x15x31 .f32 := Host.absf main_arg2
  let main_cst_2 : FVec F S_ .f32 := constant S_ .f32 0x7F800000#32
  let main_v13 : FVec F S16x15x31 .f32 := broadcastInDim S16x15x31 ![] bcast_S_S16x15x31 main_cst_2
  let main_v14 : IVec S16x15x31 1 := cmpf .olt main_v12 main_v13
  let main_c_3 : IVec S_ 1 := constantI S_ 1 1#1
  let main_v15 : IVec S_ 1 := (fun x v => Host.reduce IntOp.andi x v reducesTo_S16x15x31_S_d0_1_2 h_S_) main_v14 main_c_3
  (main_v7, main_v11, main_v15)
-- ==== Kernel.lean ====
abbrev S4x4096x13312 : Shape := ⟨3, ![4, 4096, 13312]⟩
abbrev S4x4x4352x128 : Shape := ⟨4, ![4, 4, 4352, 128]⟩
abbrev S128 : Shape := ⟨1, ![128]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x128 : Shape := ⟨2, ![1, 128]⟩
abbrev S4x4096x2048 : Shape := ⟨3, ![4, 4096, 2048]⟩
abbrev S1x256x512 : Shape := ⟨3, ![1, 256, 512]⟩
abbrev S1x1x4352x128 : Shape := ⟨4, ![1, 1, 4352, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S512x128 : Shape := ⟨2, ![512, 128]⟩
abbrev S512x1 : Shape := ⟨2, ![512, 1]⟩
abbrev S1x1x1024x128 : Shape := ⟨4, ![1, 1, 1024, 128]⟩
abbrev S1024x128 : Shape := ⟨2, ![1024, 128]⟩
abbrev S512x1024 : Shape := ⟨2, ![512, 1024]⟩
abbrev S512 : Shape := ⟨1, ![512]⟩
abbrev S1x1x256x128 : Shape := ⟨4, ![1, 1, 256, 128]⟩
abbrev S512x256 : Shape := ⟨2, ![512, 256]⟩

abbrev nBuf : Space → Nat
  | .hbm => 117
  | .vmem => 17
  | .smem => 0
  | _ => 0

abbrev bufTy : (tb : Table) → Fin (tcTables nBuf tb) → BufTy
  | .hbm, ⟨0, _⟩ => ⟨S4x4096x13312, .bf16⟩
  | .hbm, ⟨1, _⟩ => ⟨S4x4x4352x128, .bf16⟩
  | .hbm, ⟨2, _⟩ => ⟨S4x4x4352x128, .bf16⟩
  | .hbm, ⟨3, _⟩ => ⟨S128, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S_, .i1⟩
  | .hbm, ⟨40, _⟩ => ⟨S4096, .i1⟩
  | .hbm, ⟨41, _⟩ => ⟨S4096, .i1⟩
  | .hbm, ⟨42, _⟩ => ⟨S4096, .i1⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S4096x1, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x1, .f32⟩
  | .hbm, ⟨61, _⟩ => ⟨S1x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x1, .f32⟩
  | .hbm, ⟨66, _⟩ => ⟨S1x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x1, .f32⟩
  | .hbm, ⟨71, _⟩ => ⟨S1x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x128, .f32⟩
  | .hbm, ⟨76, _⟩ => ⟨S128, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S128, .i32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i1⟩
  | .hbm, ⟨88, _⟩ => ⟨S_, .i32⟩
  | .hbm, ⟨89, _⟩ => ⟨S128, .i32⟩
  | .hbm, ⟨90, _⟩ => ⟨S128, .i1⟩
  | .hbm, ⟨91, _⟩ => ⟨S_, .i32⟩
  | .hbm, ⟨92, _⟩ => ⟨S_, .i1⟩
  | .hbm, ⟨93, _⟩ => ⟨S128, .i1⟩
  | .hbm, ⟨94, _⟩ => ⟨S128, .i1⟩
  | .hbm, ⟨95, _⟩ => ⟨S128, .i1⟩
  | .hbm, ⟨96, _⟩ => ⟨S128, .i32⟩
  | .hbm, ⟨97, _⟩ => ⟨S128, .i32⟩
  | .hbm, ⟨98, _⟩ => ⟨S128, .i32⟩
  | .hbm, ⟨99, _⟩ => ⟨S_, .i32⟩
  | .hbm, ⟨100, _⟩ => ⟨S128, .i32⟩
  | .hbm, ⟨101, _⟩ => ⟨S128, .i1⟩
  | .hbm, ⟨102, _⟩ => ⟨S4096x128, .f32⟩
  | .hbm, ⟨103, _⟩ => ⟨S4096x128, .f32⟩
  | .hbm, ⟨104, _⟩ => ⟨S4096x128, .f32⟩
  | .hbm, ⟨105, _⟩ => ⟨S_, .f32⟩
  | .hbm, ⟨106, _⟩ => ⟨S_, .f32⟩
  | .hbm, ⟨107, _⟩ => ⟨S4096x128, .i1⟩
  | .hbm, ⟨108, _⟩ => ⟨S4096x128, .f32⟩
  | .hbm, ⟨109, _⟩ => ⟨S4096x128, .f32⟩
  | .hbm, ⟨110, _⟩ => ⟨S_, .f32⟩
  | .hbm, ⟨111, _⟩ => ⟨S_, .f32⟩
  | .hbm, ⟨112, _⟩ => ⟨S4096x128, .i1⟩
  | .hbm, ⟨113, _⟩ => ⟨S4096x128, .f32⟩
  | .hbm, ⟨114, _⟩ => ⟨S4096x128, .f32⟩
  | .hbm, ⟨115, _⟩ => ⟨S1x128, .f32⟩
  | .hbm, ⟨116, _⟩ => ⟨S4x4096x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x1x4352x128, .bf16⟩
  | .local _ .vmem, ⟨5, _⟩ => ⟨S1x1x4352x128, .bf16⟩
  | .local _ .vmem, ⟨6, _⟩ => ⟨S1x1x4352x128, .bf16⟩
  | .local _ .vmem, ⟨7, _⟩ => ⟨S1x1x4352x128, .bf16⟩
  | .local _ .vmem, ⟨8, _⟩ => ⟨S1x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S1x256x512, .bf16⟩
  | .local _ .vmem, ⟨16, _⟩ => ⟨S1x256x512, .bf16⟩
  | _, _ => ⟨S4x4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_2 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_1 : Ref sig .tc := ⟨.hbm, 85, rfl⟩
abbrev main_call2_v5 : Ref sig .tc := ⟨.hbm, 86, rfl⟩
abbrev main_call2_v6 : Ref sig .tc := ⟨.hbm, 87, rfl⟩
abbrev main_call2_c_2 : Ref sig .tc := ⟨.hbm, 88, rfl⟩
abbrev main_call2_v7 : Ref sig .tc := ⟨.hbm, 89, rfl⟩
abbrev main_call2_v8 : Ref sig .tc := ⟨.hbm, 90, rfl⟩
abbrev main_call2_c_3 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_v33 : Ref sig .tc := ⟨.hbm, 98, rfl⟩
abbrev main_c_3 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_4 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v39 : Ref sig .tc := ⟨.hbm, 109, rfl⟩
abbrev main_cst_5 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  ![arg0.toNat, arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "q_scale" => some (((11863283 / 134217728) * (Real.log 2)⁻¹ : ℝ) : EReal)
  | _ => none
-- ==== ReferenceIdeal.lean ====
abbrev S4x4096x13312 : Shape := ⟨3, ![4, 4096, 13312]⟩
abbrev S4x4x4352x128 : Shape := ⟨4, ![4, 4, 4352, 128]⟩
abbrev S128 : Shape := ⟨1, ![128]⟩
abbrev S4x4096x2048 : Shape := ⟨3, ![4, 4096, 2048]⟩
abbrev S4x4096x16x128 : Shape := ⟨4, ![4, 4096, 16, 128]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x16x2x2x32 : Shape := ⟨6, ![4, 4096, 16, 2, 2, 32]⟩
abbrev S4096x1x2x32 : Shape := ⟨4, ![4096, 1, 2, 32]⟩
abbrev S4x4096x16x2x1x32 : Shape := ⟨6, ![4, 4096, 16, 2, 1, 32]⟩
abbrev S4x4096x16x2x32 : Shape := ⟨5, ![4, 4096, 16, 2, 32]⟩
abbrev S1x4096x1x2x32 : Shape := ⟨5, ![1, 4096, 1, 2, 32]⟩
abbrev S4x4096x4x4x128 : Shape := ⟨5, ![4, 4096, 4, 4, 128]⟩
abbrev S4x4x4352x4096x4 : Shape := ⟨5, ![4, 4, 4352, 4096, 4]⟩
abbrev S4x4x4x4096x4352 : Shape := ⟨5, ![4, 4, 4, 4096, 4352]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩

abbrev nBuf : Space → Nat
  | .hbm => 149
  | .vmem => 0
  | .smem => 0
  | _ => 0

abbrev hbmTy0_0 (i : Nat) : BufTy := match i % 128 with
  | 0 => ⟨S4x4096x13312, .bf16⟩
  | 1 => ⟨S4x4x4352x128, .bf16⟩
  | 2 => ⟨S4x4x4352x128, .bf16⟩
  | 3 => ⟨S128, .f32⟩
  | 4 => ⟨S4x4096x13312, .f32⟩
  | 5 => ⟨S4x4x4352x128, .f32⟩
  | 6 => ⟨S4x4x4352x128, .f32⟩
  | 7 => ⟨S4x4096x2048, .f32⟩
  | 8 => ⟨S4x4096x16x128, .f32⟩
  | 9 => ⟨S4x4096x2048, .f32⟩
  | 10 => ⟨S4096, .i32⟩
  | 11 => ⟨S_, .i32⟩
  | 12 => ⟨S_, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i1⟩
  | 19 => ⟨S4096, .i32⟩
  | 20 => ⟨S4096, .i32⟩
  | 21 => ⟨S_, .i32⟩
  | 22 => ⟨S4096, .i32⟩
  | 23 => ⟨S4096, .i1⟩
  | 24 => ⟨S4096, .i1⟩
  | 25 => ⟨S_, .i32⟩
  | 26 => ⟨S4096, .i32⟩
  | 27 => ⟨S4096, .i32⟩
  | 28 => ⟨S4096, .i32⟩
  | 29 => ⟨S4096, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i1⟩
  | 44 => ⟨S_, .i32⟩
  | 45 => ⟨S_, .i1⟩
  | 46 => ⟨S4096, .i1⟩
  | 47 => ⟨S4096, .i1⟩
  | 48 => ⟨S4096, .i1⟩
  | 49 => ⟨S4096, .i32⟩
  | 50 => ⟨S4096, .i32⟩
  | 51 => ⟨S4096, .i32⟩
  | 52 => ⟨S4096, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S4096x1, .f32⟩
  | 62 => ⟨S1x32, .f32⟩
  | 63 => ⟨S4096x32, .f32⟩
  | 64 => ⟨S4096x32, .f32⟩
  | 65 => ⟨S4096x32, .f32⟩
  | 66 => ⟨S4096x1, .f32⟩
  | 67 => ⟨S1x32, .f32⟩
  | 68 => ⟨S4096x32, .f32⟩
  | 69 => ⟨S4096x32, .f32⟩
  | 70 => ⟨S4096x32, .f32⟩
  | 71 => ⟨S4096x64, .f32⟩
  | 72 => ⟨S4096x64, .f32⟩
  | 73 => ⟨S4096x64, .f32⟩
  | 74 => ⟨S4x4096x16x128, .f32⟩
  | 75 => ⟨S_, .f32⟩
  | 76 => ⟨S4x4096x16, .f32⟩
  | 77 => ⟨S4x4096x16x1, .f32⟩
  | 78 => ⟨S_, .f32⟩
  | 79 => ⟨S4x4096x16x1, .f32⟩
  | 80 => ⟨S4x4096x16x1, .f32⟩
  | 81 => ⟨S_, .f32⟩
  | 82 => ⟨S4x4096x16x1, .f32⟩
  | 83 => ⟨S4x4096x16x1, .f32⟩
  | 84 => ⟨S4x4096x16x1, .f32⟩
  | 85 => ⟨S4x4096x16x128, .f32⟩
  | 86 => ⟨S4x4096x16x128, .f32⟩
  | 87 => ⟨S1x1x1x128, .f32⟩
  | 88 => ⟨S4x4096x16x128, .f32⟩
  | 89 => ⟨S4x4096x16x128, .f32⟩
  | 90 => ⟨S4x4096x16x2x2x32, .f32⟩
  | 91 => ⟨S4096x1x2x32, .f32⟩
  | 92 => ⟨S4096x1x2x32, .f32⟩
  | 93 => ⟨S4x4096x16x2x1x32, .f32⟩
  | 94 => ⟨S4x4096x16x2x32, .f32⟩
  | 95 => ⟨S4x4096x16x2x1x32, .f32⟩
  | 96 => ⟨S4x4096x16x2x32, .f32⟩
  | 97 => ⟨S1x4096x1x2x32, .f32⟩
  | 98 => ⟨S4x4096x16x2x32, .f32⟩
  | 99 => ⟨S4x4096x16x2x32, .f32⟩
  | 100 => ⟨S1x4096x1x2x32, .f32⟩
  | 101 => ⟨S4x4096x16x2x32, .f32⟩
  | 102 => ⟨S4x4096x16x2x32, .f32⟩
  | 103 => ⟨S4x4096x16x2x32, .f32⟩
  | 104 => ⟨S1x4096x1x2x32, .f32⟩
  | 105 => ⟨S4x4096x16x2x32, .f32⟩
  | 106 => ⟨S4x4096x16x2x32, .f32⟩
  | 107 => ⟨S1x4096x1x2x32, .f32⟩
  | 108 => ⟨S4x4096x16x2x32, .f32⟩
  | 109 => ⟨S4x4096x16x2x32, .f32⟩
  | 110 => ⟨S4x4096x16x2x32, .f32⟩
  | 111 => ⟨S4x4096x16x2x1x32, .f32⟩
  | 112 => ⟨S4x4096x16x2x1x32, .f32⟩
  | 113 => ⟨S4x4096x16x2x2x32, .f32⟩
  | 114 => ⟨S4x4096x16x128, .f32⟩
  | 115 => ⟨S4x4096x4x4x128, .f32⟩
  | 116 => ⟨S4x4x4352x4096x4, .f32⟩
  | 117 => ⟨S4x4x4x4096x4352, .f32⟩
  | 118 => ⟨S_, .f32⟩
  | 119 => ⟨S4x4x4x4096x4352, .f32⟩
  | 120 => ⟨S4x4x4x4096x4352, .f32⟩
  | 121 => ⟨S_, .f32⟩
  | 122 => ⟨S4x4x4x4096, .f32⟩
  | 123 => ⟨S_, .f32⟩
  | 124 => ⟨S4x4x4x4096, .f32⟩
  | 125 => ⟨S4x4x4x4096, .f32⟩
  | 126 => ⟨S4x4x4x4096x1, .f32⟩
  | 127 => ⟨S4x4x4x4096x4352, .f32⟩
  | _ => ⟨S4x4096x13312, .bf16⟩

abbrev hbmTy0_1 (i : Nat) : BufTy := match i % 128 with
  | 0 => ⟨S4x4x4x4096x4352, .f32⟩
  | 1 => ⟨S4x4x4x4096x4352, .f32⟩
  | 2 => ⟨S_, .f32⟩
  | 3 => ⟨S4x4x4x4096, .f32⟩
  | 4 => ⟨S4x4x4x4096x1, .f32⟩
  | 5 => ⟨S4x4x4x4096x4352, .f32⟩
  | 6 => ⟨S4x4x4x4096x4352, .f32⟩
  | 7 => ⟨S4x4x128x4x4096, .f32⟩
  | 8 => ⟨S4x4096x4x4x128, .f32⟩
  | 9 => ⟨S4x4096x2048, .f32⟩
  | 10 => ⟨S4x4096x2048, .f32⟩
  | 11 => ⟨S4x4096x2048, .f32⟩
  | 12 => ⟨S_, .f32⟩
  | 13 => ⟨S4x4096x2048, .f32⟩
  | 14 => ⟨S4x4096x2048, .f32⟩
  | 15 => ⟨S_, .f32⟩
  | 16 => ⟨S4x4096x2048, .f32⟩
  | 17 => ⟨S4x4096x2048, .f32⟩
  | 18 => ⟨S4x4096x2048, .f32⟩
  | 19 => ⟨S4x4096x2048, .f32⟩
  | 20 => ⟨S4x4096x2048, .bf16⟩
  | _ => ⟨S4x4096x13312, .bf16⟩

abbrev hbmTy (i : Nat) : BufTy := match i / 128 with
  | 0 => hbmTy0_0 i
  | 1 => hbmTy0_1 i
  | _ => ⟨S4x4096x13312, .bf16⟩

abbrev bufTy : (tb : Table) → Fin (tcTables nBuf tb) → BufTy
  | .hbm, ⟨i, _⟩ => hbmTy i
  | _, _ => ⟨S4x4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst : Ref sig .tc := ⟨.hbm, 55, rfl⟩
abbrev main_v13 : Ref sig .tc := ⟨.hbm, 56, rfl⟩
abbrev main_v14 : Ref sig .tc := ⟨.hbm, 57, rfl⟩
abbrev main_cst_1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_2 : Ref sig .tc := ⟨.hbm, 75, rfl⟩
abbrev main_v31 : Ref sig .tc := ⟨.hbm, 76, rfl⟩
abbrev main_v32 : Ref sig .tc := ⟨.hbm, 77, rfl⟩
abbrev main_cst_3 : Ref sig .tc := ⟨.hbm, 78, rfl⟩
abbrev main_v33 : Ref sig .tc := ⟨.hbm, 79, rfl⟩
abbrev main_v34 : Ref sig .tc := ⟨.hbm, 80, rfl⟩
abbrev main_cst_4 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_5 : Ref sig .tc := ⟨.hbm, 118, rfl⟩
abbrev main_v71 : Ref sig .tc := ⟨.hbm, 119, rfl⟩
abbrev main_v72 : Ref sig .tc := ⟨.hbm, 120, rfl⟩
abbrev main_cst_6 : Ref sig .tc := ⟨.hbm, 121, rfl⟩
abbrev main_v73 : Ref sig .tc := ⟨.hbm, 122, rfl⟩
abbrev main_cst_7 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_8 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_call2_v0 : Ref sig .tc := ⟨.hbm, 138, rfl⟩
abbrev main_call2_v1 : Ref sig .tc := ⟨.hbm, 139, rfl⟩
abbrev main_call2_cst : Ref sig .tc := ⟨.hbm, 140, rfl⟩
abbrev main_call2_v2 : Ref sig .tc := ⟨.hbm, 141, rfl⟩
abbrev main_call2_v3 : Ref sig .tc := ⟨.hbm, 142, rfl⟩
abbrev main_call2_cst_0 : Ref sig .tc := ⟨.hbm, 143, rfl⟩
abbrev main_call2_v4 : Ref sig .tc := ⟨.hbm, 144, rfl⟩
abbrev main_call2_v5 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩

abbrev nD : Nat := 1
abbrev τ : Topo := Topo.v7x

variable {F : FTy → Type} [FloatOps F]
-- ==== InEven.lean ====
abbrev S4x4096x4096 : Shape := ⟨3, ![4, 4096, 4096]⟩
abbrev S2x4096x13312 : Shape := ⟨3, ![2, 4096, 13312]⟩
abbrev S16384x4096 : Shape := ⟨2, ![16384, 4096]⟩
abbrev S16384x13312 : Shape := ⟨2, ![16384, 13312]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x4096, .bf16⟩
  | .hbm, ⟨1, _⟩ => ⟨S2x4096x13312, .f32⟩
  | .hbm, ⟨2, _⟩ => ⟨S16384x4096, .bf16⟩
  | .hbm, ⟨3, _⟩ => ⟨S16384x13312, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenReferenceIdeal.lean ====
abbrev S4x4096x4096 : Shape := ⟨3, ![4, 4096, 4096]⟩
abbrev S2x4096x13312 : Shape := ⟨3, ![2, 4096, 13312]⟩
abbrev S16384x4096 : Shape := ⟨2, ![16384, 4096]⟩
abbrev S1x4096x13312 : Shape := ⟨3, ![1, 4096, 13312]⟩
abbrev S4096x13312 : Shape := ⟨2, ![4096, 13312]⟩
abbrev S16384x13312 : Shape := ⟨2, ![16384, 13312]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S2x4096x13312, .f32⟩
  | .hbm, ⟨2, _⟩ => ⟨S4x4096x4096, .f32⟩
  | .hbm, ⟨3, _⟩ => ⟨S16384x4096, .f32⟩
  | .hbm, ⟨4, _⟩ => ⟨S1x4096x13312, .f32⟩
  | .hbm, ⟨5, _⟩ => ⟨S4096x13312, .f32⟩
  | .hbm, ⟨6, _⟩ => ⟨S16384x13312, .f32⟩
  | .hbm, ⟨7, _⟩ => ⟨S16384x13312, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InOdd.lean ====
abbrev S4x4096x4096 : Shape := ⟨3, ![4, 4096, 4096]⟩
abbrev S2x4096x12288 : Shape := ⟨3, ![2, 4096, 12288]⟩
abbrev S16384x4096 : Shape := ⟨2, ![16384, 4096]⟩
abbrev S16384x12288 : Shape := ⟨2, ![16384, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x4096, .bf16⟩
  | .hbm, ⟨1, _⟩ => ⟨S2x4096x12288, .f32⟩
  | .hbm, ⟨2, _⟩ => ⟨S16384x4096, .bf16⟩
  | .hbm, ⟨3, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddReferenceIdeal.lean ====
abbrev S4x4096x4096 : Shape := ⟨3, ![4, 4096, 4096]⟩
abbrev S2x4096x12288 : Shape := ⟨3, ![2, 4096, 12288]⟩
abbrev S16384x4096 : Shape := ⟨2, ![16384, 4096]⟩
abbrev S1x4096x12288 : Shape := ⟨3, ![1, 4096, 12288]⟩
abbrev S4096x12288 : Shape := ⟨2, ![4096, 12288]⟩
abbrev S16384x12288 : Shape := ⟨2, ![16384, 12288]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S2x4096x12288, .f32⟩
  | .hbm, ⟨2, _⟩ => ⟨S4x4096x4096, .f32⟩
  | .hbm, ⟨3, _⟩ => ⟨S16384x4096, .f32⟩
  | .hbm, ⟨4, _⟩ => ⟨S1x4096x12288, .f32⟩
  | .hbm, ⟨5, _⟩ => ⟨S4096x12288, .f32⟩
  | .hbm, ⟨6, _⟩ => ⟨S16384x12288, .f32⟩
  | .hbm, ⟨7, _⟩ => ⟨S16384x12288, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S4x4096x2048 : Shape := ⟨3, ![4, 4096, 2048]⟩
abbrev S2x4096x4096 : Shape := ⟨3, ![2, 4096, 4096]⟩
abbrev S4x4096x4096 : Shape := ⟨3, ![4, 4096, 4096]⟩
abbrev S4x1x4096 : Shape := ⟨3, ![4, 1, 4096]⟩
abbrev S16384x2048 : Shape := ⟨2, ![16384, 2048]⟩
abbrev S16384x4096 : Shape := ⟨2, ![16384, 4096]⟩
abbrev S1024x2048 : Shape := ⟨2, ![1024, 2048]⟩
abbrev S1x2048x512 : Shape := ⟨3, ![1, 2048, 512]⟩
abbrev S1024x512 : Shape := ⟨2, ![1024, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S2x4096x4096, .f32⟩
  | .hbm, ⟨3, _⟩ => ⟨S4x4096x4096, .f32⟩
  | .hbm, ⟨4, _⟩ => ⟨S4x1x4096, .f32⟩
  | .hbm, ⟨5, _⟩ => ⟨S2x4096x4096, .bf16⟩
  | .hbm, ⟨6, _⟩ => ⟨S16384x2048, .bf16⟩
  | .hbm, ⟨7, _⟩ => ⟨S16384x2048, .bf16⟩
  | .hbm, ⟨8, _⟩ => ⟨S16384x4096, .f32⟩
  | .hbm, ⟨9, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjReferenceIdeal.lean ====
abbrev S4x4096x2048 : Shape := ⟨3, ![4, 4096, 2048]⟩
abbrev S2x4096x4096 : Shape := ⟨3, ![2, 4096, 4096]⟩
abbrev S4x4096x4096 : Shape := ⟨3, ![4, 4096, 4096]⟩
abbrev S4x1x4096 : Shape := ⟨3, ![4, 1, 4096]⟩
abbrev S1x4096x4096 : Shape := ⟨3, ![1, 4096, 4096]⟩
abbrev S4096x4096 : Shape := ⟨2, ![4096, 4096]⟩
abbrev S16384x4096 : Shape := ⟨2, ![16384, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S2x4096x4096, .f32⟩
  | .hbm, ⟨3, _⟩ => ⟨S4x4096x4096, .f32⟩
  | .hbm, ⟨4, _⟩ => ⟨S4x1x4096, .f32⟩
  | .hbm, ⟨5, _⟩ => ⟨S4x4096x2048, .f32⟩
  | .hbm, ⟨6, _⟩ => ⟨S4x4096x2048, .f32⟩
  | .hbm, ⟨7, _⟩ => ⟨S4x4096x4096, .f32⟩
  | .hbm, ⟨8, _⟩ => ⟨S1x4096x4096, .f32⟩
  | .hbm, ⟨9, _⟩ => ⟨S4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S16384x4096, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== FinalNorm.lean ====
abbrev S4x4096x4096 : Shape := ⟨3, ![4, 4096, 4096]⟩
abbrev S4096 : Shape := ⟨1, ![4096]⟩
abbrev S1x4096 : Shape := ⟨2, ![1, 4096]⟩
abbrev S1x512x4096 : Shape := ⟨3, ![1, 512, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x4096, .f32⟩
  | .hbm, ⟨3, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x512x4096, .f32⟩
  | .local _ .vmem, ⟨4, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalNormReferenceIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InEvenCtx.lean ====
abbrev S4x256x4096 : Shape := ⟨3, ![4, 256, 4096]⟩
abbrev S2x4096x13312 : Shape := ⟨3, ![2, 4096, 13312]⟩
abbrev S1024x4096 : Shape := ⟨2, ![1024, 4096]⟩
abbrev S1024x13312 : Shape := ⟨2, ![1024, 13312]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S4x256x4096, .bf16⟩
  | .hbm, ⟨1, _⟩ => ⟨S2x4096x13312, .f32⟩
  | .hbm, ⟨2, _⟩ => ⟨S1024x4096, .bf16⟩
  | .hbm, ⟨3, _⟩ => ⟨S1024x13312, .bf16⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1024x512, .bf16⟩
  | .local _ .vmem, ⟨4, _⟩ => ⟨S1024x512, .bf16⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenCtxReferenceIdeal.lean ====
abbrev S4x256x4096 : Shape := ⟨3, ![4, 256, 4096]⟩
abbrev S2x4096x13312 : Shape := ⟨3, ![2, 4096, 13312]⟩
abbrev S1024x4096 : Shape := ⟨2, ![1024, 4096]⟩
abbrev S1x4096x13312 : Shape := ⟨3, ![1, 4096, 13312]⟩
abbrev S4096x13312 : Shape := ⟨2, ![4096, 13312]⟩
abbrev S1024x13312 : Shape := ⟨2, ![1024, 13312]⟩

abbrev nBuf : Space → Nat
  | .hbm => 8
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S2x4096x13312, .f32⟩
  | .hbm, ⟨2, _⟩ => ⟨S4x256x4096, .f32⟩
  | .hbm, ⟨3, _⟩ => ⟨S1024x4096, .f32⟩
  | .hbm, ⟨4, _⟩ => ⟨S1x4096x13312, .f32⟩
  | .hbm, ⟨5, _⟩ => ⟨S4096x13312, .f32⟩
  | .hbm, ⟨6, _⟩ => ⟨S1024x13312, .f32⟩
  | .hbm, ⟨7, _⟩ => ⟨S1024x13312, .bf16⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InOddCtx.lean ====
abbrev S4x256x4096 : Shape := ⟨3, ![4, 256, 4096]⟩
abbrev S2x4096x12288 : Shape := ⟨3, ![2, 4096, 12288]⟩
abbrev S1024x4096 : Shape := ⟨2, ![1024, 4096]⟩
abbrev S1024x12288 : Shape := ⟨2, ![1024, 12288]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S4x256x4096, .bf16⟩
  | .hbm, ⟨1, _⟩ => ⟨S2x4096x12288, .f32⟩
  | .hbm, ⟨2, _⟩ => ⟨S1024x4096, .bf16⟩
  | .hbm, ⟨3, _⟩ => ⟨S1024x12288, .bf16⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1024x512, .bf16⟩
  | .local _ .vmem, ⟨4, _⟩ => ⟨S1024x512, .bf16⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddCtxReferenceIdeal.lean ====
abbrev S4x256x4096 : Shape := ⟨3, ![4, 256, 4096]⟩
abbrev S2x4096x12288 : Shape := ⟨3, ![2, 4096, 12288]⟩
abbrev S1024x4096 : Shape := ⟨2, ![1024, 4096]⟩
abbrev S1x4096x12288 : Shape := ⟨3, ![1, 4096, 12288]⟩
abbrev S4096x12288 : Shape := ⟨2, ![4096, 12288]⟩
abbrev S1024x12288 : Shape := ⟨2, ![1024, 12288]⟩

abbrev nBuf : Space → Nat
  | .hbm => 8
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S2x4096x12288, .f32⟩
  | .hbm, ⟨2, _⟩ => ⟨S4x256x4096, .f32⟩
  | .hbm, ⟨3, _⟩ => ⟨S1024x4096, .f32⟩
  | .hbm, ⟨4, _⟩ => ⟨S1x4096x12288, .f32⟩
  | .hbm, ⟨5, _⟩ => ⟨S4096x12288, .f32⟩
  | .hbm, ⟨6, _⟩ => ⟨S1024x12288, .f32⟩
  | .hbm, ⟨7, _⟩ => ⟨S1024x12288, .bf16⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProjCtx.lean ====
abbrev S4x256x2048 : Shape := ⟨3, ![4, 256, 2048]⟩
abbrev S2x4096x4096 : Shape := ⟨3, ![2, 4096, 4096]⟩
abbrev S4x256x4096 : Shape := ⟨3, ![4, 256, 4096]⟩
abbrev S1x1x4096 : Shape := ⟨3, ![1, 1, 4096]⟩
abbrev S1024x2048 : Shape := ⟨2, ![1024, 2048]⟩
abbrev S1024x4096 : Shape := ⟨2, ![1024, 4096]⟩
abbrev S256x2048 : Shape := ⟨2, ![256, 2048]⟩
abbrev S1x2048x512 : Shape := ⟨3, ![1, 2048, 512]⟩
abbrev S256x512 : Shape := ⟨2, ![256, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x4096x4096, .f32⟩
  | .hbm, ⟨3, _⟩ => ⟨S4x256x4096, .f32⟩
  | .hbm, ⟨4, _⟩ => ⟨S1x1x4096, .f32⟩
  | .hbm, ⟨5, _⟩ => ⟨S2x4096x4096, .bf16⟩
  | .hbm, ⟨6, _⟩ => ⟨S1024x2048, .bf16⟩
  | .hbm, ⟨7, _⟩ => ⟨S1024x2048, .bf16⟩
  | .hbm, ⟨8, _⟩ => ⟨S1024x4096, .f32⟩
  | .hbm, ⟨9, _⟩ => ⟨S1024x4096, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S256x512, .f32⟩
  | .local _ .vmem, ⟨9, _⟩ => ⟨S256x512, .f32⟩
  | .local _ .vmem, ⟨10, _⟩ => ⟨S1x1x512, .f32⟩
  | .local _ .vmem, ⟨11, _⟩ => ⟨S1x1x512, .f32⟩
  | .local _ .vmem, ⟨12, _⟩ => ⟨S256x512, .f32⟩
  | .local _ .vmem, ⟨13, _⟩ => ⟨S256x512, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjCtxReferenceIdeal.lean ====
abbrev S4x256x2048 : Shape := ⟨3, ![4, 256, 2048]⟩
abbrev S2x4096x4096 : Shape := ⟨3, ![2, 4096, 4096]⟩
abbrev S4x256x4096 : Shape := ⟨3, ![4, 256, 4096]⟩
abbrev S1x1x4096 : Shape := ⟨3, ![1, 1, 4096]⟩
abbrev S1x4096x4096 : Shape := ⟨3, ![1, 4096, 4096]⟩
abbrev S4096x4096 : Shape := ⟨2, ![4096, 4096]⟩
abbrev S1024x4096 : Shape := ⟨2, ![1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x4096x4096, .f32⟩
  | .hbm, ⟨3, _⟩ => ⟨S4x256x4096, .f32⟩
  | .hbm, ⟨4, _⟩ => ⟨S1x1x4096, .f32⟩
  | .hbm, ⟨5, _⟩ => ⟨S4x256x2048, .f32⟩
  | .hbm, ⟨6, _⟩ => ⟨S4x256x2048, .f32⟩
  | .hbm, ⟨7, _⟩ => ⟨S4x256x4096, .f32⟩
  | .hbm, ⟨8, _⟩ => ⟨S1x4096x4096, .f32⟩
  | .hbm, ⟨9, _⟩ => ⟨S4096x4096, .f32⟩
  | .hbm, ⟨10, _⟩ => ⟨S4x256x4096, .f32⟩
  | .hbm, ⟨11, _⟩ => ⟨S4x256x4096, .f32⟩
  | .hbm, ⟨12, _⟩ => ⟨S4x256x4096, .f32⟩
  | .hbm, ⟨13, _⟩ => ⟨S4x256x4096, .f32⟩
  | .hbm, ⟨14, _⟩ => ⟨S1024x4096, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Modulate.lean ====
abbrev S4x4096x4096 : Shape := ⟨3, ![4, 4096, 4096]⟩
abbrev S4096 : Shape := ⟨1, ![4096]⟩
abbrev S4x1x4096 : Shape := ⟨3, ![4, 1, 4096]⟩
abbrev S1x4096 : Shape := ⟨2, ![1, 4096]⟩
abbrev S1x512x4096 : Shape := ⟨3, ![1, 512, 4096]⟩
abbrev S1x1x4096 : Shape := ⟨3, ![1, 1, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S1x4096, .f32⟩
  | .hbm, ⟨5, _⟩ => ⟨S4x4096x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x512x4096, .bf16⟩
  | .local _ .vmem, ⟨8, _⟩ => ⟨S1x512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ModulateReferenceIdeal.lean ====
abbrev S4x4096x4096 : Shape := ⟨3, ![4, 4096, 4096]⟩
abbrev S4096 : Shape := ⟨1, ![4096]⟩
abbrev S4x1x4096 : Shape := ⟨3, ![4, 1, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x1x4096, .f32⟩
  | .hbm, ⟨22, _⟩ => ⟨S4x1x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Neighbour.lean ====
abbrev S4x4096x12288 : Shape := ⟨3, ![4, 4096, 12288]⟩
abbrev S4x256x12288 : Shape := ⟨3, ![4, 256, 12288]⟩
abbrev S16x15x31 : Shape := ⟨3, ![16, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S64x64x1 : Shape := ⟨3, ![64, 64, 1]⟩
abbrev S16x15x64x64 : Shape := ⟨4, ![16, 15, 64, 64]⟩
abbrev S16x8x64x64 : Shape := ⟨4, ![16, 8, 64, 64]⟩
abbrev S16x1x8x64x64 : Shape := ⟨5, ![16, 1, 8, 64, 64]⟩
abbrev S16x8x8x64x64 : Shape := ⟨5, ![16, 8, 8, 64, 64]⟩
abbrev S16x8x64x8x64 : Shape := ⟨5, ![16, 8, 64, 8, 64]⟩
abbrev S16x8x64x512 : Shape := ⟨4, ![16, 8, 64, 512]⟩
abbrev S4x4096x2048 : Shape := ⟨3, ![4, 4096, 2048]⟩
abbrev S1x4096x128 : Shape := ⟨3, ![1, 4096, 128]⟩
abbrev S1x256x128 : Shape := ⟨3, ![1, 256, 128]⟩
abbrev S1x8x64x512 : Shape := ⟨4, ![1, 8, 64, 512]⟩
abbrev S256x128 : Shape := ⟨2, ![256, 128]⟩
abbrev S1x2048x128 : Shape := ⟨3, ![1, 2048, 128]⟩
abbrev S2048x128 : Shape := ⟨2, ![2048, 128]⟩
abbrev S2048x256 : Shape := ⟨2, ![2048, 256]⟩
abbrev S64x128 : Shape := ⟨2, ![64, 128]⟩
abbrev S1x512x128 : Shape := ⟨3, ![1, 512, 128]⟩
abbrev S512x128 : Shape := ⟨2, ![512, 128]⟩
abbrev S64x512 : Shape := ⟨2, ![64, 512]⟩
abbrev S1x1x64x512 : Shape := ⟨4, ![1, 1, 64, 512]⟩
abbrev S64x256 : Shape := ⟨2, ![64, 256]⟩

abbrev nBuf : Space → Nat
  | .hbm => 76
  | .vmem => 16
  | .smem => 0
  | _ => 0

abbrev bufTy : (tb : Table) → Fin (tcTables nBuf tb) → BufTy
  | .hbm, ⟨0, _⟩ => ⟨S4x4096x12288, .bf16⟩
  | .hbm, ⟨1, _⟩ => ⟨S4x256x12288, .bf16⟩
  | .hbm, ⟨2, _⟩ => ⟨S16x15x31, .f32⟩
  | .hbm, ⟨3, _⟩ => ⟨S64, .i32⟩
  | .hbm, ⟨4, _⟩ => ⟨S64x1, .i32⟩
  | .hbm, ⟨5, _⟩ => ⟨S64, .i32⟩
  | .hbm, ⟨6, _⟩ => ⟨S1x64, .i32⟩
  | .hbm, ⟨7, _⟩ => ⟨S_, .i32⟩
  | .hbm, ⟨8, _⟩ => ⟨S64x1, .i32⟩
  | .hbm, ⟨9, _⟩ => ⟨S64x1, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S64x64, .i32⟩
  | .hbm, ⟨29, _⟩ => ⟨S64x64, .i32⟩
  | .hbm, ⟨30, _⟩ => ⟨S64x64, .i32⟩
  | .hbm, ⟨31, _⟩ => ⟨S_, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i1⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S64x64, .i32⟩
  | .hbm, ⟨49, _⟩ => ⟨S64x64x1, .i32⟩
  | .hbm, ⟨50, _⟩ => ⟨S16x15x64x64, .f32⟩
  | .hbm, ⟨51, _⟩ => ⟨S_, .f32⟩
  | .hbm, ⟨52, _⟩ => ⟨S_, .f32⟩
  | .hbm, ⟨53, _⟩ => ⟨S16x15x64x64, .i1⟩
  | .hbm, ⟨54, _⟩ => ⟨S16x15x64x64, .f32⟩
  | .hbm, ⟨55, _⟩ => ⟨S16x15x64x64, .f32⟩
  | .hbm, ⟨56, _⟩ => ⟨S16x8x64x64, .f32⟩
  | .hbm, ⟨57, _⟩ => ⟨S16x8x64x64, .f32⟩
  | .hbm, ⟨58, _⟩ => ⟨S16x8x64x64, .f32⟩
  | .hbm, ⟨59, _⟩ => ⟨S16x8x64x64, .f32⟩
  | .hbm, ⟨60, _⟩ => ⟨S16x8x64x64, .f32⟩
  | .hbm, ⟨61, _⟩ => ⟨S16x8x64x64, .f32⟩
  | .hbm, ⟨62, _⟩ => ⟨S16x8x64x64, .f32⟩
  | .hbm, ⟨63, _⟩ => ⟨S16x8x64x64, .f32⟩
  | .hbm, ⟨64, _⟩ => ⟨S16x1x8x64x64, .f32⟩
  | .hbm, ⟨65, _⟩ => ⟨S16x1x8x64x64, .f32⟩
  | .hbm, ⟨66, _⟩ => ⟨S16x1x8x64x64, .f32⟩
  | .hbm, ⟨67, _⟩ => ⟨S16x1x8x64x64, .f32⟩
  | .hbm, ⟨68, _⟩ => ⟨S16x1x8x64x64, .f32⟩
  | .hbm, ⟨69, _⟩ => ⟨S16x1x8x64x64, .f32⟩
  | .hbm, ⟨70, _⟩ => ⟨S16x1x8x64x64, .f32⟩
  | .hbm, ⟨71, _⟩ => ⟨S16x1x8x64x64, .f32⟩
  | .hbm, ⟨72, _⟩ => ⟨S16x8x8x64x64, .f32⟩
  | .hbm, ⟨73, _⟩ => ⟨S16x8x64x8x64, .f32⟩
  | .hbm, ⟨74, _⟩ => ⟨S16x8x64x512, .f32⟩
  | .hbm, ⟨75, _⟩ => ⟨S4x4096x2048, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x8x64x512, .f32⟩
  | .local _ .vmem, ⟨13, _⟩ => ⟨S1x8x64x512, .f32⟩
  | .local _ .vmem, ⟨14, _⟩ => ⟨S1x4096x128, .bf16⟩
  | .local _ .vmem, ⟨15, _⟩ => ⟨S1x4096x128, .bf16⟩
  | _, _ => ⟨S4x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c2_i32 : BitVec 32 := 2#32
  let v4 : BitVec 32 := Scalar.addi c0_i32 c2_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  v5
def k0_off1 (k0_t1 : Fin k0_t1_loop.trips) : Fin 3 → Nat :=
  let c0_6 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v7 : Index := Scalar.indexCast v6
  let c0_7 : Index := 0#32
  ![0, v7.toNat, 0]
def k0_mult2 (k0_t1 : Fin k0_t1_loop.trips) : BitVec 32 :=
  let c56_i32 : BitVec 32 := 56#32
  let c0_i32_10 : BitVec 32 := 0#32
  let c0_i32 : BitVec 32 := 0#32
  let c1_i32 : BitVec 32 := 1#32
  let arg10 : BitVec 32 := Scf.iv c0_i32 c1_i32 k0_t1
  let c32_i32 : BitVec 32 := 32#32
  let v15 : BitVec 32 := Scalar.muli arg10 c32_i32
  let c0_i32_9 : BitVec 32 := 0#32
  let v16 : BitVec 32 := Scalar.addi v15 c0_i32_9
  let c4_i32 : BitVec 32 := 4#32
  let v17 : BitVec 32 := Scalar.subi v16 c4_i32
  let v18 : BitVec 32 := Scalar.maxsi c0_i32_10 v17
  let v19 : BitVec 32 := Scalar.minsi c56_i32 v18
  let c64_i32 : BitVec 32 := 64#32
  let v20 : BitVec 32 := Scalar.muli v19 c64_i32
  v20
def k0_off2 (k0_t1 : Fin k0_t1_loop.trips) (c0_i32_9 : BitVec 32) : Fin 3 → Nat :=
  let c0_11 : Index := 0#32
  let c56_i32 : BitVec 32 := 56#32
  let c0_i32_10 : BitVec 32 := 0#32
  let c0_i32 : BitVec 32 := 0#32
  let c1_i32 : BitVec 32 := 1#32
  let arg10 : BitVec 32 := Scf.iv c0_i32 c1_i32 k0_t1
  let c32_i32 : BitVec 32 := 32#32
  let v15 : BitVec 32 := Scalar.muli arg10 c32_i32
  let v16 : BitVec 32 := Scalar.addi v15 c0_i32_9
  let c4_i32 : BitVec 32 := 4#32
  let v17 : BitVec 32 := Scalar.subi v16 c4_i32
  let v18 : BitVec 32 := Scalar.maxsi c0_i32_10 v17
  let v19 : BitVec 32 := Scalar.minsi c56_i32 v18
  let c64_i32 : BitVec 32 := 64#32
  let v20 : BitVec 32 := Scalar.muli v19 c64_i32
  let v21 : BitVec 32 := v20
  let v23 : Index := Scalar.indexCast v21
  let c0_12 : Index := 0#32
  ![0, v23.toNat, 0]
def k0_off3 (k0_t1 : Fin k0_t1_loop.trips) (c0_i32_9 : BitVec 32) : Fin 4 → Nat :=
  let c0_14 : Index := 0#32
  let c0_i32 : BitVec 32 := 0#32
  let c1_i32 : BitVec 32 := 1#32
  let arg10 : BitVec 32 := Scf.iv c0_i32 c1_i32 k0_t1
  let c32_i32 : BitVec 32 := 32#32
  let v15 : BitVec 32 := Scalar.muli arg10 c32_i32
  let v16 : BitVec 32 := Scalar.addi v15 c0_i32_9
  let c56_i32 : BitVec 32 := 56#32
  let c0_i32_10 : BitVec 32 := 0#32
  let c4_i32 : BitVec 32 := 4#32
  let v17 : BitVec 32 := Scalar.subi v16 c4_i32
  let v18 : BitVec 32 := Scalar.maxsi c0_i32_10 v17
  let v19 : BitVec 32 := Scalar.minsi c56_i32 v18
  let v27 : BitVec 32 := Scalar.subi v16 v19
  let v28 : Index := Scalar.indexCast v27
  let c0_15 : Index := 0#32
  let c0_16 : Index := 0#32
  ![0, v28.toNat, 0, 0]
def k0_mult3 (k0_t1 : Fin k0_t1_loop.trips) : BitVec 32 :=
  let c56_i32_22 : BitVec 32 := 56#32
  let c0_i32_21 : BitVec 32 := 0#32
  let c0_i32 : BitVec 32 := 0#32
  let c1_i32 : BitVec 32 := 1#32
  let arg10 : BitVec 32 := Scf.iv c0_i32 c1_i32 k0_t1
  let c32_i32_18 : BitVec 32 := 32#32
  let v35 : BitVec 32 := Scalar.muli arg10 c32_i32_18
  let c1_i32_19 : BitVec 32 := 1#32
  let v36 : BitVec 32 := Scalar.addi v35 c1_i32_19
  let c4_i32_20 : BitVec 32 := 4#32
  let v37 : BitVec 32 := Scalar.subi v36 c4_i32_20
  let v38 : BitVec 32 := Scalar.maxsi c0_i32_21 v37
  let v39 : BitVec 32 := Scalar.minsi c56_i32_22 v38
  let c64_i32_23 : BitVec 32 := 64#32
  let v40 : BitVec 32 := Scalar.muli v39 c64_i32_23
  v40
def k0_mult4 (k0_t1 : Fin k0_t1_loop.trips) : BitVec 32 :=
  let c56_i32_35 : BitVec 32 := 56#32
  let c0_i32_34 : BitVec 32 := 0#32
  let c0_i32 : BitVec 32 := 0#32
  let c1_i32 : BitVec 32 := 1#32
  let arg10 : BitVec 32 := Scf.iv c0_i32 c1_i32 k0_t1
  let c32_i32_31 : BitVec 32 := 32#32
  let v55 : BitVec 32 := Scalar.muli arg10 c32_i32_31
  let c2_i32_32 : BitVec 32 := 2#32
  let v56 : BitVec 32 := Scalar.addi v55 c2_i32_32
  let c4_i32_33 : BitVec 32 := 4#32
  let v57 : BitVec 32 := Scalar.subi v56 c4_i32_33
  let v58 : BitVec 32 := Scalar.maxsi c0_i32_34 v57
  let v59 : BitVec 32 := Scalar.minsi c56_i32_35 v58
  let c64_i32_36 : BitVec 32 := 64#32
  let v60 : BitVec 32 := Scalar.muli v59 c64_i32_36
  v60
def k0_mult5 (k0_t1 : Fin k0_t1_loop.trips) : BitVec 32 :=
  let c56_i32_47 : BitVec 32 := 56#32
  let c0_i32_46 : BitVec 32 := 0#32
  let c0_i32 : BitVec 32 := 0#32
  let c1_i32 : BitVec 32 := 1#32
  let arg10 : BitVec 32 := Scf.iv c0_i32 c1_i32 k0_t1
  let c32_i32_44 : BitVec 32 := 32#32
  let v75 : BitVec 32 := Scalar.muli arg10 c32_i32_44
  let c3_i32 : BitVec 32 := 3#32
  let v76 : BitVec 32 := Scalar.addi v75 c3_i32
  let c4_i32_45 : BitVec 32 := 4#32
  let v77 : BitVec 32 := Scalar.subi v76 c4_i32_45
  let v78 : BitVec 32 := Scalar.maxsi c0_i32_46 v77
  let v79 : BitVec 32 := Scalar.minsi c56_i32_47 v78
  let c64_i32_48 : BitVec 32 := 64#32
  let v80 : BitVec 32 := Scalar.muli v79 c64_i32_48
  v80
def k0_mult6 (k0_t1 : Fin k0_t1_loop.trips) : BitVec 32 :=
  let c56_i32_60 : BitVec 32 := 56#32
  let c0_i32_59 : BitVec 32 := 0#32
  let c0_i32 : BitVec 32 := 0#32
  let c1_i32 : BitVec 32 := 1#32
  let arg10 : BitVec 32 := Scf.iv c0_i32 c1_i32 k0_t1
  let c32_i32_56 : BitVec 32 := 32#32
  let v95 : BitVec 32 := Scalar.muli arg10 c32_i32_56
  let c4_i32_57 : BitVec 32 := 4#32
  let v96 : BitVec 32 := Scalar.addi v95 c4_i32_57
  let c4_i32_58 : BitVec 32 := 4#32
  let v97 : BitVec 32 := Scalar.subi v96 c4_i32_58
  let v98 : BitVec 32 := Scalar.maxsi c0_i32_59 v97
  let v99 : BitVec 32 := Scalar.minsi c56_i32_60 v98
  let c64_i32_61 : BitVec 32 := 64#32
  let v100 : BitVec 32 := Scalar.muli v99 c64_i32_61
  v100
def k0_mult7 (k0_t1 : Fin k0_t1_loop.trips) : BitVec 32 :=
  let c56_i32_72 : BitVec 32 := 56#32
  let c0_i32_71 : BitVec 32 := 0#32
  let c0_i32 : BitVec 32 := 0#32
  let c1_i32 : BitVec 32 := 1#32
  let arg10 : BitVec 32 := Scf.iv c0_i32 c1_i32 k0_t1
  let c32_i32_69 : BitVec 32 := 32#32
  let v115 : BitVec 32 := Scalar.muli arg10 c32_i32_69
  let c5_i32 : BitVec 32 := 5#32
  let v116 : BitVec 32 := Scalar.addi v115 c5_i32
  let c4_i32_70 : BitVec 32 := 4#32
  let v117 : BitVec 32 := Scalar.subi v116 c4_i32_70
  let v118 : BitVec 32 := Scalar.maxsi c0_i32_71 v117
  let v119 : BitVec 32 := Scalar.minsi c56_i32_72 v118
  let c64_i32_73 : BitVec 32 := 64#32
  let v120 : BitVec 32 := Scalar.muli v119 c64_i32_73
  v120
def k0_mult8 (k0_t1 : Fin k0_t1_loop.trips) : BitVec 32 :=
  let c56_i32_84 : BitVec 32 := 56#32
  let c0_i32_83 : BitVec 32 := 0#32
  let c0_i32 : BitVec 32 := 0#32
  let c1_i32 : BitVec 32 := 1#32
  let arg10 : BitVec 32 := Scf.iv c0_i32 c1_i32 k0_t1
  let c32_i32_81 : BitVec 32 := 32#32
  let v135 : BitVec 32 := Scalar.muli arg10 c32_i32_81
  let c6_i32 : BitVec 32 := 6#32
  let v136 : BitVec 32 := Scalar.addi v135 c6_i32
  let c4_i32_82 : BitVec 32 := 4#32
  let v137 : BitVec 32 := Scalar.subi v136 c4_i32_82
  let v138 : BitVec 32 := Scalar.maxsi c0_i32_83 v137
  let v139 : BitVec 32 := Scalar.minsi c56_i32_84 v138
  let c64_i32_85 : BitVec 32 := 64#32
  let v140 : BitVec 32 := Scalar.muli v139 c64_i32_85
  v140
def k0_mult9 (k0_t1 : Fin k0_t1_loop.trips) : BitVec 32 :=
  let c56_i32_96 : BitVec 32 := 56#32
  let c0_i32_95 : BitVec 32 := 0#32
  let c0_i32 : BitVec 32 := 0#32
  let c1_i32 : BitVec 32 := 1#32
  let arg10 : BitVec 32 := Scf.iv c0_i32 c1_i32 k0_t1
  let c32_i32_93 : BitVec 32 := 32#32
  let v155 : BitVec 32 := Scalar.muli arg10 c32_i32_93
  let c7_i32 : BitVec 32 := 7#32
  let v156 : BitVec 32 := Scalar.addi v155 c7_i32
  let c4_i32_94 : BitVec 32 := 4#32
  let v157 : BitVec 32 := Scalar.subi v156 c4_i32_94
  let v158 : BitVec 32 := Scalar.maxsi c0_i32_95 v157
  let v159 : BitVec 32 := Scalar.minsi c56_i32_96 v158
  let c64_i32_97 : BitVec 32 := 64#32
  let v160 : BitVec 32 := Scalar.muli v159 c64_i32_97
  v160
def k0_mult10 (k0_t1 : Fin k0_t1_loop.trips) : BitVec 32 :=
  let c56_i32_108 : BitVec 32 := 56#32
  let c0_i32_107 : BitVec 32 := 0#32
  let c0_i32 : BitVec 32 := 0#32
  let c1_i32 : BitVec 32 := 1#32
  let arg10 : BitVec 32 := Scf.iv c0_i32 c1_i32 k0_t1
  let c32_i32_105 : BitVec 32 := 32#32
  let v175 : BitVec 32 := Scalar.muli arg10 c32_i32_105
  let c8_i32 : BitVec 32 := 8#32
  let v176 : BitVec 32 := Scalar.addi v175 c8_i32
  let c4_i32_106 : BitVec 32 := 4#32
  let v177 : BitVec 32 := Scalar.subi v176 c4_i32_106
  let v178 : BitVec 32 := Scalar.maxsi c0_i32_107 v177
  let v179 : BitVec 32 := Scalar.minsi c56_i32_108 v178
  let c64_i32_109 : BitVec 32 := 64#32
  let v180 : BitVec 32 := Scalar.muli v179 c64_i32_109
  v180
def k0_mult11 (k0_t1 : Fin k0_t1_loop.trips) : BitVec 32 :=
  let c56_i32_120 : BitVec 32 := 56#32
  let c0_i32_119 : BitVec 32 := 0#32
  let c0_i32 : BitVec 32 := 0#32
  let c1_i32 : BitVec 32 := 1#32
  let arg10 : BitVec 32 := Scf.iv c0_i32 c1_i32 k0_t1
  let c32_i32_117 : BitVec 32 := 32#32
  let v195 : BitVec 32 := Scalar.muli arg10 c32_i32_117
  let c9_i32 : BitVec 32 := 9#32
  let v196 : BitVec 32 := Scalar.addi v195 c9_i32
  let c4_i32_118 : BitVec 32 := 4#32
  let v197 : BitVec 32 := Scalar.subi v196 c4_i32_118
  let v198 : BitVec 32 := Scalar.maxsi c0_i32_119 v197
  let v199 : BitVec 32 := Scalar.minsi c56_i32_120 v198
  let c64_i32_121 : BitVec 32 := 64#32
  let v200 : BitVec 32 := Scalar.muli v199 c64_i32_121
  v200
def k0_mult12 (k0_t1 : Fin k0_t1_loop.trips) : BitVec 32 :=
  let c56_i32_132 : BitVec 32 := 56#32
  let c0_i32_131 : BitVec 32 := 0#32
  let c0_i32 : BitVec 32 := 0#32
  let c1_i32 : BitVec 32 := 1#32
  let arg10 : BitVec 32 := Scf.iv c0_i32 c1_i32 k0_t1
  let c32_i32_129 : BitVec 32 := 32#32
  let v215 : BitVec 32 := Scalar.muli arg10 c32_i32_129
  let c10_i32 : BitVec 32 := 10#32
  let v216 : BitVec 32 := Scalar.addi v215 c10_i32
  let c4_i32_130 : BitVec 32 := 4#32
  let v217 : BitVec 32 := Scalar.subi v216 c4_i32_130
  let v218 : BitVec 32 := Scalar.maxsi c0_i32_131 v217
  let v219 : BitVec 32 := Scalar.minsi c56_i32_132 v218
  let c64_i32_133 : BitVec 32 := 64#32
  let v220 : BitVec 32 := Scalar.muli v219 c64_i32_133
  v220
def k0_mult13 (k0_t1 : Fin k0_t1_loop.trips) : BitVec 32 :=
  let c56_i32_144 : BitVec 32 := 56#32
  let c0_i32_143 : BitVec 32 := 0#32
  let c0_i32 : BitVec 32 := 0#32
  let c1_i32 : BitVec 32 := 1#32
  let arg10 : BitVec 32 := Scf.iv c0_i32 c1_i32 k0_t1
  let c32_i32_141 : BitVec 32 := 32#32
  let v235 : BitVec 32 := Scalar.muli arg10 c32_i32_141
  let c11_i32 : BitVec 32 := 11#32
  let v236 : BitVec 32 := Scalar.addi v235 c11_i32
  let c4_i32_142 : BitVec 32 := 4#32
  let v237 : BitVec 32 := Scalar.subi v236 c4_i32_142
  let v238 : BitVec 32 := Scalar.maxsi c0_i32_143 v237
  let v239 : BitVec 32 := Scalar.minsi c56_i32_144 v238
  let c64_i32_145 : BitVec 32 := 64#32
  let v240 : BitVec 32 := Scalar.muli v239 c64_i32_145
  v240
def k0_mult14 (k0_t1 : Fin k0_t1_loop.trips) : BitVec 32 :=
  let c56_i32_156 : BitVec 32 := 56#32
  let c0_i32_155 : BitVec 32 := 0#32
  let c0_i32 : BitVec 32 := 0#32
  let c1_i32 : BitVec 32 := 1#32
  let arg10 : BitVec 32 := Scf.iv c0_i32 c1_i32 k0_t1
  let c32_i32_153 : BitVec 32 := 32#32
  let v255 : BitVec 32 := Scalar.muli arg10 c32_i32_153
  let c12_i32 : BitVec 32 := 12#32
  let v256 : BitVec 32 := Scalar.addi v255 c12_i32
  let c4_i32_154 : BitVec 32 := 4#32
  let v257 : BitVec 32 := Scalar.subi v256 c4_i32_154
  let v258 : BitVec 32 := Scalar.maxsi c0_i32_155 v257
  let v259 : BitVec 32 := Scalar.minsi c56_i32_156 v258
  let c64_i32_157 : BitVec 32 := 64#32
  let v260 : BitVec 32 := Scalar.muli v259 c64_i32_157
  v260
def k0_mult15 (k0_t1 : Fin k0_t1_loop.trips) : BitVec 32 :=
  let c56_i32_168 : BitVec 32 := 56#32
  let c0_i32_167 : BitVec 32 := 0#32
  let c0_i32 : BitVec 32 := 0#32
  let c1_i32 : BitVec 32 := 1#32
  let arg10 : BitVec 32 := Scf.iv c0_i32 c1_i32 k0_t1
  let c32_i32_165 : BitVec 32 := 32#32
  let v275 : BitVec 32 := Scalar.muli arg10 c32_i32_165
  let c13_i32 : BitVec 32 := 13#32
  let v276 : BitVec 32 := Scalar.addi v275 c13_i32
  let c4_i32_166 : BitVec 32 := 4#32
  let v277 : BitVec 32 := Scalar.subi v276 c4_i32_166
  let v278 : BitVec 32 := Scalar.maxsi c0_i32_167 v277
  let v279 : BitVec 32 := Scalar.minsi c56_i32_168 v278
  let c64_i32_169 : BitVec 32 := 64#32
  let v280 : BitVec 32 := Scalar.muli v279 c64_i32_169
  v280
def k0_mult16 (k0_t1 : Fin k0_t1_loop.trips) : BitVec 32 :=
  let c56_i32_180 : BitVec 32 := 56#32
  let c0_i32_179 : BitVec 32 := 0#32
  let c0_i32 : BitVec 32 := 0#32
  let c1_i32 : BitVec 32 := 1#32
  let arg10 : BitVec 32 := Scf.iv c0_i32 c1_i32 k0_t1
  let c32_i32_177 : BitVec 32 := 32#32
  let v295 : BitVec 32 := Scalar.muli arg10 c32_i32_177
  let c14_i32 : BitVec 32 := 14#32
  let v296 : BitVec 32 := Scalar.addi v295 c14_i32
  let c4_i32_178 : BitVec 32 := 4#32
  let v297 : BitVec 32 := Scalar.subi v296 c4_i32_178
  let v298 : BitVec 32 := Scalar.maxsi c0_i32_179 v297
  let v299 : BitVec 32 := Scalar.minsi c56_i32_180 v298
  let c64_i32_181 : BitVec 32 := 64#32
  let v300 : BitVec 32 := Scalar.muli v299 c64_i32_181
  v300
def k0_mult17 (k0_t1 : Fin k0_t1_loop.trips) : BitVec 32 :=
  let c56_i32_192 : BitVec 32 := 56#32
  let c0_i32_191 : BitVec 32 := 0#32
  let c0_i32 : BitVec 32 := 0#32
  let c1_i32 : BitVec 32 := 1#32
  let arg10 : BitVec 32 := Scf.iv c0_i32 c1_i32 k0_t1
  let c32_i32_189 : BitVec 32 := 32#32
  let v315 : BitVec 32 := Scalar.muli arg10 c32_i32_189
  let c15_i32 : BitVec 32 := 15#32
  let v316 : BitVec 32 := Scalar.addi v315 c15_i32
  let c4_i32_190 : BitVec 32 := 4#32
  let v317 : BitVec 32 := Scalar.subi v316 c4_i32_190
  let v318 : BitVec 32 := Scalar.maxsi c0_i32_191 v317
  let v319 : BitVec 32 := Scalar.minsi c56_i32_192 v318
  let c64_i32_193 : BitVec 32 := 64#32
  let v320 : BitVec 32 := Scalar.muli v319 c64_i32_193
  v320
def k0_mult18 (k0_t1 : Fin k0_t1_loop.trips) : BitVec 32 :=
  let c56_i32_204 : BitVec 32 := 56#32
  let c0_i32_203 : BitVec 32 := 0#32
  let c0_i32 : BitVec 32 := 0#32
  let c1_i32 : BitVec 32 := 1#32
  let arg10 : BitVec 32 := Scf.iv c0_i32 c1_i32 k0_t1
  let c32_i32_201 : BitVec 32 := 32#32
  let v335 : BitVec 32 := Scalar.muli arg10 c32_i32_201
  let c16_i32 : BitVec 32 := 16#32
  let v336 : BitVec 32 := Scalar.addi v335 c16_i32
  let c4_i32_202 : BitVec 32 := 4#32
  let v337 : BitVec 32 := Scalar.subi v336 c4_i32_202
  let v338 : BitVec 32 := Scalar.maxsi c0_i32_203 v337
  let v339 : BitVec 32 := Scalar.minsi c56_i32_204 v338
  let c64_i32_205 : BitVec 32 := 64#32
  let v340 : BitVec 32 := Scalar.muli v339 c64_i32_205
  v340
def k0_mult19 (k0_t1 : Fin k0_t1_loop.trips) : BitVec 32 :=
  let c56_i32_216 : BitVec 32 := 56#32
  let c0_i32_215 : BitVec 32 := 0#32
  let c0_i32 : BitVec 32 := 0#32
  let c1_i32 : BitVec 32 := 1#32
  let arg10 : BitVec 32 := Scf.iv c0_i32 c1_i32 k0_t1
  let c32_i32_213 : BitVec 32 := 32#32
  let v355 : BitVec 32 := Scalar.muli arg10 c32_i32_213
  let c17_i32 : BitVec 32 := 17#32
  let v356 : BitVec 32 := Scalar.addi v355 c17_i32
  let c4_i32_214 : BitVec 32 := 4#32
  let v357 : BitVec 32 := Scalar.subi v356 c4_i32_214
  let v358 : BitVec 32 := Scalar.maxsi c0_i32_215 v357
  let v359 : BitVec 32 := Scalar.minsi c56_i32_216 v358
  let c64_i32_217 : BitVec 32 := 64#32
  let v360 : BitVec 32 := Scalar.muli v359 c64_i32_217
  v360
def k0_mult20 (k0_t1 : Fin k0_t1_loop.trips) : BitVec 32 :=
  let c56_i32_228 : BitVec 32 := 56#32
  let c0_i32_227 : BitVec 32 := 0#32
  let c0_i32 : BitVec 32 := 0#32
  let c1_i32 : BitVec 32 := 1#32
  let arg10 : BitVec 32 := Scf.iv c0_i32 c1_i32 k0_t1
  let c32_i32_225 : BitVec 32 := 32#32
  let v375 : BitVec 32 := Scalar.muli arg10 c32_i32_225
  let c18_i32 : BitVec 32 := 18#32
  let v376 : BitVec 32 := Scalar.addi v375 c18_i32
  let c4_i32_226 : BitVec 32 := 4#32
  let v377 : BitVec 32 := Scalar.subi v376 c4_i32_226
  let v378 : BitVec 32 := Scalar.maxsi c0_i32_227 v377
  let v379 : BitVec 32 := Scalar.minsi c56_i32_228 v378
  let c64_i32_229 : BitVec 32 := 64#32
  let v380 : BitVec 32 := Scalar.muli v379 c64_i32_229
  v380
def k0_mult21 (k0_t1 : Fin k0_t1_loop.trips) : BitVec 32 :=
  let c56_i32_240 : BitVec 32 := 56#32
  let c0_i32_239 : BitVec 32 := 0#32
  let c0_i32 : BitVec 32 := 0#32
  let c1_i32 : BitVec 32 := 1#32
  let arg10 : BitVec 32 := Scf.iv c0_i32 c1_i32 k0_t1
  let c32_i32_237 : BitVec 32 := 32#32
  let v395 : BitVec 32 := Scalar.muli arg10 c32_i32_237
  let c19_i32 : BitVec 32 := 19#32
  let v396 : BitVec 32 := Scalar.addi v395 c19_i32
  let c4_i32_238 : BitVec 32 := 4#32
  let v397 : BitVec 32 := Scalar.subi v396 c4_i32_238
  let v398 : BitVec 32 := Scalar.maxsi c0_i32_239 v397
  let v399 : BitVec 32 := Scalar.minsi c56_i32_240 v398
  let c64_i32_241 : BitVec 32 := 64#32
  let v400 : BitVec 32 := Scalar.muli v399 c64_i32_241
  v400
def k0_mult22 (k0_t1 : Fin k0_t1_loop.trips) : BitVec 32 :=
  let c56_i32_252 : BitVec 32 := 56#32
  let c0_i32_251 : BitVec 32 := 0#32
  let c0_i32 : BitVec 32 := 0#32
  let c1_i32 : BitVec 32 := 1#32
  let arg10 : BitVec 32 := Scf.iv c0_i32 c1_i32 k0_t1
  let c32_i32_249 : BitVec 32 := 32#32
  let v415 : BitVec 32 := Scalar.muli arg10 c32_i32_249
  let c20_i32 : BitVec 32 := 20#32
  let v416 : BitVec 32 := Scalar.addi v415 c20_i32
  let c4_i32_250 : BitVec 32 := 4#32
  let v417 : BitVec 32 := Scalar.subi v416 c4_i32_250
  let v418 : BitVec 32 := Scalar.maxsi c0_i32_251 v417
  let v419 : BitVec 32 := Scalar.minsi c56_i32_252 v418
  let c64_i32_253 : BitVec 32 := 64#32
  let v420 : BitVec 32 := Scalar.muli v419 c64_i32_253
  v420
def k0_mult23 (k0_t1 : Fin k0_t1_loop.trips) : BitVec 32 :=
  let c56_i32_264 : BitVec 32 := 56#32
  let c0_i32_263 : BitVec 32 := 0#32
  let c0_i32 : BitVec 32 := 0#32
  let c1_i32 : BitVec 32 := 1#32
  let arg10 : BitVec 32 := Scf.iv c0_i32 c1_i32 k0_t1
  let c32_i32_261 : BitVec 32 := 32#32
  let v435 : BitVec 32 := Scalar.muli arg10 c32_i32_261
  let c21_i32 : BitVec 32 := 21#32
  let v436 : BitVec 32 := Scalar.addi v435 c21_i32
  let c4_i32_262 : BitVec 32 := 4#32
  let v437 : BitVec 32 := Scalar.subi v436 c4_i32_262
  let v438 : BitVec 32 := Scalar.maxsi c0_i32_263 v437
  let v439 : BitVec 32 := Scalar.minsi c56_i32_264 v438
  let c64_i32_265 : BitVec 32 := 64#32
  let v440 : BitVec 32 := Scalar.muli v439 c64_i32_265
  v440
def k0_mult24 (k0_t1 : Fin k0_t1_loop.trips) : BitVec 32 :=
  let c56_i32_276 : BitVec 32 := 56#32
  let c0_i32_275 : BitVec 32 := 0#32
  let c0_i32 : BitVec 32 := 0#32
  let c1_i32 : BitVec 32 := 1#32
  let arg10 : BitVec 32 := Scf.iv c0_i32 c1_i32 k0_t1
  let c32_i32_273 : BitVec 32 := 32#32
  let v455 : BitVec 32 := Scalar.muli arg10 c32_i32_273
  let c22_i32 : BitVec 32 := 22#32
  let v456 : BitVec 32 := Scalar.addi v455 c22_i32
  let c4_i32_274 : BitVec 32 := 4#32
  let v457 : BitVec 32 := Scalar.subi v456 c4_i32_274
  let v458 : BitVec 32 := Scalar.maxsi c0_i32_275 v457
  let v459 : BitVec 32 := Scalar.minsi c56_i32_276 v458
  let c64_i32_277 : BitVec 32 := 64#32
  let v460 : BitVec 32 := Scalar.muli v459 c64_i32_277
  v460
def k0_mult25 (k0_t1 : Fin k0_t1_loop.trips) : BitVec 32 :=
  let c56_i32_288 : BitVec 32 := 56#32
  let c0_i32_287 : BitVec 32 := 0#32
  let c0_i32 : BitVec 32 := 0#32
  let c1_i32 : BitVec 32 := 1#32
  let arg10 : BitVec 32 := Scf.iv c0_i32 c1_i32 k0_t1
  let c32_i32_285 : BitVec 32 := 32#32
  let v475 : BitVec 32 := Scalar.muli arg10 c32_i32_285
  let c23_i32 : BitVec 32 := 23#32
  let v476 : BitVec 32 := Scalar.addi v475 c23_i32
  let c4_i32_286 : BitVec 32 := 4#32
  let v477 : BitVec 32 := Scalar.subi v476 c4_i32_286
  let v478 : BitVec 32 := Scalar.maxsi c0_i32_287 v477
  let v479 : BitVec 32 := Scalar.minsi c56_i32_288 v478
  let c64_i32_289 : BitVec 32 := 64#32
  let v480 : BitVec 32 := Scalar.muli v479 c64_i32_289
  v480
def k0_mult26 (k0_t1 : Fin k0_t1_loop.trips) : BitVec 32 :=
  let c56_i32_300 : BitVec 32 := 56#32
  let c0_i32_299 : BitVec 32 := 0#32
  let c0_i32 : BitVec 32 := 0#32
  let c1_i32 : BitVec 32 := 1#32
  let arg10 : BitVec 32 := Scf.iv c0_i32 c1_i32 k0_t1
  let c32_i32_297 : BitVec 32 := 32#32
  let v495 : BitVec 32 := Scalar.muli arg10 c32_i32_297
  let c24_i32 : BitVec 32 := 24#32
  let v496 : BitVec 32 := Scalar.addi v495 c24_i32
  let c4_i32_298 : BitVec 32 := 4#32
  let v497 : BitVec 32 := Scalar.subi v496 c4_i32_298
  let v498 : BitVec 32 := Scalar.maxsi c0_i32_299 v497
  let v499 : BitVec 32 := Scalar.minsi c56_i32_300 v498
  let c64_i32_301 : BitVec 32 := 64#32
  let v500 : BitVec 32 := Scalar.muli v499 c64_i32_301
  v500
def k0_mult27 (k0_t1 : Fin k0_t1_loop.trips) : BitVec 32 :=
  let c56_i32_312 : BitVec 32 := 56#32
  let c0_i32_311 : BitVec 32 := 0#32
  let c0_i32 : BitVec 32 := 0#32
  let c1_i32 : BitVec 32 := 1#32
  let arg10 : BitVec 32 := Scf.iv c0_i32 c1_i32 k0_t1
  let c32_i32_309 : BitVec 32 := 32#32
  let v515 : BitVec 32 := Scalar.muli arg10 c32_i32_309
  let c25_i32 : BitVec 32 := 25#32
  let v516 : BitVec 32 := Scalar.addi v515 c25_i32
  let c4_i32_310 : BitVec 32 := 4#32
  let v517 : BitVec 32 := Scalar.subi v516 c4_i32_310
  let v518 : BitVec 32 := Scalar.maxsi c0_i32_311 v517
  let v519 : BitVec 32 := Scalar.minsi c56_i32_312 v518
  let c64_i32_313 : BitVec 32 := 64#32
  let v520 : BitVec 32 := Scalar.muli v519 c64_i32_313
  v520
def k0_mult28 (k0_t1 : Fin k0_t1_loop.trips) : BitVec 32 :=
  let c56_i32_324 : BitVec 32 := 56#32
  let c0_i32_323 : BitVec 32 := 0#32
  let c0_i32 : BitVec 32 := 0#32
  let c1_i32 : BitVec 32 := 1#32
  let arg10 : BitVec 32 := Scf.iv c0_i32 c1_i32 k0_t1
  let c32_i32_321 : BitVec 32 := 32#32
  let v535 : BitVec 32 := Scalar.muli arg10 c32_i32_321
  let c26_i32 : BitVec 32 := 26#32
  let v536 : BitVec 32 := Scalar.addi v535 c26_i32
  let c4_i32_322 : BitVec 32 := 4#32
  let v537 : BitVec 32 := Scalar.subi v536 c4_i32_322
  let v538 : BitVec 32 := Scalar.maxsi c0_i32_323 v537
  let v539 : BitVec 32 := Scalar.minsi c56_i32_324 v538
  let c64_i32_325 : BitVec 32 := 64#32
  let v540 : BitVec 32 := Scalar.muli v539 c64_i32_325
  v540
def k0_mult29 (k0_t1 : Fin k0_t1_loop.trips) : BitVec 32 :=
  let c56_i32_336 : BitVec 32 := 56#32
  let c0_i32_335 : BitVec 32 := 0#32
  let c0_i32 : BitVec 32 := 0#32
  let c1_i32 : BitVec 32 := 1#32
  let arg10 : BitVec 32 := Scf.iv c0_i32 c1_i32 k0_t1
  let c32_i32_333 : BitVec 32 := 32#32
  let v555 : BitVec 32 := Scalar.muli arg10 c32_i32_333
  let c27_i32 : BitVec 32 := 27#32
  let v556 : BitVec 32 := Scalar.addi v555 c27_i32
  let c4_i32_334 : BitVec 32 := 4#32
  let v557 : BitVec 32 := Scalar.subi v556 c4_i32_334
  let v558 : BitVec 32 := Scalar.maxsi c0_i32_335 v557
  let v559 : BitVec 32 := Scalar.minsi c56_i32_336 v558
  let c64_i32_337 : BitVec 32 := 64#32
  let v560 : BitVec 32 := Scalar.muli v559 c64_i32_337
  v560
def k0_mult30 (k0_t1 : Fin k0_t1_loop.trips) : BitVec 32 :=
  let c56_i32_348 : BitVec 32 := 56#32
  let c0_i32_347 : BitVec 32 := 0#32
  let c0_i32 : BitVec 32 := 0#32
  let c1_i32 : BitVec 32 := 1#32
  let arg10 : BitVec 32 := Scf.iv c0_i32 c1_i32 k0_t1
  let c32_i32_345 : BitVec 32 := 32#32
  let v575 : BitVec 32 := Scalar.muli arg10 c32_i32_345
  let c28_i32 : BitVec 32 := 28#32
  let v576 : BitVec 32 := Scalar.addi v575 c28_i32
  let c4_i32_346 : BitVec 32 := 4#32
  let v577 : BitVec 32 := Scalar.subi v576 c4_i32_346
  let v578 : BitVec 32 := Scalar.maxsi c0_i32_347 v577
  let v579 : BitVec 32 := Scalar.minsi c56_i32_348 v578
  let c64_i32_349 : BitVec 32 := 64#32
  let v580 : BitVec 32 := Scalar.muli v579 c64_i32_349
  v580
def k0_mult31 (k0_t1 : Fin k0_t1_loop.trips) : BitVec 32 :=
  let c56_i32_360 : BitVec 32 := 56#32
  let c0_i32_359 : BitVec 32 := 0#32
  let c0_i32 : BitVec 32 := 0#32
  let c1_i32 : BitVec 32 := 1#32
  let arg10 : BitVec 32 := Scf.iv c0_i32 c1_i32 k0_t1
  let c32_i32_357 : BitVec 32 := 32#32
  let v595 : BitVec 32 := Scalar.muli arg10 c32_i32_357
  let c29_i32 : BitVec 32 := 29#32
  let v596 : BitVec 32 := Scalar.addi v595 c29_i32
  let c4_i32_358 : BitVec 32 := 4#32
  let v597 : BitVec 32 := Scalar.subi v596 c4_i32_358
  let v598 : BitVec 32 := Scalar.maxsi c0_i32_359 v597
  let v599 : BitVec 32 := Scalar.minsi c56_i32_360 v598
  let c64_i32_361 : BitVec 32 := 64#32
  let v600 : BitVec 32 := Scalar.muli v599 c64_i32_361
  v600
def k0_mult32 (k0_t1 : Fin k0_t1_loop.trips) : BitVec 32 :=
  let c56_i32_372 : BitVec 32 := 56#32
  let c0_i32_371 : BitVec 32 := 0#32
  let c0_i32 : BitVec 32 := 0#32
  let c1_i32 : BitVec 32 := 1#32
  let arg10 : BitVec 32 := Scf.iv c0_i32 c1_i32 k0_t1
  let c32_i32_369 : BitVec 32 := 32#32
  let v615 : BitVec 32 := Scalar.muli arg10 c32_i32_369
  let c30_i32 : BitVec 32 := 30#32
  let v616 : BitVec 32 := Scalar.addi v615 c30_i32
  let c4_i32_370 : BitVec 32 := 4#32
  let v617 : BitVec 32 := Scalar.subi v616 c4_i32_370
  let v618 : BitVec 32 := Scalar.maxsi c0_i32_371 v617
  let v619 : BitVec 32 := Scalar.minsi c56_i32_372 v618
  let c64_i32_373 : BitVec 32 := 64#32
  let v620 : BitVec 32 := Scalar.muli v619 c64_i32_373
  v620
def k0_mult33 (k0_t1 : Fin k0_t1_loop.trips) : BitVec 32 :=
  let c56_i32_384 : BitVec 32 := 56#32
  let c0_i32_383 : BitVec 32 := 0#32
  let c0_i32 : BitVec 32 := 0#32
  let c1_i32 : BitVec 32 := 1#32
  let arg10 : BitVec 32 := Scf.iv c0_i32 c1_i32 k0_t1
  let c32_i32_381 : BitVec 32 := 32#32
  let v635 : BitVec 32 := Scalar.muli arg10 c32_i32_381
  let c31_i32 : BitVec 32 := 31#32
  let v636 : BitVec 32 := Scalar.addi v635 c31_i32
  let c4_i32_382 : BitVec 32 := 4#32
  let v637 : BitVec 32 := Scalar.subi v636 c4_i32_382
  let v638 : BitVec 32 := Scalar.maxsi c0_i32_383 v637
  let v639 : BitVec 32 := Scalar.minsi c56_i32_384 v638
  let c64_i32_385 : BitVec 32 := 64#32
  let v640 : BitVec 32 := Scalar.muli v639 c64_i32_385
  v640
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== NeighbourIdeal.lean ====
variable {F : FTy → Type} [FloatOps F] [Named F]
def κ : String → Option EReal := fun
  | "log2e" => some (((Real.log 2)⁻¹ : ℝ) : EReal)
  | "na_scale" => some (((11863283 / 134217728) * (Real.log 2)⁻¹ : ℝ) : EReal)
  | _ => none
-- ==== NeighbourReferenceIdeal.lean ====
abbrev S4x4096x12288 : Shape := ⟨3, ![4, 4096, 12288]⟩
abbrev S4x256x12288 : Shape := ⟨3, ![4, 256, 12288]⟩
abbrev S16x15x31 : Shape := ⟨3, ![16, 15, 31]⟩
abbrev S4x4096x2048 : Shape := ⟨3, ![4, 4096, 2048]⟩
abbrev S4x256x2048 : Shape := ⟨3, ![4, 256, 2048]⟩
abbrev S4x256x16x128 : Shape := ⟨4, ![4, 256, 16, 128]⟩
abbrev S4x4096x16x128 : Shape := ⟨4, ![4, 4096, 16, 128]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S16x15x64x16 : Shape := ⟨4, ![16, 15, 64, 16]⟩
abbrev S4x64x64x16x128 : Shape := ⟨5, ![4, 64, 64, 16, 128]⟩
abbrev S64x8x1 : Shape := ⟨3, ![64, 8, 1]⟩
abbrev S1 : Shape := ⟨1, ![1]⟩
abbrev S1x1x1 : Shape := ⟨3, ![1, 1, 1]⟩
abbrev S4x64x8x64x16x128 : Shape := ⟨6, ![4, 64, 8, 64, 16, 128]⟩
abbrev S4x64x8x64x16x16x128 : Shape := ⟨7, ![4, 64, 8, 64, 16, 16, 128]⟩
abbrev S16x64x8x64x16 : Shape := ⟨5, ![16, 64, 8, 64, 16]⟩
abbrev S16x64x64x8x16 : Shape := ⟨5, ![16, 64, 64, 8, 16]⟩
abbrev S4x16x64x64x8x16 : Shape := ⟨6, ![4, 16, 64, 64, 8, 16]⟩
abbrev S1x16x64x64x8x16 : Shape := ⟨6, ![1, 16, 64, 64, 8, 16]⟩
abbrev S4x16x64x64x256 : Shape := ⟨5, ![4, 16, 64, 64, 256]⟩
abbrev S4x16x64x64x128 : Shape := ⟨5, ![4, 16, 64, 64, 128]⟩
abbrev S4x16x64x64x384 : Shape := ⟨5, ![4, 16, 64, 64, 384]⟩
abbrev S4x16x64x64 : Shape := ⟨4, ![4, 16, 64, 64]⟩
abbrev S4x16x64x64x1 : Shape := ⟨5, ![4, 16, 64, 64, 1]⟩
abbrev S4x16x128x64x64 : Shape := ⟨5, ![4, 16, 128, 64, 64]⟩

abbrev nBuf : Space → Nat
  | .hbm => 224
  | .vmem => 0
  | .smem => 0
  | _ => 0

abbrev hbmTy0_0 (i : Nat) : BufTy := match i % 128 with
  | 0 => ⟨S4x4096x12288, .bf16⟩
  | 1 => ⟨S4x256x12288, .bf16⟩
  | 2 => ⟨S16x15x31, .f32⟩
  | 3 => ⟨S4x4096x12288, .f32⟩
  | 4 => ⟨S4x256x12288, .f32⟩
  | 5 => ⟨S4x4096x2048, .f32⟩
  | 6 => ⟨S4x4096x2048, .f32⟩
  | 7 => ⟨S4x4096x2048, .f32⟩
  | 8 => ⟨S4x4096x2048, .f32⟩
  | 9 => ⟨S4x256x2048, .f32⟩
  | 10 => ⟨S4x256x2048, .f32⟩
  | 11 => ⟨S4x256x16x128, .f32⟩
  | 12 => ⟨S4x256x16x128, .f32⟩
  | 13 => ⟨S4x4096x16x128, .f32⟩
  | 14 => ⟨S4x4096x16x128, .f32⟩
  | 15 => ⟨S4x4096x16x128, .f32⟩
  | 16 => ⟨S64, .i32⟩
  | 17 => ⟨S64, .i32⟩
  | 18 => ⟨S_, .i32⟩
  | 19 => ⟨S64, .i32⟩
  | 20 => ⟨S64, .i32⟩
  | 21 => ⟨S_, .i32⟩
  | 22 => ⟨S_, .i32⟩
  | 23 => ⟨S_, .i32⟩
  | 24 => ⟨S64, .i32⟩
  | 25 => ⟨S64, .i32⟩
  | 26 => ⟨S_, .i32⟩
  | 27 => ⟨S64, .i32⟩
  | 28 => ⟨S64, .i32⟩
  | 29 => ⟨S64x1, .i32⟩
  | 30 => ⟨S8, .i32⟩
  | 31 => ⟨S1x8, .i32⟩
  | 32 => ⟨S64x8, .i32⟩
  | 33 => ⟨S64x8, .i32⟩
  | 34 => ⟨S64x8, .i32⟩
  | 35 => ⟨S64x1, .i32⟩
  | 36 => ⟨S64x8, .i32⟩
  | 37 => ⟨S64x8, .i32⟩
  | 38 => ⟨S_, .i32⟩
  | 39 => ⟨S64x8, .i32⟩
  | 40 => ⟨S64x8, .i32⟩
  | 41 => ⟨S_, .i32⟩
  | 42 => ⟨S64, .i32⟩
  | 43 => ⟨S64, .i32⟩
  | 44 => ⟨S_, .i32⟩
  | 45 => ⟨S_, .i32⟩
  | 46 => ⟨S_, .i32⟩
  | 47 => ⟨S64, .i32⟩
  | 48 => ⟨S64, .i32⟩
  | 49 => ⟨S_, .i32⟩
  | 50 => ⟨S64, .i32⟩
  | 51 => ⟨S64, .i32⟩
  | 52 => ⟨S64x1, .i32⟩
  | 53 => ⟨S16, .i32⟩
  | 54 => ⟨S1x16, .i32⟩
  | 55 => ⟨S64x16, .i32⟩
  | 56 => ⟨S64x16, .i32⟩
  | 57 => ⟨S64x16, .i32⟩
  | 58 => ⟨S64x1, .i32⟩
  | 59 => ⟨S64x16, .i32⟩
  | 60 => ⟨S64x16, .i32⟩
  | 61 => ⟨S_, .i32⟩
  | 62 => ⟨S64x16, .i32⟩
  | 63 => ⟨S64x16, .i32⟩
  | 64 => ⟨S_, .i32⟩
  | 65 => ⟨S64x16, .i32⟩
  | 66 => ⟨S64x16, .i1⟩
  | 67 => ⟨S_, .i32⟩
  | 68 => ⟨S64x16, .i32⟩
  | 69 => ⟨S64x16, .i32⟩
  | 70 => ⟨S64x16, .i32⟩
  | 71 => ⟨S64x16x1, .i32⟩
  | 72 => ⟨S16x15x64x16, .f32⟩
  | 73 => ⟨S4x64x64x16x128, .f32⟩
  | 74 => ⟨S4x64x64x16x128, .f32⟩
  | 75 => ⟨S4x64x64x16x128, .f32⟩
  | 76 => ⟨S_, .i32⟩
  | 77 => ⟨S64x8, .i32⟩
  | 78 => ⟨S64x8, .i1⟩
  | 79 => ⟨S_, .i32⟩
  | 80 => ⟨S64x8, .i32⟩
  | 81 => ⟨S64x8, .i32⟩
  | 82 => ⟨S64x8, .i32⟩
  | 83 => ⟨S64x8x1, .i32⟩
  | 84 => ⟨S1, .i32⟩
  | 85 => ⟨S_, .i32⟩
  | 86 => ⟨S64x8x1, .i32⟩
  | 87 => ⟨S64x8x1, .i1⟩
  | 88 => ⟨S1x1x1, .i32⟩
  | 89 => ⟨S64x8x1, .i32⟩
  | 90 => ⟨S64x8x1, .i1⟩
  | 91 => ⟨S64x8x1, .i1⟩
  | 92 => ⟨S_, .i1⟩
  | 93 => ⟨S64x8, .i1⟩
  | 94 => ⟨S4x64x8x64x16x128, .f32⟩
  | 95 => ⟨S4x64x8x64x16x128, .i1⟩
  | 96 => ⟨S_, .f32⟩
  | 97 => ⟨S4x64x8x64x16x128, .f32⟩
  | 98 => ⟨S4x64x8x64x16x128, .f32⟩
  | 99 => ⟨S_, .i32⟩
  | 100 => ⟨S64x16, .i32⟩
  | 101 => ⟨S64x16, .i1⟩
  | 102 => ⟨S_, .i32⟩
  | 103 => ⟨S64x16, .i32⟩
  | 104 => ⟨S64x16, .i32⟩
  | 105 => ⟨S64x16, .i32⟩
  | 106 => ⟨S64x16x1, .i32⟩
  | 107 => ⟨S1, .i32⟩
  | 108 => ⟨S_, .i32⟩
  | 109 => ⟨S64x16x1, .i32⟩
  | 110 => ⟨S64x16x1, .i1⟩
  | 111 => ⟨S1x1x1, .i32⟩
  | 112 => ⟨S64x16x1, .i32⟩
  | 113 => ⟨S64x16x1, .i1⟩
  | 114 => ⟨S64x16x1, .i1⟩
  | 115 => ⟨S_, .i1⟩
  | 116 => ⟨S64x16, .i1⟩
  | 117 => ⟨S4x64x8x64x16x16x128, .f32⟩
  | 118 => ⟨S4x64x8x64x16x16x128, .i1⟩
  | 119 => ⟨S_, .f32⟩
  | 120 => ⟨S4x64x8x64x16x16x128, .f32⟩
  | 121 => ⟨S4x64x8x64x16x16x128, .f32⟩
  | 122 => ⟨S_, .i32⟩
  | 123 => ⟨S64x8, .i32⟩
  | 124 => ⟨S64x8, .i1⟩
  | 125 => ⟨S_, .i32⟩
  | 126 => ⟨S64x8, .i32⟩
  | 127 => ⟨S64x8, .i32⟩
  | _ => ⟨S4x4096x12288, .bf16⟩

abbrev hbmTy0_1 (i : Nat) : BufTy := match i % 128 with
  | 0 => ⟨S64x8, .i32⟩
  | 1 => ⟨S64x8x1, .i32⟩
  | 2 => ⟨S1, .i32⟩
  | 3 => ⟨S_, .i32⟩
  | 4 => ⟨S64x8x1, .i32⟩
  | 5 => ⟨S64x8x1, .i1⟩
  | 6 => ⟨S1x1x1, .i32⟩
  | 7 => ⟨S64x8x1, .i32⟩
  | 8 => ⟨S64x8x1, .i1⟩
  | 9 => ⟨S64x8x1, .i1⟩
  | 10 => ⟨S_, .i1⟩
  | 11 => ⟨S64x8, .i1⟩
  | 12 => ⟨S4x64x8x64x16x128, .f32⟩
  | 13 => ⟨S4x64x8x64x16x128, .i1⟩
  | 14 => ⟨S_, .f32⟩
  | 15 => ⟨S4x64x8x64x16x128, .f32⟩
  | 16 => ⟨S4x64x8x64x16x128, .f32⟩
  | 17 => ⟨S_, .i32⟩
  | 18 => ⟨S64x16, .i32⟩
  | 19 => ⟨S64x16, .i1⟩
  | 20 => ⟨S_, .i32⟩
  | 21 => ⟨S64x16, .i32⟩
  | 22 => ⟨S64x16, .i32⟩
  | 23 => ⟨S64x16, .i32⟩
  | 24 => ⟨S64x16x1, .i32⟩
  | 25 => ⟨S1, .i32⟩
  | 26 => ⟨S_, .i32⟩
  | 27 => ⟨S64x16x1, .i32⟩
  | 28 => ⟨S64x16x1, .i1⟩
  | 29 => ⟨S1x1x1, .i32⟩
  | 30 => ⟨S64x16x1, .i32⟩
  | 31 => ⟨S64x16x1, .i1⟩
  | 32 => ⟨S64x16x1, .i1⟩
  | 33 => ⟨S_, .i1⟩
  | 34 => ⟨S64x16, .i1⟩
  | 35 => ⟨S4x64x8x64x16x16x128, .f32⟩
  | 36 => ⟨S4x64x8x64x16x16x128, .i1⟩
  | 37 => ⟨S_, .f32⟩
  | 38 => ⟨S4x64x8x64x16x16x128, .f32⟩
  | 39 => ⟨S4x64x8x64x16x16x128, .f32⟩
  | 40 => ⟨S_, .i32⟩
  | 41 => ⟨S64x8, .i32⟩
  | 42 => ⟨S64x8, .i1⟩
  | 43 => ⟨S_, .i32⟩
  | 44 => ⟨S64x8, .i32⟩
  | 45 => ⟨S64x8, .i32⟩
  | 46 => ⟨S64x8, .i32⟩
  | 47 => ⟨S64x8x1, .i32⟩
  | 48 => ⟨S16x64x8x64x16, .f32⟩
  | 49 => ⟨S16x64x64x8x16, .f32⟩
  | 50 => ⟨S4x16x64x64x8x16, .f32⟩
  | 51 => ⟨S_, .f32⟩
  | 52 => ⟨S4x16x64x64x8x16, .f32⟩
  | 53 => ⟨S4x16x64x64x8x16, .f32⟩
  | 54 => ⟨S1x16x64x64x8x16, .f32⟩
  | 55 => ⟨S4x16x64x64x8x16, .f32⟩
  | 56 => ⟨S4x16x64x64x8x16, .f32⟩
  | 57 => ⟨S4x16x64x64x256, .f32⟩
  | 58 => ⟨S_, .f32⟩
  | 59 => ⟨S4x16x64x64x256, .f32⟩
  | 60 => ⟨S4x16x64x64x256, .f32⟩
  | 61 => ⟨S4x16x64x64x128, .f32⟩
  | 62 => ⟨S4x16x64x64x384, .f32⟩
  | 63 => ⟨S_, .f32⟩
  | 64 => ⟨S4x16x64x64, .f32⟩
  | 65 => ⟨S_, .f32⟩
  | 66 => ⟨S4x16x64x64, .f32⟩
  | 67 => ⟨S4x16x64x64, .f32⟩
  | 68 => ⟨S4x16x64x64x1, .f32⟩
  | 69 => ⟨S4x16x64x64x384, .f32⟩
  | 70 => ⟨S4x16x64x64x384, .f32⟩
  | 71 => ⟨S4x16x64x64x384, .f32⟩
  | 72 => ⟨S_, .f32⟩
  | 73 => ⟨S4x16x64x64, .f32⟩
  | 74 => ⟨S4x16x64x64x1, .f32⟩
  | 75 => ⟨S4x16x64x64x384, .f32⟩
  | 76 => ⟨S4x16x64x64x384, .f32⟩
  | 77 => ⟨S4x16x64x64x128, .f32⟩
  | 78 => ⟨S4x16x64x64x8x16, .f32⟩
  | 79 => ⟨S4x16x64x64x256, .f32⟩
  | 80 => ⟨S4x64x64x16x128, .f32⟩
  | 81 => ⟨S4x16x128x64x64, .f32⟩
  | 82 => ⟨S4x64x64x16x128, .f32⟩
  | 83 => ⟨S4x64x64x16x128, .f32⟩
  | 84 => ⟨S4x4096x2048, .f32⟩
  | 85 => ⟨S4x4096x2048, .f32⟩
  | 86 => ⟨S4x4096x2048, .f32⟩
  | 87 => ⟨S_, .f32⟩
  | 88 => ⟨S4x4096x2048, .f32⟩
  | 89 => ⟨S4x4096x2048, .f32⟩
  | 90 => ⟨S_, .f32⟩
  | 91 => ⟨S4x4096x2048, .f32⟩
  | 92 => ⟨S4x4096x2048, .f32⟩
  | 93 => ⟨S4x4096x2048, .f32⟩
  | 94 => ⟨S4x4096x2048, .f32⟩
  | 95 => ⟨S4x4096x2048, .bf16⟩
  | _ => ⟨S4x4096x12288, .bf16⟩

abbrev hbmTy (i : Nat) : BufTy := match i / 128 with
  | 0 => hbmTy0_0 i
  | 1 => hbmTy0_1 i
  | _ => ⟨S4x4096x12288, .bf16⟩

abbrev bufTy : (tb : Table) → Fin (tcTables nBuf tb) → BufTy
  | .hbm, ⟨i, _⟩ => hbmTy i
  | _, _ => ⟨S4x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_c_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v53 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v54 : Ref sig .tc := ⟨.hbm, 121, rfl⟩
abbrev main_call4_c : Ref sig .tc := ⟨.hbm, 122, rfl⟩
abbrev main_call4_v0 : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_c_1 : Ref sig .tc := ⟨.hbm, 130, rfl⟩
abbrev main_call4_c_2 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_3 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_call4_cst : Ref sig .tc := ⟨.hbm, 142, rfl⟩
abbrev main_call4_v15 : Ref sig .tc := ⟨.hbm, 143, rfl⟩
abbrev main_v55 : Ref sig .tc := ⟨.hbm, 144, rfl⟩
abbrev main_call5_c : Ref sig .tc := ⟨.hbm, 145, rfl⟩
abbrev main_call5_v0 : Ref sig .tc := ⟨.hbm, 146, rfl⟩
abbrev main_call5_v1 : Ref sig .tc := ⟨.hbm, 147, rfl⟩
abbrev main_call5_c_0 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_call5_v5 : Ref sig .tc := ⟨.hbm, 152, rfl⟩
abbrev main_call5_c_1 : Ref sig .tc := ⟨.hbm, 153, rfl⟩
abbrev main_call5_c_2 : Ref sig .tc := ⟨.hbm, 154, rfl⟩
abbrev main_call5_v6 : Ref sig .tc := ⟨.hbm, 155, rfl⟩
abbrev main_call5_v7 : Ref sig .tc := ⟨.hbm, 156, rfl⟩
abbrev main_call5_v8 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_c_3 : Ref sig .tc := ⟨.hbm, 161, rfl⟩
abbrev main_call5_v12 : Ref sig .tc := ⟨.hbm, 162, rfl⟩
abbrev main_call5_v13 : Ref sig .tc := ⟨.hbm, 163, rfl⟩
abbrev main_call5_v14 : Ref sig .tc := ⟨.hbm, 164, rfl⟩
abbrev main_call5_cst : Ref sig .tc := ⟨.hbm, 165, rfl⟩
abbrev main_call5_v15 : Ref sig .tc := ⟨.hbm, 166, rfl⟩
abbrev main_v56 : Ref sig .tc := ⟨.hbm, 167, rfl⟩
abbrev main_c_9 : Ref sig .tc := ⟨.hbm, 168, rfl⟩
abbrev main_v57 : Ref sig .tc := ⟨.hbm, 169, rfl⟩
abbrev main_v58 : Ref sig .tc := ⟨.hbm, 170, rfl⟩
abbrev main_c_10 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_cst : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_cst_11 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_cst_12 : Ref sig .tc := ⟨.hbm, 191, rfl⟩
abbrev main_v76 : Ref sig .tc := ⟨.hbm, 192, rfl⟩
abbrev main_cst_13 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_v82 : Ref sig .tc := ⟨.hbm, 199, rfl⟩
abbrev main_cst_14 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_v91 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_call6_v0 : Ref sig .tc := ⟨.hbm, 213, rfl⟩
abbrev main_call6_v1 : Ref sig .tc := ⟨.hbm, 214, rfl⟩
abbrev main_call6_cst : Ref sig .tc := ⟨.hbm, 215, rfl⟩
abbrev main_call6_v2 : Ref sig .tc := ⟨.hbm, 216, rfl⟩
abbrev main_call6_v3 : Ref sig .tc := ⟨.hbm, 217, rfl⟩
abbrev main_call6_cst_0 : Ref sig .tc := ⟨.hbm, 218, rfl⟩
abbrev main_call6_v4 : Ref sig .tc := ⟨.hbm, 219, rfl⟩
abbrev main_call6_v5 : Ref sig .tc := ⟨.hbm, 220, rfl⟩
abbrev main_v95 : Ref sig .tc := ⟨.hbm, 221, rfl⟩
abbrev main_v96 : Ref sig .tc := ⟨.hbm, 222, rfl⟩
abbrev main_v97 : Ref sig .tc := ⟨.hbm, 223, rfl⟩

abbrev nD : Nat := 1
abbrev τ : Topo := Topo.v7x

variable {F : FTy → Type} [FloatOps F]
-- ==== Proof.Attn.Softmax.lean ====
module

public import Idealize.ShloMosaic.Lib.ValueIdx
public import Idealize.ShloMosaic.PureOps.Ideal.Laws

/-!
# A softmax taken chunk by chunk, on the extended reals

A row of attention keeps a running maximum `m`, a running sum of weights `l` and a running weighted sum of values `a`.
`Running s v n m l a` says what the three are after the first `n` keys: the maximum is some real `M` (or nothing was read
yet), and the two sums are those of `2 ^ (s t - M)` over the keys read.  One chunk of keys keeps that statement
(`Running.step`), and the quotient `a / l` at the end is the softmax-weighted sum whatever `M` is (`Running.quotient`).
-/

@[expose] public section

noncomputable section

namespace Attn

open Idealize.ShloMosaic
open scoped BigOperators

/-- A sum of reals, read as an extended real, is the extended reals' sum. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A nonnegative real factor goes into a sum of extended reals. -/
theorem coe_mul_sum {ι : Type*} (S : Finset ι) {c : ℝ} (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (EReal.coe_nonneg.2 hc) (EReal.coe_ne_top c) _ _

/-- The largest of finitely many reals, started from `⊥`, is a real when there is at least one. -/
theorem fold_max_real {ι : Type*} (S : Finset ι) (f : ι → EReal) (hf : ∀ i ∈ S, ∃ r : ℝ, f i = r) (hS : S.Nonempty) :
    ∃ r : ℝ, S.fold max ⊥ f = r := by
  classical
  have key : ∀ T : Finset ι, (∀ i ∈ T, ∃ r : ℝ, f i = r) → (T = ∅ ∨ ∃ r : ℝ, T.fold max ⊥ f = r) := by
    intro T
    induction T using Finset.induction_on with
    | empty => intro _; exact .inl rfl
    | insert a T ha ih =>
      intro h
      obtain ⟨x, hx⟩ := h a (Finset.mem_insert_self a T)
      refine .inr ?_
      rw [Finset.fold_insert ha, hx]
      rcases ih (fun i hi => h i (Finset.mem_insert_of_mem hi)) with rfl | ⟨r, hr⟩
      · exact ⟨x, by simp⟩
      · rw [hr]; exact ⟨max x r, (EReal.coe_strictMono.monotone.map_max).symm⟩
  rcases key S hf with rfl | h
  · exact absurd hS (by simp)
  · exact h

/-- The weight of a key of score `s` against a reference score `M`. -/
def wt (s M : ℝ) : ℝ := Real.rpow 2 (s - M)

theorem wt_pos (s M : ℝ) : 0 < wt s M := Real.rpow_pos_of_pos (by norm_num) _

theorem wt_mul (s M M' : ℝ) : wt M M' * wt s M = wt s M' := by
  show (2 : ℝ) ^ (M - M') * (2 : ℝ) ^ (s - M) = (2 : ℝ) ^ (s - M')
  rw [← Real.rpow_add (by norm_num)]; congr 1; ring

/-- What a row's running maximum, sum of weights and weighted sum are after the first `n` keys. -/
def Running (s : ℕ → ℝ) (v : ℕ → EReal) (n : ℕ) (m l a : EReal) : Prop :=
  (n = 0 ∧ m = ⊥ ∧ l = 0 ∧ a = 0)
  ∨ ∃ M : ℝ, m = M ∧ l = ((∑ t ∈ Finset.range n, wt (s t) M : ℝ) : EReal)
      ∧ a = ∑ t ∈ Finset.range n, ((wt (s t) M : ℝ) : EReal) * v t

theorem Running.start (s : ℕ → ℝ) (v : ℕ → EReal) : Running s v 0 ⊥ 0 0 := .inl ⟨rfl, rfl, rfl, rfl⟩

/-- One chunk of `K` keys: the maximum is raised by the chunk's, the sums are rescaled and the chunk's are added. -/
theorem Running.step {s : ℕ → ℝ} {v : ℕ → EReal} {n : ℕ} {m l a : EReal} (h : Running s v n m l a) {K : ℕ} (hK : 0 < K)
    (sc : Fin K → EReal) (hsc : ∀ j : Fin K, sc j = (s (n + j.val) : EReal)) (vc : Fin K → EReal)
    (hvc : ∀ j : Fin K, vc j = v (n + j.val)) (m' : EReal) (hm' : m' = max m (Finset.univ.fold max ⊥ sc)) :
    Running s v (n + K) m' (Ideal.exp2 (m - m') * l + ∑ j : Fin K, Ideal.exp2 (sc j - m'))
      (Ideal.exp2 (m - m') * a + ∑ j : Fin K, Ideal.exp2 (sc j - m') * vc j) := by
  obtain ⟨C, hC⟩ := fold_max_real Finset.univ sc (fun j _ => ⟨_, hsc j⟩) ⟨⟨0, hK⟩, Finset.mem_univ _⟩
  rw [hC] at hm'
  have hex : ∀ (x M : ℝ), Ideal.exp2 ((x : EReal) - (M : EReal)) = ((wt x M : ℝ) : EReal) := fun x M => by
    rw [← EReal.coe_sub, Ideal.exp2_coe]; rfl
  have hl : ∀ M : ℝ, ∑ j : Fin K, Ideal.exp2 (sc j - (M : EReal)) = ((∑ j ∈ Finset.range K, wt (s (n + j)) M : ℝ) : EReal) := fun M => by
    rw [coe_sum, ← Fin.sum_univ_eq_sum_range (fun j => ((wt (s (n + j)) M : ℝ) : EReal))]
    exact Finset.sum_congr rfl fun j _ => by rw [hsc j, hex]
  have ha : ∀ M : ℝ, ∑ j : Fin K, Ideal.exp2 (sc j - (M : EReal)) * vc j
      = ∑ j ∈ Finset.range K, ((wt (s (n + j)) M : ℝ) : EReal) * v (n + j) := fun M => by
    rw [← Fin.sum_univ_eq_sum_range (fun j => ((wt (s (n + j)) M : ℝ) : EReal) * v (n + j))]
    exact Finset.sum_congr rfl fun j _ => by rw [hsc j, hex, hvc j]
  right
  rcases h with ⟨rfl, rfl, rfl, rfl⟩ | ⟨M, rfl, rfl, rfl⟩
  · have e : m' = (C : EReal) := by rw [hm']; simp
    subst e
    refine ⟨C, rfl, ?_, ?_⟩
    · rw [hl]; simp
    · rw [ha]; simp
  · have e : m' = ((max M C : ℝ) : EReal) := by rw [hm']; exact (EReal.coe_strictMono.monotone.map_max).symm
    generalize max M C = M' at e
    subst e
    refine ⟨M', rfl, ?_, ?_⟩
    · rw [hl, hex, ← EReal.coe_mul, ← EReal.coe_add, Finset.sum_range_add, Finset.mul_sum]
      congr 2
      exact Finset.sum_congr rfl fun t _ => wt_mul _ _ _
    · rw [ha, hex, coe_mul_sum _ (wt_pos _ _).le, Finset.sum_range_add]
      congr 1
      exact Finset.sum_congr rfl fun t _ => by rw [← mul_assoc, ← EReal.coe_mul, wt_mul]

/-- The softmax-weighted sum of the values `v` at the scores `s`, over the first `n` keys. -/
def softmaxSum (s : ℕ → ℝ) (v : ℕ → EReal) (n : ℕ) : EReal :=
  ∑ t ∈ Finset.range n, ((Real.exp (s t) / ∑ u ∈ Finset.range n, Real.exp (s u) : ℝ) : EReal) * v t

/-- Dividing by a positive real is multiplying by its inverse. -/
theorem div_coe_pos (x : EReal) {r : ℝ} (hr : 0 < r) : Ideal.div x (r : EReal) = ((r⁻¹ : ℝ) : EReal) * x := by
  unfold Ideal.div
  rw [if_neg (by exact_mod_cast hr.ne'), EReal.coe_inv, mul_comm]

/-- With the scores taken to the base two, the running sums' quotient is the softmax-weighted sum. -/
theorem Running.quotient {s : ℕ → ℝ} {v : ℕ → EReal} {n : ℕ} (hn : 0 < n) {m l a : EReal}
    (h : Running (fun t => s t * (Real.log 2)⁻¹) v n m l a) : Ideal.div a l = softmaxSum s v n := by
  rcases h with ⟨rfl, _⟩ | ⟨M, -, rfl, rfl⟩
  · exact absurd hn (lt_irrefl 0)
  have hw : ∀ t, wt (s t * (Real.log 2)⁻¹) M = Real.exp (s t) * Real.rpow 2 (-M) := fun t => by
    show (2 : ℝ) ^ (s t * (Real.log 2)⁻¹ - M) = Real.exp (s t) * (2 : ℝ) ^ (-M)
    have h2 : Real.log 2 ≠ 0 := (Real.log_pos (by norm_num)).ne'
    rw [sub_eq_add_neg, Real.rpow_add (by norm_num)]
    congr 1
    rw [Real.rpow_def_of_pos (by norm_num)]
    congr 1; field_simp
  have hc : 0 < Real.rpow 2 (-M) := Real.rpow_pos_of_pos (by norm_num) _
  generalize Real.rpow 2 (-M) = c at hw hc
  have hE : 0 < ∑ u ∈ Finset.range n, Real.exp (s u) :=
    Finset.sum_pos (fun u _ => Real.exp_pos _) ⟨0, Finset.mem_range.2 hn⟩
  have hL : ∑ t ∈ Finset.range n, wt (s t * (Real.log 2)⁻¹) M = (∑ u ∈ Finset.range n, Real.exp (s u)) * c := by
    rw [Finset.sum_mul]; exact Finset.sum_congr rfl fun t _ => hw t
  rw [hL, div_coe_pos _ (mul_pos hE hc), coe_mul_sum _ (inv_pos.2 (mul_pos hE hc)).le]
  unfold softmaxSum
  refine Finset.sum_congr rfl fun t _ => ?_
  rw [hw, ← mul_assoc, ← EReal.coe_mul]
  congr 2
  field_simp

/-- The same sum as a softmax that subtracts some real from the scores, exponentiates and divides by the sum. -/
theorem softmaxSum_eq {s : ℕ → ℝ} {n : ℕ} (hn : 0 < n) (sc vc : Fin n → EReal) (v : ℕ → EReal)
    (hsc : ∀ t, sc t = (s t.val : EReal)) (hvc : ∀ t, vc t = v t.val) (M : ℝ) :
    ∑ t : Fin n, vc t * Ideal.div (Ideal.exp (sc t - (M : EReal))) (0 + ∑ u : Fin n, Ideal.exp (sc u - (M : EReal)))
      = softmaxSum s v n := by
  have hex : ∀ t : Fin n, Ideal.exp (sc t - (M : EReal)) = ((Real.exp (s t.val - M) : ℝ) : EReal) := fun t => by
    rw [hsc, ← EReal.coe_sub, Ideal.exp_coe]
  have hE : 0 < ∑ u ∈ Finset.range n, Real.exp (s u) :=
    Finset.sum_pos (fun u _ => Real.exp_pos _) ⟨0, Finset.mem_range.2 hn⟩
  have hsum : (0 : EReal) + ∑ u : Fin n, Ideal.exp (sc u - (M : EReal))
      = (((∑ u ∈ Finset.range n, Real.exp (s u)) * Real.exp (-M) : ℝ) : EReal) := by
    rw [zero_add, Finset.sum_mul, coe_sum, ← Fin.sum_univ_eq_sum_range (fun u => ((Real.exp (s u) * Real.exp (-M) : ℝ) : EReal))]
    exact Finset.sum_congr rfl fun u _ => by rw [hex, sub_eq_add_neg, Real.exp_add]
  rw [hsum]
  unfold softmaxSum
  rw [← Fin.sum_univ_eq_sum_range (fun t => ((Real.exp (s t) / ∑ u ∈ Finset.range n, Real.exp (s u) : ℝ) : EReal) * v t)]
  refine Finset.sum_congr rfl fun t _ => ?_
  rw [hex, hvc, div_coe_pos _ (mul_pos hE (Real.exp_pos _)), ← EReal.coe_mul, mul_comm]
  congr 2
  have := Real.exp_ne_zero (-M)
  rw [sub_eq_add_neg, Real.exp_add]
  field_simp

end Attn

end
-- ==== Proof.Attn.Head.lean ====
module

public import proofs.«01_k».proof.Proof.Attn.Softmax

/-!
# One head's query, score and gate, on the extended reals

The query of a head is its slice of the projection, divided by the root of its mean square, times a gain, and turned by
the position's angles.  It is real whatever the projection holds (`normed_real`).  The kernel turns with two cyclic shifts
against masked sine tables and folds the score's scale and the change to base two into the query; the reference turns
halves of the head and scales the score.  Both read the same (`turn_eq`, `score_eq`).  The gate is `x` times the logistic
function of `x`, once through the hyperbolic tangent and once through the exponential (`gate_eq`).
-/

@[expose] public section

noncomputable section

namespace Attn

open Idealize.ShloMosaic
open scoped BigOperators

/-- The number of elements of a head, as the programs write it. -/
def c128 : EReal := Ideal.ofBits .f32 0x43000000#32
/-- The small number added to a mean square. -/
def ceps : EReal := Ideal.ofBits .f32 0x358637BD#32

theorem c128_eq : c128 = ((128 : ℝ) : EReal) := by
  simp [c128, Ideal.ofBits, Ideal.ieee]
  rw [← EReal.coe_mul]; norm_num

theorem ceps_pos : ∃ e : ℝ, 0 < e ∧ ceps = (e : EReal) := by
  refine ⟨_, ?_, by simp [ceps, Ideal.ofBits, Ideal.ieee]; rfl⟩
  positivity

theorem half_eq : Ideal.ofBits .f32 0x3F000000#32 = ((2⁻¹ : ℝ) : EReal) := by
  simp [Ideal.ofBits, Ideal.ieee]
  rw [← EReal.coe_mul]; norm_num

theorem one_eq : Ideal.ofBits .f32 0x3F800000#32 = 1 := by
  simp [Ideal.ofBits, Ideal.ieee]
  rw [← EReal.coe_mul]; norm_num

theorem bot_eq : Ideal.ofBits .f32 0xFF800000#32 = ⊥ := by
  simp [Ideal.ofBits, Ideal.ieee]

/-- A square is not negative. -/
theorem sq_nonneg' (x : EReal) : 0 ≤ x * x := by
  rcases le_total 0 x with h | h
  · exact mul_nonneg h h
  · rw [← neg_mul_neg]; exact mul_nonneg (EReal.neg_nonneg.2 h) (EReal.neg_nonneg.2 h)

/-- One over the root of the mean square. -/
def invRms (x : Fin 128 → EReal) : EReal := Ideal.rsqrt (Ideal.div (∑ d, x d * x d) c128 + ceps)

/-- A head divided by the root of its mean square, times the gain. -/
def normed (x g : Fin 128 → EReal) (d : Fin 128) : EReal := x d * invRms x * g d

/-- An element over the root of the mean square is real, whatever the elements are. -/
theorem mul_invRms_real (x : Fin 128 → EReal) (d : Fin 128) : ∃ r : ℝ, x d * invRms x = r := by
  obtain ⟨e, he, hee⟩ := ceps_pos
  have hnn : 0 ≤ ∑ d, x d * x d := Finset.sum_nonneg fun d _ => sq_nonneg' _
  unfold invRms
  rw [hee, c128_eq, div_coe_pos _ (by norm_num : (0:ℝ) < 128)]
  by_cases htop : ∑ d, x d * x d = ⊤
  · rw [htop, EReal.coe_mul_top_of_pos (by norm_num), EReal.top_add_coe, Ideal.rsqrt_top, mul_zero]
    exact ⟨0, rfl⟩
  · have hsum : ∑ d, x d * x d = ((∑ d, x d * x d).toReal : EReal) :=
      (EReal.coe_toReal htop (by intro h; rw [h] at hnn; exact absurd hnn (by simp))).symm
    have hle : x d * x d ≤ ∑ d, x d * x d :=
      Finset.single_le_sum (f := fun d => x d * x d) (fun d _ => sq_nonneg' _) (Finset.mem_univ d)
    have hx : ∃ y : ℝ, x d = y := by
      induction hxd : x d with
      | bot => rw [hxd] at hle; exact absurd (top_le_iff.1 (by simpa using hle)) htop
      | top => rw [hxd] at hle; exact absurd (top_le_iff.1 (by simpa using hle)) htop
      | coe y => exact ⟨y, rfl⟩
    obtain ⟨y, hy⟩ := hx
    have hr0 : 0 ≤ (∑ d, x d * x d).toReal := EReal.toReal_nonneg hnn
    rw [hy, hsum]
    generalize (∑ d, x d * x d).toReal = s at hr0
    have hp : 0 < (128 : ℝ)⁻¹ * s + e := by positivity
    rw [← EReal.coe_mul, ← EReal.coe_add, Ideal.rsqrt_coe, if_neg (not_lt.2 hp.le), if_neg hp.ne', ← EReal.coe_mul]
    exact ⟨_, rfl⟩

theorem normed_real (x g : Fin 128 → EReal) (hg : ∀ d, ∃ r : ℝ, g d = r) (d : Fin 128) : ∃ r : ℝ, normed x g d = r := by
  obtain ⟨a, ha⟩ := mul_invRms_real x d
  obtain ⟨b, hb⟩ := hg d
  exact ⟨a * b, by unfold normed; rw [ha, hb, EReal.coe_mul]⟩

/-- Which of a position's 64 angles turns element `d` of a head. -/
def angleOf (d : Fin 128) : Fin 64 := ⟨32 * (d.val / 64) + d.val % 32, by omega⟩

/-- Element `d` of a head turned by the angles of cosines `C` and sines `S`: each half of the head is two quarters, and an
    angle turns an element of the first with its partner of the second. -/
def turn (C S : Fin 64 → EReal) (y : Fin 128 → EReal) (d : Fin 128) : EReal :=
  if d.val % 64 < 32 then y d * C (angleOf d) - y ⟨(d.val + 32) % 128, by omega⟩ * S (angleOf d)
  else y ⟨(d.val + 96) % 128, by omega⟩ * S (angleOf d) + y d * C (angleOf d)

theorem turn_real (C S : Fin 64 → EReal) (y : Fin 128 → EReal) (hC : ∀ j, ∃ r : ℝ, C j = r) (hS : ∀ j, ∃ r : ℝ, S j = r)
    (hy : ∀ d, ∃ r : ℝ, y d = r) (d : Fin 128) : ∃ r : ℝ, turn C S y d = r := by
  choose c hc using hC
  choose s hs using hS
  choose z hz using hy
  unfold turn
  rw [hc, hs, hz, hz, hz, ← EReal.coe_mul, ← EReal.coe_mul, ← EReal.coe_mul, ← EReal.coe_sub, ← EReal.coe_add]
  split <;> exact ⟨_, rfl⟩

/-- Turning with two cyclic shifts and masked sines is turning the quarters. -/
theorem turn_eq (C S : Fin 64 → EReal) (y : Fin 128 → EReal) (d : Fin 128) (c s1 s2 : EReal) (hc : c = C (angleOf d))
    (h1 : s1 = if d.val % 64 < 32 then -S (angleOf d) else 0) (h2 : s2 = if d.val % 64 < 32 then 0 else S (angleOf d)) :
    y d * c + y ⟨(d.val + 128 - 96) % 128, by omega⟩ * s1 + y ⟨(d.val + 128 - 32) % 128, by omega⟩ * s2 = turn C S y d := by
  subst hc h1 h2
  unfold turn
  split
  · rw [mul_zero, add_zero, mul_neg, ← sub_eq_add_neg]; rfl
  · rw [mul_zero, add_zero, add_comm]; rfl

/-- The score's scale: one over the root of 128, as a single-precision number. -/
def scale : ℝ := 11863283 / 134217728

theorem scale_eq : Ideal.ofBits .f32 0x3DB504F3#32 = (scale : EReal) := by
  simp [Ideal.ofBits, Ideal.ieee, scale]
  rw [← EReal.coe_mul]; norm_num

/-- With a real query and real keys a score is a real number `s`: the reference's is `s`, and the kernel's, whose query
    carries the scale and the change of base, is `s` over the logarithm of two. -/
theorem score_eq (q k : Fin 128 → EReal) (hq : ∀ d, ∃ r : ℝ, q d = r) (hk : ∀ d, ∃ r : ℝ, k d = r) (κ : EReal)
    (hκ : κ = ((scale * (Real.log 2)⁻¹ : ℝ) : EReal)) :
    ∃ s : ℝ, ∑ d, (q d * κ) * k d = ((s * (Real.log 2)⁻¹ : ℝ) : EReal) ∧ (∑ d, k d * q d) * (scale : EReal) = (s : EReal) := by
  choose a ha using hq
  choose b hb using hk
  subst hκ
  refine ⟨(∑ d, b d * a d) * scale, ?_, ?_⟩
  · rw [Finset.sum_mul, Finset.sum_mul, coe_sum]
    refine Finset.sum_congr rfl fun d _ => ?_
    rw [ha, hb, ← EReal.coe_mul, ← EReal.coe_mul]
    congr 1; ring
  · rw [EReal.coe_mul, coe_sum]
    congr 1
    exact Finset.sum_congr rfl fun d _ => by rw [ha, hb, ← EReal.coe_mul]

/-- The logistic function through the hyperbolic tangent is the one through the exponential, at the infinities too. -/
theorem gate_eq (x : EReal) :
    x * (((2⁻¹ : ℝ) : EReal) * Ideal.tanh (((2⁻¹ : ℝ) : EReal) * x) + ((2⁻¹ : ℝ) : EReal))
      = x * Ideal.div 1 (1 + Ideal.exp (-x)) := by
  induction x with
  | bot =>
    rw [EReal.coe_mul_bot_of_pos (by norm_num), Ideal.tanh_bot, EReal.neg_bot, Ideal.exp_top]
    have h1 : ((2⁻¹ : ℝ) : EReal) * -1 + ((2⁻¹ : ℝ) : EReal) = 0 := by
      rw [show (-1 : EReal) = ((-1 : ℝ) : EReal) from by simp, ← EReal.coe_mul, ← EReal.coe_add]; norm_num
    have h2 : (1 : EReal) + ⊤ = ⊤ := rfl
    rw [h1, h2, Ideal.div, if_neg (by simp), EReal.inv_top, mul_zero, mul_zero, mul_zero]
  | top =>
    rw [EReal.coe_mul_top_of_pos (by norm_num), Ideal.tanh_top, EReal.neg_top, Ideal.exp_bot, mul_one, add_zero]
    congr 1
    rw [← EReal.coe_add, show (1 : EReal) = ((1 : ℝ) : EReal) from rfl, div_coe_pos _ one_pos, ← EReal.coe_mul]
    norm_num
  | coe r =>
    congr 1
    rw [← EReal.coe_mul, Ideal.tanh_coe, ← EReal.coe_mul, ← EReal.coe_add, ← EReal.coe_neg, Ideal.exp_coe,
      show (1 : EReal) = ((1 : ℝ) : EReal) from rfl, ← EReal.coe_add, div_coe_pos _ (by positivity), ← EReal.coe_mul]
    congr 1
    rw [Real.tanh_eq_sinh_div_cosh, Real.sinh_eq, Real.cosh_eq]
    have h0 := Real.exp_pos (2⁻¹ * r)
    have h1 := Real.exp_pos (-(2⁻¹ * r))
    have h2 : Real.exp (-r) = Real.exp (-(2⁻¹ * r)) * Real.exp (-(2⁻¹ * r)) := by rw [← Real.exp_add]; congr 1; ring
    have h3 : Real.exp (2⁻¹ * r) * Real.exp (-(2⁻¹ * r)) = 1 := by rw [← Real.exp_add]; simp
    rw [h2]
    generalize Real.exp (2⁻¹ * r) = a at *
    generalize Real.exp (-(2⁻¹ * r)) = b at *
    field_simp
    nlinarith [h3]

end Attn

end
-- ==== Proof.Attn.Body.lean ====
module

public import Idealize.ShloMosaic.Lib.Pointwise
public import proofs.«01_k».proof.Proof.Gen.KernelIdeal.Frame
public import proofs.«01_k».proof.Proof.Attn.Head

/-!
# What one grid point of the attention call computes

A grid point takes 256 positions of one batch and one key head.  Its four query heads are stacked in two pairs of 512
rows; each pair walks the 4352 keys in four chunks of 1024 and one of 256.  `Mx`, `Lx`, `Ax` name a pair's running maximum,
sum of weights and weighted sum after each chunk, as functions of the stacked queries; the printed values of both pairs are
instances of them (`sumsA`, `sumsB`).
-/

@[expose] public section

set_option maxRecDepth 16384

noncomputable section

namespace Attn

open Idealize.ShloMosaic Cert.KernelIdeal Cert.KernelIdeal.Gen
open scoped BigOperators

section Vocabulary
variable {F : FTy → Type} [FloatOps F] [Named F]
variable (q : FVec F S512x128 .bf16) (k v : Vec F S1x1x4352x128 .bf16)

/-- The scores of the four long chunks and of the short one. -/
def S0 : FVec F S512x1024 .f32 := k0_pay22 q (View.ld k r0_6)
def S1 : FVec F S512x1024 .f32 := k0_pay22 q (View.ld k r0_7)
def S2 : FVec F S512x1024 .f32 := k0_pay22 q (View.ld k r0_8)
def S3 : FVec F S512x1024 .f32 := k0_pay22 q (View.ld k r0_9)
def S4 : FVec F S512x256 .f32 := k0_pay61 q (View.ld k r0_10)

/-- The running maximum after each chunk. -/
def M1 : FVec F S512x1 .f32 := k0_pay23 k0_pay12 (S0 q k)
def M2 : FVec F S512x1 .f32 := k0_pay23 (M1 q k) (S1 q k)
def M3 : FVec F S512x1 .f32 := k0_pay23 (M2 q k) (S2 q k)
def M4 : FVec F S512x1 .f32 := k0_pay23 (M3 q k) (S3 q k)
def M5 : FVec F S512x1 .f32 := k0_pay72 (S4 q k) (M4 q k)

/-- The running sum of weights after each chunk. -/
def L1 : FVec F S512x1 .f32 := k0_pay26 k0_pay12 k0_pay14 (S0 q k)
def L2 : FVec F S512x1 .f32 := k0_pay26 (M1 q k) (L1 q k) (S1 q k)
def L3 : FVec F S512x1 .f32 := k0_pay26 (M2 q k) (L2 q k) (S2 q k)
def L4 : FVec F S512x1 .f32 := k0_pay26 (M3 q k) (L3 q k) (S3 q k)
def L5 : FVec F S512x1 .f32 := k0_pay75 (S4 q k) (M4 q k) (L4 q k)

/-- The running weighted sum after each chunk. -/
def A1 : FVec F S512x128 .f32 := k0_pay27 k0_pay12 k0_pay16 (S0 q k) (View.ld v r0_6)
def A2 : FVec F S512x128 .f32 := k0_pay27 (M1 q k) (A1 q k v) (S1 q k) (View.ld v r0_7)
def A3 : FVec F S512x128 .f32 := k0_pay27 (M2 q k) (A2 q k v) (S2 q k) (View.ld v r0_8)
def A4 : FVec F S512x128 .f32 := k0_pay27 (M3 q k) (A3 q k v) (S3 q k) (View.ld v r0_9)
def A5 : FVec F S512x128 .f32 := k0_pay76 (S4 q k) (M4 q k) (A4 q k v) (View.ld v r0_10)

end Vocabulary

section Printed
variable {F : FTy → Type} [FloatOps F] [Named F]
variable (x0 x1 : Vec F S1x256x512 .bf16) (x2 x3 : Vec F S1x1x4352x128 .bf16) (x4 : Vec F S1x128 .f32) (x5 x6 x7 : Vec F S256x128 .f32)

def headA : FVec F S512x128 .bf16 :=
  k0_pay10 (k0_pay2 (View.ld x0 r0_0) (View.ld x4 r0_1) (View.ld x5 r0_2) (View.ld x6 r0_2) (View.ld x7 r0_2))
    (k0_pay2 (View.ld x0 r0_3) (View.ld x4 r0_1) (View.ld x5 r0_2) (View.ld x6 r0_2) (View.ld x7 r0_2))
def headB : FVec F S512x128 .bf16 :=
  k0_pay10 (k0_pay2 (View.ld x0 r0_4) (View.ld x4 r0_1) (View.ld x5 r0_2) (View.ld x6 r0_2) (View.ld x7 r0_2))
    (k0_pay2 (View.ld x0 r0_5) (View.ld x4 r0_1) (View.ld x5 r0_2) (View.ld x6 r0_2) (View.ld x7 r0_2))

theorem headA_eq : k0_pay91 x0 x1 x2 x3 x4 x5 x6 x7 = headA x0 x4 x5 x6 x7 := rfl
theorem headB_eq : k0_pay92 x0 x1 x2 x3 x4 x5 x6 x7 = headB x0 x4 x5 x6 x7 := rfl

theorem maxA : k0_pay113 x0 x1 x2 x3 x4 x5 x6 x7 = M4 (headA x0 x4 x5 x6 x7) x2 := by
  rfl
theorem sumA : k0_pay116 x0 x1 x2 x3 x4 x5 x6 x7 = L5 (headA x0 x4 x5 x6 x7) x2 := by
  rfl
theorem accA : k0_pay117 x0 x1 x2 x3 x4 x5 x6 x7 = A5 (headA x0 x4 x5 x6 x7) x2 x3 := by
  rfl

end Printed
end Attn

end
-- ==== Proof.Attn.Rows.lean ====
module

public import proofs.«01_k».proof.Proof.Attn.Body

/-!
# The grid point's values read at a row

Each printed vector operation of `Body` at one row and lane, and from them: a pair's running maximum, sum of weights and
weighted sum after all the keys satisfy `Running` (`running_row`).
-/

@[expose] public section

set_option maxRecDepth 16384

noncomputable section

namespace Attn

open Idealize.ShloMosaic Cert.KernelIdeal Cert.KernelIdeal.Gen
open scoped BigOperators

/-- The constant the kernel multiplies a query with. -/
theorem q_scale_eq : (Named.named κ "q_scale" 0x3E0293EE#32 : Ideal .f32) = ((scale * (Real.log 2)⁻¹ : ℝ) : EReal) :=
  IdealRules.named_const.ideal_named_scalar _ _ _ _ rfl

/-- A head's query at a row, when the tables hold the cosines and the masked sines of the row's angles. -/
theorem head_apply (x : Vec Ideal S1x256x128 .bf16) (g : Vec Ideal S1x128 .f32) (c s1 s2 : Vec Ideal S256x128 .f32)
    (r : Fin 256) (C S : Fin 64 → EReal) (hc : ∀ d : Fin 128, c (ix2 r d) = C (angleOf d))
    (h1 : ∀ d : Fin 128, s1 (ix2 r d) = if d.val % 64 < 32 then -S (angleOf d) else 0)
    (h2 : ∀ d : Fin 128, s2 (ix2 r d) = if d.val % 64 < 32 then 0 else S (angleOf d)) (d : Fin 128) :
    k0_pay2 x g c s1 s2 (ix2 r d)
      = turn C S (normed (fun d => x (ix3 0 r d)) (fun d => g (ix2 0 d))) d * (Named.named κ "q_scale" 0x3E0293EE#32 : Ideal .f32) := by
  rw [← turn_eq C S _ d _ _ _ (hc d) (h1 d) (h2 d)]
  pointwise [k0_pay2]
  rfl

/-- Two heads stacked. -/
theorem stack_apply (p q : FVec Ideal S256x128 .bf16) (r : Fin 512) (d : Fin 128) :
    k0_pay10 p q (ix2 r d) = if h : r.val < 256 then p (ix2 ⟨r.val, h⟩ d) else q (ix2 ⟨r.val - 256, by omega⟩ d) := by
  pointwise [k0_pay10]

theorem scores_apply (q : FVec Ideal S512x128 .bf16) (k : Vec Ideal S1x1x1024x128 .bf16) (r : Fin 512) (t : Fin 1024) :
    k0_pay22 q k (ix2 r t) = ∑ d : Fin 128, q (ix2 r d) * k (ix4 0 0 t d) := by
  pointwise [k0_pay22]

theorem scores_apply' (q : FVec Ideal S512x128 .bf16) (k : Vec Ideal S1x1x256x128 .bf16) (r : Fin 512) (t : Fin 256) :
    k0_pay61 q k (ix2 r t) = ∑ d : Fin 128, q (ix2 r d) * k (ix4 0 0 t d) := by
  pointwise [k0_pay61]

theorem max_apply (m : FVec Ideal S512x1 .f32) (s : FVec Ideal S512x1024 .f32) (r : Fin 512) :
    k0_pay23 m s (ix2 r 0) = max (m (ix2 r 0)) (Finset.univ.fold max ⊥ fun t : Fin 1024 => s (ix2 r t)) := by
  rw [← bot_eq]
  pointwise [k0_pay23]

theorem max_apply' (m : FVec Ideal S512x1 .f32) (s : FVec Ideal S512x256 .f32) (r : Fin 512) :
    k0_pay72 s m (ix2 r 0) = max (m (ix2 r 0)) (Finset.univ.fold max ⊥ fun t : Fin 256 => s (ix2 r t)) := by
  rw [← bot_eq]
  pointwise [k0_pay72]

theorem sum_apply (m l : FVec Ideal S512x1 .f32) (s : FVec Ideal S512x1024 .f32) (r : Fin 512) :
    k0_pay26 m l s (ix2 r 0) = Ideal.exp2 (m (ix2 r 0) - k0_pay23 m s (ix2 r 0)) * l (ix2 r 0)
      + ∑ t : Fin 1024, Ideal.exp2 (s (ix2 r t) - k0_pay23 m s (ix2 r 0)) := by
  pointwise [k0_pay26, k0_pay24, k0_pay25]
  rfl

theorem sum_apply' (m l : FVec Ideal S512x1 .f32) (s : FVec Ideal S512x256 .f32) (r : Fin 512) :
    k0_pay75 s m l (ix2 r 0) = Ideal.exp2 (m (ix2 r 0) - k0_pay72 s m (ix2 r 0)) * l (ix2 r 0)
      + ∑ t : Fin 256, Ideal.exp2 (s (ix2 r t) - k0_pay72 s m (ix2 r 0)) := by
  pointwise [k0_pay75, k0_pay73, k0_pay74]
  rfl

theorem acc_apply (m : FVec Ideal S512x1 .f32) (a : FVec Ideal S512x128 .f32) (s : FVec Ideal S512x1024 .f32)
    (v : Vec Ideal S1x1x1024x128 .bf16) (r : Fin 512) (e : Fin 128) :
    k0_pay27 m a s v (ix2 r e) = Ideal.exp2 (m (ix2 r 0) - k0_pay23 m s (ix2 r 0)) * a (ix2 r e)
      + ∑ t : Fin 1024, Ideal.exp2 (s (ix2 r t) - k0_pay23 m s (ix2 r 0)) * v (ix4 0 0 t e) := by
  pointwise [k0_pay27, k0_pay24, k0_pay25]
  rfl

theorem acc_apply' (m : FVec Ideal S512x1 .f32) (a : FVec Ideal S512x128 .f32) (s : FVec Ideal S512x256 .f32)
    (v : Vec Ideal S1x1x256x128 .bf16) (r : Fin 512) (e : Fin 128) :
    k0_pay76 s m a v (ix2 r e) = Ideal.exp2 (m (ix2 r 0) - k0_pay72 s m (ix2 r 0)) * a (ix2 r e)
      + ∑ t : Fin 256, Ideal.exp2 (s (ix2 r t) - k0_pay72 s m (ix2 r 0)) * v (ix4 0 0 t e) := by
  pointwise [k0_pay76, k0_pay73, k0_pay74]
  rfl

/-- A chunk's load of keys or values reads the whole array further on. -/
theorem ld0_apply (k : Vec Ideal S1x1x4352x128 .bf16) (t : Fin 1024) (d : Fin 128) :
    View.ld k r0_6 (ix4 0 0 t d) = k (ix4 0 0 ⟨0 + t.val, by omega⟩ d) := by
  show k _ = _
  congr 1; funext a
  match a with
  | ⟨0, _⟩ => rfl
  | ⟨1, _⟩ => rfl
  | ⟨2, _⟩ => exact Fin.ext (by show 0 + 1 * t.val = _; simp)
  | ⟨3, _⟩ => exact Fin.ext (by show 0 + 1 * d.val = _; simp)

theorem ld1_apply (k : Vec Ideal S1x1x4352x128 .bf16) (t : Fin 1024) (d : Fin 128) :
    View.ld k r0_7 (ix4 0 0 t d) = k (ix4 0 0 ⟨1024 + t.val, by omega⟩ d) := by
  show k _ = _
  congr 1; funext a
  match a with
  | ⟨0, _⟩ => rfl
  | ⟨1, _⟩ => rfl
  | ⟨2, _⟩ => exact Fin.ext (by show 1024 + 1 * t.val = _; simp)
  | ⟨3, _⟩ => exact Fin.ext (by show 0 + 1 * d.val = _; simp)

theorem ld2_apply (k : Vec Ideal S1x1x4352x128 .bf16) (t : Fin 1024) (d : Fin 128) :
    View.ld k r0_8 (ix4 0 0 t d) = k (ix4 0 0 ⟨2048 + t.val, by omega⟩ d) := by
  show k _ = _
  congr 1; funext a
  match a with
  | ⟨0, _⟩ => rfl
  | ⟨1, _⟩ => rfl
  | ⟨2, _⟩ => exact Fin.ext (by show 2048 + 1 * t.val = _; simp)
  | ⟨3, _⟩ => exact Fin.ext (by show 0 + 1 * d.val = _; simp)

theorem ld3_apply (k : Vec Ideal S1x1x4352x128 .bf16) (t : Fin 1024) (d : Fin 128) :
    View.ld k r0_9 (ix4 0 0 t d) = k (ix4 0 0 ⟨3072 + t.val, by omega⟩ d) := by
  show k _ = _
  congr 1; funext a
  match a with
  | ⟨0, _⟩ => rfl
  | ⟨1, _⟩ => rfl
  | ⟨2, _⟩ => exact Fin.ext (by show 3072 + 1 * t.val = _; simp)
  | ⟨3, _⟩ => exact Fin.ext (by show 0 + 1 * d.val = _; simp)

theorem ld4_apply (k : Vec Ideal S1x1x4352x128 .bf16) (t : Fin 256) (d : Fin 128) :
    View.ld k r0_10 (ix4 0 0 t d) = k (ix4 0 0 ⟨4096 + t.val, by omega⟩ d) := by
  show k _ = _
  congr 1; funext a
  match a with
  | ⟨0, _⟩ => rfl
  | ⟨1, _⟩ => rfl
  | ⟨2, _⟩ => exact Fin.ext (by show 4096 + 1 * t.val = _; simp)
  | ⟨3, _⟩ => exact Fin.ext (by show 0 + 1 * d.val = _; simp)

/-- The values of lane `e`, by key. -/
def lane (v : Vec Ideal S1x1x4352x128 .bf16) (e : Fin 128) (t : ℕ) : EReal :=
  if h : t < 4352 then v (ix4 0 0 ⟨t, h⟩ e) else 0

/-- A row of a pair after all its keys, when the row's scores are the reals `s`. -/
theorem running_row (q : FVec Ideal S512x128 .bf16) (k v : Vec Ideal S1x1x4352x128 .bf16) (r : Fin 512) (e : Fin 128)
    (s : ℕ → ℝ) (hs : ∀ t : Fin 4352, ∑ d : Fin 128, q (ix2 r d) * k (ix4 0 0 t d) = (s t.val : EReal)) :
    Running s (lane v e) 4352 (M5 q k (ix2 r 0)) (L5 q k (ix2 r 0)) (A5 q k v (ix2 r e)) := by
  have hv : ∀ (t : ℕ) (h : t < 4352), v (ix4 0 0 ⟨t, h⟩ e) = lane v e t := fun t h => by rw [lane, dif_pos h]
  have z : Running s (lane v e) 0 ((k0_pay12 : FVec Ideal S512x1 .f32) (ix2 r 0))
      ((k0_pay14 : FVec Ideal S512x1 .f32) (ix2 r 0)) ((k0_pay16 : FVec Ideal S512x128 .f32) (ix2 r e)) := by
    have e1 : (k0_pay12 : FVec Ideal S512x1 .f32) (ix2 r 0) = ⊥ := bot_eq
    have e2 : (k0_pay14 : FVec Ideal S512x1 .f32) (ix2 r 0) = 0 := Ideal.ofBits_zero_f32
    have e3 : (k0_pay16 : FVec Ideal S512x128 .f32) (ix2 r e) = 0 := Ideal.ofBits_zero_f32
    rw [e1, e2, e3]; exact Running.start _ _
  have h1 : Running s (lane v e) 1024 (M1 q k (ix2 r 0)) (L1 q k (ix2 r 0)) (A1 q k v (ix2 r e)) := by
    rw [L1, A1, sum_apply, acc_apply]
    exact z.step (by norm_num) (fun t => S0 q k (ix2 r t))
      (fun t => by rw [S0, scores_apply]; exact (Finset.sum_congr rfl fun d _ => congrArg (q (ix2 r d) * ·) (ld0_apply k t d)).trans (hs _)) _ (fun t => by rw [ld0_apply]; exact hv _ _) _ (max_apply _ _ _)
  have h2 : Running s (lane v e) (1024 + 1024) (M2 q k (ix2 r 0)) (L2 q k (ix2 r 0)) (A2 q k v (ix2 r e)) := by
    rw [L2, A2, sum_apply, acc_apply]
    exact h1.step (by norm_num) (fun t => S1 q k (ix2 r t))
      (fun t => by rw [S1, scores_apply]; exact (Finset.sum_congr rfl fun d _ => congrArg (q (ix2 r d) * ·) (ld1_apply k t d)).trans (hs _)) _ (fun t => by rw [ld1_apply]; exact hv _ _) _ (max_apply _ _ _)
  have h3 : Running s (lane v e) (1024 + 1024 + 1024) (M3 q k (ix2 r 0)) (L3 q k (ix2 r 0)) (A3 q k v (ix2 r e)) := by
    rw [L3, A3, sum_apply, acc_apply]
    exact h2.step (by norm_num) (fun t => S2 q k (ix2 r t))
      (fun t => by rw [S2, scores_apply]; exact (Finset.sum_congr rfl fun d _ => congrArg (q (ix2 r d) * ·) (ld2_apply k t d)).trans (hs _)) _ (fun t => by rw [ld2_apply]; exact hv _ _) _ (max_apply _ _ _)
  have h4 : Running s (lane v e) (1024 + 1024 + 1024 + 1024) (M4 q k (ix2 r 0)) (L4 q k (ix2 r 0)) (A4 q k v (ix2 r e)) := by
    rw [L4, A4, sum_apply, acc_apply]
    exact h3.step (by norm_num) (fun t => S3 q k (ix2 r t))
      (fun t => by rw [S3, scores_apply]; exact (Finset.sum_congr rfl fun d _ => congrArg (q (ix2 r d) * ·) (ld3_apply k t d)).trans (hs _)) _ (fun t => by rw [ld3_apply]; exact hv _ _) _ (max_apply _ _ _)
  rw [L5, A5, sum_apply', acc_apply']
  exact h4.step (K := 256) (by norm_num) (fun t => S4 q k (ix2 r t))
    (fun t => by rw [S4, scores_apply']; exact (Finset.sum_congr rfl fun d _ => congrArg (q (ix2 r d) * ·) (ld4_apply k t d)).trans (hs _)) _ (fun t => by rw [ld4_apply]; exact hv _ _) _ (max_apply' _ _ _)

end Attn

end
-- ==== Proof.Attn.Block.lean ====
module

public import proofs.«01_k».proof.Proof.Attn.Rows

/-!
# A grid point's output block

A grid point attends with four heads and stores four lane blocks of 128, one a head.  Element `e` of head `h` at row `r` is
the softmax-weighted sum of the values' lane `e`, gated (`piece0` to `piece3`, one a stored block).
-/

@[expose] public section

set_option maxRecDepth 16384

noncomputable section

namespace Attn

open Idealize.ShloMosaic Cert.KernelIdeal Cert.KernelIdeal.Gen
open scoped BigOperators

section
variable {F : FTy → Type} [FloatOps F] [Named F]
variable (x0 : Vec F S1x256x512 .bf16) (x1 : Vec F S1x256x512 .bf16) (x2 : Vec F S1x1x4352x128 .bf16) (x3 : Vec F S1x1x4352x128 .bf16) (x4 : Vec F S1x128 .f32) (x5 : Vec F S256x128 .f32) (x6 : Vec F S256x128 .f32) (x7 : Vec F S256x128 .f32)

/-- The four heads' weighted sums over their sums of weights: the first pair's rows, then the second's. -/
theorem heads_eq : k0_pay120 x0 x1 x2 x3 x4 x5 x6 x7 = concatenate S1024x128 0
    [⟨S512x128, divf (A5 (headA x0 x4 x5 x6 x7) x2 x3) (broadcastTo S512x128 (L5 (headA x0 x4 x5 x6 x7) x2) broadcasts_S512x1_S512x128)⟩,
     ⟨S512x128, divf (A5 (headB x0 x4 x5 x6 x7) x2 x3) (broadcastTo S512x128 (L5 (headB x0 x4 x5 x6 x7) x2) broadcasts_S512x1_S512x128)⟩]
    concatenates_S512x128_S512x128_S1024x128_d0 := rfl
end

/-- The stacked heads at a row below 512. -/
theorem heads_low (a b : FVec Ideal S512x128 .f32) (l l' : FVec Ideal S512x1 .f32) (r : Fin 1024) (h : r.val < 512) (e : Fin 128) :
    (concatenate S1024x128 0
      [⟨S512x128, divf a (broadcastTo S512x128 l broadcasts_S512x1_S512x128)⟩,
       ⟨S512x128, divf b (broadcastTo S512x128 l' broadcasts_S512x1_S512x128)⟩]
      concatenates_S512x128_S512x128_S1024x128_d0 : FVec Ideal S1024x128 .f32) (ix2 r e)
      = Ideal.div (a (ix2 ⟨r.val, h⟩ e)) (l (ix2 ⟨r.val, h⟩ 0)) := by
  pointwise
  rw [dif_pos h]

/-- The stacked heads at a row from 512 on. -/
theorem heads_high (a b : FVec Ideal S512x128 .f32) (l l' : FVec Ideal S512x1 .f32) (r : Fin 1024) (h : ¬ r.val < 512) (e : Fin 128) :
    (concatenate S1024x128 0
      [⟨S512x128, divf a (broadcastTo S512x128 l broadcasts_S512x1_S512x128)⟩,
       ⟨S512x128, divf b (broadcastTo S512x128 l' broadcasts_S512x1_S512x128)⟩]
      concatenates_S512x128_S512x128_S1024x128_d0 : FVec Ideal S1024x128 .f32) (ix2 r e)
      = Ideal.div (b (ix2 ⟨r.val - 512, by omega⟩ e)) (l' (ix2 ⟨r.val - 512, by omega⟩ 0)) := by
  pointwise
  rw [dif_neg h]

/-- `g` times its logistic function. -/
def silu (g : EReal) : EReal := g * Ideal.div 1 (1 + Ideal.exp (-g))

theorem silu_eq (g : EReal) : g * (Ideal.ofBits .f32 0x3F000000#32 * Ideal.tanh (Ideal.ofBits .f32 0x3F000000#32 * g) + Ideal.ofBits .f32 0x3F000000#32) = silu g := by
  rw [half_eq]; exact gate_eq g

theorem store0 (a b c d e f v g) (r : Fin 256) (l : Fin 128) :
    (k0_pay81 a b c d e f v g : FVec Ideal S1x256x128 .bf16) (ix3 0 r l) = k0_pay80 a b c d e f v (ix2 ⟨r.val, by omega⟩ l) * silu (g (ix3 0 r l)) := by
  rw [← silu_eq]
  pointwise [k0_pay81]

theorem store1 (o : FVec Ideal S1024x128 .f32) (g : Vec Ideal S1x256x128 .bf16) (r : Fin 256) (l : Fin 128) :
    k0_pay84 o (k0_pay82 g) (k0_pay83 g) (Scalar.ofBits .f32 0x3F000000#32) (ix3 0 r l) = o (ix2 ⟨256 + r.val, by omega⟩ l) * silu (g (ix3 0 r l)) := by
  rw [← silu_eq]
  pointwise [k0_pay84, k0_pay83, k0_pay82]

theorem store2 (o : FVec Ideal S1024x128 .f32) (g : Vec Ideal S1x256x128 .bf16) (r : Fin 256) (l : Fin 128) :
    k0_pay85 o g (ix3 0 r l) = o (ix2 ⟨512 + r.val, by omega⟩ l) * silu (g (ix3 0 r l)) := by
  rw [← silu_eq]
  pointwise [k0_pay85]

theorem store3 (o : FVec Ideal S1024x128 .f32) (g : Vec Ideal S1x256x128 .bf16) (r : Fin 256) (l : Fin 128) :
    k0_pay1 o (k0_pay86 g) (ix3 0 r l) = o (ix2 ⟨768 + r.val, by omega⟩ l) * silu (g (ix3 0 r l)) := by
  rw [← silu_eq]
  pointwise [k0_pay1, k0_pay86]

/-- The score's constant. -/
abbrev κs : EReal := (Named.named κ "q_scale" 0x3E0293EE#32 : Ideal .f32)

/-- A row of a pair over its sum of weights. -/
theorem pair_row (q : FVec Ideal S512x128 .bf16) (k v : Vec Ideal S1x1x4352x128 .bf16) (r : Fin 512) (e : Fin 128) (s : ℕ → ℝ)
    (hs : ∀ t : Fin 4352, ∑ d : Fin 128, q (ix2 r d) * k (ix4 0 0 t d) = ((s t.val * (Real.log 2)⁻¹ : ℝ) : EReal)) :
    Ideal.div (A5 q k v (ix2 r e)) (L5 q k (ix2 r 0)) = softmaxSum s (lane v e) 4352 :=
  (running_row q k v r e (fun t => s t * (Real.log 2)⁻¹) hs).quotient (by norm_num)

/-- The tables at row `r` hold the cosines and the masked sines of that row's angles. -/
structure TableRow (x5 x6 x7 : Vec Ideal S256x128 .f32) (r : Fin 256) (C S : Fin 64 → EReal) : Prop where
  hc : ∀ d : Fin 128, x5 (ix2 r d) = C (angleOf d)
  h1 : ∀ d : Fin 128, x6 (ix2 r d) = if d.val % 64 < 32 then -S (angleOf d) else 0
  h2 : ∀ d : Fin 128, x7 (ix2 r d) = if d.val % 64 < 32 then 0 else S (angleOf d)

theorem ldg_apply (x : Vec Ideal S1x128 .f32) (d : Fin 128) : View.ld x r0_1 (ix2 0 d) = x (ix2 0 d) := by
  show x _ = _
  congr 1; funext a
  match a with
  | ⟨0, _⟩ => rfl
  | ⟨1, _⟩ => exact Fin.ext (by show 0 + 1 * d.val = _; simp)

theorem ldt_apply (x : Vec Ideal S256x128 .f32) (r : Fin 256) (d : Fin 128) : View.ld x r0_2 (ix2 r d) = x (ix2 r d) := by
  show x _ = _
  congr 1; funext a
  match a with
  | ⟨0, _⟩ => exact Fin.ext (by show 0 + 1 * r.val = _; simp)
  | ⟨1, _⟩ => exact Fin.ext (by show 0 + 1 * d.val = _; simp)

/-- The query of the head in lanes `o` to `o + 127` at a row, turned. -/
def qrow (x0 : Vec Ideal S1x256x512 .bf16) (x4 : Vec Ideal S1x128 .f32) (C S : Fin 64 → EReal) (r : Fin 256) (o : ℕ) (ho : o + 128 ≤ 512) :
    Fin 128 → EReal :=
  turn C S (normed (fun d => x0 (ix3 0 r ⟨o + d.val, by omega⟩)) (fun d => x4 (ix2 0 d)))

variable (x0 x1 : Vec Ideal S1x256x512 .bf16) (x2 x3 : Vec Ideal S1x1x4352x128 .bf16) (x4 : Vec Ideal S1x128 .f32) (x5 x6 x7 : Vec Ideal S256x128 .f32)

theorem ldx0_apply (x : Vec Ideal S1x256x512 .bf16) (r : Fin 256) (d : Fin 128) :
    View.ld x r0_0 (ix3 0 r d) = x (ix3 0 r ⟨0 + d.val, by omega⟩) := by
  show x _ = _
  congr 1; funext a
  match a with
  | ⟨0, _⟩ => rfl
  | ⟨1, _⟩ => exact Fin.ext (by show 0 + 1 * r.val = _; simp)
  | ⟨2, _⟩ => exact Fin.ext (by show 0 + 1 * d.val = _; simp)

/-- Head 0's query at a row. -/
theorem query0 (r : Fin 256) (C S : Fin 64 → EReal) (T : TableRow x5 x6 x7 r C S) (d : Fin 128) :
    k0_pay2 (View.ld x0 r0_0) (View.ld x4 r0_1) (View.ld x5 r0_2) (View.ld x6 r0_2) (View.ld x7 r0_2) (ix2 r d)
      = qrow x0 x4 C S r 0 (by norm_num) d * κs := by
  rw [head_apply _ _ _ _ _ r C S (fun d => (ldt_apply x5 r d).trans (T.hc d)) (fun d => (ldt_apply x6 r d).trans (T.h1 d))
    (fun d => (ldt_apply x7 r d).trans (T.h2 d))]
  exact congrArg₂ (fun a b => turn C S (normed a b) d * κs) (funext (ldx0_apply x0 r)) (funext (ldg_apply x4))

theorem ldx1_apply (x : Vec Ideal S1x256x512 .bf16) (r : Fin 256) (d : Fin 128) :
    View.ld x r0_3 (ix3 0 r d) = x (ix3 0 r ⟨128 + d.val, by omega⟩) := by
  show x _ = _
  congr 1; funext a
  match a with
  | ⟨0, _⟩ => rfl
  | ⟨1, _⟩ => exact Fin.ext (by show 0 + 1 * r.val = _; simp)
  | ⟨2, _⟩ => exact Fin.ext (by show 128 + 1 * d.val = _; simp)

/-- Head 1's query at a row. -/
theorem query1 (r : Fin 256) (C S : Fin 64 → EReal) (T : TableRow x5 x6 x7 r C S) (d : Fin 128) :
    k0_pay2 (View.ld x0 r0_3) (View.ld x4 r0_1) (View.ld x5 r0_2) (View.ld x6 r0_2) (View.ld x7 r0_2) (ix2 r d)
      = qrow x0 x4 C S r 128 (by norm_num) d * κs := by
  rw [head_apply _ _ _ _ _ r C S (fun d => (ldt_apply x5 r d).trans (T.hc d)) (fun d => (ldt_apply x6 r d).trans (T.h1 d))
    (fun d => (ldt_apply x7 r d).trans (T.h2 d))]
  exact congrArg₂ (fun a b => turn C S (normed a b) d * κs) (funext (ldx1_apply x0 r)) (funext (ldg_apply x4))

theorem ldx2_apply (x : Vec Ideal S1x256x512 .bf16) (r : Fin 256) (d : Fin 128) :
    View.ld x r0_4 (ix3 0 r d) = x (ix3 0 r ⟨256 + d.val, by omega⟩) := by
  show x _ = _
  congr 1; funext a
  match a with
  | ⟨0, _⟩ => rfl
  | ⟨1, _⟩ => exact Fin.ext (by show 0 + 1 * r.val = _; simp)
  | ⟨2, _⟩ => exact Fin.ext (by show 256 + 1 * d.val = _; simp)

/-- Head 2's query at a row. -/
theorem query2 (r : Fin 256) (C S : Fin 64 → EReal) (T : TableRow x5 x6 x7 r C S) (d : Fin 128) :
    k0_pay2 (View.ld x0 r0_4) (View.ld x4 r0_1) (View.ld x5 r0_2) (View.ld x6 r0_2) (View.ld x7 r0_2) (ix2 r d)
      = qrow x0 x4 C S r 256 (by norm_num) d * κs := by
  rw [head_apply _ _ _ _ _ r C S (fun d => (ldt_apply x5 r d).trans (T.hc d)) (fun d => (ldt_apply x6 r d).trans (T.h1 d))
    (fun d => (ldt_apply x7 r d).trans (T.h2 d))]
  exact congrArg₂ (fun a b => turn C S (normed a b) d * κs) (funext (ldx2_apply x0 r)) (funext (ldg_apply x4))

theorem ldx3_apply (x : Vec Ideal S1x256x512 .bf16) (r : Fin 256) (d : Fin 128) :
    View.ld x r0_5 (ix3 0 r d) = x (ix3 0 r ⟨384 + d.val, by omega⟩) := by
  show x _ = _
  congr 1; funext a
  match a with
  | ⟨0, _⟩ => rfl
  | ⟨1, _⟩ => exact Fin.ext (by show 0 + 1 * r.val = _; simp)
  | ⟨2, _⟩ => exact Fin.ext (by show 384 + 1 * d.val = _; simp)

/-- Head 3's query at a row. -/
theorem query3 (r : Fin 256) (C S : Fin 64 → EReal) (T : TableRow x5 x6 x7 r C S) (d : Fin 128) :
    k0_pay2 (View.ld x0 r0_5) (View.ld x4 r0_1) (View.ld x5 r0_2) (View.ld x6 r0_2) (View.ld x7 r0_2) (ix2 r d)
      = qrow x0 x4 C S r 384 (by norm_num) d * κs := by
  rw [head_apply _ _ _ _ _ r C S (fun d => (ldt_apply x5 r d).trans (T.hc d)) (fun d => (ldt_apply x6 r d).trans (T.h1 d))
    (fun d => (ldt_apply x7 r d).trans (T.h2 d))]
  exact congrArg₂ (fun a b => turn C S (normed a b) d * κs) (funext (ldx3_apply x0 r)) (funext (ldg_apply x4))

theorem stacked0 (r : Fin 256) (C S : Fin 64 → EReal) (T : TableRow x5 x6 x7 r C S) (d : Fin 128) :
    headA x0 x4 x5 x6 x7 (ix2 ⟨r.val, by omega⟩ d) = qrow x0 x4 C S r 0 (by norm_num) d * κs := by
  rw [headA, stack_apply]
  rw [dif_pos r.isLt]
  exact query0 x0 x4 x5 x6 x7 r C S T d

/-- What the grid point stores for head 0. -/
theorem piece0 (r : Fin 256) (e : Fin 128) (C S : Fin 64 → EReal) (T : TableRow x5 x6 x7 r C S) (s : ℕ → ℝ)
    (hs : ∀ t : Fin 4352, ∑ d : Fin 128, (qrow x0 x4 C S r 0 (by norm_num) d * κs) * x2 (ix4 0 0 t d) = ((s t.val * (Real.log 2)⁻¹ : ℝ) : EReal)) :
    (k0_pay81 (k0_pay114 x0 x1 x2 x3 x4 x5 x6 x7) (k0_pay115 x0 x1 x2 x3 x4 x5 x6 x7) (k0_pay116 x0 x1 x2 x3 x4 x5 x6 x7) (k0_pay117 x0 x1 x2 x3 x4 x5 x6 x7) (k0_pay118 x0 x1 x2 x3 x4 x5 x6 x7) (k0_pay119 x0 x1 x2 x3 x4 x5 x6 x7) (View.ld x3 r0_10) (View.ld x1 r0_0)) (ix3 0 r e)
      = softmaxSum s (lane x3 e) 4352 * silu (x1 (ix3 0 r ⟨0 + e.val, by omega⟩)) := by
  have hq : Ideal.div (A5 (headA x0 x4 x5 x6 x7) x2 x3 (ix2 ⟨r.val, by omega⟩ e)) (L5 (headA x0 x4 x5 x6 x7) x2 (ix2 ⟨r.val, by omega⟩ 0))
      = softmaxSum s (lane x3 e) 4352 :=
    pair_row _ _ _ _ _ _ fun t => (Finset.sum_congr rfl fun d _ => by rw [stacked0 x0 x4 x5 x6 x7 r C S T d]).trans (hs t)
  exact (store0 ..).trans (congrArg₂ (· * ·) (((congrFun (heads_eq x0 x1 x2 x3 x4 x5 x6 x7) _).trans (heads_low _ _ _ _ ⟨r.val, by omega⟩ (by show r.val < 512; omega) e)).trans hq) (congrArg silu (ldx0_apply x1 r e)))

theorem stacked1 (r : Fin 256) (C S : Fin 64 → EReal) (T : TableRow x5 x6 x7 r C S) (d : Fin 128) :
    headA x0 x4 x5 x6 x7 (ix2 ⟨256 + r.val, by omega⟩ d) = qrow x0 x4 C S r 128 (by norm_num) d * κs := by
  rw [headA, stack_apply]
  rw [dif_neg (by simp)]
  have e : (⟨256 + r.val - 256, by omega⟩ : Fin 256) = r := Fin.ext (by simp)
  rw [e]
  exact query1 x0 x4 x5 x6 x7 r C S T d

/-- What the grid point stores for head 1. -/
theorem piece1 (r : Fin 256) (e : Fin 128) (C S : Fin 64 → EReal) (T : TableRow x5 x6 x7 r C S) (s : ℕ → ℝ)
    (hs : ∀ t : Fin 4352, ∑ d : Fin 128, (qrow x0 x4 C S r 128 (by norm_num) d * κs) * x2 (ix4 0 0 t d) = ((s t.val * (Real.log 2)⁻¹ : ℝ) : EReal)) :
    (k0_pay84 (k0_pay120 x0 x1 x2 x3 x4 x5 x6 x7) (k0_pay82 (View.ld x1 r0_3)) (k0_pay83 (View.ld x1 r0_3)) (Scalar.ofBits .f32 0x3F000000#32)) (ix3 0 r e)
      = softmaxSum s (lane x3 e) 4352 * silu (x1 (ix3 0 r ⟨128 + e.val, by omega⟩)) := by
  have hq : Ideal.div (A5 (headA x0 x4 x5 x6 x7) x2 x3 (ix2 ⟨256 + r.val, by omega⟩ e)) (L5 (headA x0 x4 x5 x6 x7) x2 (ix2 ⟨256 + r.val, by omega⟩ 0))
      = softmaxSum s (lane x3 e) 4352 :=
    pair_row _ _ _ _ _ _ fun t => (Finset.sum_congr rfl fun d _ => by rw [stacked1 x0 x4 x5 x6 x7 r C S T d]).trans (hs t)
  exact (store1 ..).trans (congrArg₂ (· * ·) (((congrFun (heads_eq x0 x1 x2 x3 x4 x5 x6 x7) _).trans (heads_low _ _ _ _ ⟨256 + r.val, by omega⟩ (by show 256 + r.val < 512; omega) e)).trans hq) (congrArg silu (ldx1_apply x1 r e)))

theorem stacked2 (r : Fin 256) (C S : Fin 64 → EReal) (T : TableRow x5 x6 x7 r C S) (d : Fin 128) :
    headB x0 x4 x5 x6 x7 (ix2 ⟨r.val, by omega⟩ d) = qrow x0 x4 C S r 256 (by norm_num) d * κs := by
  rw [headB, stack_apply]
  rw [dif_pos r.isLt]
  exact query2 x0 x4 x5 x6 x7 r C S T d

/-- What the grid point stores for head 2. -/
theorem piece2 (r : Fin 256) (e : Fin 128) (C S : Fin 64 → EReal) (T : TableRow x5 x6 x7 r C S) (s : ℕ → ℝ)
    (hs : ∀ t : Fin 4352, ∑ d : Fin 128, (qrow x0 x4 C S r 256 (by norm_num) d * κs) * x2 (ix4 0 0 t d) = ((s t.val * (Real.log 2)⁻¹ : ℝ) : EReal)) :
    (k0_pay85 (k0_pay120 x0 x1 x2 x3 x4 x5 x6 x7) (View.ld x1 r0_4)) (ix3 0 r e)
      = softmaxSum s (lane x3 e) 4352 * silu (x1 (ix3 0 r ⟨256 + e.val, by omega⟩)) := by
  have hq : Ideal.div (A5 (headB x0 x4 x5 x6 x7) x2 x3 (ix2 ⟨r.val, by omega⟩ e)) (L5 (headB x0 x4 x5 x6 x7) x2 (ix2 ⟨r.val, by omega⟩ 0))
      = softmaxSum s (lane x3 e) 4352 :=
    pair_row _ _ _ _ _ _ fun t => (Finset.sum_congr rfl fun d _ => by rw [stacked2 x0 x4 x5 x6 x7 r C S T d]).trans (hs t)
  refine (store2 ..).trans (congrArg₂ (· * ·) (Eq.trans ((congrFun (heads_eq x0 x1 x2 x3 x4 x5 x6 x7) _).trans ((heads_high _ _ _ _ ⟨512 + r.val, by omega⟩ (by show ¬ 512 + r.val < 512; omega) e).trans ?_)) hq) (congrArg silu (ldx2_apply x1 r e)))
  have e1 : (⟨512 + r.val - 512, by omega⟩ : Fin 512) = ⟨r.val, by omega⟩ := Fin.ext (by show 512 + r.val - 512 = r.val; omega)
  rw [e1]

theorem stacked3 (r : Fin 256) (C S : Fin 64 → EReal) (T : TableRow x5 x6 x7 r C S) (d : Fin 128) :
    headB x0 x4 x5 x6 x7 (ix2 ⟨256 + r.val, by omega⟩ d) = qrow x0 x4 C S r 384 (by norm_num) d * κs := by
  rw [headB, stack_apply]
  rw [dif_neg (by simp)]
  have e : (⟨256 + r.val - 256, by omega⟩ : Fin 256) = r := Fin.ext (by simp)
  rw [e]
  exact query3 x0 x4 x5 x6 x7 r C S T d

/-- What the grid point stores for head 3. -/
theorem piece3 (r : Fin 256) (e : Fin 128) (C S : Fin 64 → EReal) (T : TableRow x5 x6 x7 r C S) (s : ℕ → ℝ)
    (hs : ∀ t : Fin 4352, ∑ d : Fin 128, (qrow x0 x4 C S r 384 (by norm_num) d * κs) * x2 (ix4 0 0 t d) = ((s t.val * (Real.log 2)⁻¹ : ℝ) : EReal)) :
    (k0_pay1 (k0_pay120 x0 x1 x2 x3 x4 x5 x6 x7) (k0_pay86 (View.ld x1 r0_5))) (ix3 0 r e)
      = softmaxSum s (lane x3 e) 4352 * silu (x1 (ix3 0 r ⟨384 + e.val, by omega⟩)) := by
  have hq : Ideal.div (A5 (headB x0 x4 x5 x6 x7) x2 x3 (ix2 ⟨256 + r.val, by omega⟩ e)) (L5 (headB x0 x4 x5 x6 x7) x2 (ix2 ⟨256 + r.val, by omega⟩ 0))
      = softmaxSum s (lane x3 e) 4352 :=
    pair_row _ _ _ _ _ _ fun t => (Finset.sum_congr rfl fun d _ => by rw [stacked3 x0 x4 x5 x6 x7 r C S T d]).trans (hs t)
  refine (store3 ..).trans (congrArg₂ (· * ·) (Eq.trans ((congrFun (heads_eq x0 x1 x2 x3 x4 x5 x6 x7) _).trans ((heads_high _ _ _ _ ⟨768 + r.val, by omega⟩ (by show ¬ 768 + r.val < 512; omega) e).trans ?_)) hq) (congrArg silu (ldx3_apply x1 r e)))
  have e1 : (⟨768 + r.val - 512, by omega⟩ : Fin 512) = ⟨256 + r.val, by omega⟩ := Fin.ext (by show 768 + r.val - 512 = 256 + r.val; omega)
  rw [e1]

end Attn

end
-- ==== Proof.Attn.Tables.lean ====
module
public import proofs.«01_k».proof.Proof.Gen.KernelIdeal.Frame
public import proofs.«01_k».proof.Proof.Gen.ReferenceIdeal.Read
public import Idealize.ShloMosaic.Lib.Pointwise
public import Idealize.ShloMosaic.Lib.Claim
public import Idealize.ShloMosaic.Lib.Pipeline.Frame
public import Idealize.ShloMosaic.Lib.StableHlo.RunRead
/-! The rotary tables the kernel's host code prepares, one stretch of host operations at a time: each theorem says what a
    buffer holds after its stretch, from any contents `W` before it; `V36`, `V39`, `V40`, `V41` put the stretches together. -/
@[expose] public section
set_option maxRecDepth 16384
set_option maxHeartbeats 1600000
noncomputable section
namespace Attn
open Idealize.ShloMosaic Cert.KernelIdeal Cert.KernelIdeal.Gen
open Cert.ReferenceIdeal.Read (val_main_v8 val_main_v9 val_main_v10 val_main_v16 val_main_v21 val_main_v26)
variable {F : FTy → Type} [FloatOps F] [Named F]

/-- The angles of 4096 positions with rows `r` and columns `c`: row angles in lanes 0–63 (the 32 frequencies twice), column
    angles in lanes 64–127. -/
def angOf (r : FVec F S4096 .f32) (c : IVec S4096 32) : FVec F S4096x128 .f32 :=
  let f (x : FVec F S4096 .f32) : FVec F S4096x32 .f32 :=
    mulf (broadcastInDim S4096x32 ![0, 1] bcast_S4096x1_S4096x32_0_1 (broadcastInDim S4096x1 ![0] bcast_S4096_S4096x1_0 x))
      (broadcastInDim S4096x32 ![0, 1] bcast_S1x32_S4096x32_0_1 (broadcastInDim S1x32 ![1] bcast_S32_S1x32_1
        (Host.powf (broadcastInDim S32 ![] bcast_S_S32 (constant S_ .f32 0x461C4000#32))
          (Host.divf (Host.negf (sitofp .f32 (iotaInDim S32 32 0))) (broadcastInDim S32 ![] bcast_S_S32 (constant S_ .f32 0x42000000#32))))))
  concatenate S4096x128 1 [⟨S4096x32, f r⟩, ⟨S4096x32, f r⟩, ⟨S4096x32, f (sitofp .f32 c)⟩, ⟨S4096x32, f (sitofp .f32 c)⟩] concatenates_S4096x32_S4096x32_S4096x32_S4096x32_S4096x128_d1

/-- The angle of each position and lane, over the reference's angles. -/
def ang : FVec F S4096x128 .f32 := concatenate S4096x128 1 [⟨S4096x32, val_main_v21 (F := F)⟩, ⟨S4096x32, val_main_v21 (F := F)⟩, ⟨S4096x32, val_main_v26 (F := F)⟩, ⟨S4096x32, val_main_v26 (F := F)⟩] concatenates_S4096x32_S4096x32_S4096x32_S4096x32_S4096x128_d1

variable (W : Valuation τ sig (Elt F))
/-- The row of each position. -/
theorem stA2 : StableHlo.after hostOps0_2 (StableHlo.after hostOps0_1 (StableHlo.after hostOps0 W)) (Proc.tc.devRef main_v2) = val_main_v8 (F := F) := by
  simp only [hostOps0, hostOps0_1, hostOps0_2, StableHlo.TRef.unary, StableHlo.TRef.binary, StableHlo.TRef.nullary, StableHlo.TRef.ternary, StableHlo.TRef.toBuf, StableHlo.TRef.ofBuf, cast_eq]
  after_results_simp
  rfl
/-- The positions. -/
theorem stA0 : StableHlo.after hostOps0_2 (StableHlo.after hostOps0_1 (StableHlo.after hostOps0 W)) (Proc.tc.devRef main_v0) = (iotaInDim S4096 32 0 : IVec S4096 32) := by
  simp only [hostOps0, hostOps0_1, hostOps0_2, StableHlo.TRef.unary, StableHlo.TRef.binary, StableHlo.TRef.nullary, StableHlo.TRef.ternary, StableHlo.TRef.toBuf, StableHlo.TRef.ofBuf, cast_eq]
  after_results_simp

/-- The width of the grid of positions. -/
theorem stAc : StableHlo.after hostOps0_2 (StableHlo.after hostOps0_1 (StableHlo.after hostOps0 W)) (Proc.tc.devRef main_c_0) = (constantI S_ 32 64#32 : IVec S_ 32) := by
  simp only [hostOps0, hostOps0_1, hostOps0_2, StableHlo.TRef.unary, StableHlo.TRef.binary, StableHlo.TRef.nullary, StableHlo.TRef.ternary, StableHlo.TRef.toBuf, StableHlo.TRef.ofBuf, cast_eq]
  after_results_simp

/-- The column of each position. -/
theorem stB3 (h0 : W (Proc.tc.devRef main_v0) = (iotaInDim S4096 32 0 : IVec S4096 32)) (h1 : W (Proc.tc.devRef main_c_0) = (constantI S_ 32 64#32 : IVec S_ 32)) : StableHlo.after hostOps0_3 W (Proc.tc.devRef main_v3) = val_main_v9 (F := F) := by
  simp only [hostOps0_3, StableHlo.TRef.unary, StableHlo.TRef.binary, StableHlo.TRef.nullary, StableHlo.TRef.ternary, StableHlo.TRef.toBuf, StableHlo.TRef.ofBuf, cast_eq]
  after_results_simp
  simp only [h0, h1]
  rfl
/-- The stretch leaves the rows alone. -/
theorem stB2 : StableHlo.after hostOps0_3 W (Proc.tc.devRef main_v2) = W (Proc.tc.devRef main_v2) := by
  simp only [hostOps0_3, StableHlo.TRef.unary, StableHlo.TRef.binary, StableHlo.TRef.nullary, StableHlo.TRef.ternary, StableHlo.TRef.toBuf, StableHlo.TRef.ofBuf, cast_eq]
  after_results_simp

/-- The angles, over the rows and columns. -/
theorem stC31' : StableHlo.after hostOps0_4 W (Proc.tc.devRef main_v31) = angOf (W (Proc.tc.devRef main_v2)) (W (Proc.tc.devRef main_v3)) := by
  simp only [hostOps0_4, StableHlo.TRef.unary, StableHlo.TRef.binary, StableHlo.TRef.nullary, StableHlo.TRef.ternary, StableHlo.TRef.toBuf, StableHlo.TRef.ofBuf, cast_eq]
  after_reads_simp
  rfl
/-- The angles. -/
theorem stC31 (h2 : W (Proc.tc.devRef main_v2) = val_main_v8 (F := F)) (h3 : W (Proc.tc.devRef main_v3) = val_main_v9 (F := F)) : StableHlo.after hostOps0_4 W (Proc.tc.devRef main_v31) = ang (F := F) := by
  rw [stC31', h2, h3]
  rfl
/-- The lanes. -/
theorem stC32 : StableHlo.after hostOps0_4 W (Proc.tc.devRef main_v32) = (iotaInDim S128 32 0 : IVec S128 32) := by
  simp only [hostOps0_4, StableHlo.TRef.unary, StableHlo.TRef.binary, StableHlo.TRef.nullary, StableHlo.TRef.ternary, StableHlo.TRef.toBuf, StableHlo.TRef.ofBuf, cast_eq]
  after_results_simp

/-- Half the lanes. -/
theorem stCc : StableHlo.after hostOps0_4 W (Proc.tc.devRef main_c_2) = (constantI S_ 32 64#32 : IVec S_ 32) := by
  simp only [hostOps0_4, StableHlo.TRef.unary, StableHlo.TRef.binary, StableHlo.TRef.nullary, StableHlo.TRef.ternary, StableHlo.TRef.toBuf, StableHlo.TRef.ofBuf, cast_eq]
  after_results_simp

/-- Each lane's place in its half: the remainder by 64. -/
def lanes : IVec S128 32 := fun i => BitVec.ofNat 32 ((i 0).val % 64)
/-- The host code's remainder by 64 of the lane numbers is the remainder. -/
theorem lanes_calc : ∀ d : Fin 128,
    let n : IVec S_ 32 := select (cmpi .eq (constantI S_ 32 64#32) (constantI S_ 32 0#32)) (constantI S_ 32 1#32) (constantI S_ 32 64#32)
    let r : IVec S128 32 := Host.remsi (iotaInDim S128 32 0) (broadcastInDim S128 ![] bcast_S_S128 n)
    select (andi (cmpi .ne (cmpi .slt r (broadcastInDim S128 ![] bcast_S_S128 (constantI S_ 32 0#32)))
          (broadcastInDim S128 ![] bcast_S_S128 (cmpi .slt n (constantI S_ 32 0#32))))
        (cmpi .ne r (broadcastInDim S128 ![] bcast_S_S128 (constantI S_ 32 0#32))))
      (addi r (broadcastInDim S128 ![] bcast_S_S128 n)) r (ix1 d) = lanes (ix1 d) := by
  decide +kernel
/-- The lanes by half. -/
theorem stD33 (h0 : W (Proc.tc.devRef main_v32) = (iotaInDim S128 32 0 : IVec S128 32)) (h1 : W (Proc.tc.devRef main_c_2) = (constantI S_ 32 64#32 : IVec S_ 32)) : StableHlo.after hostOps0_5 W (Proc.tc.devRef main_v33) = lanes := by
  simp only [hostOps0_5, StableHlo.TRef.unary, StableHlo.TRef.binary, StableHlo.TRef.nullary, StableHlo.TRef.ternary, StableHlo.TRef.toBuf, StableHlo.TRef.ofBuf, cast_eq]
  after_results_simp
  simp only [h0, h1]
  funext i
  obtain ⟨d, rfl⟩ : ∃ d : Fin 128, i = ix1 d := ⟨i 0, by funext a; match a with | ⟨0, _⟩ => rfl⟩
  exact lanes_calc d
/-- The stretch leaves the angles alone. -/
theorem stD31 : StableHlo.after hostOps0_5 W (Proc.tc.devRef main_v31) = W (Proc.tc.devRef main_v31) := by
  simp only [hostOps0_5, StableHlo.TRef.unary, StableHlo.TRef.binary, StableHlo.TRef.nullary, StableHlo.TRef.ternary, StableHlo.TRef.toBuf, StableHlo.TRef.ofBuf, cast_eq]
  after_results_simp

/-- Whether a lane lies in the first half of its half. -/
def low : IVec S128 1 := cmpi .slt lanes (broadcastInDim S128 ![] bcast_S_S128 (constantI S_ 32 32#32))
/-- The lanes' mask. -/
theorem stE35 (h0 : W (Proc.tc.devRef main_v33) = lanes) : StableHlo.after hostOps0_6 W (Proc.tc.devRef main_v35) = low := by
  simp only [hostOps0_6, StableHlo.TRef.unary, StableHlo.TRef.binary, StableHlo.TRef.nullary, StableHlo.TRef.ternary, StableHlo.TRef.toBuf, StableHlo.TRef.ofBuf, cast_eq]
  after_results_simp
  simp only [h0]
  rfl
/-- The cosines. -/
theorem stE36 (h1 : W (Proc.tc.devRef main_v31) = ang (F := F)) : StableHlo.after hostOps0_6 W (Proc.tc.devRef main_v36) = Host.cos (ang (F := F)) := by
  simp only [hostOps0_6, StableHlo.TRef.unary, StableHlo.TRef.binary, StableHlo.TRef.nullary, StableHlo.TRef.ternary, StableHlo.TRef.toBuf, StableHlo.TRef.ofBuf, cast_eq]
  after_results_simp
  simp only [h1]
/-- The sines. -/
theorem stE37 (h1 : W (Proc.tc.devRef main_v31) = ang (F := F)) : StableHlo.after hostOps0_6 W (Proc.tc.devRef main_v37) = Host.sin (ang (F := F)) := by
  simp only [hostOps0_6, StableHlo.TRef.unary, StableHlo.TRef.binary, StableHlo.TRef.nullary, StableHlo.TRef.ternary, StableHlo.TRef.toBuf, StableHlo.TRef.ofBuf, cast_eq]
  after_results_simp
  simp only [h1]
/-- The sines negated. -/
theorem stE38 (h1 : W (Proc.tc.devRef main_v31) = ang (F := F)) : StableHlo.after hostOps0_6 W (Proc.tc.devRef main_v38) = Host.negf (Host.sin (ang (F := F))) := by
  simp only [hostOps0_6, StableHlo.TRef.unary, StableHlo.TRef.binary, StableHlo.TRef.nullary, StableHlo.TRef.ternary, StableHlo.TRef.toBuf, StableHlo.TRef.ofBuf, cast_eq]
  after_results_simp
  simp only [h1]
/-- Zero. -/
theorem stEc : StableHlo.after hostOps0_6 W (Proc.tc.devRef main_cst_4) = (constant S_ .f32 0x00000000#32 : FVec F S_ .f32) := by
  simp only [hostOps0_6, StableHlo.TRef.unary, StableHlo.TRef.binary, StableHlo.TRef.nullary, StableHlo.TRef.ternary, StableHlo.TRef.toBuf, StableHlo.TRef.ofBuf, cast_eq]
  after_results_simp

/-- The first table of sines: minus the sine in the low lanes, zero in the others. -/
def sinLow : FVec F S4096x128 .f32 :=
  select (broadcastInDim S4096x128 ![1] bcast_S128_S4096x128_1 low)
    (Host.negf (Host.sin (ang (F := F)))) (broadcastInDim S4096x128 ![] bcast_S_S4096x128 (constant S_ .f32 0x00000000#32))
/-- The second table of sines: zero in the low lanes, the sine in the others. -/
def sinHigh : FVec F S4096x128 .f32 :=
  select (broadcastInDim S4096x128 ![1] bcast_S128_S4096x128_1 low)
    (broadcastInDim S4096x128 ![] bcast_S_S4096x128 (constant S_ .f32 0x00000000#32)) (Host.sin (ang (F := F)))
/-- The first table of sines. -/
theorem stF39 (h0 : W (Proc.tc.devRef main_v35) = low) (h1 : W (Proc.tc.devRef main_v38) = Host.negf (Host.sin (ang (F := F)))) (h2 : W (Proc.tc.devRef main_cst_4) = (constant S_ .f32 0x00000000#32 : FVec F S_ .f32)) : StableHlo.after hostOps0_7 W (Proc.tc.devRef main_v39) = sinLow (F := F) := by
  simp only [hostOps0_7, StableHlo.TRef.unary, StableHlo.TRef.binary, StableHlo.TRef.nullary, StableHlo.TRef.ternary, StableHlo.TRef.toBuf, StableHlo.TRef.ofBuf, cast_eq]
  after_results_simp
  simp only [h0, h1, h2]
  rfl
/-- Untouched. -/
theorem stF35 : StableHlo.after hostOps0_7 W (Proc.tc.devRef main_v35) = W (Proc.tc.devRef main_v35) := by
  simp only [hostOps0_7, StableHlo.TRef.unary, StableHlo.TRef.binary, StableHlo.TRef.nullary, StableHlo.TRef.ternary, StableHlo.TRef.toBuf, StableHlo.TRef.ofBuf, cast_eq]
  after_results_simp

/-- Untouched. -/
theorem stF36 : StableHlo.after hostOps0_7 W (Proc.tc.devRef main_v36) = W (Proc.tc.devRef main_v36) := by
  simp only [hostOps0_7, StableHlo.TRef.unary, StableHlo.TRef.binary, StableHlo.TRef.nullary, StableHlo.TRef.ternary, StableHlo.TRef.toBuf, StableHlo.TRef.ofBuf, cast_eq]
  after_results_simp

/-- Untouched. -/
theorem stF37 : StableHlo.after hostOps0_7 W (Proc.tc.devRef main_v37) = W (Proc.tc.devRef main_v37) := by
  simp only [hostOps0_7, StableHlo.TRef.unary, StableHlo.TRef.binary, StableHlo.TRef.nullary, StableHlo.TRef.ternary, StableHlo.TRef.toBuf, StableHlo.TRef.ofBuf, cast_eq]
  after_results_simp

/-- Zero. -/
theorem stGc : StableHlo.after hostOps0_8 W (Proc.tc.devRef main_cst_5) = (constant S_ .f32 0x00000000#32 : FVec F S_ .f32) := by
  simp only [hostOps0_8, StableHlo.TRef.unary, StableHlo.TRef.binary, StableHlo.TRef.nullary, StableHlo.TRef.ternary, StableHlo.TRef.toBuf, StableHlo.TRef.ofBuf, cast_eq]
  after_results_simp

/-- Untouched. -/
theorem stG35 : StableHlo.after hostOps0_8 W (Proc.tc.devRef main_v35) = W (Proc.tc.devRef main_v35) := by
  simp only [hostOps0_8, StableHlo.TRef.unary, StableHlo.TRef.binary, StableHlo.TRef.nullary, StableHlo.TRef.ternary, StableHlo.TRef.toBuf, StableHlo.TRef.ofBuf, cast_eq]
  after_results_simp

/-- Untouched. -/
theorem stG36 : StableHlo.after hostOps0_8 W (Proc.tc.devRef main_v36) = W (Proc.tc.devRef main_v36) := by
  simp only [hostOps0_8, StableHlo.TRef.unary, StableHlo.TRef.binary, StableHlo.TRef.nullary, StableHlo.TRef.ternary, StableHlo.TRef.toBuf, StableHlo.TRef.ofBuf, cast_eq]
  after_results_simp

/-- Untouched. -/
theorem stG37 : StableHlo.after hostOps0_8 W (Proc.tc.devRef main_v37) = W (Proc.tc.devRef main_v37) := by
  simp only [hostOps0_8, StableHlo.TRef.unary, StableHlo.TRef.binary, StableHlo.TRef.nullary, StableHlo.TRef.ternary, StableHlo.TRef.toBuf, StableHlo.TRef.ofBuf, cast_eq]
  after_results_simp

/-- Untouched. -/
theorem stG39 : StableHlo.after hostOps0_8 W (Proc.tc.devRef main_v39) = W (Proc.tc.devRef main_v39) := by
  simp only [hostOps0_8, StableHlo.TRef.unary, StableHlo.TRef.binary, StableHlo.TRef.nullary, StableHlo.TRef.ternary, StableHlo.TRef.toBuf, StableHlo.TRef.ofBuf, cast_eq]
  after_results_simp

/-- The second table of sines. -/
theorem stH40 (h0 : W (Proc.tc.devRef main_v35) = low) (h1 : W (Proc.tc.devRef main_v37) = Host.sin (ang (F := F))) (h2 : W (Proc.tc.devRef main_cst_5) = (constant S_ .f32 0x00000000#32 : FVec F S_ .f32)) : StableHlo.after hostOps0_9 W (Proc.tc.devRef main_v40) = sinHigh (F := F) := by
  simp only [hostOps0_9, StableHlo.TRef.unary, StableHlo.TRef.binary, StableHlo.TRef.nullary, StableHlo.TRef.ternary, StableHlo.TRef.toBuf, StableHlo.TRef.ofBuf, cast_eq]
  after_results_simp
  simp only [h0, h1, h2]
  rfl
/-- Untouched. -/
theorem stH36 : StableHlo.after hostOps0_9 W (Proc.tc.devRef main_v36) = W (Proc.tc.devRef main_v36) := by
  simp only [hostOps0_9, StableHlo.TRef.unary, StableHlo.TRef.binary, StableHlo.TRef.nullary, StableHlo.TRef.ternary, StableHlo.TRef.toBuf, StableHlo.TRef.ofBuf, cast_eq]
  after_results_simp

/-- Untouched. -/
theorem stH39 : StableHlo.after hostOps0_9 W (Proc.tc.devRef main_v39) = W (Proc.tc.devRef main_v39) := by
  simp only [hostOps0_9, StableHlo.TRef.unary, StableHlo.TRef.binary, StableHlo.TRef.nullary, StableHlo.TRef.ternary, StableHlo.TRef.toBuf, StableHlo.TRef.ofBuf, cast_eq]
  after_results_simp

/-- Untouched. -/
theorem stI36 : StableHlo.after hostOps0_10 W (Proc.tc.devRef main_v36) = W (Proc.tc.devRef main_v36) := by
  simp only [hostOps0_10, StableHlo.TRef.unary, StableHlo.TRef.binary, StableHlo.TRef.nullary, StableHlo.TRef.ternary, StableHlo.TRef.toBuf, StableHlo.TRef.ofBuf, cast_eq]
  after_results_simp

/-- Untouched. -/
theorem stI39 : StableHlo.after hostOps0_10 W (Proc.tc.devRef main_v39) = W (Proc.tc.devRef main_v39) := by
  simp only [hostOps0_10, StableHlo.TRef.unary, StableHlo.TRef.binary, StableHlo.TRef.nullary, StableHlo.TRef.ternary, StableHlo.TRef.toBuf, StableHlo.TRef.ofBuf, cast_eq]
  after_results_simp

/-- Untouched. -/
theorem stI40 : StableHlo.after hostOps0_10 W (Proc.tc.devRef main_v40) = W (Proc.tc.devRef main_v40) := by
  simp only [hostOps0_10, StableHlo.TRef.unary, StableHlo.TRef.binary, StableHlo.TRef.nullary, StableHlo.TRef.ternary, StableHlo.TRef.toBuf, StableHlo.TRef.ofBuf, cast_eq]
  after_results_simp

/-- Untouched. -/
theorem stI3 : StableHlo.after hostOps0_10 W (Proc.tc.devRef main_arg3) = W (Proc.tc.devRef main_arg3) := by
  simp only [hostOps0_10, StableHlo.TRef.unary, StableHlo.TRef.binary, StableHlo.TRef.nullary, StableHlo.TRef.ternary, StableHlo.TRef.toBuf, StableHlo.TRef.ofBuf, cast_eq]
  after_results_simp

/-- The query norm's weights as a row. -/
theorem stI41 : StableHlo.after hostOps0_10 W (Proc.tc.devRef main_v41) = shapeCast S1x128 (W (Proc.tc.devRef main_arg3) : FVec F S128 .f32) shapeCasts_S128_S1x128 := by
  simp only [hostOps0_10, StableHlo.TRef.unary, StableHlo.TRef.binary, StableHlo.TRef.nullary, StableHlo.TRef.ternary, StableHlo.TRef.toBuf, StableHlo.TRef.ofBuf, cast_eq]
  after_results_simp
  rfl
variable (m : (ℓ : Loc nD τ sig) → Buf (Elt F) ℓ) (c : Dev nD)

/-- The buffers before the region, the stretches one after the other. -/
theorem V_eq (b : Ref sig .tc) : V m c b = (StableHlo.after hostOps0_10 (StableHlo.after hostOps0_9 (StableHlo.after hostOps0_8
      (StableHlo.after hostOps0_7 (StableHlo.after hostOps0_6 (StableHlo.after hostOps0_5 (StableHlo.after hostOps0_4
      (StableHlo.after hostOps0_3 (StableHlo.after hostOps0_2 (StableHlo.after hostOps0_1 (StableHlo.after hostOps0
        (fun b => m (c, b)))))))))))) (Proc.tc.devRef b)) := by
  unfold V
  simp only [List.flatten_cons, List.flatten_nil, List.append_nil, StableHlo.after_append]
/-- The kernel's table of cosines. -/
theorem V36 : V m c main_v36 = Host.cos (ang (F := F)) := by
  rw [V_eq, stI36, stH36, stG36, stF36]
  exact stE36 _ ((stD31 _).trans (stC31 _ ((stB2 _).trans (stA2 _)) (stB3 _ (stA0 _) (stAc _))))
/-- The kernel's first table of sines. -/
theorem V39 : V m c main_v39 = sinLow (F := F) := by
  rw [V_eq, stI39, stH39, stG39]
  exact stF39 _ (stE35 _ (stD33 _ (stC32 _) (stCc _))) (stE38 _ ((stD31 _).trans (stC31 _ ((stB2 _).trans (stA2 _)) (stB3 _ (stA0 _) (stAc _))))) (stEc _)
/-- The kernel's second table of sines. -/
theorem V40 : V m c main_v40 = sinHigh (F := F) := by
  rw [V_eq, stI40]
  exact stH40 _ (((stG35 _).trans (stF35 _)).trans (stE35 _ (stD33 _ (stC32 _) (stCc _)))) (((stG37 _).trans (stF37 _)).trans (stE37 _ ((stD31 _).trans (stC31 _ ((stB2 _).trans (stA2 _)) (stB3 _ (stA0 _) (stAc _)))))) (stGc _)
/-- The query norm's weights, as the kernel takes them. -/
theorem V41 : V m c main_v41 = shapeCast S1x128 (V m c main_arg3 : FVec F S128 .f32) shapeCasts_S128_S1x128 := by
  rw [V_eq, V_eq, stI41, stI3]
end Attn
end
-- ==== Proof.Attn.TablesAt.lean ====
module

public import proofs.«01_k».proof.Proof.Attn.Tables
public import proofs.«01_k».proof.Proof.Attn.Block

/-!
# The rotary tables at an index

The kernel's three tables hold, at a position and lane, the cosine and the masked sines of the angle the reference turns that
lane by; the angles are real.
-/

@[expose] public section
set_option maxRecDepth 16384
noncomputable section
namespace Attn
open Idealize.ShloMosaic Cert.KernelIdeal Cert.KernelIdeal.Gen
open Cert.ReferenceIdeal.Read (val_main_v8 val_main_v10 val_main_v11 val_main_v12 val_main_v13 val_main_v14 val_main_v15 val_main_v17 val_main_v18 val_main_v19 val_main_v22 val_main_v23 val_main_v24 val_main_v25 val_main_cst val_main_cst_1 val_main_v21 val_main_v26 val_main_v27 val_main_v28 val_main_v29 val_main_v7 val_main_v9 val_main_v16 val_main_v20)

/-- The angle by which a position's pair `j` is turned, as the reference computes it. -/
def angle (p : Fin 4096) (j : Fin 64) : EReal := val_main_v27 (F := Ideal) (ix2 p j)
/-- Its cosine. -/
def cosT (p : Fin 4096) (j : Fin 64) : EReal := Ideal.cos (angle p j)
/-- Its sine. -/
def sinT (p : Fin 4096) (j : Fin 64) : EReal := Ideal.sin (angle p j)

theorem angle_eq (p : Fin 4096) (j : Fin 64) : angle p j =
    if h : j.val < 32 then val_main_v21 (F := Ideal) (ix2 p ⟨j.val, h⟩) else val_main_v26 (F := Ideal) (ix2 p ⟨j.val - 32, by omega⟩) := by
  pointwise [angle, val_main_v27]

theorem ang_apply (p : Fin 4096) (d : Fin 128) : ang (F := Ideal) (ix2 p d) = angle p (angleOf d) := by
  rw [angle_eq]
  pointwise [ang]
  have key : ∀ (n : Fin 32) (k : Fin 64) (h : k.val < 32), n.val = k.val →
      val_main_v21 (F := Ideal) (ix2 p n) = val_main_v21 (F := Ideal) (ix2 p ⟨k.val, h⟩) := fun n k h e => by
    congr 2; exact Fin.ext e
  have key' : ∀ (n : Fin 32) (k : Fin 64) (h : k.val - 32 < 32), n.val = k.val - 32 →
      val_main_v26 (F := Ideal) (ix2 p n) = val_main_v26 (F := Ideal) (ix2 p ⟨k.val - 32, h⟩) := fun n k h e => by
    congr 2; exact Fin.ext e
  by_cases h0 : d.val < 32
  · rw [dif_pos h0, dif_pos (by show 32 * (d.val / 64) + d.val % 32 < 32; omega)]
    exact key _ _ _ (by show d.val = 32 * (d.val / 64) + d.val % 32; omega)
  by_cases h1 : d.val - 32 < 32
  · rw [dif_neg h0, dif_pos h1, dif_pos (by show 32 * (d.val / 64) + d.val % 32 < 32; omega)]
    exact key _ _ _ (by show d.val - 32 = 32 * (d.val / 64) + d.val % 32; omega)
  rw [dif_neg h0, dif_neg h1]
  have hn : ¬ (angleOf d).val < 32 := by show ¬ 32 * (d.val / 64) + d.val % 32 < 32; omega
  by_cases h2 : d.val - 32 - 32 < 32
  · rw [dif_pos h2, dif_neg hn]
    exact key' _ _ _ (by show d.val - 32 - 32 = 32 * (d.val / 64) + d.val % 32 - 32; omega)
  · rw [dif_neg h2, dif_neg hn]
    exact key' _ _ _ (by show d.val - 32 - 32 - 32 = 32 * (d.val / 64) + d.val % 32 - 32; omega)

theorem low_eq : ∀ d : Fin 128, low (ix1 d) = if d.val % 64 < 32 then 1#1 else 0#1 := by decide +kernel

theorem cos_apply (p : Fin 4096) (d : Fin 128) : (Host.cos (ang (F := Ideal)) : FVec Ideal S4096x128 .f32) (ix2 p d) = cosT p (angleOf d) := by
  rw [cosT, ← ang_apply]; rfl

theorem sinLow_apply (p : Fin 4096) (d : Fin 128) : (sinLow (F := Ideal)) (ix2 p d) = if d.val % 64 < 32 then -sinT p (angleOf d) else 0 := by
  rw [sinT, ← ang_apply]
  pointwise [sinLow]
  rw [low_eq]
  split <;> rfl

theorem sinHigh_apply (p : Fin 4096) (d : Fin 128) : (sinHigh (F := Ideal)) (ix2 p d) = if d.val % 64 < 32 then 0 else sinT p (angleOf d) := by
  rw [sinT, ← ang_apply]
  pointwise [sinHigh]
  rw [low_eq]
  split <;> rfl

theorem tenThousand_eq : Ideal.ofBits .f32 0x461C4000#32 = ((10000 : ℝ) : EReal) := by
  simp [Ideal.ofBits, Ideal.ieee]
  rw [← EReal.coe_mul]; norm_num

theorem thirtyTwo_eq : Ideal.ofBits .f32 0x42000000#32 = ((32 : ℝ) : EReal) := by
  simp [Ideal.ofBits, Ideal.ieee]
  rw [← EReal.coe_mul]; norm_num

/-- A frequency is real. -/
theorem freq_real (d : Fin 32) : ∃ r : ℝ, val_main_v16 (F := Ideal) (ix1 d) = r := by
  have e : val_main_v16 (F := Ideal) (ix1 d) = Ideal.pow (Ideal.ofBits FTy.f32 1176256512#32)
      (Ideal.div (-(((BitVec.ofNat 32 d.val).toInt : ℝ) : EReal)) (Ideal.ofBits FTy.f32 1107296256#32)) := by
    pointwise [val_main_v16, val_main_v15, val_main_cst_1, val_main_v14, val_main_v13, val_main_v12, val_main_v11, val_main_cst]
    rfl
  rw [e, tenThousand_eq, thirtyTwo_eq, div_coe_pos _ (by norm_num : (0 : ℝ) < 32), ← EReal.coe_neg, ← EReal.coe_mul, Ideal.pow_coe_coe]
  exact ⟨_, rfl⟩

theorem row_real (p : Fin 4096) (d : Fin 32) : ∃ r : ℝ, val_main_v21 (F := Ideal) (ix2 p d) = r := by
  obtain ⟨f, hf⟩ := freq_real d
  have e : val_main_v21 (F := Ideal) (ix2 p d) = val_main_v8 (F := Ideal) (ix1 p) * val_main_v16 (F := Ideal) (ix1 d) := by
    pointwise [val_main_v21, val_main_v19, val_main_v17, val_main_v20, val_main_v18]
  rw [e, hf]
  exact ⟨_, (EReal.coe_mul _ _).symm⟩

theorem col_real (p : Fin 4096) (d : Fin 32) : ∃ r : ℝ, val_main_v26 (F := Ideal) (ix2 p d) = r := by
  obtain ⟨f, hf⟩ := freq_real d
  have e : val_main_v26 (F := Ideal) (ix2 p d) = val_main_v10 (F := Ideal) (ix1 p) * val_main_v16 (F := Ideal) (ix1 d) := by
    pointwise [val_main_v26, val_main_v24, val_main_v22, val_main_v25, val_main_v23]
  rw [e, hf]
  exact ⟨_, (EReal.coe_mul _ _).symm⟩

theorem angle_real (p : Fin 4096) (j : Fin 64) : ∃ r : ℝ, angle p j = r := by
  rw [angle_eq]
  split
  · exact row_real _ _
  · exact col_real _ _

theorem cosT_real (p : Fin 4096) (j : Fin 64) : ∃ r : ℝ, cosT p j = r := by
  obtain ⟨a, ha⟩ := angle_real p j
  exact ⟨Real.cos a, by rw [cosT, ha]; rfl⟩

theorem sinT_real (p : Fin 4096) (j : Fin 64) : ∃ r : ℝ, sinT p j = r := by
  obtain ⟨a, ha⟩ := angle_real p j
  exact ⟨Real.sin a, by rw [sinT, ha]; rfl⟩

end Attn
end
-- ==== Proof.Attn.Windows.lean ====
module

public import proofs.«01_k».proof.Proof.Attn.Block
public import proofs.«01_k».proof.Proof.Attn.TablesAt
public import proofs.«01_k».proof.Proof.Gen.KernelIdeal.Value

/-!
# The blocks a grid point reads

A grid point is a batch entry, a key head and a block of positions; each window's block at it, at an index, over the
argument arrays and the tables.
-/

@[expose] public section

set_option maxRecDepth 16384

noncomputable section

namespace Attn

open Idealize.ShloMosaic Cert.KernelIdeal Cert.KernelIdeal.Gen
open scoped BigOperators

variable (m : (ℓ : Loc nD τ sig) → Buf (Elt Ideal) ℓ) (c : Dev nD)

/-- The argument arrays. -/
abbrev Arg0 : Vec Ideal S4x4096x13312 .bf16 := m ((c.tc : Thread nD τ).loc main_arg0)
abbrev Arg1 : Vec Ideal S4x4x4352x128 .bf16 := m ((c.tc : Thread nD τ).loc main_arg1)
abbrev Arg2 : Vec Ideal S4x4x4352x128 .bf16 := m ((c.tc : Thread nD τ).loc main_arg2)
abbrev Arg3 : Vec Ideal S128 .f32 := m ((c.tc : Thread nD τ).loc main_arg3)

/-- A grid point's batch entry. -/
def batch (t : Fin cfg0.N) : Fin 4 := ⟨t.val / 64, by have : t.val < 256 := t.isLt; omega⟩
/-- A grid point's key head. -/
def head (t : Fin cfg0.N) : Fin 4 := ⟨t.val / 16 % 4, by omega⟩
/-- The position of a row of a grid point's block. -/
def pos (t : Fin cfg0.N) (r : Fin 256) : Fin 4096 := ⟨t.val % 16 * 256 + r.val, by omega⟩

theorem idx0 : ∀ t : Fin cfg0.N, win0_0.index t (0 : Fin 3) = t.val / 64 ∧ win0_0.index t (1 : Fin 3) = t.val % 16 ∧ win0_0.index t (2 : Fin 3) = 16 + t.val / 16 % 4 :=
  (by decide +kernel : ∀ t : Fin grid0.N, _)
theorem idx1 : ∀ t : Fin cfg0.N, win0_1.index t (0 : Fin 3) = t.val / 64 ∧ win0_1.index t (1 : Fin 3) = t.val % 16 ∧ win0_1.index t (2 : Fin 3) = 22 + t.val / 16 % 4 :=
  (by decide +kernel : ∀ t : Fin grid0.N, _)
theorem idx2 : ∀ t : Fin cfg0.N, win0_2.index t (0 : Fin 4) = t.val / 64 ∧ win0_2.index t (1 : Fin 4) = t.val / 16 % 4 ∧ win0_2.index t (2 : Fin 4) = 0 ∧ win0_2.index t (3 : Fin 4) = 0 :=
  (by decide +kernel : ∀ t : Fin grid0.N, _)
theorem idx3 : ∀ t : Fin cfg0.N, win0_3.index t (0 : Fin 4) = t.val / 64 ∧ win0_3.index t (1 : Fin 4) = t.val / 16 % 4 ∧ win0_3.index t (2 : Fin 4) = 0 ∧ win0_3.index t (3 : Fin 4) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val % 16 ∧ win0_5.index t (1 : Fin 2) = 0 :=
  (by decide +kernel : ∀ t : Fin grid0.N, _)
theorem idx6 : ∀ t : Fin cfg0.N, win0_6.index t (0 : Fin 2) = t.val % 16 ∧ win0_6.index t (1 : Fin 2) = 0 :=
  (by decide +kernel : ∀ t : Fin grid0.N, _)
theorem idx7 : ∀ t : Fin cfg0.N, win0_7.index t (0 : Fin 2) = t.val % 16 ∧ win0_7.index t (1 : Fin 2) = 0 :=
  (by decide +kernel : ∀ t : Fin grid0.N, _)
theorem idx8 : ∀ t : Fin cfg0.N, win0_8.index t (0 : Fin 3) = t.val / 64 ∧ win0_8.index t (1 : Fin 3) = t.val % 16 ∧ win0_8.index t (2 : Fin 3) = t.val / 16 % 4 :=
  (by decide +kernel : ∀ t : Fin grid0.N, _)

theorem iblk0_apply (t : Fin cfg0.N) (r : Fin 256) (l : Fin 512) :
    iblk m c 0 t (ix3 0 r l) = Arg0 m c (ix3 (batch t) (pos t r) ⟨(16 + (head t).val) * 512 + l.val, by omega⟩) := by
  obtain ⟨e0, e1, e2⟩ := idx0 t
  show V m c main_arg0 (((cfg0.win 0).blk t).view.emb (ix3 0 r l)) = _
  rw [V_main_arg0]
  congr 1
  funext a; apply Fin.ext
  match a with
  | ⟨0, _⟩ => show win0_0.index t (0 : Fin 3) * 1 + 1 * 0 = t.val / 64; omega
  | ⟨1, _⟩ => show win0_0.index t (1 : Fin 3) * 256 + 1 * r.val = t.val % 16 * 256 + r.val; omega
  | ⟨2, _⟩ => show win0_0.index t (2 : Fin 3) * 512 + 1 * l.val = (16 + t.val / 16 % 4) * 512 + l.val; omega

theorem iblk1_apply (t : Fin cfg0.N) (r : Fin 256) (l : Fin 512) :
    iblk m c 1 t (ix3 0 r l) = Arg0 m c (ix3 (batch t) (pos t r) ⟨(22 + (head t).val) * 512 + l.val, by omega⟩) := by
  obtain ⟨e0, e1, e2⟩ := idx1 t
  show V m c main_arg0 (((cfg0.win 1).blk t).view.emb (ix3 0 r l)) = _
  rw [V_main_arg0]
  congr 1
  funext a; apply Fin.ext
  match a with
  | ⟨0, _⟩ => show win0_1.index t (0 : Fin 3) * 1 + 1 * 0 = t.val / 64; omega
  | ⟨1, _⟩ => show win0_1.index t (1 : Fin 3) * 256 + 1 * r.val = t.val % 16 * 256 + r.val; omega
  | ⟨2, _⟩ => show win0_1.index t (2 : Fin 3) * 512 + 1 * l.val = (22 + t.val / 16 % 4) * 512 + l.val; omega

theorem iblk2_apply (t : Fin cfg0.N) (k : Fin 4352) (d : Fin 128) :
    iblk m c 2 t (ix4 0 0 k d) = Arg1 m c (ix4 (batch t) (head t) k d) := by
  obtain ⟨e0, e1, e2, e3⟩ := idx2 t
  show V m c main_arg1 (((cfg0.win 2).blk t).view.emb (ix4 0 0 k d)) = _
  rw [V_main_arg1]
  congr 1
  funext a; apply Fin.ext
  match a with
  | ⟨0, _⟩ => show win0_2.index t (0 : Fin 4) * 1 + 1 * 0 = t.val / 64; omega
  | ⟨1, _⟩ => show win0_2.index t (1 : Fin 4) * 1 + 1 * 0 = t.val / 16 % 4; omega
  | ⟨2, _⟩ => show win0_2.index t (2 : Fin 4) * 4352 + 1 * k.val = k.val; omega
  | ⟨3, _⟩ => show win0_2.index t (3 : Fin 4) * 128 + 1 * d.val = d.val; omega

theorem iblk3_apply (t : Fin cfg0.N) (k : Fin 4352) (d : Fin 128) :
    iblk m c 3 t (ix4 0 0 k d) = Arg2 m c (ix4 (batch t) (head t) k d) := by
  obtain ⟨e0, e1, e2, e3⟩ := idx3 t
  show V m c main_arg2 (((cfg0.win 3).blk t).view.emb (ix4 0 0 k d)) = _
  rw [V_main_arg2]
  congr 1
  funext a; apply Fin.ext
  match a with
  | ⟨0, _⟩ => show win0_3.index t (0 : Fin 4) * 1 + 1 * 0 = t.val / 64; omega
  | ⟨1, _⟩ => show win0_3.index t (1 : Fin 4) * 1 + 1 * 0 = t.val / 16 % 4; omega
  | ⟨2, _⟩ => show win0_3.index t (2 : Fin 4) * 4352 + 1 * k.val = k.val; omega
  | ⟨3, _⟩ => show win0_3.index t (3 : Fin 4) * 128 + 1 * d.val = d.val; omega

theorem iblk4_apply (t : Fin cfg0.N) (d : Fin 128) :
    iblk m c 4 t (ix2 0 d) = Arg3 m c (ix1 d) := by
  obtain ⟨e0, e1⟩ := idx4 t
  have e : ((cfg0.win 4).blk t).view.emb (ix2 0 d) = (ix2 0 d : S1x128.Idx) := by
    funext a; apply Fin.ext
    match a with
    | ⟨0, _⟩ => show win0_4.index t (0 : Fin 2) * 1 + 1 * 0 = 0; omega
    | ⟨1, _⟩ => show win0_4.index t (1 : Fin 2) * 128 + 1 * d.val = d.val; omega
  show V m c main_v41 (((cfg0.win 4).blk t).view.emb (ix2 0 d)) = _
  rw [e, V41, V_main_arg3]
  pointwise

theorem emb5 (t : Fin cfg0.N) (r : Fin 256) (d : Fin 128) : ((cfg0.win 5).blk t).view.emb (ix2 r d) = (ix2 (pos t r) d : S4096x128.Idx) := by
  obtain ⟨e0, e1⟩ := idx5 t
  funext a; apply Fin.ext
  match a with
  | ⟨0, _⟩ => show win0_5.index t (0 : Fin 2) * 256 + 1 * r.val = t.val % 16 * 256 + r.val; omega
  | ⟨1, _⟩ => show win0_5.index t (1 : Fin 2) * 128 + 1 * d.val = d.val; omega
theorem emb6 (t : Fin cfg0.N) (r : Fin 256) (d : Fin 128) : ((cfg0.win 6).blk t).view.emb (ix2 r d) = (ix2 (pos t r) d : S4096x128.Idx) := by
  obtain ⟨e0, e1⟩ := idx6 t
  funext a; apply Fin.ext
  match a with
  | ⟨0, _⟩ => show win0_6.index t (0 : Fin 2) * 256 + 1 * r.val = t.val % 16 * 256 + r.val; omega
  | ⟨1, _⟩ => show win0_6.index t (1 : Fin 2) * 128 + 1 * d.val = d.val; omega
theorem emb7 (t : Fin cfg0.N) (r : Fin 256) (d : Fin 128) : ((cfg0.win 7).blk t).view.emb (ix2 r d) = (ix2 (pos t r) d : S4096x128.Idx) := by
  obtain ⟨e0, e1⟩ := idx7 t
  funext a; apply Fin.ext
  match a with
  | ⟨0, _⟩ => show win0_7.index t (0 : Fin 2) * 256 + 1 * r.val = t.val % 16 * 256 + r.val; omega
  | ⟨1, _⟩ => show win0_7.index t (1 : Fin 2) * 128 + 1 * d.val = d.val; omega

theorem iblk5_apply (t : Fin cfg0.N) (r : Fin 256) (d : Fin 128) : iblk m c 5 t (ix2 r d) = cosT (pos t r) (angleOf d) :=
  (congrArg (V m c main_v36) (emb5 t r d)).trans ((congrFun (V36 m c) _).trans (cos_apply _ d))
theorem iblk6_apply (t : Fin cfg0.N) (r : Fin 256) (d : Fin 128) :
    iblk m c 6 t (ix2 r d) = if d.val % 64 < 32 then -sinT (pos t r) (angleOf d) else 0 :=
  (congrArg (V m c main_v39) (emb6 t r d)).trans ((congrFun (V39 m c) _).trans (sinLow_apply _ d))
theorem iblk7_apply (t : Fin cfg0.N) (r : Fin 256) (d : Fin 128) :
    iblk m c 7 t (ix2 r d) = if d.val % 64 < 32 then 0 else sinT (pos t r) (angleOf d) :=
  (congrArg (V m c main_v40) (emb7 t r d)).trans ((congrFun (V40 m c) _).trans (sinHigh_apply _ d))

/-- The table windows hold the cosines and the masked sines of their rows' positions. -/
theorem tables (t : Fin cfg0.N) (r : Fin 256) : TableRow (iblk m c 5 t) (iblk m c 6 t) (iblk m c 7 t) r (cosT (pos t r)) (sinT (pos t r)) :=
  ⟨iblk5_apply m c t r, iblk6_apply m c t r, iblk7_apply m c t r⟩

end Attn

end
-- ==== Proof.Attn.Ref.lean ====
module

public import proofs.«01_k».proof.Proof.Attn.TablesAt
public import proofs.«01_k».proof.Proof.Gen.ReferenceIdeal.Read
public import Idealize.ShloMosaic.Lib.Pointwise

/-!
# The reference's query at an index

A head's slice of the projection, over the root of its mean square, times the gain, turned (`query_apply`).
-/

@[expose] public section
set_option maxRecDepth 16384
noncomputable section
namespace Attn.Ref
open Idealize.ShloMosaic Cert.ReferenceIdeal Cert.ReferenceIdeal.Read
open scoped BigOperators

variable (x0 : (⟨S4x4096x13312, .bf16⟩ : BufTy).Contents (Elt Ideal)) (x1 x2 : (⟨S4x4x4352x128, .bf16⟩ : BufTy).Contents (Elt Ideal)) (x3 : (⟨S128, .f32⟩ : BufTy).Contents (Elt Ideal))

/-- A head's slice of the projection. -/
def slice (b : Fin 4) (p : Fin 4096) (h : Fin 16) (d : Fin 128) : EReal := x0 (ix3 b p ⟨8192 + (h.val * 128 + d.val), by omega⟩)
/-- The gains of a head's elements. -/
def gain (d : Fin 128) : EReal := x3 (ix1 d)

theorem slice_apply (b : Fin 4) (p : Fin 4096) (h : Fin 16) (d : Fin 128) : val_main_v4 (F := Ideal) x0 (ix4 b p h d) = slice x0 b p h d := by
  pointwise [val_main_v4, val_main_v3, val_main_v0]
  rfl

theorem normed_apply (b : Fin 4) (p : Fin 4096) (h : Fin 16) (d : Fin 128) :
    val_main_v42 (F := Ideal) x0 x3 (ix4 b p h d) = normed (slice x0 b p h) (gain x3) d := by
  pointwise [val_main_v42, val_main_v41, val_main_v40, val_main_v39, val_main_v38, val_main_v37, val_main_v36, val_main_v35, val_main_v34, val_main_v33, val_main_v32, val_main_v31, val_main_v30]
  simp only [slice_apply]
  unfold normed invRms gain
  have z : (val_main_cst_2 (F := Ideal) (Shape.Idx.first Gen.h_S_)) = (0 : EReal) := Ideal.ofBits_zero_f32
  rw [z, zero_add]
  rfl

theorem quarters_apply (b : Fin 4) (p : Fin 4096) (h : Fin 16) (a q : Fin 2) (l : Fin 32) :
    val_main_v43 (F := Ideal) x0 x3 (ix6 b p h a q l) = normed (slice x0 b p h) (gain x3) ⟨64 * a.val + 32 * q.val + l.val, by omega⟩ := by
  rw [← normed_apply]
  refine shapeCast_apply _ _ _ _ ?_
  rw [Shape.rowMajor_val_four, Shape.rowMajor_val_six]
  show ((b.val * 4096 + p.val) * 16 + h.val) * 128 + (64 * a.val + 32 * q.val + l.val)
    = ((((b.val * 4096 + p.val) * 16 + h.val) * 2 + a.val) * 2 + q.val) * 32 + l.val
  omega

theorem first_apply (b : Fin 4) (p : Fin 4096) (h : Fin 16) (a : Fin 2) (l : Fin 32) :
    val_main_v47 (F := Ideal) x0 x3 (ix5 b p h a l) = normed (slice x0 b p h) (gain x3) ⟨64 * a.val + l.val, by omega⟩ := by
  have e : val_main_v47 (F := Ideal) x0 x3 (ix5 b p h a l) = val_main_v43 (F := Ideal) x0 x3 (ix6 b p h a 0 l) := by
    pointwise [val_main_v47, val_main_v46]
  rw [e, quarters_apply]
  rfl

theorem second_apply (b : Fin 4) (p : Fin 4096) (h : Fin 16) (a : Fin 2) (l : Fin 32) :
    val_main_v49 (F := Ideal) x0 x3 (ix5 b p h a l) = normed (slice x0 b p h) (gain x3) ⟨64 * a.val + 32 + l.val, by omega⟩ := by
  have e : val_main_v49 (F := Ideal) x0 x3 (ix5 b p h a l) = val_main_v43 (F := Ideal) x0 x3 (ix6 b p h a 1 l) := by
    pointwise [val_main_v49, val_main_v48]
  rw [e, quarters_apply]
  rfl

theorem angle51 (b : Fin 4) (p : Fin 4096) (h : Fin 16) (a : Fin 2) (l : Fin 32) :
    val_main_v51 (F := Ideal) (ix5 b p h a l) = cosT p ⟨32 * a.val + l.val, by omega⟩ := by
  have e : val_main_v51 (F := Ideal) (ix5 b p h a l) = Ideal.cos (val_main_v27 (F := Ideal) (ix2 p ⟨a.val * 32 + l.val, by omega⟩)) := by
    pointwise [val_main_v51, val_main_v50, val_main_v44, val_main_v28]
  rw [e, cosT, angle]
  congr 3
  exact Fin.ext (by show a.val * 32 + l.val = 32 * a.val + l.val; omega)

theorem angle54 (b : Fin 4) (p : Fin 4096) (h : Fin 16) (a : Fin 2) (l : Fin 32) :
    val_main_v54 (F := Ideal) (ix5 b p h a l) = sinT p ⟨32 * a.val + l.val, by omega⟩ := by
  have e : val_main_v54 (F := Ideal) (ix5 b p h a l) = Ideal.sin (val_main_v27 (F := Ideal) (ix2 p ⟨a.val * 32 + l.val, by omega⟩)) := by
    pointwise [val_main_v54, val_main_v53, val_main_v45, val_main_v29]
  rw [e, sinT, angle]
  congr 3
  exact Fin.ext (by show a.val * 32 + l.val = 32 * a.val + l.val; omega)

theorem low_apply (b : Fin 4) (p : Fin 4096) (h : Fin 16) (a : Fin 2) (l : Fin 32) :
    val_main_v56 (F := Ideal) x0 x3 (ix5 b p h a l)
      = normed (slice x0 b p h) (gain x3) ⟨64 * a.val + l.val, by omega⟩ * cosT p ⟨32 * a.val + l.val, by omega⟩
        - normed (slice x0 b p h) (gain x3) ⟨64 * a.val + 32 + l.val, by omega⟩ * sinT p ⟨32 * a.val + l.val, by omega⟩ := by
  rw [← first_apply, ← second_apply, ← angle51 b p h a l, ← angle54 b p h a l]
  rfl

theorem high_apply (b : Fin 4) (p : Fin 4096) (h : Fin 16) (a : Fin 2) (l : Fin 32) :
    val_main_v63 (F := Ideal) x0 x3 (ix5 b p h a l)
      = normed (slice x0 b p h) (gain x3) ⟨64 * a.val + l.val, by omega⟩ * sinT p ⟨32 * a.val + l.val, by omega⟩
        + normed (slice x0 b p h) (gain x3) ⟨64 * a.val + 32 + l.val, by omega⟩ * cosT p ⟨32 * a.val + l.val, by omega⟩ := by
  rw [← first_apply, ← second_apply, ← angle51 b p h a l, ← angle54 b p h a l]
  rfl

/-- The reference's turned query. -/
theorem turned_apply (b : Fin 4) (p : Fin 4096) (h : Fin 16) (d : Fin 128) :
    val_main_v67 (F := Ideal) x0 x3 (ix4 b p h d) = turn (cosT p) (sinT p) (normed (slice x0 b p h) (gain x3)) d := by
  have e : val_main_v67 (F := Ideal) x0 x3 (ix4 b p h d)
      = if h' : d.val / 32 % 2 < 1 then val_main_v56 (F := Ideal) x0 x3 (ix5 b p h ⟨d.val / 64, by omega⟩ ⟨d.val % 32, by omega⟩)
        else val_main_v63 (F := Ideal) x0 x3 (ix5 b p h ⟨d.val / 64, by omega⟩ ⟨d.val % 32, by omega⟩) := by
    pointwise [val_main_v67, val_main_v66, val_main_v65, val_main_v64]
  rw [e]
  unfold turn
  have ha : (⟨32 * (d.val / 64) + d.val % 32, by omega⟩ : Fin 64) = angleOf d := rfl
  by_cases hd : d.val % 64 < 32
  · rw [dif_pos (by omega), if_pos hd]
    refine (low_apply ..).trans ?_
    rw [ha]
    have e1 : (⟨64 * (d.val / 64) + d.val % 32, by omega⟩ : Fin 128) = d := Fin.ext (by show 64 * (d.val / 64) + d.val % 32 = d.val; omega)
    have e2 : (⟨64 * (d.val / 64) + 32 + d.val % 32, by omega⟩ : Fin 128) = ⟨(d.val + 32) % 128, by omega⟩ :=
      Fin.ext (by show 64 * (d.val / 64) + 32 + d.val % 32 = (d.val + 32) % 128; omega)
    rw [e1, e2]
  · rw [dif_neg (by omega), if_neg hd]
    refine (high_apply ..).trans ?_
    rw [ha]
    have e1 : (⟨64 * (d.val / 64) + 32 + d.val % 32, by omega⟩ : Fin 128) = d := Fin.ext (by show 64 * (d.val / 64) + 32 + d.val % 32 = d.val; omega)
    have e2 : (⟨64 * (d.val / 64) + d.val % 32, by omega⟩ : Fin 128) = ⟨(d.val + 96) % 128, by omega⟩ :=
      Fin.ext (by show 64 * (d.val / 64) + d.val % 32 = (d.val + 96) % 128; omega)
    rw [e1, e2]

/-- The same, the heads grouped by the key head they share. -/
theorem query_apply (b : Fin 4) (p : Fin 4096) (h g : Fin 4) (d : Fin 128) :
    val_main_v68 (F := Ideal) x0 x3 (ix5 b p h g d)
      = turn (cosT p) (sinT p) (normed (slice x0 b p ⟨h.val * 4 + g.val, by omega⟩) (gain x3)) d := by
  rw [← turned_apply]
  pointwise [val_main_v68]

end Attn.Ref
end
-- ==== Proof.Attn.RefOut.lean ====
module

public import proofs.«01_k».proof.Proof.Attn.Softmax
public import proofs.«01_k».proof.Proof.Attn.Ref

/-!
# The reference's result at an index

With real keys and gains every score is real, so the reference's weights are a softmax's, and its result is the
softmax-weighted sum of the values, gated (`out_apply`).
-/

@[expose] public section
set_option maxRecDepth 16384
noncomputable section
namespace Attn.Ref
open Idealize.ShloMosaic Cert.ReferenceIdeal Cert.ReferenceIdeal.Read
open scoped BigOperators

/-- A row's maximum, from minus infinity, of real numbers is a real number. -/
theorem reduce_max_real {n0 n1 n2 n3 n4 : ℕ} {t u : Shape} (h : (⟨5, ![n0, n1, n2, n3, n4]⟩ : Shape).ReducesTo [4] t) (hu : 0 < u.numel)
    (y : (⟨5, ![n0, n1, n2, n3, n4]⟩ : Shape).Idx → EReal) (z : u.Idx → EReal) (hz : z (Shape.Idx.first hu) = ⊥) (hn : 0 < n4)
    (hy : ∀ a b c d e, ∃ r : ℝ, y (ix5 a b c d e) = r) (j : t.Idx) :
    ∃ M : ℝ, Host.reduce (α := EReal) max y z h hu j = M := by
  rw [Host.reduce_eq_fold, Shape.ReducesTo.fold_fiber_r5_a4, hz]
  exact fold_max_real _ _ (fun i _ => hy ..) ⟨⟨0, hn⟩, Finset.mem_univ _⟩

variable (x0 : (⟨S4x4096x13312, .bf16⟩ : BufTy).Contents (Elt Ideal)) (x1 x2 : (⟨S4x4x4352x128, .bf16⟩ : BufTy).Contents (Elt Ideal)) (x3 : (⟨S128, .f32⟩ : BufTy).Contents (Elt Ideal))

/-- The query a head turns at a position. -/
def query (b : Fin 4) (p : Fin 4096) (h g : Fin 4) : Fin 128 → EReal :=
  turn (cosT p) (sinT p) (normed (slice x0 b p ⟨h.val * 4 + g.val, by omega⟩) (gain x3))

theorem query_real (hg : ∀ d, ∃ r : ℝ, x3 (ix1 d) = r) (b : Fin 4) (p : Fin 4096) (h g : Fin 4) (d : Fin 128) : ∃ r : ℝ, query x0 x3 b p h g d = r :=
  turn_real _ _ _ (cosT_real p) (sinT_real p) (normed_real _ _ hg) d

theorem score_apply (b h g : Fin 4) (p : Fin 4096) (t : Fin 4352) :
    val_main_v72 (F := Ideal) x0 x1 x3 (ix5 b h g p t) = (∑ d : Fin 128, x1 (ix4 b h t d) * query x0 x3 b p h g d) * (scale : EReal) := by
  have e : val_main_v72 (F := Ideal) x0 x1 x3 (ix5 b h g p t)
      = (∑ d : Fin 128, x1 (ix4 b h t d) * val_main_v68 (F := Ideal) x0 x3 (ix5 b p h g d)) * val_main_cst_5 (F := Ideal) ix0 := by
    pointwise [val_main_v72, val_main_v71, val_main_v70, val_main_v69, val_main_v1]
  rw [e]
  exact congrArg₂ (· * ·) (Finset.sum_congr rfl fun d _ => congrArg _ (query_apply x0 x3 b p h g d)) scale_eq

theorem max_real (hs : ∀ b h g p t, ∃ r : ℝ, val_main_v72 (F := Ideal) x0 x1 x3 (ix5 b h g p t) = r) (j : S4x4x4x4096.Idx) :
    ∃ M : ℝ, val_main_v75 (F := Ideal) x0 x1 x3 j = M := by
  have e1 : ∃ M : ℝ, val_main_v73 (F := Ideal) x0 x1 x3 j = M := by
    unfold val_main_v73
    generalize val_main_v72 (F := Ideal) x0 x1 x3 = y at hs ⊢
    exact reduce_max_real _ _ y _ bot_eq (by norm_num) hs j
  obtain ⟨M, hM⟩ := e1
  refine ⟨M, ?_⟩
  rw [val_main_v75_apply, hM]
  have e2 : val_main_v74 (F := Ideal) j = ⊥ := by rw [val_main_v74_apply]; exact bot_eq
  rw [e2]
  exact max_eq_right bot_le

theorem weight_apply (b h g : Fin 4) (p : Fin 4096) (t : Fin 4352) :
    val_main_v83 (F := Ideal) x0 x1 x3 (ix5 b h g p t)
      = Ideal.div (Ideal.exp (val_main_v72 (F := Ideal) x0 x1 x3 (ix5 b h g p t) - val_main_v75 (F := Ideal) x0 x1 x3 (ix4 b h g p)))
          (0 + ∑ u : Fin 4352, Ideal.exp (val_main_v72 (F := Ideal) x0 x1 x3 (ix5 b h g p u) - val_main_v75 (F := Ideal) x0 x1 x3 (ix4 b h g p))) := by
  have z : (val_main_cst_8 (F := Ideal) (Shape.Idx.first Gen.h_S_)) = (0 : EReal) := Ideal.ofBits_zero_f32
  rw [← z]
  pointwise [val_main_v83, val_main_v82, val_main_v81, val_main_v80, val_main_v79, val_main_v78, val_main_v77, val_main_v76]

theorem weighted_apply (b : Fin 4) (q : Fin 4096) (h g : Fin 4) (e : Fin 128) :
    val_main_v84 (F := Ideal) x0 x1 x2 x3 (ix5 b h e g q)
      = ∑ t : Fin 4352, x2 (ix4 b h t e) * val_main_v83 (F := Ideal) x0 x1 x3 (ix5 b h g q t) := by
  unfold val_main_v84 val_main_v2
  generalize val_main_v83 (F := Ideal) x0 x1 x3 = y
  pointwise

theorem joined_apply (b : Fin 4) (p : Fin 4096) (h g : Fin 4) (e : Fin 128) :
    val_main_v86 (F := Ideal) x0 x1 x2 x3 (ix3 b p ⟨(h.val * 4 + g.val) * 128 + e.val, by omega⟩)
      = val_main_v84 (F := Ideal) x0 x1 x2 x3 (ix5 b h e g p) := by
  unfold val_main_v86 val_main_v85
  generalize val_main_v84 (F := Ideal) x0 x1 x2 x3 = y
  pointwise

theorem gated_apply (b : Fin 4) (p : Fin 4096) (c : Fin 2048) :
    val_main_v87 (F := Ideal) x0 (ix3 b p c) = x0 (ix3 b p ⟨11264 + c.val, by omega⟩) * Ideal.div 1 (1 + Ideal.exp (-(x0 (ix3 b p ⟨11264 + c.val, by omega⟩)))) := by
  rw [← one_eq]
  pointwise [val_main_v87, val_main_v5, val_main_v0, val_main_call2_v5, val_main_call2_v4, val_main_call2_v3, val_main_call2_v2, val_main_call2_v1, val_main_call2_v0, val_main_call2_cst, val_main_call2_cst_0]

/-- The reference's result: `s` the scores of a head's query with the keys, the softmax-weighted sum of the values' lane, gated. -/
theorem out_apply (b : Fin 4) (p : Fin 4096) (h g : Fin 4) (e : Fin 128) (s : ℕ → ℝ) (v : ℕ → EReal)
    (hall : ∀ b h g p t, ∃ r : ℝ, val_main_v72 (F := Ideal) x0 x1 x3 (ix5 b h g p t) = r)
    (hs : ∀ t : Fin 4352, (∑ d : Fin 128, x1 (ix4 b h t d) * query x0 x3 b p h g d) * (scale : EReal) = (s t.val : EReal))
    (hv : ∀ t : Fin 4352, x2 (ix4 b h t e) = v t.val) (c : Fin 2048) (hc : c.val = (h.val * 4 + g.val) * 128 + e.val) :
    val_main_v89 (F := Ideal) x0 x1 x2 x3 (ix3 b p c)
      = softmaxSum s v 4352 * (x0 (ix3 b p ⟨11264 + c.val, by omega⟩) * Ideal.div 1 (1 + Ideal.exp (-(x0 (ix3 b p ⟨11264 + c.val, by omega⟩))))) := by
  obtain ⟨M, hM⟩ := max_real x0 x1 x3 hall (ix4 b h g p)
  have e2 : c = ⟨(h.val * 4 + g.val) * 128 + e.val, by omega⟩ := Fin.ext hc
  have e3 : val_main_v86 (F := Ideal) x0 x1 x2 x3 (ix3 b p c) = softmaxSum s v 4352 := by
    rw [e2]
    refine (joined_apply x0 x1 x2 x3 b p h g e).trans ((weighted_apply x0 x1 x2 x3 b p h g e).trans ?_)
    refine (Finset.sum_congr rfl fun t _ => ?_).trans
      (softmaxSum_eq (by norm_num) _ _ v (fun t => (score_apply x0 x1 x3 b h g p t).trans (hs t)) hv M)
    exact congrArg _ ((weight_apply x0 x1 x3 b h g p t).trans (by rw [hM]))
  exact congrArg₂ (· * ·) e3 (gated_apply x0 b p c)

end Attn.Ref
end
-- ==== Proof.Attn.Value.lean ====
module

public import proofs.«01_k».proof.Proof.Attn.Windows
public import proofs.«01_k».proof.Proof.Attn.RefOut
public import proofs.«01_k».proof.Proof.Gen.KernelIdeal.Value

/-!
# The attention's output array

Each grid point reads its windows' blocks off the arguments and the tables and writes the reference's result at its own
rows and lanes; the points' blocks tile the output array (`out_eq`).
-/

@[expose] public section

set_option maxRecDepth 16384

noncomputable section

namespace Attn

open Idealize.ShloMosaic Cert.KernelIdeal Cert.KernelIdeal.Gen
open scoped BigOperators

variable (m : (ℓ : Loc nD τ sig) → Buf (Elt Ideal) ℓ) (c : Dev nD)

/-- What the output array is shown to hold: the reference's result. -/
abbrev result : Vec Ideal S4x4096x2048 .bf16 :=
  Cert.ReferenceIdeal.Read.val_main_v89 (F := Ideal) (Arg0 m c) (Arg1 m c)
    (Arg2 m c) (Arg3 m c)

/-- A head's row of a grid point's queries is the reference's turned query. -/
theorem qrow_eq (t : Fin cfg0.N) (r : Fin 256) (g : Fin 4) (o : ℕ) (ho : o + 128 ≤ 512) (hg : o = g.val * 128) :
    qrow (iblk m c 0 t) (iblk m c 4 t) (cosT (pos t r)) (sinT (pos t r)) r o ho
      = Ref.query (Arg0 m c) (Arg3 m c) (batch t) (pos t r) (head t) g := by
  subst hg
  have e0 : (fun d : Fin 128 => iblk m c 0 t (ix3 0 r ⟨g.val * 128 + d.val, by omega⟩))
      = Ref.slice (Arg0 m c) (batch t) (pos t r) ⟨(head t).val * 4 + g.val, by omega⟩ :=
    funext fun d => (iblk0_apply m c t r _).trans (congrArg (fun x => Arg0 m c (ix3 (batch t) (pos t r) x))
      (Fin.ext (by show (16 + (head t).val) * 512 + (g.val * 128 + d.val) = 8192 + (((head t).val * 4 + g.val) * 128 + d.val); omega)))
  have e4 : (fun d : Fin 128 => iblk m c 4 t (ix2 0 d)) = Ref.gain (Arg3 m c) := funext fun d => iblk4_apply m c t d
  exact congrArg (turn (cosT (pos t r)) (sinT (pos t r))) (congrArg₂ normed e0 e4)

variable (hk : ∀ i, ∃ r : ℝ, Arg1 m c i = r) (hg : ∀ i, ∃ r : ℝ, Arg3 m c i = r)
include hk hg

/-- Every score of the reference is real. -/
theorem scores_real (b h g : Fin 4) (p : Fin 4096) (k : Fin 4352) :
    ∃ r : ℝ, Cert.ReferenceIdeal.Read.val_main_v72 (F := Ideal) (Arg0 m c) (Arg1 m c)
      (Arg3 m c) (ix5 b h g p k) = r := by
  obtain ⟨s, _, hs⟩ := score_eq (Ref.query (Arg0 m c) (Arg3 m c) b p h g)
    (fun d => Arg1 m c (ix4 b h k d)) (Ref.query_real _ _ (fun d => hg _) b p h g) (fun d => hk _) κs q_scale_eq
  exact ⟨s, (Ref.score_apply ..).trans hs⟩

/-- One row and head of a grid point: the scores, real, that both programs' softmax takes. -/
theorem scores (t : Fin cfg0.N) (r : Fin 256) (g : Fin 4) (o : ℕ) (ho : o + 128 ≤ 512) (ho' : o = g.val * 128) : ∃ s : ℕ → ℝ,
    (∀ k : Fin 4352, ∑ d : Fin 128, (qrow (iblk m c 0 t) (iblk m c 4 t) (cosT (pos t r)) (sinT (pos t r)) r o ho d * κs) * iblk m c 2 t (ix4 0 0 k d)
      = ((s k.val * (Real.log 2)⁻¹ : ℝ) : EReal))
    ∧ ∀ k : Fin 4352, (∑ d : Fin 128, Arg1 m c (ix4 (batch t) (head t) k d)
        * Ref.query (Arg0 m c) (Arg3 m c) (batch t) (pos t r) (head t) g d) * (scale : EReal) = (s k.val : EReal) := by
  have h := fun k : Fin 4352 => score_eq (Ref.query (Arg0 m c) (Arg3 m c) (batch t) (pos t r) (head t) g)
    (fun d => Arg1 m c (ix4 (batch t) (head t) k d)) (Ref.query_real _ _ (fun d => hg _) _ _ _ _) (fun d => hk _) κs q_scale_eq
  choose f hf1 hf2 using h
  refine ⟨fun k => if h : k < 4352 then f ⟨k, h⟩ else 0, fun k => ?_, fun k => ?_⟩
  · rw [qrow_eq m c t r g o ho ho']
    simp only [iblk2_apply, dif_pos k.isLt]
    exact hf1 k
  · simp only [dif_pos k.isLt]
    exact hf2 k

/-- The reference's result at a row and lane of a grid point's block, over the point's windows. -/
theorem result_apply (t : Fin cfg0.N) (r : Fin 256) (g : Fin 4) (e : Fin 128) (o : ℕ) (ho : o + 128 ≤ 512) (ho' : o = g.val * 128) (s : ℕ → ℝ)
    (hs : ∀ k : Fin 4352, (∑ d : Fin 128, Arg1 m c (ix4 (batch t) (head t) k d)
        * Ref.query (Arg0 m c) (Arg3 m c) (batch t) (pos t r) (head t) g d) * (scale : EReal) = (s k.val : EReal)) :
    softmaxSum s (lane (iblk m c 3 t) e) 4352 * silu (iblk m c 1 t (ix3 0 r ⟨o + e.val, by omega⟩))
      = result m c (ix3 (batch t) (pos t r) ⟨(head t).val * 512 + (o + e.val), by omega⟩) := by
  subst ho'
  refine Eq.trans ?_ (Ref.out_apply _ _ _ _ (batch t) (pos t r) (head t) g e s (lane (iblk m c 3 t) e) (scores_real m c hk hg) hs
    (fun k => ((dif_pos k.isLt).trans (iblk3_apply m c t k e)).symm) ⟨(head t).val * 512 + (g.val * 128 + e.val), by omega⟩ (by show (head t).val * 512 + (g.val * 128 + e.val) = _; omega)).symm
  congr 1
  rw [iblk1_apply]
  unfold silu
  have e1 : (⟨(22 + (head t).val) * 512 + (g.val * 128 + e.val), by omega⟩ : Fin 13312) = ⟨11264 + ((head t).val * 512 + (g.val * 128 + e.val)), by omega⟩ :=
    Fin.ext (by show (22 + (head t).val) * 512 + (g.val * 128 + e.val) = 11264 + ((head t).val * 512 + (g.val * 128 + e.val)); omega)
  rw [e1]

omit hk hg in
theorem emb8 (t : Fin cfg0.N) (r : Fin 256) (l : Fin 512) :
    ((cfg0.win 8).blk t).view.emb (ix3 0 r l) = (ix3 (batch t) (pos t r) ⟨(head t).val * 512 + l.val, by omega⟩ : S4x4096x2048.Idx) := by
  obtain ⟨e0, e1, e2⟩ := idx8 t
  funext a; apply Fin.ext
  match a with
  | ⟨0, _⟩ => show win0_8.index t (0 : Fin 3) * 1 + 1 * 0 = t.val / 64; omega
  | ⟨1, _⟩ => show win0_8.index t (1 : Fin 3) * 256 + 1 * r.val = t.val % 16 * 256 + r.val; omega
  | ⟨2, _⟩ => show win0_8.index t (2 : Fin 3) * 512 + 1 * l.val = t.val / 16 % 4 * 512 + l.val; omega

omit hk hg in
theorem idx_eq (x : S1x256x128.Idx) : ∃ (r : Fin 256) (e : Fin 128), x = ix3 0 r e := by
  refine ⟨x 1, x 2, funext fun a => ?_⟩
  match a with
  | ⟨0, _⟩ => exact Subsingleton.elim (α := Fin 1) _ _
  | ⟨1, _⟩ => rfl
  | ⟨2, _⟩ => rfl

/-- A grid point leaves the reference's result at its own rows and lanes. -/
theorem point_eq (t : Fin cfg0.N) (y : S1x256x512.Idx) :
    out0_8 (iblk m c 0 t) (iblk m c 1 t) (iblk m c 2 t) (iblk m c 3 t) (iblk m c 4 t) (iblk m c 5 t) (iblk m c 6 t) (iblk m c 7 t) y
      = result m c (((cfg0.win 8).blk t).view.emb y) := by
  unfold out0_8
  refine View.canon_apply_of_pieces (fun y : S1x256x512.Idx => result m c (((cfg0.win 8).blk t).view.emb y)) _ (fun p hp x => ?_) y (cover0_8 _ _ _ _ y)
  simp only [List.mem_cons, List.mem_nil_iff, or_false] at hp
  rcases hp with rfl | rfl | rfl | rfl
  · obtain ⟨r, e, rfl⟩ := idx_eq x
    obtain ⟨s, hs, hs'⟩ := scores m c hk hg t r 3 384 (by norm_num) rfl
    have hx : r0_5.emb (ix3 0 r e) = (ix3 0 r ⟨384 + e.val, by omega⟩ : S1x256x512.Idx) := by
      funext a; apply Fin.ext
      match a with
      | ⟨0, _⟩ => rfl
      | ⟨1, _⟩ => show 0 + 1 * r.val = r.val; omega
      | ⟨2, _⟩ => show 384 + 1 * e.val = 384 + e.val; omega
    exact (piece3 _ _ _ _ _ _ _ _ r e _ _ (tables m c t r) s hs).trans ((result_apply m c hk hg t r 3 e 384 (by norm_num) rfl s hs').trans
      (congrArg (result m c) ((congrArg _ hx).trans (emb8 t r ⟨384 + e.val, by omega⟩)).symm))
  · obtain ⟨r, e, rfl⟩ := idx_eq x
    obtain ⟨s, hs, hs'⟩ := scores m c hk hg t r 2 256 (by norm_num) rfl
    have hx : r0_4.emb (ix3 0 r e) = (ix3 0 r ⟨256 + e.val, by omega⟩ : S1x256x512.Idx) := by
      funext a; apply Fin.ext
      match a with
      | ⟨0, _⟩ => rfl
      | ⟨1, _⟩ => show 0 + 1 * r.val = r.val; omega
      | ⟨2, _⟩ => show 256 + 1 * e.val = 256 + e.val; omega
    exact (piece2 _ _ _ _ _ _ _ _ r e _ _ (tables m c t r) s hs).trans ((result_apply m c hk hg t r 2 e 256 (by norm_num) rfl s hs').trans
      (congrArg (result m c) ((congrArg _ hx).trans (emb8 t r ⟨256 + e.val, by omega⟩)).symm))
  · obtain ⟨r, e, rfl⟩ := idx_eq x
    obtain ⟨s, hs, hs'⟩ := scores m c hk hg t r 1 128 (by norm_num) rfl
    have hx : r0_3.emb (ix3 0 r e) = (ix3 0 r ⟨128 + e.val, by omega⟩ : S1x256x512.Idx) := by
      funext a; apply Fin.ext
      match a with
      | ⟨0, _⟩ => rfl
      | ⟨1, _⟩ => show 0 + 1 * r.val = r.val; omega
      | ⟨2, _⟩ => show 128 + 1 * e.val = 128 + e.val; omega
    exact (piece1 _ _ _ _ _ _ _ _ r e _ _ (tables m c t r) s hs).trans ((result_apply m c hk hg t r 1 e 128 (by norm_num) rfl s hs').trans
      (congrArg (result m c) ((congrArg _ hx).trans (emb8 t r ⟨128 + e.val, by omega⟩)).symm))
  · obtain ⟨r, e, rfl⟩ := idx_eq x
    obtain ⟨s, hs, hs'⟩ := scores m c hk hg t r 0 0 (by norm_num) rfl
    have hx : r0_0.emb (ix3 0 r e) = (ix3 0 r ⟨0 + e.val, by omega⟩ : S1x256x512.Idx) := by
      funext a; apply Fin.ext
      match a with
      | ⟨0, _⟩ => rfl
      | ⟨1, _⟩ => show 0 + 1 * r.val = r.val; omega
      | ⟨2, _⟩ => show 0 + 1 * e.val = 0 + e.val; omega
    exact (piece0 _ _ _ _ _ _ _ _ r e _ _ (tables m c t r) s hs).trans ((result_apply m c hk hg t r 0 e 0 (by norm_num) rfl s hs').trans
      (congrArg (result m c) ((congrArg _ hx).trans (emb8 t r ⟨0 + e.val, by omega⟩)).symm))

omit hk hg in
/-- Every index of the output array lies in some grid point's block. -/
theorem cover (i : S4x4096x2048.Idx) : ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 2048 := (i 2).isLt
  have ht : ((i 0).val * 4 + (i 2).val / 512) * 16 + (i 1).val / 256 < cfg0.N := by show _ < 256; omega
  obtain ⟨t, hv⟩ : ∃ t : Fin cfg0.N, t.val = ((i 0).val * 4 + (i 2).val / 512) * 16 + (i 1).val / 256 := ⟨⟨_, ht⟩, rfl⟩
  refine ⟨t, flush0_8 _, ?_⟩
  obtain ⟨e0, e1, e2⟩ := idx8 t
  show i ∈ ((View.whole main_v42).slice (win0_8.rect t)).set
  rw [View.set_slice_whole, Rect.mem_set_unit]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 256 ≤ (i 1).val ∧ (i 1).val < win0_8.index t (1 : Fin 3) * 256 + 256
    omega
  | ⟨2, _⟩ =>
    show win0_8.index t (2 : Fin 3) * 512 ≤ (i 2).val ∧ (i 2).val < win0_8.index t (2 : Fin 3) * 512 + 512
    omega

/-- The output array after the run is the reference's result of the same arguments. -/
theorem out_eq : (dats m 0 c).arrAt 8 cfg0.N = result m c :=
  (dats m 0 c).arrAt_eq_of_cover 8 (result m c)
    (fun t _ => (Cert.KernelIdeal.Value.flushed8 m c t).trans (funext fun y => point_eq m c hk hg t y)) cover

end Attn

end
-- ==== Proof.Attn.Claims.lean ====
module

public import proofs.«01_k».proof.Defs
public import proofs.«01_k».proof.Proof.Attn.Value
public import proofs.«01_k».proof.Proof.Gen.Kernel.Frame
public import proofs.«01_k».proof.Proof.Gen.ReferenceIdeal.Run
public import Idealize.ShloMosaic.Lib.ReduceAll
public import Idealize.ShloMosaic.Lib.Quiescent

/-!
# The attention's claims

The precondition makes every key and every gain real; then the kernel's output array and the reference's result are one
array (`algebraic`).  The frames are the generated ones.
-/

@[expose] public section

set_option maxRecDepth 16384

noncomputable section

namespace Attn.Claims

open Idealize.ShloMosaic Idealize.SL.Sem

/-- The shapes' conditions that the precondition states. -/
instance preFacts : Cert.Pre_finite_keys.Facts where
  bitsLt_bf16_f32 := by decide
  bcast_S_S4x4x4352x128 := by decide
  reducesTo_S4x4x4352x128_S_d0_1_2_3 := by decide
  h_S_ := by decide
  bcast_S_S128 := by decide
  reducesTo_S128_S_d0 := by decide

/-- An extended real whose absolute value is below plus infinity is a real number. -/
theorem real_of_abs_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

theorem keys_real (a0 : FVec Ideal Cert.Pre_finite_keys.S4x4096x13312 .bf16) (a1 a2 : FVec Ideal Cert.Pre_finite_keys.S4x4x4352x128 .bf16)
    (a3 : FVec Ideal Cert.Pre_finite_keys.S128 .f32) (h : (Cert.Pre_finite_keys.fn (F := Ideal) a0 a1 a2 a3).1 = fun _ => 1#1)
    (i : Cert.Pre_finite_keys.S4x4x4352x128.Idx) : ∃ r : ℝ, a1 i = r := by
  haveI : Subsingleton Cert.Pre_finite_keys.S_.Idx := ⟨fun a b => funext fun k => k.elim0⟩
  unfold Cert.Pre_finite_keys.fn at h
  dsimp only at h
  have h' := Host.reduce_andi_all _ _ _ _ ix0 (congrFun h ix0) i
  exact real_of_abs_lt _ h'

theorem gains_real (a0 : FVec Ideal Cert.Pre_finite_keys.S4x4096x13312 .bf16) (a1 a2 : FVec Ideal Cert.Pre_finite_keys.S4x4x4352x128 .bf16)
    (a3 : FVec Ideal Cert.Pre_finite_keys.S128 .f32) (h : (Cert.Pre_finite_keys.fn (F := Ideal) a0 a1 a2 a3).2 = fun _ => 1#1)
    (i : Cert.Pre_finite_keys.S128.Idx) : ∃ r : ℝ, a3 i = r := by
  haveI : Subsingleton Cert.Pre_finite_keys.S_.Idx := ⟨fun a b => funext fun k => k.elim0⟩
  unfold Cert.Pre_finite_keys.fn at h
  dsimp only at h
  have h' := Host.reduce_andi_all _ _ _ _ ix0 (congrFun h ix0) i
  exact real_of_abs_lt _ h'

/-- The kernel's frame. -/
theorem frame_p : Cert.quiescent_Kernel := fun m ρ _ => Cert.Kernel.Gen.frame m ρ
/-- The idealized kernel's frame. -/
theorem frame_pi : Cert.quiescent_KernelIdeal := fun m ρ _ => Cert.KernelIdeal.Gen.frame m ρ
/-- The same under the precondition. -/
theorem frame_pi_pre : Cert.quiescent_KernelIdeal_pre_finite_keys := fun m ρ _ => Cert.KernelIdeal.Gen.frame m ρ
/-- The reference's frame. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The same under the precondition. -/
theorem frame_ri_pre : Cert.quiescent_ReferenceIdeal_pre_finite_keys := fun m ρ _ => frame_ri m ρ trivial

/-- The one named constant's rewrite. -/
theorem preserves : Cert.preserves_Kernel_KernelIdeal :=
  IdealRules.named_const.statement Cert.KernelIdeal.κ "q_scale" .f32 0x3E0293EE#32 (((11863283 / 134217728) * (Real.log 2)⁻¹ : ℝ) : EReal) rfl

/-- From arguments that agree, the keys and the gains finite, the kernel and the reference end with equal results. -/
theorem algebraic : Cert.algebraic_KernelIdeal_ReferenceIdeal_pre_finite_keys := by
  intro m g m' g' hpre hargs
  refine ⟨fun c => result m c, ?_, ?_⟩
  · refine (θ_run Cert.KernelIdeal.defs _ _).mono (fun r h c => ?_) (Cert.KernelIdeal.Value.run_blocks m g)
    obtain ⟨h0, h1⟩ := h c
    exact ⟨h0.trans (out_eq m c (keys_real _ _ _ _ (hpre c).1) (gains_real _ _ _ _ (hpre c).2)), h1⟩
  · refine (θ_run Cert.ReferenceIdeal.defs _ _).mono (fun r h c => ?_) (Cert.ReferenceIdeal.Value.run (F := Ideal) m' g')
    obtain ⟨h0, h1⟩ := h c
    refine ⟨h0.trans ((Cert.ReferenceIdeal.Read.val_main_v89_eq m' c).trans ?_), h1⟩
    obtain ⟨e0, e1, e2, e3⟩ := hargs c
    rw [e0, e1, e2, e3]

end Attn.Claims

end
-- ==== Proof.Proj.InEven.lean ====
module

public import proofs.«01_k».proof.Defs
public import proofs.«01_k».proof.Proof.Gen.InEven.Frame
public import proofs.«01_k».proof.Proof.Gen.InEvenIdeal.Value
public import proofs.«01_k».proof.Proof.Gen.InEvenReferenceIdeal.Run
public import Idealize.ShloMosaic.Lib.MatmulPlain
public import Idealize.ShloMosaic.Lib.StackMember
public import Idealize.ShloMosaic.Lib.Pointwise
public import Idealize.ShloMosaic.Lib.Quiescent

/-!
# The even layers' in-projection

A grid point multiplies 1024 rows of the activations by 512 columns of the weight, over all 4096 lanes at once; the
points' blocks tile the result.
-/

@[expose] public section

set_option maxRecDepth 16384

noncomputable section

namespace Proj.InEven

open Idealize.ShloMosaic Idealize.SL.Sem Cert.InEvenIdeal Cert.InEvenIdeal.Gen
open scoped BigOperators

variable (m : (ℓ : Loc nD τ sig) → Buf (Elt Ideal) ℓ) (c : Dev nD)

/-- The activations and the two layers' weights. -/
abbrev Arg0 : Vec Ideal S4x4096x4096 .bf16 := m ((c.tc : Thread nD τ).loc main_arg0)
abbrev Arg1 : Vec Ideal S2x4096x13312 .f32 := m ((c.tc : Thread nD τ).loc main_arg1)

/-- The activations of all batch entries, row after row. -/
abbrev rows (x : Vec Ideal S4x4096x4096 .bf16) : Vec Ideal S16384x4096 .bf16 := shapeCast S16384x4096 x shapeCasts_S4x4096x4096_S16384x4096

/-- The product of the rows with the first layer's weight. -/
def product (x : Vec Ideal S4x4096x4096 .bf16) (w : Vec Ideal S2x4096x13312 .f32) : Vec Ideal S16384x13312 .bf16 :=
  fun i => ∑ k : Fin 4096, rows x (ix2 (i 0) k) * w (ix3 0 k (i 1))

theorem idx0 : ∀ t : Fin cfg0.N, win0_0.index t (0 : Fin 2) = t.val / 26 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val % 26 :=
  (by decide +kernel : ∀ t : Fin grid0.N, _)
theorem idx2 : ∀ t : Fin cfg0.N, win0_2.index t (0 : Fin 2) = t.val / 26 ∧ win0_2.index t (1 : Fin 2) = t.val % 26 :=
  (by decide +kernel : ∀ t : Fin grid0.N, _)

/-- A grid point's rows and columns. -/
def row (t : Fin cfg0.N) (r : Fin 1024) : Fin 16384 := ⟨t.val / 26 * 1024 + r.val, by have : t.val < 416 := t.isLt; omega⟩
def col (t : Fin cfg0.N) (l : Fin 512) : Fin 13312 := ⟨t.val % 26 * 512 + l.val, by omega⟩

/-- The call's first operand is the arguments' rows. -/
theorem V0 : V m c main_v0 = rows (Arg0 m c) := by
  show StableHlo.after hostOps0 (fun b => m (c, b)) (Proc.devRef .tc main_v0) = _
  simp only [hostOps0, StableHlo.TRef.unary, cast_eq]
  after_results <;> rfl

theorem iblk0_apply (t : Fin cfg0.N) (r : Fin 1024) (k : Fin 4096) :
    iblk m c 0 t (ix2 r k) = rows (Arg0 m c) (ix2 (row t r) k) := by
  obtain ⟨e0, e1⟩ := idx0 t
  have e : ((cfg0.win 0).blk t).view.emb (ix2 r k) = (ix2 (row t r) k : S16384x4096.Idx) := by
    funext a; apply Fin.ext
    match a with
    | ⟨0, _⟩ => show win0_0.index t (0 : Fin 2) * 1024 + 1 * r.val = t.val / 26 * 1024 + r.val; omega
    | ⟨1, _⟩ => show win0_0.index t (1 : Fin 2) * 4096 + 1 * k.val = k.val; omega
  exact (congrArg (V m c main_v0) e).trans (congrFun (V0 m c) _)

theorem iblk1_apply (t : Fin cfg0.N) (k : Fin 4096) (l : Fin 512) :
    iblk m c 1 t (ix3 0 k l) = Arg1 m c (ix3 0 k (col t l)) := by
  obtain ⟨e0, e1, e2⟩ := idx1 t
  have e : ((cfg0.win 1).blk t).view.emb (ix3 0 k l) = (ix3 0 k (col t l) : S2x4096x13312.Idx) := by
    funext a; apply Fin.ext
    match a with
    | ⟨0, _⟩ => show win0_1.index t (0 : Fin 3) * 1 + 1 * 0 = 0; omega
    | ⟨1, _⟩ => show win0_1.index t (1 : Fin 3) * 4096 + 1 * k.val = k.val; omega
    | ⟨2, _⟩ => show win0_1.index t (2 : Fin 3) * 512 + 1 * l.val = t.val % 26 * 512 + l.val; omega
  exact (congrArg (V m c main_arg1) e).trans (congrFun (V_main_arg1 m c) _)

/-- The body's product at an index. -/
theorem pay_apply (a : Vec Ideal S1024x4096 .bf16) (b : Vec Ideal S1x4096x512 .f32) (r : Fin 1024) (l : Fin 512) :
    k0_pay1 a b (ix2 r l) = ∑ k : Fin 4096, a (ix2 r k) * b (ix3 0 k l) := by
  refine (Ideal.matmul_plain_apply (M := 1024) (K := 4096) (N := 512) none _ _ _ r l).trans ?_
  have z : (constant (F := Ideal) S1024x512 .f32 0x00000000#32) (ix2 r l) = 0 := by
    show Ideal.ofBits .f32 0x00000000#32 = 0
    simp [Ideal.ofBits, Ideal.ieee]
  refine (congrArg₂ (· + ·) z (Finset.sum_congr rfl fun k _ => congrArg₂ (· * ·) ?_ ?_)).trans (zero_add _)
  · exact shapeCast_apply _ _ _ (ix2 r k) rfl
  · refine shapeCast_apply (s := S1x4096x512) (t := S4096x512) b _ (ix2 k l) (ix3 0 k l) ?_
    rw [Shape.rowMajor_val_two, Shape.rowMajor_val_three]
    show (0 * 4096 + k.val) * 512 + l.val = k.val * 512 + l.val
    omega

/-- What the reference computes, at an index. -/
theorem ref_apply (x : Vec Ideal S4x4096x4096 .bf16) (w : Vec Ideal S2x4096x13312 .f32) (i : S16384x13312.Idx) :
    Host.dotGeneral (F := Ideal) (φ₁ := .f32) (φ₂ := .f32) Cert.InEvenReferenceIdeal.dot_S16384x4096_S4096x13312_S16384x13312_1_0_0_1_n_n none
      (rows x) (shapeCast Cert.InEvenReferenceIdeal.S4096x13312 (extractStridedSlice Cert.InEvenReferenceIdeal.S1x4096x13312 ![0, 0, 0] w Cert.InEvenReferenceIdeal.Facts₀.slices_S2x4096x13312_S1x4096x13312_0_0_0)
        Cert.InEvenReferenceIdeal.Facts₀.shapeCasts_S1x4096x13312_S4096x13312) i = product x w i := by
  obtain ⟨r, l, rfl⟩ : ∃ (r : Fin 16384) (l : Fin 13312), i = ix2 r l := ⟨i 0, i 1, eq_ix2 i⟩
  refine (StackMember.dotGeneral_plain_apply (m := 16384) (k := 4096) (n := 13312) none _ _ r l).trans (Finset.sum_congr rfl fun k _ => congrArg (_ * ·) ?_)
  refine (shapeCast_apply (s := Cert.InEvenReferenceIdeal.S1x4096x13312) (t := Cert.InEvenReferenceIdeal.S4096x13312) _ _ (ix2 k l) (ix3 0 k l) ?_).trans ?_
  · rw [Shape.rowMajor_val_two, Shape.rowMajor_val_three]
    show (0 * 4096 + k.val) * 13312 + l.val = k.val * 13312 + l.val
    omega
  · pointwise

/-- A grid point leaves the product at its own rows and columns. -/
theorem point_eq (t : Fin cfg0.N) (y : S1024x512.Idx) :
    out0_2 (iblk m c 0 t) (iblk m c 1 t) y = product (Arg0 m c) (Arg1 m c) (((cfg0.win 2).blk t).view.emb y) := by
  obtain ⟨e0, e1⟩ := idx2 t
  unfold out0_2
  refine View.canon_apply_of_pieces (fun y : S1024x512.Idx => product (Arg0 m c) (Arg1 m c) (((cfg0.win 2).blk t).view.emb y)) _ (fun p hp x => ?_) y (cover0_2 _ y)
  simp only [List.mem_cons, List.mem_nil_iff, or_false] at hp
  subst hp
  obtain ⟨r, l, rfl⟩ : ∃ (r : Fin 1024) (l : Fin 512), x = ix2 r l := ⟨x 0, x 1, eq_ix2 x⟩
  have e : ((cfg0.win 2).blk t).view.emb (r0_2.emb (ix2 r l)) = (ix2 (row t r) (col t l) : S16384x13312.Idx) := by
    funext a; apply Fin.ext
    match a with
    | ⟨0, _⟩ => show win0_2.index t (0 : Fin 2) * 1024 + 1 * (0 + 1 * r.val) = t.val / 26 * 1024 + r.val; omega
    | ⟨1, _⟩ => show win0_2.index t (1 : Fin 2) * 512 + 1 * (0 + 1 * l.val) = t.val % 26 * 512 + l.val; omega
  refine Eq.trans ?_ (congrArg (product (Arg0 m c) (Arg1 m c)) e).symm
  refine (pay_apply _ _ r l).trans (Finset.sum_congr rfl fun k _ => congrArg₂ (· * ·) ?_ ?_)
  · refine Eq.trans (congrArg (iblk m c 0 t) ?_) (iblk0_apply m c t r k)
    funext a; apply Fin.ext
    match a with
    | ⟨0, _⟩ => show 0 + 1 * r.val = r.val; omega
    | ⟨1, _⟩ => show 0 + 1 * k.val = k.val; omega
  · refine Eq.trans (congrArg (iblk m c 1 t) ?_) (iblk1_apply m c t k l)
    funext a; apply Fin.ext
    match a with
    | ⟨0, _⟩ => rfl
    | ⟨1, _⟩ => show 0 + 1 * k.val = k.val; omega
    | ⟨2, _⟩ => show 0 + 1 * l.val = l.val; omega

/-- Every index of the result lies in some grid point's block. -/
theorem cover (i : S16384x13312.Idx) : ∃ t : Fin cfg0.N, (cfg0.win 2).flush t = true ∧ i ∈ ((cfg0.win 2).blk t).view.set := by
  have h0 : (i 0).val < 16384 := (i 0).isLt
  have h1 : (i 1).val < 13312 := (i 1).isLt
  have ht : (i 0).val / 1024 * 26 + (i 1).val / 512 < cfg0.N := by show _ < 416; omega
  obtain ⟨t, hv⟩ : ∃ t : Fin cfg0.N, t.val = (i 0).val / 1024 * 26 + (i 1).val / 512 := ⟨⟨_, ht⟩, rfl⟩
  refine ⟨t, flush0_2 _, ?_⟩
  obtain ⟨e0, e1⟩ := idx2 t
  show i ∈ ((View.whole main_v1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The result array after the run is the product. -/
theorem out_eq : (dats m 0 c).arrAt 2 cfg0.N = product (Arg0 m c) (Arg1 m c) :=
  (dats m 0 c).arrAt_eq_of_cover 2 (product (Arg0 m c) (Arg1 m c))
    (fun t _ => (Cert.InEvenIdeal.Value.flushed2 m c t).trans (funext fun y => point_eq m c t y)) cover

/-- The kernel's frame. -/
theorem frame_p : Cert.quiescent_InEven := fun m ρ _ => Cert.InEven.Gen.frame m ρ
/-- The idealized kernel's frame. -/
theorem frame_pi : Cert.quiescent_InEvenIdeal := fun m ρ _ => Cert.InEvenIdeal.Gen.frame m ρ
/-- The reference's frame. -/
theorem frame_ri : Cert.quiescent_InEvenReferenceIdeal := fun m ρ _ =>
  (θ_run Cert.InEvenReferenceIdeal.defs _ _).mono (fun r h => ⟨fun c => (h c).2, sem_eq_zero_of_no_sems (by decide) r.2⟩)
    (Cert.InEvenReferenceIdeal.Value.run (F := Ideal) m ρ)
/-- Nothing is rewritten. -/
theorem preserves : Cert.preserves_InEven_InEvenIdeal := trivial

/-- From arguments that agree, the kernel and the reference end with equal results. -/
theorem algebraic : Cert.algebraic_InEvenIdeal_InEvenReferenceIdeal := by
  intro m g m' g' hpre hargs
  refine ⟨fun c => product (Arg0 m c) (Arg1 m c), ?_, ?_⟩
  · refine (θ_run Cert.InEvenIdeal.defs _ _).mono (fun r h c => ?_) (Cert.InEvenIdeal.Value.run_blocks m g)
    obtain ⟨h0, h1⟩ := h c
    exact ⟨h0.trans (out_eq m c), h1⟩
  · refine (θ_run Cert.InEvenReferenceIdeal.defs _ _).mono (fun r h c => ?_) (Cert.InEvenReferenceIdeal.Value.run (F := Ideal) m' g')
    obtain ⟨h0, h1⟩ := h c
    obtain ⟨e0, e1⟩ := hargs c
    refine ⟨h0.trans ?_, h1⟩
    rw [e0, e1]
    exact funext fun i => ref_apply (Arg0 m c) (Arg1 m c) i

end Proj.InEven

end
-- ==== Proof.Proj.InOdd.lean ====
module

public import proofs.«01_k».proof.Defs
public import proofs.«01_k».proof.Proof.Gen.InOdd.Frame
public import proofs.«01_k».proof.Proof.Gen.InOddIdeal.Value
public import proofs.«01_k».proof.Proof.Gen.InOddReferenceIdeal.Run
public import Idealize.ShloMosaic.Lib.MatmulPlain
public import Idealize.ShloMosaic.Lib.StackMember
public import Idealize.ShloMosaic.Lib.Pointwise
public import Idealize.ShloMosaic.Lib.Quiescent

/-!
# The odd layers' in-projection

A grid point multiplies 1024 rows of the activations by 512 columns of the weight, over all 4096 lanes at once; the
points' blocks tile the result.
-/

@[expose] public section

set_option maxRecDepth 16384

noncomputable section

namespace Proj.InOdd

open Idealize.ShloMosaic Idealize.SL.Sem Cert.InOddIdeal Cert.InOddIdeal.Gen
open scoped BigOperators

variable (m : (ℓ : Loc nD τ sig) → Buf (Elt Ideal) ℓ) (c : Dev nD)

/-- The activations and the two layers' weights. -/
abbrev Arg0 : Vec Ideal S4x4096x4096 .bf16 := m ((c.tc : Thread nD τ).loc main_arg0)
abbrev Arg1 : Vec Ideal S2x4096x12288 .f32 := m ((c.tc : Thread nD τ).loc main_arg1)

/-- The activations of all batch entries, row after row. -/
abbrev rows (x : Vec Ideal S4x4096x4096 .bf16) : Vec Ideal S16384x4096 .bf16 := shapeCast S16384x4096 x shapeCasts_S4x4096x4096_S16384x4096

/-- The product of the rows with the first layer's weight. -/
def product (x : Vec Ideal S4x4096x4096 .bf16) (w : Vec Ideal S2x4096x12288 .f32) : Vec Ideal S16384x12288 .bf16 :=
  fun i => ∑ k : Fin 4096, rows x (ix2 (i 0) k) * w (ix3 0 k (i 1))

theorem idx0 : ∀ t : Fin cfg0.N, win0_0.index t (0 : Fin 2) = t.val / 24 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val % 24 :=
  (by decide +kernel : ∀ t : Fin grid0.N, _)
theorem idx2 : ∀ t : Fin cfg0.N, win0_2.index t (0 : Fin 2) = t.val / 24 ∧ win0_2.index t (1 : Fin 2) = t.val % 24 :=
  (by decide +kernel : ∀ t : Fin grid0.N, _)

/-- A grid point's rows and columns. -/
def row (t : Fin cfg0.N) (r : Fin 1024) : Fin 16384 := ⟨t.val / 24 * 1024 + r.val, by have : t.val < 384 := t.isLt; omega⟩
def col (t : Fin cfg0.N) (l : Fin 512) : Fin 12288 := ⟨t.val % 24 * 512 + l.val, by omega⟩

/-- The call's first operand is the arguments' rows. -/
theorem V0 : V m c main_v0 = rows (Arg0 m c) := by
  show StableHlo.after hostOps0 (fun b => m (c, b)) (Proc.devRef .tc main_v0) = _
  simp only [hostOps0, StableHlo.TRef.unary, cast_eq]
  after_results <;> rfl

theorem iblk0_apply (t : Fin cfg0.N) (r : Fin 1024) (k : Fin 4096) :
    iblk m c 0 t (ix2 r k) = rows (Arg0 m c) (ix2 (row t r) k) := by
  obtain ⟨e0, e1⟩ := idx0 t
  have e : ((cfg0.win 0).blk t).view.emb (ix2 r k) = (ix2 (row t r) k : S16384x4096.Idx) := by
    funext a; apply Fin.ext
    match a with
    | ⟨0, _⟩ => show win0_0.index t (0 : Fin 2) * 1024 + 1 * r.val = t.val / 24 * 1024 + r.val; omega
    | ⟨1, _⟩ => show win0_0.index t (1 : Fin 2) * 4096 + 1 * k.val = k.val; omega
  exact (congrArg (V m c main_v0) e).trans (congrFun (V0 m c) _)

theorem iblk1_apply (t : Fin cfg0.N) (k : Fin 4096) (l : Fin 512) :
    iblk m c 1 t (ix3 0 k l) = Arg1 m c (ix3 0 k (col t l)) := by
  obtain ⟨e0, e1, e2⟩ := idx1 t
  have e : ((cfg0.win 1).blk t).view.emb (ix3 0 k l) = (ix3 0 k (col t l) : S2x4096x12288.Idx) := by
    funext a; apply Fin.ext
    match a with
    | ⟨0, _⟩ => show win0_1.index t (0 : Fin 3) * 1 + 1 * 0 = 0; omega
    | ⟨1, _⟩ => show win0_1.index t (1 : Fin 3) * 4096 + 1 * k.val = k.val; omega
    | ⟨2, _⟩ => show win0_1.index t (2 : Fin 3) * 512 + 1 * l.val = t.val % 24 * 512 + l.val; omega
  exact (congrArg (V m c main_arg1) e).trans (congrFun (V_main_arg1 m c) _)

/-- The body's product at an index. -/
theorem pay_apply (a : Vec Ideal S1024x4096 .bf16) (b : Vec Ideal S1x4096x512 .f32) (r : Fin 1024) (l : Fin 512) :
    k0_pay1 a b (ix2 r l) = ∑ k : Fin 4096, a (ix2 r k) * b (ix3 0 k l) := by
  refine (Ideal.matmul_plain_apply (M := 1024) (K := 4096) (N := 512) none _ _ _ r l).trans ?_
  have z : (constant (F := Ideal) S1024x512 .f32 0x00000000#32) (ix2 r l) = 0 := by
    show Ideal.ofBits .f32 0x00000000#32 = 0
    simp [Ideal.ofBits, Ideal.ieee]
  refine (congrArg₂ (· + ·) z (Finset.sum_congr rfl fun k _ => congrArg₂ (· * ·) ?_ ?_)).trans (zero_add _)
  · exact shapeCast_apply _ _ _ (ix2 r k) rfl
  · refine shapeCast_apply (s := S1x4096x512) (t := S4096x512) b _ (ix2 k l) (ix3 0 k l) ?_
    rw [Shape.rowMajor_val_two, Shape.rowMajor_val_three]
    show (0 * 4096 + k.val) * 512 + l.val = k.val * 512 + l.val
    omega

/-- What the reference computes, at an index. -/
theorem ref_apply (x : Vec Ideal S4x4096x4096 .bf16) (w : Vec Ideal S2x4096x12288 .f32) (i : S16384x12288.Idx) :
    Host.dotGeneral (F := Ideal) (φ₁ := .f32) (φ₂ := .f32) Cert.InOddReferenceIdeal.dot_S16384x4096_S4096x12288_S16384x12288_1_0_0_1_n_n none
      (rows x) (shapeCast Cert.InOddReferenceIdeal.S4096x12288 (extractStridedSlice Cert.InOddReferenceIdeal.S1x4096x12288 ![0, 0, 0] w Cert.InOddReferenceIdeal.Facts₀.slices_S2x4096x12288_S1x4096x12288_0_0_0)
        Cert.InOddReferenceIdeal.Facts₀.shapeCasts_S1x4096x12288_S4096x12288) i = product x w i := by
  obtain ⟨r, l, rfl⟩ : ∃ (r : Fin 16384) (l : Fin 12288), i = ix2 r l := ⟨i 0, i 1, eq_ix2 i⟩
  refine (StackMember.dotGeneral_plain_apply (m := 16384) (k := 4096) (n := 12288) none _ _ r l).trans (Finset.sum_congr rfl fun k _ => congrArg (_ * ·) ?_)
  refine (shapeCast_apply (s := Cert.InOddReferenceIdeal.S1x4096x12288) (t := Cert.InOddReferenceIdeal.S4096x12288) _ _ (ix2 k l) (ix3 0 k l) ?_).trans ?_
  · rw [Shape.rowMajor_val_two, Shape.rowMajor_val_three]
    show (0 * 4096 + k.val) * 12288 + l.val = k.val * 12288 + l.val
    omega
  · pointwise

/-- A grid point leaves the product at its own rows and columns. -/
theorem point_eq (t : Fin cfg0.N) (y : S1024x512.Idx) :
    out0_2 (iblk m c 0 t) (iblk m c 1 t) y = product (Arg0 m c) (Arg1 m c) (((cfg0.win 2).blk t).view.emb y) := by
  obtain ⟨e0, e1⟩ := idx2 t
  unfold out0_2
  refine View.canon_apply_of_pieces (fun y : S1024x512.Idx => product (Arg0 m c) (Arg1 m c) (((cfg0.win 2).blk t).view.emb y)) _ (fun p hp x => ?_) y (cover0_2 _ y)
  simp only [List.mem_cons, List.mem_nil_iff, or_false] at hp
  subst hp
  obtain ⟨r, l, rfl⟩ : ∃ (r : Fin 1024) (l : Fin 512), x = ix2 r l := ⟨x 0, x 1, eq_ix2 x⟩
  have e : ((cfg0.win 2).blk t).view.emb (r0_2.emb (ix2 r l)) = (ix2 (row t r) (col t l) : S16384x12288.Idx) := by
    funext a; apply Fin.ext
    match a with
    | ⟨0, _⟩ => show win0_2.index t (0 : Fin 2) * 1024 + 1 * (0 + 1 * r.val) = t.val / 24 * 1024 + r.val; omega
    | ⟨1, _⟩ => show win0_2.index t (1 : Fin 2) * 512 + 1 * (0 + 1 * l.val) = t.val % 24 * 512 + l.val; omega
  refine Eq.trans ?_ (congrArg (product (Arg0 m c) (Arg1 m c)) e).symm
  refine (pay_apply _ _ r l).trans (Finset.sum_congr rfl fun k _ => congrArg₂ (· * ·) ?_ ?_)
  · refine Eq.trans (congrArg (iblk m c 0 t) ?_) (iblk0_apply m c t r k)
    funext a; apply Fin.ext
    match a with
    | ⟨0, _⟩ => show 0 + 1 * r.val = r.val; omega
    | ⟨1, _⟩ => show 0 + 1 * k.val = k.val; omega
  · refine Eq.trans (congrArg (iblk m c 1 t) ?_) (iblk1_apply m c t k l)
    funext a; apply Fin.ext
    match a with
    | ⟨0, _⟩ => rfl
    | ⟨1, _⟩ => show 0 + 1 * k.val = k.val; omega
    | ⟨2, _⟩ => show 0 + 1 * l.val = l.val; omega

/-- Every index of the result lies in some grid point's block. -/
theorem cover (i : S16384x12288.Idx) : ∃ t : Fin cfg0.N, (cfg0.win 2).flush t = true ∧ i ∈ ((cfg0.win 2).blk t).view.set := by
  have h0 : (i 0).val < 16384 := (i 0).isLt
  have h1 : (i 1).val < 12288 := (i 1).isLt
  have ht : (i 0).val / 1024 * 24 + (i 1).val / 512 < cfg0.N := by show _ < 384; omega
  obtain ⟨t, hv⟩ : ∃ t : Fin cfg0.N, t.val = (i 0).val / 1024 * 24 + (i 1).val / 512 := ⟨⟨_, ht⟩, rfl⟩
  refine ⟨t, flush0_2 _, ?_⟩
  obtain ⟨e0, e1⟩ := idx2 t
  show i ∈ ((View.whole main_v1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The result array after the run is the product. -/
theorem out_eq : (dats m 0 c).arrAt 2 cfg0.N = product (Arg0 m c) (Arg1 m c) :=
  (dats m 0 c).arrAt_eq_of_cover 2 (product (Arg0 m c) (Arg1 m c))
    (fun t _ => (Cert.InOddIdeal.Value.flushed2 m c t).trans (funext fun y => point_eq m c t y)) cover

/-- The kernel's frame. -/
theorem frame_p : Cert.quiescent_InOdd := fun m ρ _ => Cert.InOdd.Gen.frame m ρ
/-- The idealized kernel's frame. -/
theorem frame_pi : Cert.quiescent_InOddIdeal := fun m ρ _ => Cert.InOddIdeal.Gen.frame m ρ
/-- The reference's frame. -/
theorem frame_ri : Cert.quiescent_InOddReferenceIdeal := fun m ρ _ =>
  (θ_run Cert.InOddReferenceIdeal.defs _ _).mono (fun r h => ⟨fun c => (h c).2, sem_eq_zero_of_no_sems (by decide) r.2⟩)
    (Cert.InOddReferenceIdeal.Value.run (F := Ideal) m ρ)
/-- Nothing is rewritten. -/
theorem preserves : Cert.preserves_InOdd_InOddIdeal := trivial

/-- From arguments that agree, the kernel and the reference end with equal results. -/
theorem algebraic : Cert.algebraic_InOddIdeal_InOddReferenceIdeal := by
  intro m g m' g' hpre hargs
  refine ⟨fun c => product (Arg0 m c) (Arg1 m c), ?_, ?_⟩
  · refine (θ_run Cert.InOddIdeal.defs _ _).mono (fun r h c => ?_) (Cert.InOddIdeal.Value.run_blocks m g)
    obtain ⟨h0, h1⟩ := h c
    exact ⟨h0.trans (out_eq m c), h1⟩
  · refine (θ_run Cert.InOddReferenceIdeal.defs _ _).mono (fun r h c => ?_) (Cert.InOddReferenceIdeal.Value.run (F := Ideal) m' g')
    obtain ⟨h0, h1⟩ := h c
    obtain ⟨e0, e1⟩ := hargs c
    refine ⟨h0.trans ?_, h1⟩
    rw [e0, e1]
    exact funext fun i => ref_apply (Arg0 m c) (Arg1 m c) i

end Proj.InOdd

end
-- ==== Proof.Proj.OutProj.lean ====
module

public import proofs.«01_k».proof.Defs
public import proofs.«01_k».proof.Proof.Gen.OutProj.Frame
public import proofs.«01_k».proof.Proof.Gen.OutProjIdeal.Value
public import proofs.«01_k».proof.Proof.Gen.OutProjReferenceIdeal.Run
public import Idealize.ShloMosaic.Lib.Pointwise
public import Idealize.ShloMosaic.Lib.Quiescent

/-!
# The out-projection

A grid point multiplies 1024 rows of the two branches by 512 columns of the weight's upper and lower half and adds the
gated sum to the stream; the points' blocks tile the result.  The reference multiplies the joined branches by the whole
weight.
-/

@[expose] public section

set_option maxRecDepth 16384

noncomputable section

namespace Proj.OutProj

open Idealize.ShloMosaic Idealize.SL.Sem
open scoped BigOperators

section Reference

open Cert.OutProjReferenceIdeal Cert.OutProjReferenceIdeal.Gen

/-- The branches' product with the first layer's weight, the two halves of the weight apart. -/
def product (y1 y2 : Vec Ideal S4x4096x2048 .bf16) (w : Vec Ideal S2x4096x4096 .f32) (b : Fin 4) (p l : Fin 4096) : EReal :=
  (∑ k : Fin 2048, y1 (ix3 b p k) * w (ix3 0 ⟨k.val, by omega⟩ l)) + ∑ k : Fin 2048, y2 (ix3 b p k) * w (ix3 0 ⟨2048 + k.val, by omega⟩ l)

/-- The stream plus its gated product, batch entry by batch entry. -/
def result (y1 y2 : Vec Ideal S4x4096x2048 .bf16) (w : Vec Ideal S2x4096x4096 .f32) (x : Vec Ideal S4x4096x4096 .f32) (g : Vec Ideal S4x1x4096 .f32)
    (b : Fin 4) (p l : Fin 4096) : EReal := x (ix3 b p l) + g (ix3 b 0 l) * product y1 y2 w b p l

/-- The joined branches. -/
abbrev joined (y1 y2 : Vec Ideal S4x4096x2048 .bf16) : FVec Ideal S4x4096x4096 .f32 :=
  concatenate S4x4096x4096 2 [⟨S4x4096x2048, (extf (F := Ideal) .f32 y1 bitsLt_bf16_f32)⟩, ⟨S4x4096x2048, (extf (F := Ideal) .f32 y2 bitsLt_bf16_f32)⟩] concatenates_S4x4096x2048_S4x4096x2048_S4x4096x4096_d2

/-- The first layer's weight. -/
abbrev weight (w : Vec Ideal S2x4096x4096 .f32) : FVec Ideal S4096x4096 .f32 :=
  shapeCast S4096x4096 (extractStridedSlice S1x4096x4096 ![0, 0, 0] w slices_S2x4096x4096_S1x4096x4096_0_0_0) shapeCasts_S1x4096x4096_S4096x4096

theorem low_apply (y1 y2 : Vec Ideal S4x4096x2048 .bf16) (b : Fin 4) (p : Fin 4096) (k : Fin 2048) :
    joined y1 y2 (ix3 b p ⟨k.val, by omega⟩) = y1 (ix3 b p k) := by
  have h : joined y1 y2 (ix3 b p ⟨k.val, by omega⟩) = if h : k.val < 2048 then y1 (ix3 b p ⟨k.val, h⟩) else y2 (ix3 b p ⟨k.val - 2048, by omega⟩) := by
    pointwise [joined]
  exact h.trans (dif_pos k.isLt)

theorem high_apply (y1 y2 : Vec Ideal S4x4096x2048 .bf16) (b : Fin 4) (p : Fin 4096) (k : Fin 2048) :
    joined y1 y2 (ix3 b p ⟨2048 + k.val, by omega⟩) = y2 (ix3 b p k) := by
  have h : joined y1 y2 (ix3 b p ⟨2048 + k.val, by omega⟩) = if h : 2048 + k.val < 2048 then y1 (ix3 b p ⟨2048 + k.val, h⟩) else y2 (ix3 b p ⟨2048 + k.val - 2048, by omega⟩) := by
    pointwise [joined]
  refine h.trans ((dif_neg (by omega)).trans (congrArg (fun k => y2 (ix3 b p k)) (Fin.ext ?_)))
  show 2048 + k.val - 2048 = k.val
  omega

theorem weight_apply (w : Vec Ideal S2x4096x4096 .f32) (k l : Fin 4096) : weight w (ix2 k l) = w (ix3 0 k l) := by
  pointwise [weight]

/-- A product of rank 3 by rank 2 at an index. -/
theorem dot_apply (y : FVec Ideal S4x4096x4096 .f32) (w : FVec Ideal S4096x4096 .f32) (b : Fin 4) (p l : Fin 4096) :
    Host.dotGeneral (F := Ideal) dot_S4x4096x4096_S4096x4096_S4x4096x4096_2_0_01_1_n_n none y w (ix3 b p l) = ∑ k : Fin 4096, y (ix3 b p k) * w (ix2 k l) := by
  pointwise

theorem product_eq (y1 y2 : Vec Ideal S4x4096x2048 .bf16) (w : Vec Ideal S2x4096x4096 .f32) (b : Fin 4) (p l : Fin 4096) :
    Host.dotGeneral (F := Ideal) dot_S4x4096x4096_S4096x4096_S4x4096x4096_2_0_01_1_n_n none (joined y1 y2) (weight w) (ix3 b p l) = product y1 y2 w b p l := by
  refine (dot_apply _ _ b p l).trans ((Fin.sum_univ_add (a := 2048) (b := 2048) fun k : Fin 4096 => joined y1 y2 (ix3 b p k) * weight w (ix2 k l)).trans ?_)
  refine congrArg₂ (· + ·) (Finset.sum_congr rfl fun k _ => congrArg₂ (· * ·) ?_ ?_) (Finset.sum_congr rfl fun k _ => congrArg₂ (· * ·) ?_ ?_)
  · exact low_apply y1 y2 b p k
  · exact weight_apply w _ l
  · exact high_apply y1 y2 b p k
  · exact weight_apply w _ l

/-- The reference's result, a row of it being a batch entry and a position. -/
theorem ref_apply (y1 y2 : Vec Ideal S4x4096x2048 .bf16) (w : Vec Ideal S2x4096x4096 .f32) (x : Vec Ideal S4x4096x4096 .f32) (g : Vec Ideal S4x1x4096 .f32)
    (r : Fin 16384) (l : Fin 4096) :
    (shapeCast S16384x4096 (addf (F := Ideal) (φ := .f32) x (mulf (broadcastInDim S4x4096x4096 ![0, 1, 2] bcast_S4x1x4096_S4x4096x4096_0_1_2 g)
      (Host.dotGeneral (F := Ideal) dot_S4x4096x4096_S4096x4096_S4x4096x4096_2_0_01_1_n_n none (joined y1 y2) (weight w)))) shapeCasts_S4x4096x4096_S16384x4096) (ix2 r l)
      = result y1 y2 w x g ⟨r.val / 4096, by omega⟩ ⟨r.val % 4096, by omega⟩ l := by
  refine (shapeCast_apply (s := S4x4096x4096) (t := S16384x4096) _ _ (ix2 r l) (ix3 ⟨r.val / 4096, by omega⟩ ⟨r.val % 4096, by omega⟩ l) ?_).trans ?_
  · rw [Shape.rowMajor_val_three, Shape.rowMajor_val_two]
    show (r.val / 4096 * 4096 + r.val % 4096) * 4096 + l.val = r.val * 4096 + l.val
    omega
  · refine congrArg₂ (fun a b => x _ + a * b) ?_ (product_eq y1 y2 w _ _ l)
    pointwise

end Reference

open Cert.OutProjIdeal Cert.OutProjIdeal.Gen

variable (m : (ℓ : Loc nD τ sig) → Buf (Elt Ideal) ℓ) (c : Dev nD)

/-- The branches, the two layers' weights, the stream and its gates. -/
abbrev Arg0 : Vec Ideal S4x4096x2048 .bf16 := m ((c.tc : Thread nD τ).loc main_arg0)
abbrev Arg1 : Vec Ideal S4x4096x2048 .bf16 := m ((c.tc : Thread nD τ).loc main_arg1)
abbrev Arg2 : Vec Ideal S2x4096x4096 .f32 := m ((c.tc : Thread nD τ).loc main_arg2)
abbrev Arg3 : Vec Ideal S4x4096x4096 .f32 := m ((c.tc : Thread nD τ).loc main_arg3)
abbrev Arg4 : Vec Ideal S4x1x4096 .f32 := m ((c.tc : Thread nD τ).loc main_arg4)

/-- What the result array is shown to hold. -/
def out : Vec Ideal S16384x4096 .f32 := fun i =>
  result (Arg0 m c) (Arg1 m c) (Arg2 m c) (Arg3 m c) (Arg4 m c) ⟨(i 0).val / 4096, by have : (i 0).val < 16384 := (i 0).isLt; omega⟩ ⟨(i 0).val % 4096, by omega⟩ (i 1)

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = t.val / 8 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val % 8 :=
  (by decide +kernel : ∀ t : Fin grid0.N, _)
theorem idx3 : ∀ t : Fin cfg0.N, win0_3.index t (0 : Fin 3) = 0 ∧ win0_3.index t (1 : Fin 3) = 1 ∧ win0_3.index t (2 : Fin 3) = t.val % 8 :=
  (by decide +kernel : ∀ t : Fin grid0.N, _)
theorem idx4 : ∀ t : Fin cfg0.N, win0_4.index t (0 : Fin 2) = t.val / 8 ∧ win0_4.index t (1 : Fin 2) = t.val % 8 :=
  (by decide +kernel : ∀ t : Fin grid0.N, _)
theorem idx5 : ∀ t : Fin cfg0.N, win0_5.index t (0 : Fin 3) = t.val / 32 ∧ win0_5.index t (1 : Fin 3) = 0 ∧ win0_5.index t (2 : Fin 3) = t.val % 8 :=
  (by decide +kernel : ∀ t : Fin grid0.N, _)
theorem idx6 : ∀ t : Fin cfg0.N, win0_6.index t (0 : Fin 2) = t.val / 8 ∧ win0_6.index t (1 : Fin 2) = t.val % 8 :=
  (by decide +kernel : ∀ t : Fin grid0.N, _)

/-- A grid point's batch entry, its rows' positions and its columns. -/
def batch (t : Fin cfg0.N) : Fin 4 := ⟨t.val / 32, by have : t.val < 128 := t.isLt; omega⟩
def pos (t : Fin cfg0.N) (r : Fin 1024) : Fin 4096 := ⟨t.val / 8 % 4 * 1024 + r.val, by omega⟩
def row (t : Fin cfg0.N) (r : Fin 1024) : Fin 16384 := ⟨t.val / 8 * 1024 + r.val, by have : t.val < 128 := t.isLt; omega⟩
def col (t : Fin cfg0.N) (l : Fin 512) : Fin 4096 := ⟨t.val % 8 * 512 + l.val, by omega⟩

theorem V0 : V m c main_v0 = truncf (F := Ideal) .bf16 (Arg2 m c) bitsLt_bf16_f32 := by
  show StableHlo.after hostOps0 (fun b => m (c, b)) (Proc.devRef .tc main_v0) = _
  simp only [hostOps0, StableHlo.TRef.unary, cast_eq]
  after_results <;> rfl
theorem V1 : V m c main_v1 = shapeCast S16384x2048 (Arg0 m c) shapeCasts_S4x4096x2048_S16384x2048 := by
  show StableHlo.after hostOps0 (fun b => m (c, b)) (Proc.devRef .tc main_v1) = _
  simp only [hostOps0, StableHlo.TRef.unary, cast_eq]
  after_results <;> rfl
theorem V2 : V m c main_v2 = shapeCast S16384x2048 (Arg1 m c) shapeCasts_S4x4096x2048_S16384x2048 := by
  show StableHlo.after hostOps0 (fun b => m (c, b)) (Proc.devRef .tc main_v2) = _
  simp only [hostOps0, StableHlo.TRef.unary, cast_eq]
  after_results <;> rfl
theorem V3 : V m c main_v3 = shapeCast S16384x4096 (Arg3 m c) shapeCasts_S4x4096x4096_S16384x4096 := by
  show StableHlo.after hostOps0 (fun b => m (c, b)) (Proc.devRef .tc main_v3) = _
  simp only [hostOps0, StableHlo.TRef.unary, cast_eq]
  after_results <;> rfl

/-- A row of a branch, flattened, is a batch entry's position. -/
theorem flat_apply (x : Vec Ideal S4x4096x2048 .bf16) (t : Fin cfg0.N) (r : Fin 1024) (k : Fin 2048) :
    shapeCast S16384x2048 x shapeCasts_S4x4096x2048_S16384x2048 (ix2 (row t r) k) = x (ix3 (batch t) (pos t r) k) := by
  refine shapeCast_apply (s := S4x4096x2048) (t := S16384x2048) _ _ (ix2 (row t r) k) (ix3 (batch t) (pos t r) k) ?_
  rw [Shape.rowMajor_val_three, Shape.rowMajor_val_two]
  show (t.val / 32 * 4096 + (t.val / 8 % 4 * 1024 + r.val)) * 2048 + k.val = (t.val / 8 * 1024 + r.val) * 2048 + k.val
  omega

theorem iblk0_apply (t : Fin cfg0.N) (r : Fin 1024) (k : Fin 2048) :
    iblk m c 0 t (ix2 r k) = Arg0 m c (ix3 (batch t) (pos t r) k) := by
  obtain ⟨e0, e1⟩ := idx0 t
  have e : ((cfg0.win 0).blk t).view.emb (ix2 r k) = (ix2 (row t r) k : S16384x2048.Idx) := by
    funext a; apply Fin.ext
    match a with
    | ⟨0, _⟩ => show win0_0.index t (0 : Fin 2) * 1024 + 1 * r.val = t.val / 8 * 1024 + r.val; omega
    | ⟨1, _⟩ => show win0_0.index t (1 : Fin 2) * 2048 + 1 * k.val = k.val; omega
  exact (congrArg (V m c main_v1) e).trans ((congrFun (V1 m c) _).trans (flat_apply _ t r k))

theorem iblk1_apply (t : Fin cfg0.N) (r : Fin 1024) (k : Fin 2048) :
    iblk m c 1 t (ix2 r k) = Arg1 m c (ix3 (batch t) (pos t r) k) := by
  obtain ⟨e0, e1⟩ := idx1 t
  have e : ((cfg0.win 1).blk t).view.emb (ix2 r k) = (ix2 (row t r) k : S16384x2048.Idx) := by
    funext a; apply Fin.ext
    match a with
    | ⟨0, _⟩ => show win0_1.index t (0 : Fin 2) * 1024 + 1 * r.val = t.val / 8 * 1024 + r.val; omega
    | ⟨1, _⟩ => show win0_1.index t (1 : Fin 2) * 2048 + 1 * k.val = k.val; omega
  exact (congrArg (V m c main_v2) e).trans ((congrFun (V2 m c) _).trans (flat_apply _ t r k))

theorem iblk2_apply (t : Fin cfg0.N) (k : Fin 2048) (l : Fin 512) :
    iblk m c 2 t (ix3 0 k l) = Arg2 m c (ix3 0 ⟨k.val, by omega⟩ (col t l)) := by
  obtain ⟨e0, e1, e2⟩ := idx2 t
  have e : ((cfg0.win 2).blk t).view.emb (ix3 0 k l) = (ix3 0 ⟨k.val, by omega⟩ (col t l) : S2x4096x4096.Idx) := by
    funext a; apply Fin.ext
    match a with
    | ⟨0, _⟩ => show win0_2.index t (0 : Fin 3) * 1 + 1 * 0 = 0; omega
    | ⟨1, _⟩ => show win0_2.index t (1 : Fin 3) * 2048 + 1 * k.val = k.val; omega
    | ⟨2, _⟩ => show win0_2.index t (2 : Fin 3) * 512 + 1 * l.val = t.val % 8 * 512 + l.val; omega
  exact (congrArg (V m c main_v0) e).trans (congrFun (V0 m c) _)

theorem iblk3_apply (t : Fin cfg0.N) (k : Fin 2048) (l : Fin 512) :
    iblk m c 3 t (ix3 0 k l) = Arg2 m c (ix3 0 ⟨2048 + k.val, by omega⟩ (col t l)) := by
  obtain ⟨e0, e1, e2⟩ := idx3 t
  have e : ((cfg0.win 3).blk t).view.emb (ix3 0 k l) = (ix3 0 ⟨2048 + k.val, by omega⟩ (col t l) : S2x4096x4096.Idx) := by
    funext a; apply Fin.ext
    match a with
    | ⟨0, _⟩ => show win0_3.index t (0 : Fin 3) * 1 + 1 * 0 = 0; omega
    | ⟨1, _⟩ => show win0_3.index t (1 : Fin 3) * 2048 + 1 * k.val = 2048 + k.val; omega
    | ⟨2, _⟩ => show win0_3.index t (2 : Fin 3) * 512 + 1 * l.val = t.val % 8 * 512 + l.val; omega
  exact (congrArg (V m c main_v0) e).trans (congrFun (V0 m c) _)

theorem iblk4_apply (t : Fin cfg0.N) (r : Fin 1024) (l : Fin 512) :
    iblk m c 4 t (ix2 r l) = Arg3 m c (ix3 (batch t) (pos t r) (col t l)) := by
  obtain ⟨e0, e1⟩ := idx4 t
  have e : ((cfg0.win 4).blk t).view.emb (ix2 r l) = (ix2 (row t r) (col t l) : S16384x4096.Idx) := by
    funext a; apply Fin.ext
    match a with
    | ⟨0, _⟩ => show win0_4.index t (0 : Fin 2) * 1024 + 1 * r.val = t.val / 8 * 1024 + r.val; omega
    | ⟨1, _⟩ => show win0_4.index t (1 : Fin 2) * 512 + 1 * l.val = t.val % 8 * 512 + l.val; omega
  refine (congrArg (V m c main_v3) e).trans ((congrFun (V3 m c) _).trans ?_)
  refine shapeCast_apply (s := S4x4096x4096) (t := S16384x4096) _ _ (ix2 (row t r) (col t l)) (ix3 (batch t) (pos t r) (col t l)) ?_
  rw [Shape.rowMajor_val_three, Shape.rowMajor_val_two]
  show (t.val / 32 * 4096 + (t.val / 8 % 4 * 1024 + r.val)) * 4096 + (t.val % 8 * 512 + l.val) = (t.val / 8 * 1024 + r.val) * 4096 + (t.val % 8 * 512 + l.val)
  omega

theorem iblk5_apply (t : Fin cfg0.N) (l : Fin 512) :
    iblk m c 5 t (ix3 0 0 l) = Arg4 m c (ix3 (batch t) 0 (col t l)) := by
  obtain ⟨e0, e1, e2⟩ := idx5 t
  have e : ((cfg0.win 5).blk t).view.emb (ix3 0 0 l) = (ix3 (batch t) 0 (col t l) : S4x1x4096.Idx) := by
    funext a; apply Fin.ext
    match a with
    | ⟨0, _⟩ => show win0_5.index t (0 : Fin 3) * 1 + 1 * 0 = t.val / 32; omega
    | ⟨1, _⟩ => show win0_5.index t (1 : Fin 3) * 1 + 1 * 0 = 0; omega
    | ⟨2, _⟩ => show win0_5.index t (2 : Fin 3) * 512 + 1 * l.val = t.val % 8 * 512 + l.val; omega
  exact (congrArg (V m c main_arg4) e).trans (congrFun (V_main_arg4 m c) _)

/-- The body at an index. -/
theorem pay_apply (a : Vec Ideal S1024x2048 .bf16) (w : Vec Ideal S1x2048x512 .bf16) (a' : Vec Ideal S1024x2048 .bf16) (w' : Vec Ideal S1x2048x512 .bf16)
    (x : Vec Ideal S1024x512 .f32) (g : Vec Ideal S1x1x512 .f32) (r : Fin 1024) (l : Fin 512) :
    k0_pay1 a w a' w' x g (ix2 r l) = x (ix2 r l) + g (ix3 0 0 l)
      * ((∑ k : Fin 2048, a (ix2 r k) * w (ix3 0 k l)) + ∑ k : Fin 2048, a' (ix2 r k) * w' (ix3 0 k l)) := by
  pointwise [k0_pay1]

/-- A grid point leaves the reference's result at its own rows and columns. -/
theorem point_eq (t : Fin cfg0.N) (y : S1024x512.Idx) :
    out0_6 (iblk m c 0 t) (iblk m c 1 t) (iblk m c 2 t) (iblk m c 3 t) (iblk m c 4 t) (iblk m c 5 t) y = out m c (((cfg0.win 6).blk t).view.emb y) := by
  obtain ⟨e0, e1⟩ := idx6 t
  unfold out0_6
  refine View.canon_apply_of_pieces (fun y : S1024x512.Idx => out m c (((cfg0.win 6).blk t).view.emb y)) _ (fun p hp x => ?_) y (cover0_6 _ y)
  simp only [List.mem_cons, List.mem_nil_iff, or_false] at hp
  subst hp
  obtain ⟨r, l, rfl⟩ : ∃ (r : Fin 1024) (l : Fin 512), x = ix2 r l := ⟨x 0, x 1, eq_ix2 x⟩
  have e : ((cfg0.win 6).blk t).view.emb (r0_2.emb (ix2 r l)) = (ix2 (row t r) (col t l) : S16384x4096.Idx) := by
    funext a; apply Fin.ext
    match a with
    | ⟨0, _⟩ => show win0_6.index t (0 : Fin 2) * 1024 + 1 * (0 + 1 * r.val) = t.val / 8 * 1024 + r.val; omega
    | ⟨1, _⟩ => show win0_6.index t (1 : Fin 2) * 512 + 1 * (0 + 1 * l.val) = t.val % 8 * 512 + l.val; omega
  refine Eq.trans ?_ (congrArg (out m c) e).symm
  have eb : (⟨(row t r).val / 4096, by omega⟩ : Fin 4) = batch t := Fin.ext (by show (t.val / 8 * 1024 + r.val) / 4096 = t.val / 32; omega)
  have ep : (⟨(row t r).val % 4096, by omega⟩ : Fin 4096) = pos t r := Fin.ext (by show (t.val / 8 * 1024 + r.val) % 4096 = t.val / 8 % 4 * 1024 + r.val; omega)
  have hr : ∀ k : Fin 2048, r0_0.emb (ix2 r k) = (ix2 r k : S1024x2048.Idx) := fun k => by
    funext a; apply Fin.ext
    match a with
    | ⟨0, _⟩ => show 0 + 1 * r.val = r.val; omega
    | ⟨1, _⟩ => show 0 + 1 * k.val = k.val; omega
  have hw : ∀ k : Fin 2048, r0_1.emb (ix3 0 k l) = (ix3 0 k l : S1x2048x512.Idx) := fun k => by
    funext a; apply Fin.ext
    match a with
    | ⟨0, _⟩ => rfl
    | ⟨1, _⟩ => show 0 + 1 * k.val = k.val; omega
    | ⟨2, _⟩ => show 0 + 1 * l.val = l.val; omega
  have hx : r0_2.emb (ix2 r l) = (ix2 r l : S1024x512.Idx) := by
    funext a; apply Fin.ext
    match a with
    | ⟨0, _⟩ => show 0 + 1 * r.val = r.val; omega
    | ⟨1, _⟩ => show 0 + 1 * l.val = l.val; omega
  have hg : r0_3.emb (ix3 0 0 l) = (ix3 0 0 l : S1x1x512.Idx) := by
    funext a; apply Fin.ext
    match a with
    | ⟨0, _⟩ => rfl
    | ⟨1, _⟩ => rfl
    | ⟨2, _⟩ => show 0 + 1 * l.val = l.val; omega
  refine (pay_apply _ _ _ _ _ _ r l).trans (Eq.trans ?_ (congrArg₂ (fun b p => result (Arg0 m c) (Arg1 m c) (Arg2 m c) (Arg3 m c) (Arg4 m c) b p (col t l)) eb ep).symm)
  refine congrArg₂ (· + ·) ((congrArg (iblk m c 4 t) hx).trans (iblk4_apply m c t r l)) (congrArg₂ (· * ·) ((congrArg (iblk m c 5 t) hg).trans (iblk5_apply m c t l)) ?_)
  refine congrArg₂ (· + ·) (Finset.sum_congr rfl fun k _ => congrArg₂ (· * ·) ?_ ?_) (Finset.sum_congr rfl fun k _ => congrArg₂ (· * ·) ?_ ?_)
  · exact (congrArg (iblk m c 0 t) (hr k)).trans (iblk0_apply m c t r k)
  · exact (congrArg (iblk m c 2 t) (hw k)).trans (iblk2_apply m c t k l)
  · exact (congrArg (iblk m c 1 t) (hr k)).trans (iblk1_apply m c t r k)
  · exact (congrArg (iblk m c 3 t) (hw k)).trans (iblk3_apply m c t k l)

/-- Every index of the result lies in some grid point's block. -/
theorem cover (i : S16384x4096.Idx) : ∃ t : Fin cfg0.N, (cfg0.win 6).flush t = true ∧ i ∈ ((cfg0.win 6).blk t).view.set := by
  have h0 : (i 0).val < 16384 := (i 0).isLt
  have h1 : (i 1).val < 4096 := (i 1).isLt
  have ht : (i 0).val / 1024 * 8 + (i 1).val / 512 < cfg0.N := by show _ < 128; omega
  obtain ⟨t, hv⟩ : ∃ t : Fin cfg0.N, t.val = (i 0).val / 1024 * 8 + (i 1).val / 512 := ⟨⟨_, ht⟩, rfl⟩
  refine ⟨t, flush0_6 _, ?_⟩
  obtain ⟨e0, e1⟩ := idx6 t
  show i ∈ ((View.whole main_v4).slice (win0_6.rect t)).set
  rw [View.set_slice_whole, Rect.mem_set_unit]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 512 ≤ (i 1).val ∧ (i 1).val < win0_6.index t (1 : Fin 2) * 512 + 512
    omega

/-- The result array after the run is the reference's result. -/
theorem out_eq : (dats m 0 c).arrAt 6 cfg0.N = out m c :=
  (dats m 0 c).arrAt_eq_of_cover 6 (out m c)
    (fun t _ => (Cert.OutProjIdeal.Value.flushed6 m c t).trans (funext fun y => point_eq m c t y)) cover

/-- The kernel's frame. -/
theorem frame_p : Cert.quiescent_OutProj := fun m ρ _ => Cert.OutProj.Gen.frame m ρ
/-- The idealized kernel's frame. -/
theorem frame_pi : Cert.quiescent_OutProjIdeal := fun m ρ _ => Cert.OutProjIdeal.Gen.frame m ρ
/-- The reference's frame. -/
theorem frame_ri : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)
/-- Nothing is rewritten. -/
theorem preserves : Cert.preserves_OutProj_OutProjIdeal := trivial

/-- From arguments that agree, the kernel and the reference end with equal results. -/
theorem algebraic : Cert.algebraic_OutProjIdeal_OutProjReferenceIdeal := by
  intro m g m' g' hpre hargs
  refine ⟨fun c => out m c, ?_, ?_⟩
  · refine (θ_run Cert.OutProjIdeal.defs _ _).mono (fun r h c => ?_) (Cert.OutProjIdeal.Value.run_blocks m g)
    obtain ⟨h0, h1⟩ := h c
    exact ⟨h0.trans (out_eq m c), h1⟩
  · refine (θ_run Cert.OutProjReferenceIdeal.defs _ _).mono (fun r h c => ?_) (Cert.OutProjReferenceIdeal.Value.run (F := Ideal) m' g')
    obtain ⟨h0, h1⟩ := h c
    obtain ⟨e0, e1, e2, e3, e4⟩ := hargs c
    refine ⟨h0.trans ?_, h1⟩
    rw [e0, e1, e2, e3, e4]
    refine funext fun i => ?_
    obtain ⟨r, l, rfl⟩ : ∃ (r : Fin 16384) (l : Fin 4096), i = ix2 r l := ⟨i 0, i 1, eq_ix2 i⟩
    exact ref_apply (Arg0 m c) (Arg1 m c) (Arg2 m c) (Arg3 m c) (Arg4 m c) r l

end Proj.OutProj

end
-- ==== Proof.Proj.FinalNorm.lean ====
module

public import proofs.«01_k».proof.Defs
public import proofs.«01_k».proof.Proof.Gen.FinalNorm.Frame
public import proofs.«01_k».proof.Proof.Gen.FinalNormIdeal.Value
public import proofs.«01_k».proof.Proof.Gen.FinalNormReferenceIdeal.Run
public import Idealize.ShloMosaic.Lib.Pointwise
public import Idealize.ShloMosaic.Lib.Quiescent

/-!
# The final norm

A grid point norms 512 rows of one batch entry; the points' blocks tile the result.
-/

@[expose] public section

set_option maxRecDepth 16384

noncomputable section

namespace Proj.FinalNorm

open Idealize.ShloMosaic Idealize.SL.Sem
open scoped BigOperators

section Reference

open Cert.FinalNormReferenceIdeal Cert.FinalNormReferenceIdeal.Gen

/-- A row over its root mean square, at a lane, times the lane's gain. -/
def normed (x : Fin 4096 → EReal) (g : EReal) (l : Fin 4096) : EReal :=
  x l * Ideal.rsqrt (Ideal.div (∑ k, x k * x k) (Ideal.ofBits .f32 0x45800000#32) + Ideal.ofBits .f32 0x358637BD#32) * g

/-- Every row normed. -/
def result (x : Vec Ideal S4x4096x4096 .f32) (g : Vec Ideal S4096 .f32) : Vec Ideal S4x4096x4096 .f32 :=
  fun i => normed (fun k => x (ix3 (i 0) (i 1) k)) (g (ix1 (i 2))) (i 2)

/-- The reference at an index. -/
theorem ref_apply (x : Vec Ideal S4x4096x4096 .f32) (g : Vec Ideal S4096 .f32) (b : Fin 4) (p l : Fin 4096) :
    (mulf (F := Ideal) (φ := .f32) (mulf x (broadcastInDim S4x4096x4096 ![0, 1, 2] bcast_S4x4096x1_S4x4096x4096_0_1_2 (Host.rsqrt (addf (Host.divf (broadcastInDim S4x4096x1 ![0, 1] bcast_S4x4096_S4x4096x1_0_1
        (Host.reduceAdd (mulf x x) (constant S_ .f32 0x00000000#32) reducesTo_S4x4096x4096_S4x4096_d2 h_S_)) (broadcastInDim S4x4096x1 ![] bcast_S_S4x4096x1 (constant S_ .f32 0x45800000#32)))
        (broadcastInDim S4x4096x1 ![] bcast_S_S4x4096x1 (constant S_ .f32 0x358637BD#32))))))
        (broadcastInDim S4x4096x4096 ![0, 1, 2] bcast_S1x1x4096_S4x4096x4096_0_1_2 (broadcastInDim S1x1x4096 ![2] bcast_S4096_S1x1x4096_2 g))) (ix3 b p l)
      = result x g (ix3 b p l) := by
  unfold result normed
  pointwise

end Reference

open Cert.FinalNormIdeal Cert.FinalNormIdeal.Gen

variable (m : (ℓ : Loc nD τ sig) → Buf (Elt Ideal) ℓ) (c : Dev nD)

/-- The latent stream and the gains. -/
abbrev Arg0 : Vec Ideal S4x4096x4096 .f32 := m ((c.tc : Thread nD τ).loc main_arg0)
abbrev Arg1 : Vec Ideal S4096 .f32 := m ((c.tc : Thread nD τ).loc main_arg1)

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)

/-- A grid point's batch entry and its rows' positions. -/
def batch (t : Fin cfg0.N) : Fin 4 := ⟨t.val / 8, by have : t.val < 32 := t.isLt; omega⟩
def pos (t : Fin cfg0.N) (r : Fin 512) : Fin 4096 := ⟨t.val % 8 * 512 + r.val, by omega⟩

theorem V0 : V m c main_v0 = shapeCast S1x4096 (Arg1 m c) shapeCasts_S4096_S1x4096 := by
  show StableHlo.after hostOps0 (fun b => m (c, b)) (Proc.devRef .tc main_v0) = _
  simp only [hostOps0, StableHlo.TRef.unary, cast_eq]
  after_results <;> rfl

theorem iblk0_apply (t : Fin cfg0.N) (r : Fin 512) (k : Fin 4096) :
    iblk m c 0 t (ix3 0 r k) = Arg0 m c (ix3 (batch t) (pos t r) k) := by
  obtain ⟨e0, e1, e2⟩ := idx0 t
  have e : ((cfg0.win 0).blk t).view.emb (ix3 0 r k) = (ix3 (batch t) (pos t r) k : S4x4096x4096.Idx) := by
    funext a; apply Fin.ext
    match a with
    | ⟨0, _⟩ => show win0_0.index t (0 : Fin 3) * 1 + 1 * 0 = t.val / 8; omega
    | ⟨1, _⟩ => show win0_0.index t (1 : Fin 3) * 512 + 1 * r.val = t.val % 8 * 512 + r.val; omega
    | ⟨2, _⟩ => show win0_0.index t (2 : Fin 3) * 4096 + 1 * k.val = k.val; omega
  exact (congrArg (V m c main_arg0) e).trans (congrFun (V_main_arg0 m c) _)

theorem iblk1_apply (t : Fin cfg0.N) (l : Fin 4096) :
    iblk m c 1 t (ix2 0 l) = Arg1 m c (ix1 l) := by
  obtain ⟨e0, e1⟩ := idx1 t
  have e : ((cfg0.win 1).blk t).view.emb (ix2 0 l) = (ix2 0 l : S1x4096.Idx) := by
    funext a; apply Fin.ext
    match a with
    | ⟨0, _⟩ => show win0_1.index t (0 : Fin 2) * 1 + 1 * 0 = 0; omega
    | ⟨1, _⟩ => show win0_1.index t (1 : Fin 2) * 4096 + 1 * l.val = l.val; omega
  refine (congrArg (V m c main_v0) e).trans ((congrFun (V0 m c) _).trans ?_)
  exact shapeCast_apply (s := S4096) (t := S1x4096) _ _ (ix2 0 l) (ix1 l) (by
    rw [Shape.rowMajor_val_one, Shape.rowMajor_val_two]
    show l.val = 0 * 4096 + l.val
    omega)

/-- The body at an index. -/
theorem pay_apply (x : Vec Ideal S1x512x4096 .f32) (g : Vec Ideal S1x4096 .f32) (r : Fin 512) (l : Fin 4096) :
    k0_pay1 x g (ix3 0 r l) = normed (fun k => x (ix3 0 r k)) (g (ix2 0 l)) l := by
  unfold normed
  pointwise [k0_pay1]

/-- A grid point leaves its own rows normed. -/
theorem point_eq (t : Fin cfg0.N) (y : S1x512x4096.Idx) :
    out0_2 (iblk m c 0 t) (iblk m c 1 t) y = result (Arg0 m c) (Arg1 m c) (((cfg0.win 2).blk t).view.emb y) := by
  obtain ⟨e0, e1, e2⟩ := idx2 t
  unfold out0_2
  refine View.canon_apply_of_pieces (fun y : S1x512x4096.Idx => result (Arg0 m c) (Arg1 m c) (((cfg0.win 2).blk t).view.emb y)) _ (fun p hp x => ?_) y (cover0_2 _ y)
  simp only [List.mem_cons, List.mem_nil_iff, or_false] at hp
  subst hp
  obtain ⟨r, l, rfl⟩ : ∃ (r : Fin 512) (l : Fin 4096), x = ix3 0 r l :=
    ⟨x 1, x 2, funext fun a => match a with | ⟨0, _⟩ => Subsingleton.elim (α := Fin 1) _ _ | ⟨1, _⟩ => rfl | ⟨2, _⟩ => rfl⟩
  have e : ((cfg0.win 2).blk t).view.emb (r0_0.emb (ix3 0 r l)) = (ix3 (batch t) (pos t r) l : S4x4096x4096.Idx) := by
    funext a; apply Fin.ext
    match a with
    | ⟨0, _⟩ => show win0_2.index t (0 : Fin 3) * 1 + 1 * (0 + 1 * 0) = t.val / 8; omega
    | ⟨1, _⟩ => show win0_2.index t (1 : Fin 3) * 512 + 1 * (0 + 1 * r.val) = t.val % 8 * 512 + r.val; omega
    | ⟨2, _⟩ => show win0_2.index t (2 : Fin 3) * 4096 + 1 * (0 + 1 * l.val) = l.val; omega
  refine Eq.trans ?_ (congrArg (result (Arg0 m c) (Arg1 m c)) e).symm
  refine (pay_apply _ _ r l).trans ?_
  have h0 : (fun k : Fin 4096 => View.ld (iblk m c 0 t) r0_0 (ix3 0 r k)) = fun k => Arg0 m c (ix3 (batch t) (pos t r) k) := funext fun k => by
    refine Eq.trans (congrArg (iblk m c 0 t) ?_) (iblk0_apply m c t r k)
    funext a; apply Fin.ext
    match a with
    | ⟨0, _⟩ => rfl
    | ⟨1, _⟩ => show 0 + 1 * r.val = r.val; omega
    | ⟨2, _⟩ => show 0 + 1 * k.val = k.val; omega
  have h1 : View.ld (iblk m c 1 t) r0_1 (ix2 0 l) = Arg1 m c (ix1 l) := by
    refine Eq.trans (congrArg (iblk m c 1 t) ?_) (iblk1_apply m c t l)
    funext a; apply Fin.ext
    match a with
    | ⟨0, _⟩ => rfl
    | ⟨1, _⟩ => show 0 + 1 * l.val = l.val; omega
  exact congrArg₂ (fun x g => normed x g l) h0 h1

/-- Every index of the result lies in some grid point's block. -/
theorem cover (i : S4x4096x4096.Idx) : ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 4096 := (i 2).isLt
  have ht : (i 0).val * 8 + (i 1).val / 512 < cfg0.N := by show _ < 32; omega
  obtain ⟨t, hv⟩ : ∃ t : Fin cfg0.N, t.val = (i 0).val * 8 + (i 1).val / 512 := ⟨⟨_, ht⟩, rfl⟩
  refine ⟨t, flush0_2 _, ?_⟩
  obtain ⟨e0, e1, e2⟩ := idx2 t
  show i ∈ ((View.whole main_v1).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 4096 ≤ (i 2).val ∧ (i 2).val < win0_2.index t (2 : Fin 3) * 4096 + 4096
    omega

/-- The result array after the run is the normed stream. -/
theorem out_eq : (dats m 0 c).arrAt 2 cfg0.N = result (Arg0 m c) (Arg1 m c) :=
  (dats m 0 c).arrAt_eq_of_cover 2 (result (Arg0 m c) (Arg1 m c))
    (fun t _ => (Cert.FinalNormIdeal.Value.flushed2 m c t).trans (funext fun y => point_eq m c t y)) cover

/-- The kernel's frame. -/
theorem frame_p : Cert.quiescent_FinalNorm := fun m ρ _ => Cert.FinalNorm.Gen.frame m ρ
/-- The idealized kernel's frame. -/
theorem frame_pi : Cert.quiescent_FinalNormIdeal := fun m ρ _ => Cert.FinalNormIdeal.Gen.frame m ρ
/-- The reference's frame. -/
theorem frame_ri : Cert.quiescent_FinalNormReferenceIdeal := fun m ρ _ =>
  (θ_run Cert.FinalNormReferenceIdeal.defs _ _).mono (fun r h => ⟨fun c => (h c).2, sem_eq_zero_of_no_sems (by decide) r.2⟩)
    (Cert.FinalNormReferenceIdeal.Value.run (F := Ideal) m ρ)
/-- Nothing is rewritten. -/
theorem preserves : Cert.preserves_FinalNorm_FinalNormIdeal := trivial

/-- From arguments that agree, the kernel and the reference end with equal results. -/
theorem algebraic : Cert.algebraic_FinalNormIdeal_FinalNormReferenceIdeal := by
  intro m g m' g' hpre hargs
  refine ⟨fun c => result (Arg0 m c) (Arg1 m c), ?_, ?_⟩
  · refine (θ_run Cert.FinalNormIdeal.defs _ _).mono (fun r h c => ?_) (Cert.FinalNormIdeal.Value.run_blocks m g)
    obtain ⟨h0, h1⟩ := h c
    exact ⟨h0.trans (out_eq m c), h1⟩
  · refine (θ_run Cert.FinalNormReferenceIdeal.defs _ _).mono (fun r h c => ?_) (Cert.FinalNormReferenceIdeal.Value.run (F := Ideal) m' g')
    obtain ⟨h0, h1⟩ := h c
    obtain ⟨e0, e1⟩ := hargs c
    refine ⟨h0.trans ?_, h1⟩
    rw [e0, e1]
    refine funext fun i => ?_
    obtain ⟨b, p, l, rfl⟩ : ∃ (b : Fin 4) (p l : Fin 4096), i = ix3 b p l :=
      ⟨i 0, i 1, i 2, funext fun a => match a with | ⟨0, _⟩ => rfl | ⟨1, _⟩ => rfl | ⟨2, _⟩ => rfl⟩
    exact ref_apply (Arg0 m c) (Arg1 m c) b p l

end Proj.FinalNorm

end
-- ==== Proof.Proj.InEvenCtx.lean ====
module

public import proofs.«01_k».proof.Defs
public import proofs.«01_k».proof.Proof.Gen.InEvenCtx.Frame
public import proofs.«01_k».proof.Proof.Gen.InEvenCtxIdeal.Value
public import proofs.«01_k».proof.Proof.Gen.InEvenCtxReferenceIdeal.Run
public import Idealize.ShloMosaic.Lib.MatmulPlain
public import Idealize.ShloMosaic.Lib.StackMember
public import Idealize.ShloMosaic.Lib.Pointwise
public import Idealize.ShloMosaic.Lib.Quiescent

/-!
# The even layers' in-projection of the context tokens

A grid point multiplies 1024 rows of the activations by 512 columns of the weight, over all 4096 lanes at once; the
points' blocks tile the result.
-/

@[expose] public section

set_option maxRecDepth 16384

noncomputable section

namespace Proj.InEvenCtx

open Idealize.ShloMosaic Idealize.SL.Sem Cert.InEvenCtxIdeal Cert.InEvenCtxIdeal.Gen
open scoped BigOperators

variable (m : (ℓ : Loc nD τ sig) → Buf (Elt Ideal) ℓ) (c : Dev nD)

/-- The activations and the two layers' weights. -/
abbrev Arg0 : Vec Ideal S4x256x4096 .bf16 := m ((c.tc : Thread nD τ).loc main_arg0)
abbrev Arg1 : Vec Ideal S2x4096x13312 .f32 := m ((c.tc : Thread nD τ).loc main_arg1)

/-- The activations of all batch entries, row after row. -/
abbrev rows (x : Vec Ideal S4x256x4096 .bf16) : Vec Ideal S1024x4096 .bf16 := shapeCast S1024x4096 x shapeCasts_S4x256x4096_S1024x4096

/-- The product of the rows with the first layer's weight. -/
def product (x : Vec Ideal S4x256x4096 .bf16) (w : Vec Ideal S2x4096x13312 .f32) : Vec Ideal S1024x13312 .bf16 :=
  fun i => ∑ k : Fin 4096, rows x (ix2 (i 0) k) * w (ix3 0 k (i 1))

theorem idx0 : ∀ t : Fin cfg0.N, win0_0.index t (0 : Fin 2) = t.val / 26 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val % 26 :=
  (by decide +kernel : ∀ t : Fin grid0.N, _)
theorem idx2 : ∀ t : Fin cfg0.N, win0_2.index t (0 : Fin 2) = t.val / 26 ∧ win0_2.index t (1 : Fin 2) = t.val % 26 :=
  (by decide +kernel : ∀ t : Fin grid0.N, _)

/-- A grid point's rows and columns. -/
def row (t : Fin cfg0.N) (r : Fin 1024) : Fin 1024 := ⟨t.val / 26 * 1024 + r.val, by have : t.val < 26 := t.isLt; omega⟩
def col (t : Fin cfg0.N) (l : Fin 512) : Fin 13312 := ⟨t.val % 26 * 512 + l.val, by omega⟩

/-- The call's first operand is the arguments' rows. -/
theorem V0 : V m c main_v0 = rows (Arg0 m c) := by
  show StableHlo.after hostOps0 (fun b => m (c, b)) (Proc.devRef .tc main_v0) = _
  simp only [hostOps0, StableHlo.TRef.unary, cast_eq]
  after_results <;> rfl

theorem iblk0_apply (t : Fin cfg0.N) (r : Fin 1024) (k : Fin 4096) :
    iblk m c 0 t (ix2 r k) = rows (Arg0 m c) (ix2 (row t r) k) := by
  obtain ⟨e0, e1⟩ := idx0 t
  have e : ((cfg0.win 0).blk t).view.emb (ix2 r k) = (ix2 (row t r) k : S1024x4096.Idx) := by
    funext a; apply Fin.ext
    match a with
    | ⟨0, _⟩ => show win0_0.index t (0 : Fin 2) * 1024 + 1 * r.val = t.val / 26 * 1024 + r.val; omega
    | ⟨1, _⟩ => show win0_0.index t (1 : Fin 2) * 4096 + 1 * k.val = k.val; omega
  exact (congrArg (V m c main_v0) e).trans (congrFun (V0 m c) _)

theorem iblk1_apply (t : Fin cfg0.N) (k : Fin 4096) (l : Fin 512) :
    iblk m c 1 t (ix3 0 k l) = Arg1 m c (ix3 0 k (col t l)) := by
  obtain ⟨e0, e1, e2⟩ := idx1 t
  have e : ((cfg0.win 1).blk t).view.emb (ix3 0 k l) = (ix3 0 k (col t l) : S2x4096x13312.Idx) := by
    funext a; apply Fin.ext
    match a with
    | ⟨0, _⟩ => show win0_1.index t (0 : Fin 3) * 1 + 1 * 0 = 0; omega
    | ⟨1, _⟩ => show win0_1.index t (1 : Fin 3) * 4096 + 1 * k.val = k.val; omega
    | ⟨2, _⟩ => show win0_1.index t (2 : Fin 3) * 512 + 1 * l.val = t.val % 26 * 512 + l.val; omega
  exact (congrArg (V m c main_arg1) e).trans (congrFun (V_main_arg1 m c) _)

/-- The body's product at an index. -/
theorem pay_apply (a : Vec Ideal S1024x4096 .bf16) (b : Vec Ideal S1x4096x512 .f32) (r : Fin 1024) (l : Fin 512) :
    k0_pay1 a b (ix2 r l) = ∑ k : Fin 4096, a (ix2 r k) * b (ix3 0 k l) := by
  refine (Ideal.matmul_plain_apply (M := 1024) (K := 4096) (N := 512) none _ _ _ r l).trans ?_
  have z : (constant (F := Ideal) S1024x512 .f32 0x00000000#32) (ix2 r l) = 0 := by
    show Ideal.ofBits .f32 0x00000000#32 = 0
    simp [Ideal.ofBits, Ideal.ieee]
  refine (congrArg₂ (· + ·) z (Finset.sum_congr rfl fun k _ => congrArg₂ (· * ·) ?_ ?_)).trans (zero_add _)
  · exact shapeCast_apply _ _ _ (ix2 r k) rfl
  · refine shapeCast_apply (s := S1x4096x512) (t := S4096x512) b _ (ix2 k l) (ix3 0 k l) ?_
    rw [Shape.rowMajor_val_two, Shape.rowMajor_val_three]
    show (0 * 4096 + k.val) * 512 + l.val = k.val * 512 + l.val
    omega

/-- What the reference computes, at an index. -/
theorem ref_apply (x : Vec Ideal S4x256x4096 .bf16) (w : Vec Ideal S2x4096x13312 .f32) (i : S1024x13312.Idx) :
    Host.dotGeneral (F := Ideal) (φ₁ := .f32) (φ₂ := .f32) Cert.InEvenCtxReferenceIdeal.dot_S1024x4096_S4096x13312_S1024x13312_1_0_0_1_n_n none
      (rows x) (shapeCast Cert.InEvenCtxReferenceIdeal.S4096x13312 (extractStridedSlice Cert.InEvenCtxReferenceIdeal.S1x4096x13312 ![0, 0, 0] w Cert.InEvenCtxReferenceIdeal.Facts₀.slices_S2x4096x13312_S1x4096x13312_0_0_0)
        Cert.InEvenCtxReferenceIdeal.Facts₀.shapeCasts_S1x4096x13312_S4096x13312) i = product x w i := by
  obtain ⟨r, l, rfl⟩ : ∃ (r : Fin 1024) (l : Fin 13312), i = ix2 r l := ⟨i 0, i 1, eq_ix2 i⟩
  refine (StackMember.dotGeneral_plain_apply (m := 1024) (k := 4096) (n := 13312) none _ _ r l).trans (Finset.sum_congr rfl fun k _ => congrArg (_ * ·) ?_)
  refine (shapeCast_apply (s := Cert.InEvenCtxReferenceIdeal.S1x4096x13312) (t := Cert.InEvenCtxReferenceIdeal.S4096x13312) _ _ (ix2 k l) (ix3 0 k l) ?_).trans ?_
  · rw [Shape.rowMajor_val_two, Shape.rowMajor_val_three]
    show (0 * 4096 + k.val) * 13312 + l.val = k.val * 13312 + l.val
    omega
  · pointwise

/-- A grid point leaves the product at its own rows and columns. -/
theorem point_eq (t : Fin cfg0.N) (y : S1024x512.Idx) :
    out0_2 (iblk m c 0 t) (iblk m c 1 t) y = product (Arg0 m c) (Arg1 m c) (((cfg0.win 2).blk t).view.emb y) := by
  obtain ⟨e0, e1⟩ := idx2 t
  unfold out0_2
  refine View.canon_apply_of_pieces (fun y : S1024x512.Idx => product (Arg0 m c) (Arg1 m c) (((cfg0.win 2).blk t).view.emb y)) _ (fun p hp x => ?_) y (cover0_2 _ y)
  simp only [List.mem_cons, List.mem_nil_iff, or_false] at hp
  subst hp
  obtain ⟨r, l, rfl⟩ : ∃ (r : Fin 1024) (l : Fin 512), x = ix2 r l := ⟨x 0, x 1, eq_ix2 x⟩
  have e : ((cfg0.win 2).blk t).view.emb (r0_2.emb (ix2 r l)) = (ix2 (row t r) (col t l) : S1024x13312.Idx) := by
    funext a; apply Fin.ext
    match a with
    | ⟨0, _⟩ => show win0_2.index t (0 : Fin 2) * 1024 + 1 * (0 + 1 * r.val) = t.val / 26 * 1024 + r.val; omega
    | ⟨1, _⟩ => show win0_2.index t (1 : Fin 2) * 512 + 1 * (0 + 1 * l.val) = t.val % 26 * 512 + l.val; omega
  refine Eq.trans ?_ (congrArg (product (Arg0 m c) (Arg1 m c)) e).symm
  refine (pay_apply _ _ r l).trans (Finset.sum_congr rfl fun k _ => congrArg₂ (· * ·) ?_ ?_)
  · refine Eq.trans (congrArg (iblk m c 0 t) ?_) (iblk0_apply m c t r k)
    funext a; apply Fin.ext
    match a with
    | ⟨0, _⟩ => show 0 + 1 * r.val = r.val; omega
    | ⟨1, _⟩ => show 0 + 1 * k.val = k.val; omega
  · refine Eq.trans (congrArg (iblk m c 1 t) ?_) (iblk1_apply m c t k l)
    funext a; apply Fin.ext
    match a with
    | ⟨0, _⟩ => rfl
    | ⟨1, _⟩ => show 0 + 1 * k.val = k.val; omega
    | ⟨2, _⟩ => show 0 + 1 * l.val = l.val; omega

/-- Every index of the result lies in some grid point's block. -/
theorem cover (i : S1024x13312.Idx) : ∃ t : Fin cfg0.N, (cfg0.win 2).flush t = true ∧ i ∈ ((cfg0.win 2).blk t).view.set := by
  have h0 : (i 0).val < 1024 := (i 0).isLt
  have h1 : (i 1).val < 13312 := (i 1).isLt
  have ht : (i 0).val / 1024 * 26 + (i 1).val / 512 < cfg0.N := by show _ < 26; omega
  obtain ⟨t, hv⟩ : ∃ t : Fin cfg0.N, t.val = (i 0).val / 1024 * 26 + (i 1).val / 512 := ⟨⟨_, ht⟩, rfl⟩
  refine ⟨t, flush0_2 _, ?_⟩
  obtain ⟨e0, e1⟩ := idx2 t
  show i ∈ ((View.whole main_v1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The result array after the run is the product. -/
theorem out_eq : (dats m 0 c).arrAt 2 cfg0.N = product (Arg0 m c) (Arg1 m c) :=
  (dats m 0 c).arrAt_eq_of_cover 2 (product (Arg0 m c) (Arg1 m c))
    (fun t _ => (Cert.InEvenCtxIdeal.Value.flushed2 m c t).trans (funext fun y => point_eq m c t y)) cover

/-- The kernel's frame. -/
theorem frame_p : Cert.quiescent_InEvenCtx := fun m ρ _ => Cert.InEvenCtx.Gen.frame m ρ
/-- The idealized kernel's frame. -/
theorem frame_pi : Cert.quiescent_InEvenCtxIdeal := fun m ρ _ => Cert.InEvenCtxIdeal.Gen.frame m ρ
/-- The reference's frame. -/
theorem frame_ri : Cert.quiescent_InEvenCtxReferenceIdeal := fun m ρ _ =>
  (θ_run Cert.InEvenCtxReferenceIdeal.defs _ _).mono (fun r h => ⟨fun c => (h c).2, sem_eq_zero_of_no_sems (by decide) r.2⟩)
    (Cert.InEvenCtxReferenceIdeal.Value.run (F := Ideal) m ρ)
/-- Nothing is rewritten. -/
theorem preserves : Cert.preserves_InEvenCtx_InEvenCtxIdeal := trivial

/-- From arguments that agree, the kernel and the reference end with equal results. -/
theorem algebraic : Cert.algebraic_InEvenCtxIdeal_InEvenCtxReferenceIdeal := by
  intro m g m' g' hpre hargs
  refine ⟨fun c => product (Arg0 m c) (Arg1 m c), ?_, ?_⟩
  · refine (θ_run Cert.InEvenCtxIdeal.defs _ _).mono (fun r h c => ?_) (Cert.InEvenCtxIdeal.Value.run_blocks m g)
    obtain ⟨h0, h1⟩ := h c
    exact ⟨h0.trans (out_eq m c), h1⟩
  · refine (θ_run Cert.InEvenCtxReferenceIdeal.defs _ _).mono (fun r h c => ?_) (Cert.InEvenCtxReferenceIdeal.Value.run (F := Ideal) m' g')
    obtain ⟨h0, h1⟩ := h c
    obtain ⟨e0, e1⟩ := hargs c
    refine ⟨h0.trans ?_, h1⟩
    rw [e0, e1]
    exact funext fun i => ref_apply (Arg0 m c) (Arg1 m c) i

end Proj.InEvenCtx

end
-- ==== Proof.Proj.InOddCtx.lean ====
module

public import proofs.«01_k».proof.Defs
public import proofs.«01_k».proof.Proof.Gen.InOddCtx.Frame
public import proofs.«01_k».proof.Proof.Gen.InOddCtxIdeal.Value
public import proofs.«01_k».proof.Proof.Gen.InOddCtxReferenceIdeal.Run
public import Idealize.ShloMosaic.Lib.MatmulPlain
public import Idealize.ShloMosaic.Lib.StackMember
public import Idealize.ShloMosaic.Lib.Pointwise
public import Idealize.ShloMosaic.Lib.Quiescent

/-!
# The odd layers' in-projection of the context tokens

A grid point multiplies 1024 rows of the activations by 512 columns of the weight, over all 4096 lanes at once; the
points' blocks tile the result.
-/

@[expose] public section

set_option maxRecDepth 16384

noncomputable section

namespace Proj.InOddCtx

open Idealize.ShloMosaic Idealize.SL.Sem Cert.InOddCtxIdeal Cert.InOddCtxIdeal.Gen
open scoped BigOperators

variable (m : (ℓ : Loc nD τ sig) → Buf (Elt Ideal) ℓ) (c : Dev nD)

/-- The activations and the two layers' weights. -/
abbrev Arg0 : Vec Ideal S4x256x4096 .bf16 := m ((c.tc : Thread nD τ).loc main_arg0)
abbrev Arg1 : Vec Ideal S2x4096x12288 .f32 := m ((c.tc : Thread nD τ).loc main_arg1)

/-- The activations of all batch entries, row after row. -/
abbrev rows (x : Vec Ideal S4x256x4096 .bf16) : Vec Ideal S1024x4096 .bf16 := shapeCast S1024x4096 x shapeCasts_S4x256x4096_S1024x4096

/-- The product of the rows with the first layer's weight. -/
def product (x : Vec Ideal S4x256x4096 .bf16) (w : Vec Ideal S2x4096x12288 .f32) : Vec Ideal S1024x12288 .bf16 :=
  fun i => ∑ k : Fin 4096, rows x (ix2 (i 0) k) * w (ix3 0 k (i 1))

theorem idx0 : ∀ t : Fin cfg0.N, win0_0.index t (0 : Fin 2) = t.val / 24 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val % 24 :=
  (by decide +kernel : ∀ t : Fin grid0.N, _)
theorem idx2 : ∀ t : Fin cfg0.N, win0_2.index t (0 : Fin 2) = t.val / 24 ∧ win0_2.index t (1 : Fin 2) = t.val % 24 :=
  (by decide +kernel : ∀ t : Fin grid0.N, _)

/-- A grid point's rows and columns. -/
def row (t : Fin cfg0.N) (r : Fin 1024) : Fin 1024 := ⟨t.val / 24 * 1024 + r.val, by have : t.val < 24 := t.isLt; omega⟩
def col (t : Fin cfg0.N) (l : Fin 512) : Fin 12288 := ⟨t.val % 24 * 512 + l.val, by omega⟩

/-- The call's first operand is the arguments' rows. -/
theorem V0 : V m c main_v0 = rows (Arg0 m c) := by
  show StableHlo.after hostOps0 (fun b => m (c, b)) (Proc.devRef .tc main_v0) = _
  simp only [hostOps0, StableHlo.TRef.unary, cast_eq]
  after_results <;> rfl

theorem iblk0_apply (t : Fin cfg0.N) (r : Fin 1024) (k : Fin 4096) :
    iblk m c 0 t (ix2 r k) = rows (Arg0 m c) (ix2 (row t r) k) := by
  obtain ⟨e0, e1⟩ := idx0 t
  have e : ((cfg0.win 0).blk t).view.emb (ix2 r k) = (ix2 (row t r) k : S1024x4096.Idx) := by
    funext a; apply Fin.ext
    match a with
    | ⟨0, _⟩ => show win0_0.index t (0 : Fin 2) * 1024 + 1 * r.val = t.val / 24 * 1024 + r.val; omega
    | ⟨1, _⟩ => show win0_0.index t (1 : Fin 2) * 4096 + 1 * k.val = k.val; omega
  exact (congrArg (V m c main_v0) e).trans (congrFun (V0 m c) _)

theorem iblk1_apply (t : Fin cfg0.N) (k : Fin 4096) (l : Fin 512) :
    iblk m c 1 t (ix3 0 k l) = Arg1 m c (ix3 0 k (col t l)) := by
  obtain ⟨e0, e1, e2⟩ := idx1 t
  have e : ((cfg0.win 1).blk t).view.emb (ix3 0 k l) = (ix3 0 k (col t l) : S2x4096x12288.Idx) := by
    funext a; apply Fin.ext
    match a with
    | ⟨0, _⟩ => show win0_1.index t (0 : Fin 3) * 1 + 1 * 0 = 0; omega
    | ⟨1, _⟩ => show win0_1.index t (1 : Fin 3) * 4096 + 1 * k.val = k.val; omega
    | ⟨2, _⟩ => show win0_1.index t (2 : Fin 3) * 512 + 1 * l.val = t.val % 24 * 512 + l.val; omega
  exact (congrArg (V m c main_arg1) e).trans (congrFun (V_main_arg1 m c) _)

/-- The body's product at an index. -/
theorem pay_apply (a : Vec Ideal S1024x4096 .bf16) (b : Vec Ideal S1x4096x512 .f32) (r : Fin 1024) (l : Fin 512) :
    k0_pay1 a b (ix2 r l) = ∑ k : Fin 4096, a (ix2 r k) * b (ix3 0 k l) := by
  refine (Ideal.matmul_plain_apply (M := 1024) (K := 4096) (N := 512) none _ _ _ r l).trans ?_
  have z : (constant (F := Ideal) S1024x512 .f32 0x00000000#32) (ix2 r l) = 0 := by
    show Ideal.ofBits .f32 0x00000000#32 = 0
    simp [Ideal.ofBits, Ideal.ieee]
  refine (congrArg₂ (· + ·) z (Finset.sum_congr rfl fun k _ => congrArg₂ (· * ·) ?_ ?_)).trans (zero_add _)
  · exact shapeCast_apply _ _ _ (ix2 r k) rfl
  · refine shapeCast_apply (s := S1x4096x512) (t := S4096x512) b _ (ix2 k l) (ix3 0 k l) ?_
    rw [Shape.rowMajor_val_two, Shape.rowMajor_val_three]
    show (0 * 4096 + k.val) * 512 + l.val = k.val * 512 + l.val
    omega

/-- What the reference computes, at an index. -/
theorem ref_apply (x : Vec Ideal S4x256x4096 .bf16) (w : Vec Ideal S2x4096x12288 .f32) (i : S1024x12288.Idx) :
    Host.dotGeneral (F := Ideal) (φ₁ := .f32) (φ₂ := .f32) Cert.InOddCtxReferenceIdeal.dot_S1024x4096_S4096x12288_S1024x12288_1_0_0_1_n_n none
      (rows x) (shapeCast Cert.InOddCtxReferenceIdeal.S4096x12288 (extractStridedSlice Cert.InOddCtxReferenceIdeal.S1x4096x12288 ![0, 0, 0] w Cert.InOddCtxReferenceIdeal.Facts₀.slices_S2x4096x12288_S1x4096x12288_0_0_0)
        Cert.InOddCtxReferenceIdeal.Facts₀.shapeCasts_S1x4096x12288_S4096x12288) i = product x w i := by
  obtain ⟨r, l, rfl⟩ : ∃ (r : Fin 1024) (l : Fin 12288), i = ix2 r l := ⟨i 0, i 1, eq_ix2 i⟩
  refine (StackMember.dotGeneral_plain_apply (m := 1024) (k := 4096) (n := 12288) none _ _ r l).trans (Finset.sum_congr rfl fun k _ => congrArg (_ * ·) ?_)
  refine (shapeCast_apply (s := Cert.InOddCtxReferenceIdeal.S1x4096x12288) (t := Cert.InOddCtxReferenceIdeal.S4096x12288) _ _ (ix2 k l) (ix3 0 k l) ?_).trans ?_
  · rw [Shape.rowMajor_val_two, Shape.rowMajor_val_three]
    show (0 * 4096 + k.val) * 12288 + l.val = k.val * 12288 + l.val
    omega
  · pointwise

/-- A grid point leaves the product at its own rows and columns. -/
theorem point_eq (t : Fin cfg0.N) (y : S1024x512.Idx) :
    out0_2 (iblk m c 0 t) (iblk m c 1 t) y = product (Arg0 m c) (Arg1 m c) (((cfg0.win 2).blk t).view.emb y) := by
  obtain ⟨e0, e1⟩ := idx2 t
  unfold out0_2
  refine View.canon_apply_of_pieces (fun y : S1024x512.Idx => product (Arg0 m c) (Arg1 m c) (((cfg0.win 2).blk t).view.emb y)) _ (fun p hp x => ?_) y (cover0_2 _ y)
  simp only [List.mem_cons, List.mem_nil_iff, or_false] at hp
  subst hp
  obtain ⟨r, l, rfl⟩ : ∃ (r : Fin 1024) (l : Fin 512), x = ix2 r l := ⟨x 0, x 1, eq_ix2 x⟩
  have e : ((cfg0.win 2).blk t).view.emb (r0_2.emb (ix2 r l)) = (ix2 (row t r) (col t l) : S1024x12288.Idx) := by
    funext a; apply Fin.ext
    match a with
    | ⟨0, _⟩ => show win0_2.index t (0 : Fin 2) * 1024 + 1 * (0 + 1 * r.val) = t.val / 24 * 1024 + r.val; omega
    | ⟨1, _⟩ => show win0_2.index t (1 : Fin 2) * 512 + 1 * (0 + 1 * l.val) = t.val % 24 * 512 + l.val; omega
  refine Eq.trans ?_ (congrArg (product (Arg0 m c) (Arg1 m c)) e).symm
  refine (pay_apply _ _ r l).trans (Finset.sum_congr rfl fun k _ => congrArg₂ (· * ·) ?_ ?_)
  · refine Eq.trans (congrArg (iblk m c 0 t) ?_) (iblk0_apply m c t r k)
    funext a; apply Fin.ext
    match a with
    | ⟨0, _⟩ => show 0 + 1 * r.val = r.val; omega
    | ⟨1, _⟩ => show 0 + 1 * k.val = k.val; omega
  · refine Eq.trans (congrArg (iblk m c 1 t) ?_) (iblk1_apply m c t k l)
    funext a; apply Fin.ext
    match a with
    | ⟨0, _⟩ => rfl
    | ⟨1, _⟩ => show 0 + 1 * k.val = k.val; omega
    | ⟨2, _⟩ => show 0 + 1 * l.val = l.val; omega

/-- Every index of the result lies in some grid point's block. -/
theorem cover (i : S1024x12288.Idx) : ∃ t : Fin cfg0.N, (cfg0.win 2).flush t = true ∧ i ∈ ((cfg0.win 2).blk t).view.set := by
  have h0 : (i 0).val < 1024 := (i 0).isLt
  have h1 : (i 1).val < 12288 := (i 1).isLt
  have ht : (i 0).val / 1024 * 24 + (i 1).val / 512 < cfg0.N := by show _ < 24; omega
  obtain ⟨t, hv⟩ : ∃ t : Fin cfg0.N, t.val = (i 0).val / 1024 * 24 + (i 1).val / 512 := ⟨⟨_, ht⟩, rfl⟩
  refine ⟨t, flush0_2 _, ?_⟩
  obtain ⟨e0, e1⟩ := idx2 t
  show i ∈ ((View.whole main_v1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The result array after the run is the product. -/
theorem out_eq : (dats m 0 c).arrAt 2 cfg0.N = product (Arg0 m c) (Arg1 m c) :=
  (dats m 0 c).arrAt_eq_of_cover 2 (product (Arg0 m c) (Arg1 m c))
    (fun t _ => (Cert.InOddCtxIdeal.Value.flushed2 m c t).trans (funext fun y => point_eq m c t y)) cover

/-- The kernel's frame. -/
theorem frame_p : Cert.quiescent_InOddCtx := fun m ρ _ => Cert.InOddCtx.Gen.frame m ρ
/-- The idealized kernel's frame. -/
theorem frame_pi : Cert.quiescent_InOddCtxIdeal := fun m ρ _ => Cert.InOddCtxIdeal.Gen.frame m ρ
/-- The reference's frame. -/
theorem frame_ri : Cert.quiescent_InOddCtxReferenceIdeal := fun m ρ _ =>
  (θ_run Cert.InOddCtxReferenceIdeal.defs _ _).mono (fun r h => ⟨fun c => (h c).2, sem_eq_zero_of_no_sems (by decide) r.2⟩)
    (Cert.InOddCtxReferenceIdeal.Value.run (F := Ideal) m ρ)
/-- Nothing is rewritten. -/
theorem preserves : Cert.preserves_InOddCtx_InOddCtxIdeal := trivial

/-- From arguments that agree, the kernel and the reference end with equal results. -/
theorem algebraic : Cert.algebraic_InOddCtxIdeal_InOddCtxReferenceIdeal := by
  intro m g m' g' hpre hargs
  refine ⟨fun c => product (Arg0 m c) (Arg1 m c), ?_, ?_⟩
  · refine (θ_run Cert.InOddCtxIdeal.defs _ _).mono (fun r h c => ?_) (Cert.InOddCtxIdeal.Value.run_blocks m g)
    obtain ⟨h0, h1⟩ := h c
    exact ⟨h0.trans (out_eq m c), h1⟩
  · refine (θ_run Cert.InOddCtxReferenceIdeal.defs _ _).mono (fun r h c => ?_) (Cert.InOddCtxReferenceIdeal.Value.run (F := Ideal) m' g')
    obtain ⟨h0, h1⟩ := h c
    obtain ⟨e0, e1⟩ := hargs c
    refine ⟨h0.trans ?_, h1⟩
    rw [e0, e1]
    exact funext fun i => ref_apply (Arg0 m c) (Arg1 m c) i

end Proj.InOddCtx

end
-- ==== Proof.Proj.OutProjCtx.lean ====
module

public import proofs.«01_k».proof.Defs
public import proofs.«01_k».proof.Proof.Gen.OutProjCtx.Frame
public import proofs.«01_k».proof.Proof.Gen.OutProjCtxIdeal.Value
public import proofs.«01_k».proof.Proof.Gen.OutProjCtxReferenceIdeal.Run
public import Idealize.ShloMosaic.Lib.Pointwise
public import Idealize.ShloMosaic.Lib.Quiescent

/-!
# The out-projection of the context tokens

A grid point multiplies 256 rows of the two branches by 512 columns of the weight's upper and lower half and adds the
gated sum to the stream; the points' blocks tile the result.  The reference multiplies the joined branches by the whole
weight.
-/

@[expose] public section

set_option maxRecDepth 16384

noncomputable section

namespace Proj.OutProjCtx

open Idealize.ShloMosaic Idealize.SL.Sem
open scoped BigOperators

section Reference

open Cert.OutProjCtxReferenceIdeal Cert.OutProjCtxReferenceIdeal.Gen

/-- The branches' product with the first layer's weight, the two halves of the weight apart. -/
def product (y1 y2 : Vec Ideal S4x256x2048 .bf16) (w : Vec Ideal S2x4096x4096 .f32) (b : Fin 4) (p : Fin 256) (l : Fin 4096) : EReal :=
  (∑ k : Fin 2048, y1 (ix3 b p k) * w (ix3 0 ⟨k.val, by omega⟩ l)) + ∑ k : Fin 2048, y2 (ix3 b p k) * w (ix3 0 ⟨2048 + k.val, by omega⟩ l)

/-- The stream plus its gated product, batch entry by batch entry. -/
def result (y1 y2 : Vec Ideal S4x256x2048 .bf16) (w : Vec Ideal S2x4096x4096 .f32) (x : Vec Ideal S4x256x4096 .f32) (g : Vec Ideal S1x1x4096 .f32)
    (b : Fin 4) (p : Fin 256) (l : Fin 4096) : EReal := x (ix3 b p l) + g (ix3 0 0 l) * product y1 y2 w b p l

/-- The joined branches. -/
abbrev joined (y1 y2 : Vec Ideal S4x256x2048 .bf16) : FVec Ideal S4x256x4096 .f32 :=
  concatenate S4x256x4096 2 [⟨S4x256x2048, (extf (F := Ideal) .f32 y1 bitsLt_bf16_f32)⟩, ⟨S4x256x2048, (extf (F := Ideal) .f32 y2 bitsLt_bf16_f32)⟩] concatenates_S4x256x2048_S4x256x2048_S4x256x4096_d2

/-- The first layer's weight. -/
abbrev weight (w : Vec Ideal S2x4096x4096 .f32) : FVec Ideal S4096x4096 .f32 :=
  shapeCast S4096x4096 (extractStridedSlice S1x4096x4096 ![0, 0, 0] w slices_S2x4096x4096_S1x4096x4096_0_0_0) shapeCasts_S1x4096x4096_S4096x4096

theorem low_apply (y1 y2 : Vec Ideal S4x256x2048 .bf16) (b : Fin 4) (p : Fin 256) (k : Fin 2048) :
    joined y1 y2 (ix3 b p ⟨k.val, by omega⟩) = y1 (ix3 b p k) := by
  have h : joined y1 y2 (ix3 b p ⟨k.val, by omega⟩) = if h : k.val < 2048 then y1 (ix3 b p ⟨k.val, h⟩) else y2 (ix3 b p ⟨k.val - 2048, by omega⟩) := by
    pointwise [joined]
  exact h.trans (dif_pos k.isLt)

theorem high_apply (y1 y2 : Vec Ideal S4x256x2048 .bf16) (b : Fin 4) (p : Fin 256) (k : Fin 2048) :
    joined y1 y2 (ix3 b p ⟨2048 + k.val, by omega⟩) = y2 (ix3 b p k) := by
  have h : joined y1 y2 (ix3 b p ⟨2048 + k.val, by omega⟩) = if h : 2048 + k.val < 2048 then y1 (ix3 b p ⟨2048 + k.val, h⟩) else y2 (ix3 b p ⟨2048 + k.val - 2048, by omega⟩) := by
    pointwise [joined]
  refine h.trans ((dif_neg (by omega)).trans (congrArg (fun k => y2 (ix3 b p k)) (Fin.ext ?_)))
  show 2048 + k.val - 2048 = k.val
  omega

theorem weight_apply (w : Vec Ideal S2x4096x4096 .f32) (k l : Fin 4096) : weight w (ix2 k l) = w (ix3 0 k l) := by
  pointwise [weight]

/-- A product of rank 3 by rank 2 at an index. -/
theorem dot_apply (y : FVec Ideal S4x256x4096 .f32) (w : FVec Ideal S4096x4096 .f32) (b : Fin 4) (p : Fin 256) (l : Fin 4096) :
    Host.dotGeneral (F := Ideal) dot_S4x256x4096_S4096x4096_S4x256x4096_2_0_01_1_n_n none y w (ix3 b p l) = ∑ k : Fin 4096, y (ix3 b p k) * w (ix2 k l) := by
  pointwise

theorem product_eq (y1 y2 : Vec Ideal S4x256x2048 .bf16) (w : Vec Ideal S2x4096x4096 .f32) (b : Fin 4) (p : Fin 256) (l : Fin 4096) :
    Host.dotGeneral (F := Ideal) dot_S4x256x4096_S4096x4096_S4x256x4096_2_0_01_1_n_n none (joined y1 y2) (weight w) (ix3 b p l) = product y1 y2 w b p l := by
  refine (dot_apply _ _ b p l).trans ((Fin.sum_univ_add (a := 2048) (b := 2048) fun k : Fin 4096 => joined y1 y2 (ix3 b p k) * weight w (ix2 k l)).trans ?_)
  refine congrArg₂ (· + ·) (Finset.sum_congr rfl fun k _ => congrArg₂ (· * ·) ?_ ?_) (Finset.sum_congr rfl fun k _ => congrArg₂ (· * ·) ?_ ?_)
  · exact low_apply y1 y2 b p k
  · exact weight_apply w _ l
  · exact high_apply y1 y2 b p k
  · exact weight_apply w _ l

/-- The reference's result, a row of it being a batch entry and a position. -/
theorem ref_apply (y1 y2 : Vec Ideal S4x256x2048 .bf16) (w : Vec Ideal S2x4096x4096 .f32) (x : Vec Ideal S4x256x4096 .f32) (g : Vec Ideal S1x1x4096 .f32)
    (r : Fin 1024) (l : Fin 4096) :
    (shapeCast S1024x4096 (addf (F := Ideal) (φ := .f32) x (mulf (broadcastInDim S4x256x4096 ![0, 1, 2] bcast_S1x1x4096_S4x256x4096_0_1_2 g)
      (Host.dotGeneral (F := Ideal) dot_S4x256x4096_S4096x4096_S4x256x4096_2_0_01_1_n_n none (joined y1 y2) (weight w)))) shapeCasts_S4x256x4096_S1024x4096) (ix2 r l)
      = result y1 y2 w x g ⟨r.val / 256, by omega⟩ ⟨r.val % 256, by omega⟩ l := by
  refine (shapeCast_apply (s := S4x256x4096) (t := S1024x4096) _ _ (ix2 r l) (ix3 ⟨r.val / 256, by omega⟩ ⟨r.val % 256, by omega⟩ l) ?_).trans ?_
  · rw [Shape.rowMajor_val_three, Shape.rowMajor_val_two]
    show (r.val / 256 * 256 + r.val % 256) * 4096 + l.val = r.val * 4096 + l.val
    omega
  · refine congrArg₂ (fun a b => x _ + a * b) ?_ (product_eq y1 y2 w _ _ l)
    pointwise

end Reference

open Cert.OutProjCtxIdeal Cert.OutProjCtxIdeal.Gen

variable (m : (ℓ : Loc nD τ sig) → Buf (Elt Ideal) ℓ) (c : Dev nD)

/-- The branches, the two layers' weights, the stream and its gates. -/
abbrev Arg0 : Vec Ideal S4x256x2048 .bf16 := m ((c.tc : Thread nD τ).loc main_arg0)
abbrev Arg1 : Vec Ideal S4x256x2048 .bf16 := m ((c.tc : Thread nD τ).loc main_arg1)
abbrev Arg2 : Vec Ideal S2x4096x4096 .f32 := m ((c.tc : Thread nD τ).loc main_arg2)
abbrev Arg3 : Vec Ideal S4x256x4096 .f32 := m ((c.tc : Thread nD τ).loc main_arg3)
abbrev Arg4 : Vec Ideal S1x1x4096 .f32 := m ((c.tc : Thread nD τ).loc main_arg4)

/-- What the result array is shown to hold. -/
def out : Vec Ideal S1024x4096 .f32 := fun i =>
  result (Arg0 m c) (Arg1 m c) (Arg2 m c) (Arg3 m c) (Arg4 m c) ⟨(i 0).val / 256, by have : (i 0).val < 1024 := (i 0).isLt; omega⟩ ⟨(i 0).val % 256, by omega⟩ (i 1)

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = t.val / 8 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val % 8 :=
  (by decide +kernel : ∀ t : Fin grid0.N, _)
theorem idx3 : ∀ t : Fin cfg0.N, win0_3.index t (0 : Fin 3) = 0 ∧ win0_3.index t (1 : Fin 3) = 1 ∧ win0_3.index t (2 : Fin 3) = t.val % 8 :=
  (by decide +kernel : ∀ t : Fin grid0.N, _)
theorem idx4 : ∀ t : Fin cfg0.N, win0_4.index t (0 : Fin 2) = t.val / 8 ∧ win0_4.index t (1 : Fin 2) = t.val % 8 :=
  (by decide +kernel : ∀ t : Fin grid0.N, _)
theorem idx5 : ∀ t : Fin cfg0.N, win0_5.index t (0 : Fin 3) = 0 ∧ win0_5.index t (1 : Fin 3) = 0 ∧ win0_5.index t (2 : Fin 3) = t.val % 8 :=
  (by decide +kernel : ∀ t : Fin grid0.N, _)
theorem idx6 : ∀ t : Fin cfg0.N, win0_6.index t (0 : Fin 2) = t.val / 8 ∧ win0_6.index t (1 : Fin 2) = t.val % 8 :=
  (by decide +kernel : ∀ t : Fin grid0.N, _)

/-- A grid point's batch entry, its rows' positions and its columns. -/
def batch (t : Fin cfg0.N) : Fin 4 := ⟨t.val / 8, by have : t.val < 32 := t.isLt; omega⟩
def pos (_ : Fin cfg0.N) (r : Fin 256) : Fin 256 := r
def row (t : Fin cfg0.N) (r : Fin 256) : Fin 1024 := ⟨t.val / 8 * 256 + r.val, by have : t.val < 32 := t.isLt; omega⟩
def col (t : Fin cfg0.N) (l : Fin 512) : Fin 4096 := ⟨t.val % 8 * 512 + l.val, by omega⟩

theorem V0 : V m c main_v0 = truncf (F := Ideal) .bf16 (Arg2 m c) bitsLt_bf16_f32 := by
  show StableHlo.after hostOps0 (fun b => m (c, b)) (Proc.devRef .tc main_v0) = _
  simp only [hostOps0, StableHlo.TRef.unary, cast_eq]
  after_results <;> rfl
theorem V1 : V m c main_v1 = shapeCast S1024x2048 (Arg0 m c) shapeCasts_S4x256x2048_S1024x2048 := by
  show StableHlo.after hostOps0 (fun b => m (c, b)) (Proc.devRef .tc main_v1) = _
  simp only [hostOps0, StableHlo.TRef.unary, cast_eq]
  after_results <;> rfl
theorem V2 : V m c main_v2 = shapeCast S1024x2048 (Arg1 m c) shapeCasts_S4x256x2048_S1024x2048 := by
  show StableHlo.after hostOps0 (fun b => m (c, b)) (Proc.devRef .tc main_v2) = _
  simp only [hostOps0, StableHlo.TRef.unary, cast_eq]
  after_results <;> rfl
theorem V3 : V m c main_v3 = shapeCast S1024x4096 (Arg3 m c) shapeCasts_S4x256x4096_S1024x4096 := by
  show StableHlo.after hostOps0 (fun b => m (c, b)) (Proc.devRef .tc main_v3) = _
  simp only [hostOps0, StableHlo.TRef.unary, cast_eq]
  after_results <;> rfl

/-- A row of a branch, flattened, is a batch entry's position. -/
theorem flat_apply (x : Vec Ideal S4x256x2048 .bf16) (t : Fin cfg0.N) (r : Fin 256) (k : Fin 2048) :
    shapeCast S1024x2048 x shapeCasts_S4x256x2048_S1024x2048 (ix2 (row t r) k) = x (ix3 (batch t) (pos t r) k) := by
  refine shapeCast_apply (s := S4x256x2048) (t := S1024x2048) _ _ (ix2 (row t r) k) (ix3 (batch t) (pos t r) k) ?_
  rw [Shape.rowMajor_val_three, Shape.rowMajor_val_two]
  show (t.val / 8 * 256 + r.val) * 2048 + k.val = (t.val / 8 * 256 + r.val) * 2048 + k.val
  omega

theorem iblk0_apply (t : Fin cfg0.N) (r : Fin 256) (k : Fin 2048) :
    iblk m c 0 t (ix2 r k) = Arg0 m c (ix3 (batch t) (pos t r) k) := by
  obtain ⟨e0, e1⟩ := idx0 t
  have e : ((cfg0.win 0).blk t).view.emb (ix2 r k) = (ix2 (row t r) k : S1024x2048.Idx) := by
    funext a; apply Fin.ext
    match a with
    | ⟨0, _⟩ => show win0_0.index t (0 : Fin 2) * 256 + 1 * r.val = t.val / 8 * 256 + r.val; omega
    | ⟨1, _⟩ => show win0_0.index t (1 : Fin 2) * 2048 + 1 * k.val = k.val; omega
  exact (congrArg (V m c main_v1) e).trans ((congrFun (V1 m c) _).trans (flat_apply _ t r k))

theorem iblk1_apply (t : Fin cfg0.N) (r : Fin 256) (k : Fin 2048) :
    iblk m c 1 t (ix2 r k) = Arg1 m c (ix3 (batch t) (pos t r) k) := by
  obtain ⟨e0, e1⟩ := idx1 t
  have e : ((cfg0.win 1).blk t).view.emb (ix2 r k) = (ix2 (row t r) k : S1024x2048.Idx) := by
    funext a; apply Fin.ext
    match a with
    | ⟨0, _⟩ => show win0_1.index t (0 : Fin 2) * 256 + 1 * r.val = t.val / 8 * 256 + r.val; omega
    | ⟨1, _⟩ => show win0_1.index t (1 : Fin 2) * 2048 + 1 * k.val = k.val; omega
  exact (congrArg (V m c main_v2) e).trans ((congrFun (V2 m c) _).trans (flat_apply _ t r k))

theorem iblk2_apply (t : Fin cfg0.N) (k : Fin 2048) (l : Fin 512) :
    iblk m c 2 t (ix3 0 k l) = Arg2 m c (ix3 0 ⟨k.val, by omega⟩ (col t l)) := by
  obtain ⟨e0, e1, e2⟩ := idx2 t
  have e : ((cfg0.win 2).blk t).view.emb (ix3 0 k l) = (ix3 0 ⟨k.val, by omega⟩ (col t l) : S2x4096x4096.Idx) := by
    funext a; apply Fin.ext
    match a with
    | ⟨0, _⟩ => show win0_2.index t (0 : Fin 3) * 1 + 1 * 0 = 0; omega
    | ⟨1, _⟩ => show win0_2.index t (1 : Fin 3) * 2048 + 1 * k.val = k.val; omega
    | ⟨2, _⟩ => show win0_2.index t (2 : Fin 3) * 512 + 1 * l.val = t.val % 8 * 512 + l.val; omega
  exact (congrArg (V m c main_v0) e).trans (congrFun (V0 m c) _)

theorem iblk3_apply (t : Fin cfg0.N) (k : Fin 2048) (l : Fin 512) :
    iblk m c 3 t (ix3 0 k l) = Arg2 m c (ix3 0 ⟨2048 + k.val, by omega⟩ (col t l)) := by
  obtain ⟨e0, e1, e2⟩ := idx3 t
  have e : ((cfg0.win 3).blk t).view.emb (ix3 0 k l) = (ix3 0 ⟨2048 + k.val, by omega⟩ (col t l) : S2x4096x4096.Idx) := by
    funext a; apply Fin.ext
    match a with
    | ⟨0, _⟩ => show win0_3.index t (0 : Fin 3) * 1 + 1 * 0 = 0; omega
    | ⟨1, _⟩ => show win0_3.index t (1 : Fin 3) * 2048 + 1 * k.val = 2048 + k.val; omega
    | ⟨2, _⟩ => show win0_3.index t (2 : Fin 3) * 512 + 1 * l.val = t.val % 8 * 512 + l.val; omega
  exact (congrArg (V m c main_v0) e).trans (congrFun (V0 m c) _)

theorem iblk4_apply (t : Fin cfg0.N) (r : Fin 256) (l : Fin 512) :
    iblk m c 4 t (ix2 r l) = Arg3 m c (ix3 (batch t) (pos t r) (col t l)) := by
  obtain ⟨e0, e1⟩ := idx4 t
  have e : ((cfg0.win 4).blk t).view.emb (ix2 r l) = (ix2 (row t r) (col t l) : S1024x4096.Idx) := by
    funext a; apply Fin.ext
    match a with
    | ⟨0, _⟩ => show win0_4.index t (0 : Fin 2) * 256 + 1 * r.val = t.val / 8 * 256 + r.val; omega
    | ⟨1, _⟩ => show win0_4.index t (1 : Fin 2) * 512 + 1 * l.val = t.val % 8 * 512 + l.val; omega
  refine (congrArg (V m c main_v3) e).trans ((congrFun (V3 m c) _).trans ?_)
  refine shapeCast_apply (s := S4x256x4096) (t := S1024x4096) _ _ (ix2 (row t r) (col t l)) (ix3 (batch t) (pos t r) (col t l)) ?_
  rw [Shape.rowMajor_val_three, Shape.rowMajor_val_two]
  show (t.val / 8 * 256 + r.val) * 4096 + (t.val % 8 * 512 + l.val) = (t.val / 8 * 256 + r.val) * 4096 + (t.val % 8 * 512 + l.val)
  omega

theorem iblk5_apply (t : Fin cfg0.N) (l : Fin 512) :
    iblk m c 5 t (ix3 0 0 l) = Arg4 m c (ix3 0 0 (col t l)) := by
  obtain ⟨e0, e1, e2⟩ := idx5 t
  have e : ((cfg0.win 5).blk t).view.emb (ix3 0 0 l) = (ix3 0 0 (col t l) : S1x1x4096.Idx) := by
    funext a; apply Fin.ext
    match a with
    | ⟨0, _⟩ => show win0_5.index t (0 : Fin 3) * 1 + 1 * 0 = 0; omega
    | ⟨1, _⟩ => show win0_5.index t (1 : Fin 3) * 1 + 1 * 0 = 0; omega
    | ⟨2, _⟩ => show win0_5.index t (2 : Fin 3) * 512 + 1 * l.val = t.val % 8 * 512 + l.val; omega
  exact (congrArg (V m c main_arg4) e).trans (congrFun (V_main_arg4 m c) _)

/-- The body at an index. -/
theorem pay_apply (a : Vec Ideal S256x2048 .bf16) (w : Vec Ideal S1x2048x512 .bf16) (a' : Vec Ideal S256x2048 .bf16) (w' : Vec Ideal S1x2048x512 .bf16)
    (x : Vec Ideal S256x512 .f32) (g : Vec Ideal S1x1x512 .f32) (r : Fin 256) (l : Fin 512) :
    k0_pay1 a w a' w' x g (ix2 r l) = x (ix2 r l) + g (ix3 0 0 l)
      * ((∑ k : Fin 2048, a (ix2 r k) * w (ix3 0 k l)) + ∑ k : Fin 2048, a' (ix2 r k) * w' (ix3 0 k l)) := by
  pointwise [k0_pay1]

/-- A grid point leaves the reference's result at its own rows and columns. -/
theorem point_eq (t : Fin cfg0.N) (y : S256x512.Idx) :
    out0_6 (iblk m c 0 t) (iblk m c 1 t) (iblk m c 2 t) (iblk m c 3 t) (iblk m c 4 t) (iblk m c 5 t) y = out m c (((cfg0.win 6).blk t).view.emb y) := by
  obtain ⟨e0, e1⟩ := idx6 t
  unfold out0_6
  refine View.canon_apply_of_pieces (fun y : S256x512.Idx => out m c (((cfg0.win 6).blk t).view.emb y)) _ (fun p hp x => ?_) y (cover0_6 _ y)
  simp only [List.mem_cons, List.mem_nil_iff, or_false] at hp
  subst hp
  obtain ⟨r, l, rfl⟩ : ∃ (r : Fin 256) (l : Fin 512), x = ix2 r l := ⟨x 0, x 1, eq_ix2 x⟩
  have e : ((cfg0.win 6).blk t).view.emb (r0_2.emb (ix2 r l)) = (ix2 (row t r) (col t l) : S1024x4096.Idx) := by
    funext a; apply Fin.ext
    match a with
    | ⟨0, _⟩ => show win0_6.index t (0 : Fin 2) * 256 + 1 * (0 + 1 * r.val) = t.val / 8 * 256 + r.val; omega
    | ⟨1, _⟩ => show win0_6.index t (1 : Fin 2) * 512 + 1 * (0 + 1 * l.val) = t.val % 8 * 512 + l.val; omega
  refine Eq.trans ?_ (congrArg (out m c) e).symm
  have eb : (⟨(row t r).val / 256, by omega⟩ : Fin 4) = batch t := Fin.ext (by show (t.val / 8 * 256 + r.val) / 256 = t.val / 8; omega)
  have ep : (⟨(row t r).val % 256, by omega⟩ : Fin 256) = pos t r := Fin.ext (by show (t.val / 8 * 256 + r.val) % 256 = r.val; omega)
  have hr : ∀ k : Fin 2048, r0_0.emb (ix2 r k) = (ix2 r k : S256x2048.Idx) := fun k => by
    funext a; apply Fin.ext
    match a with
    | ⟨0, _⟩ => show 0 + 1 * r.val = r.val; omega
    | ⟨1, _⟩ => show 0 + 1 * k.val = k.val; omega
  have hw : ∀ k : Fin 2048, r0_1.emb (ix3 0 k l) = (ix3 0 k l : S1x2048x512.Idx) := fun k => by
    funext a; apply Fin.ext
    match a with
    | ⟨0, _⟩ => rfl
    | ⟨1, _⟩ => show 0 + 1 * k.val = k.val; omega
    | ⟨2, _⟩ => show 0 + 1 * l.val = l.val; omega
  have hx : r0_2.emb (ix2 r l) = (ix2 r l : S256x512.Idx) := by
    funext a; apply Fin.ext
    match a with
    | ⟨0, _⟩ => show 0 + 1 * r.val = r.val; omega
    | ⟨1, _⟩ => show 0 + 1 * l.val = l.val; omega
  have hg : r0_3.emb (ix3 0 0 l) = (ix3 0 0 l : S1x1x512.Idx) := by
    funext a; apply Fin.ext
    match a with
    | ⟨0, _⟩ => rfl
    | ⟨1, _⟩ => rfl
    | ⟨2, _⟩ => show 0 + 1 * l.val = l.val; omega
  refine (pay_apply _ _ _ _ _ _ r l).trans (Eq.trans ?_ (congrArg₂ (fun b p => result (Arg0 m c) (Arg1 m c) (Arg2 m c) (Arg3 m c) (Arg4 m c) b p (col t l)) eb ep).symm)
  refine congrArg₂ (· + ·) ((congrArg (iblk m c 4 t) hx).trans (iblk4_apply m c t r l)) (congrArg₂ (· * ·) ((congrArg (iblk m c 5 t) hg).trans (iblk5_apply m c t l)) ?_)
  refine congrArg₂ (· + ·) (Finset.sum_congr rfl fun k _ => congrArg₂ (· * ·) ?_ ?_) (Finset.sum_congr rfl fun k _ => congrArg₂ (· * ·) ?_ ?_)
  · exact (congrArg (iblk m c 0 t) (hr k)).trans (iblk0_apply m c t r k)
  · exact (congrArg (iblk m c 2 t) (hw k)).trans (iblk2_apply m c t k l)
  · exact (congrArg (iblk m c 1 t) (hr k)).trans (iblk1_apply m c t r k)
  · exact (congrArg (iblk m c 3 t) (hw k)).trans (iblk3_apply m c t k l)

/-- Every index of the result lies in some grid point's block. -/
theorem cover (i : S1024x4096.Idx) : ∃ t : Fin cfg0.N, (cfg0.win 6).flush t = true ∧ i ∈ ((cfg0.win 6).blk t).view.set := by
  have h0 : (i 0).val < 1024 := (i 0).isLt
  have h1 : (i 1).val < 4096 := (i 1).isLt
  have ht : (i 0).val / 256 * 8 + (i 1).val / 512 < cfg0.N := by show _ < 32; omega
  obtain ⟨t, hv⟩ : ∃ t : Fin cfg0.N, t.val = (i 0).val / 256 * 8 + (i 1).val / 512 := ⟨⟨_, ht⟩, rfl⟩
  refine ⟨t, flush0_6 _, ?_⟩
  obtain ⟨e0, e1⟩ := idx6 t
  show i ∈ ((View.whole main_v4).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 512 ≤ (i 1).val ∧ (i 1).val < win0_6.index t (1 : Fin 2) * 512 + 512
    omega

/-- The result array after the run is the reference's result. -/
theorem out_eq : (dats m 0 c).arrAt 6 cfg0.N = out m c :=
  (dats m 0 c).arrAt_eq_of_cover 6 (out m c)
    (fun t _ => (Cert.OutProjCtxIdeal.Value.flushed6 m c t).trans (funext fun y => point_eq m c t y)) cover

/-- The kernel's frame. -/
theorem frame_p : Cert.quiescent_OutProjCtx := fun m ρ _ => Cert.OutProjCtx.Gen.frame m ρ
/-- The idealized kernel's frame. -/
theorem frame_pi : Cert.quiescent_OutProjCtxIdeal := fun m ρ _ => Cert.OutProjCtxIdeal.Gen.frame m ρ
/-- The reference's frame. -/
theorem frame_ri : Cert.quiescent_OutProjCtxReferenceIdeal := fun m ρ _ =>
  (θ_run Cert.OutProjCtxReferenceIdeal.defs _ _).mono (fun r h => ⟨fun c => (h c).2, sem_eq_zero_of_no_sems (by decide) r.2⟩)
    (Cert.OutProjCtxReferenceIdeal.Value.run (F := Ideal) m ρ)
/-- Nothing is rewritten. -/
theorem preserves : Cert.preserves_OutProjCtx_OutProjCtxIdeal := trivial

/-- From arguments that agree, the kernel and the reference end with equal results. -/
theorem algebraic : Cert.algebraic_OutProjCtxIdeal_OutProjCtxReferenceIdeal := by
  intro m g m' g' hpre hargs
  refine ⟨fun c => out m c, ?_, ?_⟩
  · refine (θ_run Cert.OutProjCtxIdeal.defs _ _).mono (fun r h c => ?_) (Cert.OutProjCtxIdeal.Value.run_blocks m g)
    obtain ⟨h0, h1⟩ := h c
    exact ⟨h0.trans (out_eq m c), h1⟩
  · refine (θ_run Cert.OutProjCtxReferenceIdeal.defs _ _).mono (fun r h c => ?_) (Cert.OutProjCtxReferenceIdeal.Value.run (F := Ideal) m' g')
    obtain ⟨h0, h1⟩ := h c
    obtain ⟨e0, e1, e2, e3, e4⟩ := hargs c
    refine ⟨h0.trans ?_, h1⟩
    rw [e0, e1, e2, e3, e4]
    refine funext fun i => ?_
    obtain ⟨r, l, rfl⟩ : ∃ (r : Fin 1024) (l : Fin 4096), i = ix2 r l := ⟨i 0, i 1, eq_ix2 i⟩
    exact ref_apply (Arg0 m c) (Arg1 m c) (Arg2 m c) (Arg3 m c) (Arg4 m c) r l

end Proj.OutProjCtx

end
-- ==== Proof.Proj.Modulate.lean ====
module

public import proofs.«01_k».proof.Defs
public import proofs.«01_k».proof.Proof.Gen.Modulate.Frame
public import proofs.«01_k».proof.Proof.Gen.ModulateIdeal.Value
public import proofs.«01_k».proof.Proof.Gen.ModulateReferenceIdeal.Run
public import Idealize.ShloMosaic.Lib.Pointwise
public import Idealize.ShloMosaic.Lib.Quiescent

/-!
# The norm and the modulation before an in-projection

A grid point norms and modulates 512 rows of one batch entry; the points' blocks tile the result.
-/

@[expose] public section

set_option maxRecDepth 16384

noncomputable section

namespace Proj.Modulate

open Idealize.ShloMosaic Idealize.SL.Sem
open scoped BigOperators

section Reference

open Cert.ModulateReferenceIdeal Cert.ModulateReferenceIdeal.Gen

/-- A row over its root mean square, at a lane, times the lane's gain. -/
def normed (x : Fin 4096 → EReal) (g : EReal) (l : Fin 4096) : EReal :=
  x l * Ideal.rsqrt (Ideal.div (∑ k, x k * x k) (Ideal.ofBits .f32 0x45800000#32) + Ideal.ofBits .f32 0x358637BD#32) * g

/-- A normed row, scaled and shifted at a lane. -/
def modulated (x : Fin 4096 → EReal) (g sc sh : EReal) (l : Fin 4096) : EReal :=
  normed x g l * (Ideal.ofBits .f32 0x3F800000#32 + sc) + sh

/-- Every row normed and modulated by its batch entry's vectors. -/
def result (x : Vec Ideal S4x4096x4096 .f32) (g : Vec Ideal S4096 .f32) (sc sh : Vec Ideal S4x1x4096 .f32) : Vec Ideal S4x4096x4096 .bf16 :=
  fun i => modulated (fun k => x (ix3 (i 0) (i 1) k)) (g (ix1 (i 2))) (sc (ix3 (i 0) 0 (i 2))) (sh (ix3 (i 0) 0 (i 2))) (i 2)

/-- The reference at an index. -/
theorem ref_apply (x : Vec Ideal S4x4096x4096 .f32) (g : Vec Ideal S4096 .f32) (sc sh : Vec Ideal S4x1x4096 .f32) (b : Fin 4) (p l : Fin 4096) :
    (truncf (F := Ideal) .bf16 (addf (φ := .f32) (mulf (mulf (mulf x (broadcastInDim S4x4096x4096 ![0, 1, 2] bcast_S4x4096x1_S4x4096x4096_0_1_2 (Host.rsqrt (addf (Host.divf (broadcastInDim S4x4096x1 ![0, 1] bcast_S4x4096_S4x4096x1_0_1
        (Host.reduceAdd (mulf x x) (constant S_ .f32 0x00000000#32) reducesTo_S4x4096x4096_S4x4096_d2 h_S_)) (broadcastInDim S4x4096x1 ![] bcast_S_S4x4096x1 (constant S_ .f32 0x45800000#32)))
        (broadcastInDim S4x4096x1 ![] bcast_S_S4x4096x1 (constant S_ .f32 0x358637BD#32))))))
        (broadcastInDim S4x4096x4096 ![0, 1, 2] bcast_S1x1x4096_S4x4096x4096_0_1_2 (broadcastInDim S1x1x4096 ![2] bcast_S4096_S1x1x4096_2 g)))
        (broadcastInDim S4x4096x4096 ![0, 1, 2] bcast_S4x1x4096_S4x4096x4096_0_1_2 (addf (broadcastInDim S4x1x4096 ![] bcast_S_S4x1x4096 (constant S_ .f32 0x3F800000#32)) sc)))
        (broadcastInDim S4x4096x4096 ![0, 1, 2] bcast_S4x1x4096_S4x4096x4096_0_1_2 sh)) bitsLt_bf16_f32) (ix3 b p l)
      = result x g sc sh (ix3 b p l) := by
  unfold result modulated normed
  pointwise

end Reference

open Cert.ModulateIdeal Cert.ModulateIdeal.Gen

variable (m : (ℓ : Loc nD τ sig) → Buf (Elt Ideal) ℓ) (c : Dev nD)

/-- The latent stream, the gains, and the batch entries' scales and shifts. -/
abbrev Arg0 : Vec Ideal S4x4096x4096 .f32 := m ((c.tc : Thread nD τ).loc main_arg0)
abbrev Arg1 : Vec Ideal S4096 .f32 := m ((c.tc : Thread nD τ).loc main_arg1)
abbrev Arg2 : Vec Ideal S4x1x4096 .f32 := m ((c.tc : Thread nD τ).loc main_arg2)
abbrev Arg3 : Vec Ideal S4x1x4096 .f32 := m ((c.tc : Thread nD τ).loc main_arg3)

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)

/-- A grid point's batch entry and its rows' positions. -/
def batch (t : Fin cfg0.N) : Fin 4 := ⟨t.val / 8, by have : t.val < 32 := t.isLt; omega⟩
def pos (t : Fin cfg0.N) (r : Fin 512) : Fin 4096 := ⟨t.val % 8 * 512 + r.val, by omega⟩

theorem V0 : V m c main_v0 = shapeCast S1x4096 (Arg1 m c) shapeCasts_S4096_S1x4096 := by
  show StableHlo.after hostOps0 (fun b => m (c, b)) (Proc.devRef .tc main_v0) = _
  simp only [hostOps0, StableHlo.TRef.unary, cast_eq]
  after_results <;> rfl

theorem iblk0_apply (t : Fin cfg0.N) (r : Fin 512) (k : Fin 4096) :
    iblk m c 0 t (ix3 0 r k) = Arg0 m c (ix3 (batch t) (pos t r) k) := by
  obtain ⟨e0, e1, e2⟩ := idx0 t
  have e : ((cfg0.win 0).blk t).view.emb (ix3 0 r k) = (ix3 (batch t) (pos t r) k : S4x4096x4096.Idx) := by
    funext a; apply Fin.ext
    match a with
    | ⟨0, _⟩ => show win0_0.index t (0 : Fin 3) * 1 + 1 * 0 = t.val / 8; omega
    | ⟨1, _⟩ => show win0_0.index t (1 : Fin 3) * 512 + 1 * r.val = t.val % 8 * 512 + r.val; omega
    | ⟨2, _⟩ => show win0_0.index t (2 : Fin 3) * 4096 + 1 * k.val = k.val; omega
  exact (congrArg (V m c main_arg0) e).trans (congrFun (V_main_arg0 m c) _)

theorem iblk1_apply (t : Fin cfg0.N) (l : Fin 4096) :
    iblk m c 1 t (ix2 0 l) = Arg1 m c (ix1 l) := by
  obtain ⟨e0, e1⟩ := idx1 t
  have e : ((cfg0.win 1).blk t).view.emb (ix2 0 l) = (ix2 0 l : S1x4096.Idx) := by
    funext a; apply Fin.ext
    match a with
    | ⟨0, _⟩ => show win0_1.index t (0 : Fin 2) * 1 + 1 * 0 = 0; omega
    | ⟨1, _⟩ => show win0_1.index t (1 : Fin 2) * 4096 + 1 * l.val = l.val; omega
  refine (congrArg (V m c main_v0) e).trans ((congrFun (V0 m c) _).trans ?_)
  exact shapeCast_apply (s := S4096) (t := S1x4096) _ _ (ix2 0 l) (ix1 l) (by
    rw [Shape.rowMajor_val_one, Shape.rowMajor_val_two]
    show l.val = 0 * 4096 + l.val
    omega)

theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, _)

theorem iblk2_apply (t : Fin cfg0.N) (l : Fin 4096) :
    iblk m c 2 t (ix3 0 0 l) = Arg2 m c (ix3 (batch t) 0 l) := by
  obtain ⟨e0, e1, e2⟩ := idx2 t
  have e : ((cfg0.win 2).blk t).view.emb (ix3 0 0 l) = (ix3 (batch t) 0 l : S4x1x4096.Idx) := by
    funext a; apply Fin.ext
    match a with
    | ⟨0, _⟩ => show win0_2.index t (0 : Fin 3) * 1 + 1 * 0 = t.val / 8; omega
    | ⟨1, _⟩ => show win0_2.index t (1 : Fin 3) * 1 + 1 * 0 = 0; omega
    | ⟨2, _⟩ => show win0_2.index t (2 : Fin 3) * 4096 + 1 * l.val = l.val; omega
  exact (congrArg (V m c main_arg2) e).trans (congrFun (V_main_arg2 m c) _)

theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, _)

theorem iblk3_apply (t : Fin cfg0.N) (l : Fin 4096) :
    iblk m c 3 t (ix3 0 0 l) = Arg3 m c (ix3 (batch t) 0 l) := by
  obtain ⟨e0, e1, e2⟩ := idx3 t
  have e : ((cfg0.win 3).blk t).view.emb (ix3 0 0 l) = (ix3 (batch t) 0 l : S4x1x4096.Idx) := by
    funext a; apply Fin.ext
    match a with
    | ⟨0, _⟩ => show win0_3.index t (0 : Fin 3) * 1 + 1 * 0 = t.val / 8; omega
    | ⟨1, _⟩ => show win0_3.index t (1 : Fin 3) * 1 + 1 * 0 = 0; omega
    | ⟨2, _⟩ => show win0_3.index t (2 : Fin 3) * 4096 + 1 * l.val = l.val; omega
  exact (congrArg (V m c main_arg3) e).trans (congrFun (V_main_arg3 m c) _)

/-- The body at an index. -/
theorem pay_apply (x : Vec Ideal S1x512x4096 .f32) (g : Vec Ideal S1x4096 .f32) (sc sh : Vec Ideal S1x1x4096 .f32) (r : Fin 512) (l : Fin 4096) :
    k0_pay1 x g sc sh (ix3 0 r l) = modulated (fun k => x (ix3 0 r k)) (g (ix2 0 l)) (sc (ix3 0 0 l)) (sh (ix3 0 0 l)) l := by
  unfold modulated normed
  pointwise [k0_pay1]

/-- A grid point leaves its own rows normed and modulated. -/
theorem point_eq (t : Fin cfg0.N) (y : S1x512x4096.Idx) :
    out0_4 (iblk m c 0 t) (iblk m c 1 t) (iblk m c 2 t) (iblk m c 3 t) y = result (Arg0 m c) (Arg1 m c) (Arg2 m c) (Arg3 m c) (((cfg0.win 4).blk t).view.emb y) := by
  obtain ⟨e0, e1, e2⟩ := idx4 t
  unfold out0_4
  refine View.canon_apply_of_pieces (fun y : S1x512x4096.Idx => result (Arg0 m c) (Arg1 m c) (Arg2 m c) (Arg3 m c) (((cfg0.win 4).blk t).view.emb y)) _ (fun p hp x => ?_) y (cover0_4 _ y)
  simp only [List.mem_cons, List.mem_nil_iff, or_false] at hp
  subst hp
  obtain ⟨r, l, rfl⟩ : ∃ (r : Fin 512) (l : Fin 4096), x = ix3 0 r l :=
    ⟨x 1, x 2, funext fun a => match a with | ⟨0, _⟩ => Subsingleton.elim (α := Fin 1) _ _ | ⟨1, _⟩ => rfl | ⟨2, _⟩ => rfl⟩
  have e : ((cfg0.win 4).blk t).view.emb (r0_0.emb (ix3 0 r l)) = (ix3 (batch t) (pos t r) l : S4x4096x4096.Idx) := by
    funext a; apply Fin.ext
    match a with
    | ⟨0, _⟩ => show win0_4.index t (0 : Fin 3) * 1 + 1 * (0 + 1 * 0) = t.val / 8; omega
    | ⟨1, _⟩ => show win0_4.index t (1 : Fin 3) * 512 + 1 * (0 + 1 * r.val) = t.val % 8 * 512 + r.val; omega
    | ⟨2, _⟩ => show win0_4.index t (2 : Fin 3) * 4096 + 1 * (0 + 1 * l.val) = l.val; omega
  refine Eq.trans ?_ (congrArg (result (Arg0 m c) (Arg1 m c) (Arg2 m c) (Arg3 m c)) e).symm
  refine (pay_apply _ _ _ _ r l).trans ?_
  have h0 : (fun k : Fin 4096 => View.ld (iblk m c 0 t) r0_0 (ix3 0 r k)) = fun k => Arg0 m c (ix3 (batch t) (pos t r) k) := funext fun k => by
    refine Eq.trans (congrArg (iblk m c 0 t) ?_) (iblk0_apply m c t r k)
    funext a; apply Fin.ext
    match a with
    | ⟨0, _⟩ => rfl
    | ⟨1, _⟩ => show 0 + 1 * r.val = r.val; omega
    | ⟨2, _⟩ => show 0 + 1 * k.val = k.val; omega
  have h1 : View.ld (iblk m c 1 t) r0_1 (ix2 0 l) = Arg1 m c (ix1 l) := by
    refine Eq.trans (congrArg (iblk m c 1 t) ?_) (iblk1_apply m c t l)
    funext a; apply Fin.ext
    match a with
    | ⟨0, _⟩ => rfl
    | ⟨1, _⟩ => show 0 + 1 * l.val = l.val; omega
  have h2 : View.ld (iblk m c 2 t) r0_2 (ix3 0 0 l) = Arg2 m c (ix3 (batch t) 0 l) := by
    refine Eq.trans (congrArg (iblk m c 2 t) ?_) (iblk2_apply m c t l)
    funext a; apply Fin.ext
    match a with
    | ⟨0, _⟩ => rfl
    | ⟨1, _⟩ => rfl
    | ⟨2, _⟩ => show 0 + 1 * l.val = l.val; omega
  have h3 : View.ld (iblk m c 3 t) r0_2 (ix3 0 0 l) = Arg3 m c (ix3 (batch t) 0 l) := by
    refine Eq.trans (congrArg (iblk m c 3 t) ?_) (iblk3_apply m c t l)
    funext a; apply Fin.ext
    match a with
    | ⟨0, _⟩ => rfl
    | ⟨1, _⟩ => rfl
    | ⟨2, _⟩ => show 0 + 1 * l.val = l.val; omega
  have e4 : ∀ (x x' : Fin 4096 → EReal) (g g' sc sc' sh sh' : EReal), x = x' → g = g' → sc = sc' → sh = sh' → modulated x g sc sh l = modulated x' g' sc' sh' l := by
    intros; subst_vars; rfl
  exact e4 _ _ _ _ _ _ _ _ h0 h1 h2 h3

/-- Every index of the result lies in some grid point's block. -/
theorem cover (i : S4x4096x4096.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 4096 := (i 2).isLt
  have ht : (i 0).val * 8 + (i 1).val / 512 < cfg0.N := by show _ < 32; omega
  obtain ⟨t, hv⟩ : ∃ t : Fin cfg0.N, t.val = (i 0).val * 8 + (i 1).val / 512 := ⟨⟨_, ht⟩, rfl⟩
  refine ⟨t, flush0_4 _, ?_⟩
  obtain ⟨e0, e1, e2⟩ := idx4 t
  show i ∈ ((View.whole main_v1).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 4096 ≤ (i 2).val ∧ (i 2).val < win0_4.index t (2 : Fin 3) * 4096 + 4096
    omega

/-- The result array after the run is the modulated stream. -/
theorem out_eq : (dats m 0 c).arrAt 4 cfg0.N = result (Arg0 m c) (Arg1 m c) (Arg2 m c) (Arg3 m c) :=
  (dats m 0 c).arrAt_eq_of_cover 4 (result (Arg0 m c) (Arg1 m c) (Arg2 m c) (Arg3 m c))
    (fun t _ => (Cert.ModulateIdeal.Value.flushed4 m c t).trans (funext fun y => point_eq m c t y)) cover

/-- The kernel's frame. -/
theorem frame_p : Cert.quiescent_Modulate := fun m ρ _ => Cert.Modulate.Gen.frame m ρ
/-- The idealized kernel's frame. -/
theorem frame_pi : Cert.quiescent_ModulateIdeal := fun m ρ _ => Cert.ModulateIdeal.Gen.frame m ρ
/-- The reference's frame. -/
theorem frame_ri : Cert.quiescent_ModulateReferenceIdeal := fun m ρ _ =>
  (θ_run Cert.ModulateReferenceIdeal.defs _ _).mono (fun r h => ⟨fun c => (h c).2, sem_eq_zero_of_no_sems (by decide) r.2⟩)
    (Cert.ModulateReferenceIdeal.Value.run (F := Ideal) m ρ)
/-- Nothing is rewritten. -/
theorem preserves : Cert.preserves_Modulate_ModulateIdeal := trivial

/-- From arguments that agree, the kernel and the reference end with equal results. -/
theorem algebraic : Cert.algebraic_ModulateIdeal_ModulateReferenceIdeal := by
  intro m g m' g' hpre hargs
  refine ⟨fun c => result (Arg0 m c) (Arg1 m c) (Arg2 m c) (Arg3 m c), ?_, ?_⟩
  · refine (θ_run Cert.ModulateIdeal.defs _ _).mono (fun r h c => ?_) (Cert.ModulateIdeal.Value.run_blocks m g)
    obtain ⟨h0, h1⟩ := h c
    exact ⟨h0.trans (out_eq m c), h1⟩
  · refine (θ_run Cert.ModulateReferenceIdeal.defs _ _).mono (fun r h c => ?_) (Cert.ModulateReferenceIdeal.Value.run (F := Ideal) m' g')
    obtain ⟨h0, h1⟩ := h c
    obtain ⟨e0, e1, e2, e3⟩ := hargs c
    refine ⟨h0.trans ?_, h1⟩
    rw [e0, e1, e2, e3]
    refine funext fun i => ?_
    obtain ⟨b, p, l, rfl⟩ : ∃ (b : Fin 4) (p l : Fin 4096), i = ix3 b p l :=
      ⟨i 0, i 1, i 2, funext fun a => match a with | ⟨0, _⟩ => rfl | ⟨1, _⟩ => rfl | ⟨2, _⟩ => rfl⟩
    exact ref_apply (Arg0 m c) (Arg1 m c) (Arg2 m c) (Arg3 m c) b p l

end Proj.Modulate

end
-- ==== Proof.Neigh.Rows.lean ====
module

public import proofs.«01_k».proof.Proof.Gen.NeighbourIdeal.Value
public import proofs.«01_k».proof.Proof.Attn.Head
public import Idealize.ShloMosaic.Lib.Pipeline.Value

/-!
# One trip of the neighbourhood attention's body, by its 32 grid rows

A trip handles 32 rows of the 64 by 64 grid of positions.  A row's 64 queries are scored against the 512 keys of the
row's window and against the 256 context keys; `sWin` and `sCtx` are those scores, `rowMax`, `pWin`, `pCtx`, `rowSum` the
softmax's maximum, weights and sum, and `rowOut` the row's quotient.  The trip's stored value is the 32 rows joined
(`trip_eq`).
-/

@[expose] public section

set_option maxRecDepth 16384

noncomputable section

namespace Neigh

open Idealize.ShloMosaic Idealize.ShloMosaic.TcCoe Idealize.SL.Sem Cert.NeighbourIdeal Cert.NeighbourIdeal.Gen

theorem qSlice (u : Fin 32) : Shape.Slices S2048x128 ![64 * u.val, 0] S64x128 := by
  revert u; decide
theorem cSlice (u : Fin 32) : Shape.Slices S2048x256 ![64 * u.val, 0] S64x256 := by
  revert u; decide

theorem joinCtx (f : Fin 32 → (S64x256.Idx → EReal)) :
    Shape.Concatenates ((List.ofFn fun u : Fin 32 => (⟨S64x256, f u⟩ : (s : Shape) × (s.Idx → EReal))).map (·.1)) S2048x256 0 :=
  (by decide : Shape.Concatenates (List.replicate 32 S64x256) S2048x256 0)
theorem joinOut (f : Fin 32 → (S64x128.Idx → EReal)) :
    Shape.Concatenates ((List.ofFn fun u : Fin 32 => (⟨S64x128, f u⟩ : (s : Shape) × (s.Idx → EReal))).map (·.1)) S2048x128 0 :=
  (by decide : Shape.Concatenates (List.replicate 32 S64x128) S2048x128 0)

/-- The scores of a row's queries against the 512 keys of its window. -/
def sWin (q : FVec Ideal S1x2048x128 .bf16) (kl : FVec Ideal S1x512x128 .bf16) (bl : FVec Ideal S1x1x64x512 .f32) (u : Fin 32) : FVec Ideal S64x512 .f32 :=
  addf (matmul dot_S64x128_S512x128_S64x512_1_1_0_0_n_n none (extractStridedSlice S64x128 ![64 * u.val, 0] (k0_pay5 q) (qSlice u))
    (shapeCast S512x128 kl shapeCasts_S1x512x128_S512x128 : FVec Ideal S512x128 .bf16) (constant S64x512 .f32 0x00000000#32))
    (mulf (shapeCast S64x512 bl shapeCasts_S1x1x64x512_S64x512) (broadcast S64x512 (Named.named (F := Ideal) (φ := .f32) κ "log2e" 0x3FB8AA3B#32)))

/-- The scores of a row's queries against the 256 context keys. -/
def sCtx (q : FVec Ideal S1x2048x128 .bf16) (kc : FVec Ideal S1x256x128 .bf16) (u : Fin 32) : FVec Ideal S64x256 .f32 :=
  extractStridedSlice S64x256 ![64 * u.val, 0] (k0_pay6 (k0_pay1 kc) q) (cSlice u)

/-- The largest score of each query. -/
def rowMax (a : FVec Ideal S64x512 .f32) (b : FVec Ideal S64x256 .f32) : FVec Ideal S64x1 .f32 :=
  maximumf (shapeCast S64x1 (multiReduction .maximumf [1] S64 a 0xFF800000#32 reduces_S64x512_S64 (.inl rfl) rfl) shapeCasts_S64_S64x1)
    (shapeCast S64x1 (multiReduction .maximumf [1] S64 b 0xFF800000#32 reduces_S64x256_S64 (.inl rfl) rfl) shapeCasts_S64_S64x1)

/-- The weights of the window's keys. -/
def pWin (a : FVec Ideal S64x512 .f32) (b : FVec Ideal S64x256 .f32) : FVec Ideal S64x512 .f32 :=
  exp2 (subf a (broadcastTo S64x512 (rowMax a b) broadcasts_S64x1_S64x512))

/-- The weights of the context keys. -/
def pCtx (a : FVec Ideal S64x512 .f32) (b : FVec Ideal S64x256 .f32) : FVec Ideal S64x256 .f32 :=
  exp2 (subf b (broadcastTo S64x256 (rowMax a b) broadcasts_S64x1_S64x256))

/-- The sum of a query's weights. -/
def rowSum (a : FVec Ideal S64x512 .f32) (b : FVec Ideal S64x256 .f32) : FVec Ideal S64x1 .f32 :=
  addf (shapeCast S64x1 (multiReduction .add [1] S64 (pWin a b) 0x00000000#32 reduces_S64x512_S64 (.inl rfl) rfl) shapeCasts_S64_S64x1)
    (shapeCast S64x1 (multiReduction .add [1] S64 (pCtx a b) 0x00000000#32 reduces_S64x256_S64 (.inl rfl) rfl) shapeCasts_S64_S64x1)

/-- The context's part of the weighted sums of a trip's 2048 queries: the 32 rows' weights joined, times the values. -/
def ctxOut (a : Fin 32 → FVec Ideal S64x512 .f32) (b : Fin 32 → FVec Ideal S64x256 .f32) (vc : FVec Ideal S1x256x128 .bf16) : FVec Ideal S2048x128 .f32 :=
  matmul dot_S2048x256_S256x128_S2048x128_1_0_0_1_n_n none
    (concatenate S2048x256 0 (List.ofFn fun u : Fin 32 => ⟨S64x256, (truncf .bf16 (pCtx (a u) (b u)) bitsLt_bf16_f32 : S64x256.Idx → EReal)⟩) (joinCtx _))
    (k0_pay2 vc) (constant S2048x128 .f32 0x00000000#32)

/-- A row's result. -/
def rowOut (a : FVec Ideal S64x512 .f32) (b : FVec Ideal S64x256 .f32) (vl : FVec Ideal S1x512x128 .bf16) (oc : FVec Ideal S2048x128 .f32) (u : Fin 32) :
    FVec Ideal S64x128 .f32 :=
  divf (addf (matmul dot_S64x512_S512x128_S64x128_1_0_0_1_n_n none (truncf .bf16 (pWin a b) bitsLt_bf16_f32)
      (shapeCast S512x128 vl shapeCasts_S1x512x128_S512x128 : FVec Ideal S512x128 .bf16) (constant S64x128 .f32 0x00000000#32))
    (extractStridedSlice S64x128 ![64 * u.val, 0] oc (qSlice u))) (broadcastTo S64x128 (rowSum a b) broadcasts_S64x1_S64x128)

section
variable (arg2 arg3 arg4 : Memref sig .tc .vmem S1x4096x128 .bf16) (arg8 : Memref sig .tc .vmem S1x8x64x512 .f32) (v0 v2 : FVec Ideal S1x256x128 .bf16)
  (X2 : BufTy.Contents (Elt Ideal) arg2.view.ty) (X3 : BufTy.Contents (Elt Ideal) arg3.view.ty) (X4 : BufTy.Contents (Elt Ideal) arg4.view.ty)
  (X8 : BufTy.Contents (Elt Ideal) arg8.view.ty) (k : Fin k0_t1_loop.trips)

/-- A trip's queries. -/
def qLoad : FVec Ideal S1x2048x128 .bf16 :=
  View.readAt (Elt Ideal) arg2.view (Rect.unit (s := S1x4096x128) (k0_off1 k) S1x2048x128.size (k0_off1_inb k)).toLoadRect X2
/-- The keys, or the values, of a row's window. -/
def kLoad (u : Fin 32) : FVec Ideal S1x512x128 .bf16 :=
  View.readAt (Elt Ideal) arg3.view (Rect.unit (s := S1x4096x128) (k0_off2 k (BitVec.ofNat 32 u.val)) S1x512x128.size (k0_off2_inb k u)).toLoadRect X3
/-- The position biases of a row's window. -/
def bLoad (u : Fin 32) : FVec Ideal S1x1x64x512 .f32 :=
  View.readAt (Elt Ideal) arg8.view (Rect.unit (s := S1x8x64x512) (k0_off3 k (BitVec.ofNat 32 u.val)) S1x1x64x512.size (k0_off3_inb k u)).toLoadRect X8

/-- The 32 rows of a trip, joined. -/
def rows (q : FVec Ideal S1x2048x128 .bf16) (kl vl : Fin 32 → FVec Ideal S1x512x128 .bf16) (bl : Fin 32 → FVec Ideal S1x1x64x512 .f32)
    (kc vc : FVec Ideal S1x256x128 .bf16) : FVec Ideal S2048x128 .f32 :=
  concatenate S2048x128 0 (List.ofFn fun u : Fin 32 => ⟨S64x128, rowOut (sWin q (kl u) (bl u) u) (sCtx q kc u) (vl u)
    (ctxOut (fun u => sWin q (kl u) (bl u) u) (fun u => sCtx q kc u) vc) u⟩) (joinOut _)

theorem ctx_eq : trip_k0_t1.sl.v1232 (F := Ideal) arg2 arg3 arg8 v0 v2 X2 X3 X8 k
    = ctxOut (fun u => sWin (qLoad arg2 X2 k) (kLoad arg3 X3 k u) (bLoad arg8 X8 k u) u) (fun u => sCtx (qLoad arg2 X2 k) v0 u) v2 := by
  rfl

theorem trip_eq : trip_k0_t1.sl.v1489 (F := Ideal) arg2 arg3 arg4 arg8 v0 v2 X2 X3 X4 X8 k
    = rows (qLoad arg2 X2 k) (kLoad arg3 X3 k) (kLoad arg4 X4 k) (bLoad arg8 X8 k) v0 v2 := by
  rfl

end

end Neigh

end
-- ==== Proof.Neigh.RowsAt.lean ====
module

public import proofs.«01_k».proof.Proof.Neigh.Rows
public import Idealize.ShloMosaic.Lib.Pointwise

/-!
# The rows of a trip read at an index

The scores, the weights and the quotient of one query (row `u` of a trip, position `w` in the row) as sums over the
extended reals.
-/

@[expose] public section

set_option maxRecDepth 16384

noncomputable section

namespace Neigh

open Idealize.ShloMosaic Cert.NeighbourIdeal Cert.NeighbourIdeal.Gen
open scoped BigOperators

/-- The factor on the query: the score's scale over the logarithm of two. -/
def κs : EReal := Named.named (F := Ideal) (φ := .f32) κ "na_scale" 0x3E0293EE#32

/-- The factor on the position bias: one over the logarithm of two. -/
def κl : EReal := Named.named (F := Ideal) (φ := .f32) κ "log2e" 0x3FB8AA3B#32

theorem sWin_apply (q : FVec Ideal S1x2048x128 .bf16) (kl : FVec Ideal S1x512x128 .bf16) (bl : FVec Ideal S1x1x64x512 .f32) (u : Fin 32)
    (w : Fin 64) (j : Fin 512) :
    sWin q kl bl u (ix2 w j) = (∑ d : Fin 128, (q (ix3 0 ⟨64 * u.val + w.val, by omega⟩ d) * κs) * kl (ix3 0 j d)) + bl (ix4 0 0 w j) * κl := by
  unfold κs κl
  pointwise [sWin, k0_pay5]
theorem sCtx_apply (q : FVec Ideal S1x2048x128 .bf16) (kc : FVec Ideal S1x256x128 .bf16) (u : Fin 32)
    (w : Fin 64) (j : Fin 256) :
    sCtx q kc u (ix2 w j) = ∑ d : Fin 128, (q (ix3 0 ⟨64 * u.val + w.val, by omega⟩ d) * κs) * kc (ix3 0 j d) := by
  unfold κs
  pointwise [sCtx, k0_pay6, k0_pay1, k0_pay5]

theorem rowMax_apply (a : FVec Ideal S64x512 .f32) (b : FVec Ideal S64x256 .f32) (w : Fin 64) (z : Fin 1) :
    rowMax a b (ix2 w z) = max (Finset.univ.fold max ⊥ fun j : Fin 512 => a (ix2 w j)) (Finset.univ.fold max ⊥ fun j : Fin 256 => b (ix2 w j)) := by
  rw [← Attn.bot_eq]
  pointwise [rowMax]

theorem pWin_apply (a : FVec Ideal S64x512 .f32) (b : FVec Ideal S64x256 .f32) (w : Fin 64) (j : Fin 512) :
    pWin a b (ix2 w j) = Ideal.exp2 (a (ix2 w j) - rowMax a b (ix2 w 0)) := by
  pointwise [pWin]
  rfl
theorem pCtx_apply (a : FVec Ideal S64x512 .f32) (b : FVec Ideal S64x256 .f32) (w : Fin 64) (j : Fin 256) :
    pCtx a b (ix2 w j) = Ideal.exp2 (b (ix2 w j) - rowMax a b (ix2 w 0)) := by
  pointwise [pCtx]
  rfl
theorem rowSum_apply (a : FVec Ideal S64x512 .f32) (b : FVec Ideal S64x256 .f32) (w : Fin 64) (z : Fin 1) :
    rowSum a b (ix2 w z) = (∑ j : Fin 512, pWin a b (ix2 w j)) + ∑ j : Fin 256, pCtx a b (ix2 w j) := by
  pointwise [rowSum]

theorem rowOut_apply (a : FVec Ideal S64x512 .f32) (b : FVec Ideal S64x256 .f32) (vl : FVec Ideal S1x512x128 .bf16) (oc : FVec Ideal S2048x128 .f32)
    (u : Fin 32) (w : Fin 64) (e : Fin 128) :
    rowOut a b vl oc u (ix2 w e) = Ideal.div ((∑ j : Fin 512, pWin a b (ix2 w j) * vl (ix3 0 j e)) + oc (ix2 ⟨64 * u.val + w.val, by omega⟩ e))
      (rowSum a b (ix2 w 0)) := by
  pointwise [rowOut]

theorem ctxOut_apply (a : Fin 32 → FVec Ideal S64x512 .f32) (b : Fin 32 → FVec Ideal S64x256 .f32) (vc : FVec Ideal S1x256x128 .bf16)
    (u : Fin 32) (w : Fin 64) (e : Fin 128) :
    ctxOut a b vc (ix2 ⟨64 * u.val + w.val, by omega⟩ e) = ∑ j : Fin 256, pCtx (a u) (b u) (ix2 w j) * vc (ix3 0 j e) := by
  have h : ∀ X : FVec Ideal S2048x256 .bf16, (matmul dot_S2048x256_S256x128_S2048x128_1_0_0_1_n_n none X (k0_pay2 vc) (constant S2048x128 .f32 0x00000000#32)) (ix2 ⟨64 * u.val + w.val, by omega⟩ e)
      = ∑ j : Fin 256, X (ix2 ⟨64 * u.val + w.val, by omega⟩ j) * vc (ix3 0 j e) := by
    intro X
    pointwise [k0_pay2]
  unfold ctxOut
  rw [h]
  refine Finset.sum_congr rfl fun j _ => congrArg (· * _) ?_
  refine concatenate_ofFn_apply (s₁ := S64x256) (t := S2048x256) 0 (fun u : Fin 32 => (truncf .bf16 (pCtx (a u) (b u)) bitsLt_bf16_f32 : S64x256.Idx → EReal)) (joinCtx _) rfl 64 rfl
    (ix2 ⟨64 * u.val + w.val, by omega⟩ j) u ?_ (ix2 w j) ?_ ?_
  · show (64 * u.val + w.val) / 64 = u.val; omega
  · show w.val = (64 * u.val + w.val) % 64; omega
  · intro b hb
    match b with
    | ⟨0, _⟩ => exact absurd rfl hb
    | ⟨1, _⟩ => rfl

theorem rows_apply (q : FVec Ideal S1x2048x128 .bf16) (kl vl : Fin 32 → FVec Ideal S1x512x128 .bf16) (bl : Fin 32 → FVec Ideal S1x1x64x512 .f32)
    (kc vc : FVec Ideal S1x256x128 .bf16) (u : Fin 32) (w : Fin 64) (e : Fin 128) :
    rows q kl vl bl kc vc (ix2 ⟨64 * u.val + w.val, by omega⟩ e) = rowOut (sWin q (kl u) (bl u) u) (sCtx q kc u) (vl u)
    (ctxOut (fun u => sWin q (kl u) (bl u) u) (fun u => sCtx q kc u) vc) u (ix2 w e) := by
  unfold rows
  refine concatenate_ofFn_apply (s₁ := S64x128) (t := S2048x128) 0 (fun u : Fin 32 => (rowOut (sWin q (kl u) (bl u) u) (sCtx q kc u) (vl u)
    (ctxOut (fun u => sWin q (kl u) (bl u) u) (fun u => sCtx q kc u) vc) u : S64x128.Idx → EReal)) (joinOut _) rfl 64 rfl
    (ix2 ⟨64 * u.val + w.val, by omega⟩ e) u ?_ (ix2 w e) ?_ ?_
  · show (64 * u.val + w.val) / 64 = u.val; omega
  · show w.val = (64 * u.val + w.val) % 64; omega
  · intro b hb
    match b with
    | ⟨0, _⟩ => exact absurd rfl hb
    | ⟨1, _⟩ => rfl

/-- One query's result: the weights of its 512 window scores `sw` and 256 context scores `sc`, on the values `vw` and `vc`. -/
def attend (sw : Fin 512 → EReal) (sc : Fin 256 → EReal) (vw : Fin 512 → EReal) (vc : Fin 256 → EReal) : EReal :=
  Ideal.div ((∑ j : Fin 512, Ideal.exp2 (sw j - max (Finset.univ.fold max ⊥ sw) (Finset.univ.fold max ⊥ sc)) * vw j)
      + ∑ j : Fin 256, Ideal.exp2 (sc j - max (Finset.univ.fold max ⊥ sw) (Finset.univ.fold max ⊥ sc)) * vc j)
    ((∑ j : Fin 512, Ideal.exp2 (sw j - max (Finset.univ.fold max ⊥ sw) (Finset.univ.fold max ⊥ sc)))
      + ∑ j : Fin 256, Ideal.exp2 (sc j - max (Finset.univ.fold max ⊥ sw) (Finset.univ.fold max ⊥ sc)))

theorem rows_attend (q : FVec Ideal S1x2048x128 .bf16) (kl vl : Fin 32 → FVec Ideal S1x512x128 .bf16) (bl : Fin 32 → FVec Ideal S1x1x64x512 .f32)
    (kc vc : FVec Ideal S1x256x128 .bf16) (u : Fin 32) (w : Fin 64) (e : Fin 128) :
    rows q kl vl bl kc vc (ix2 ⟨64 * u.val + w.val, by omega⟩ e)
      = attend (fun j => (∑ d : Fin 128, (q (ix3 0 ⟨64 * u.val + w.val, by omega⟩ d) * κs) * kl u (ix3 0 j d)) + bl u (ix4 0 0 w j) * κl)
          (fun j => ∑ d : Fin 128, (q (ix3 0 ⟨64 * u.val + w.val, by omega⟩ d) * κs) * kc (ix3 0 j d))
          (fun j => vl u (ix3 0 j e)) (fun j => vc (ix3 0 j e)) := by
  rw [rows_apply, rowOut_apply, ctxOut_apply, rowSum_apply]
  simp only [pWin_apply, pCtx_apply, rowMax_apply, sWin_apply, sCtx_apply]
  rfl

/-- The stored value: the rows times the gate. -/
theorem stored_apply (o : FVec Ideal S2048x128 .f32) (g : FVec Ideal S1x2048x128 .bf16) (p : Fin 2048) (e : Fin 128) :
    k0_pay4 o g (ix3 0 p e) = o (ix2 p e) * (g (ix3 0 p e) * Ideal.div 1 (1 + Ideal.exp (-(g (ix3 0 p e))))) := by
  rw [← Attn.gate_eq, ← Attn.half_eq]
  pointwise [k0_pay4]

end Neigh

end
-- ==== Proof.Neigh.RefIdx.lean ====
module

public import proofs.«01_k».proof.Proof.Gen.NeighbourReferenceIdeal.Read
public import Idealize.ShloMosaic.Lib.Pointwise
public import Idealize.ShloMosaic.Lib.ValueIdxCore

/-!
# The window's indices in the reference

Row `r` looks at the eight rows from `min (r - 4) 56`, column `c` at the sixteen columns from `min (c - 8) 48`.
The reference's integer arrays hold these indices and, for the bias table, their offsets from the query.
-/

@[expose] public section

set_option maxRecDepth 16384

noncomputable section

namespace Neigh

/-- The first row of row `r`'s window. -/
def rs (r : ℕ) : ℕ := min (r - 4) 56
/-- The first column of column `c`'s window. -/
def cs (c : ℕ) : ℕ := min (c - 8) 48

theorem rs_le (r : ℕ) : rs r ≤ 56 := Nat.min_le_right _ _
theorem cs_le (c : ℕ) : cs c ≤ 48 := Nat.min_le_right _ _

end Neigh

namespace Neigh.Ref

open Idealize.ShloMosaic Cert.NeighbourReferenceIdeal Cert.NeighbourReferenceIdeal.Gen Cert.NeighbourReferenceIdeal.Read

theorem row_idx (r : Fin 64) (w : Fin 8) : val_main_v23 (F := Ideal) (ix2 r w) = BitVec.ofNat 32 (rs r.val + w.val) := by
  simp only [val_main_v23_apply, val_main_v21_apply, val_main_v22_apply, val_main_v20_apply, val_main_v19_apply, val_main_v18_apply,
    val_main_v17_apply, val_main_v16_apply, val_main_v15_apply, val_main_v13_apply, val_main_c_apply, val_main_c_0_apply, val_main_c_1_apply,
    val_main_call0_v0_apply, val_main_call0_v1_apply, val_main_call0_v2_apply, val_main_call0_v3_apply, val_main_call0_v4_apply]
  revert r w
  decide +kernel

theorem col_idx (c : Fin 64) (v : Fin 16) : val_main_v37 (F := Ideal) (ix2 c v) = BitVec.ofNat 32 (cs c.val + v.val) := by
  simp only [val_main_v37_apply, val_main_v36_apply, val_main_v35_apply, val_main_v34_apply, val_main_v33_apply, val_main_v32_apply,
    val_main_v31_apply, val_main_v30_apply, val_main_v29_apply, val_main_v14_apply, val_main_c_3_apply, val_main_c_4_apply, val_main_c_5_apply,
    val_main_call1_v0_apply, val_main_call1_v1_apply, val_main_call1_v2_apply, val_main_call1_v3_apply, val_main_call1_v4_apply]
  revert c v
  decide +kernel

/-- The rows' offset in the bias table. -/
theorem row_off (r : Fin 64) (w : Fin 8) : val_main_v62 (F := Ideal) (ix3 r w 0) = BitVec.ofNat 32 (rs r.val + w.val + 7 - r.val) := by
  simp only [val_main_v62_apply, val_main_v61_apply, val_main_v60_apply, val_main_v59_apply, val_main_v58_apply, val_main_v57_apply,
    val_main_c_9_apply, val_main_c_10_apply, val_main_v28_apply, val_main_v27_apply, val_main_v26_apply, val_main_v25_apply, val_main_v24_apply,
    val_main_c_2_apply, val_main_v23_apply, val_main_v21_apply, val_main_v22_apply, val_main_v20_apply, val_main_v19_apply, val_main_v18_apply,
    val_main_v17_apply, val_main_v16_apply, val_main_v15_apply, val_main_v13_apply, val_main_c_apply, val_main_c_0_apply, val_main_c_1_apply,
    val_main_call0_v0_apply, val_main_call0_v1_apply, val_main_call0_v2_apply, val_main_call0_v3_apply, val_main_call0_v4_apply]
  revert r w
  decide +kernel

/-- The columns' offset in the bias table. -/
theorem col_off (c : Fin 64) (v : Fin 16) : val_main_v48 (F := Ideal) (ix3 c v 0) = BitVec.ofNat 32 (cs c.val + v.val + 15 - c.val) := by
  simp only [val_main_v48_apply, val_main_v47_apply, val_main_v46_apply, val_main_v45_apply, val_main_v44_apply, val_main_v43_apply,
    val_main_v42_apply, val_main_v41_apply, val_main_v40_apply, val_main_v39_apply, val_main_v38_apply, val_main_c_6_apply, val_main_c_7_apply,
    val_main_c_8_apply, val_main_v37_apply, val_main_v36_apply, val_main_v35_apply, val_main_v34_apply, val_main_v33_apply, val_main_v32_apply,
    val_main_v31_apply, val_main_v30_apply, val_main_v29_apply, val_main_v14_apply, val_main_c_3_apply, val_main_c_4_apply, val_main_c_5_apply,
    val_main_call1_v0_apply, val_main_call1_v1_apply, val_main_call1_v2_apply, val_main_call1_v3_apply, val_main_call1_v4_apply]
  revert c v
  decide +kernel

/-- The start index of a take: the window's index, which is not negative. -/
theorem start2 (r : Fin 64) (w : Fin 8) (z : Fin 1) : val_main_call2_v5 (F := Ideal) (ix3 r w z) = BitVec.ofNat 32 (rs r.val + w.val) := by
  have e : val_main_call2_v5 (F := Ideal) (ix3 r w z) = val_main_call2_v4 (F := Ideal) (ix2 r w) := by
    rw [val_main_call2_v5_apply]; congr 1; funext a; match a with | ⟨0, _⟩ => rfl | ⟨1, _⟩ => rfl
  rw [e]
  clear e
  simp only [val_main_call2_v4_apply, val_main_call2_v3_apply, val_main_call2_v2_apply, val_main_call2_v1_apply, val_main_call2_v0_apply,
    val_main_call2_c_apply, val_main_call2_c_0_apply, row_idx]
  revert r w
  decide +kernel

/-- The take's index lies in the array. -/
theorem inb2 (r : Fin 64) (w : Fin 8) : val_main_call2_v12 (F := Ideal) (ix2 r w) = 1#1 := by
  have e : ∀ z : Fin 1, val_main_call2_v11 (F := Ideal) (ix3 r w z) = 1#1 := by
    intro z
    simp only [val_main_call2_v11_apply, val_main_call2_v10_apply, val_main_call2_v9_apply, val_main_call2_v8_apply, val_main_call2_v7_apply,
      val_main_call2_v6_apply, val_main_call2_c_1_apply, val_main_call2_c_2_apply, start2]
    revert r w
    decide +kernel
  unfold val_main_call2_v12
  generalize val_main_call2_v11 (F := Ideal) = y at e ⊢
  pointwise [val_main_call2_c_3]
  simp only [e]
  decide

/-- The start index of a take: the window's index, which is not negative. -/
theorem start3 (c : Fin 64) (v : Fin 16) (z : Fin 1) : val_main_call3_v5 (F := Ideal) (ix3 c v z) = BitVec.ofNat 32 (cs c.val + v.val) := by
  have e : val_main_call3_v5 (F := Ideal) (ix3 c v z) = val_main_call3_v4 (F := Ideal) (ix2 c v) := by
    rw [val_main_call3_v5_apply]; congr 1; funext a; match a with | ⟨0, _⟩ => rfl | ⟨1, _⟩ => rfl
  rw [e]
  clear e
  simp only [val_main_call3_v4_apply, val_main_call3_v3_apply, val_main_call3_v2_apply, val_main_call3_v1_apply, val_main_call3_v0_apply,
    val_main_call3_c_apply, val_main_call3_c_0_apply, col_idx]
  revert c v
  decide +kernel

/-- The take's index lies in the array. -/
theorem inb3 (c : Fin 64) (v : Fin 16) : val_main_call3_v12 (F := Ideal) (ix2 c v) = 1#1 := by
  have e : ∀ z : Fin 1, val_main_call3_v11 (F := Ideal) (ix3 c v z) = 1#1 := by
    intro z
    simp only [val_main_call3_v11_apply, val_main_call3_v10_apply, val_main_call3_v9_apply, val_main_call3_v8_apply, val_main_call3_v7_apply,
      val_main_call3_v6_apply, val_main_call3_c_1_apply, val_main_call3_c_2_apply, start3]
    revert c v
    decide +kernel
  unfold val_main_call3_v12
  generalize val_main_call3_v11 (F := Ideal) = y at e ⊢
  pointwise [val_main_call3_c_3]
  simp only [e]
  decide

/-- The start index of a take: the window's index, which is not negative. -/
theorem start4 (r : Fin 64) (w : Fin 8) (z : Fin 1) : val_main_call4_v5 (F := Ideal) (ix3 r w z) = BitVec.ofNat 32 (rs r.val + w.val) := by
  have e : val_main_call4_v5 (F := Ideal) (ix3 r w z) = val_main_call4_v4 (F := Ideal) (ix2 r w) := by
    rw [val_main_call4_v5_apply]; congr 1; funext a; match a with | ⟨0, _⟩ => rfl | ⟨1, _⟩ => rfl
  rw [e]
  clear e
  simp only [val_main_call4_v4_apply, val_main_call4_v3_apply, val_main_call4_v2_apply, val_main_call4_v1_apply, val_main_call4_v0_apply,
    val_main_call4_c_apply, val_main_call4_c_0_apply, row_idx]
  revert r w
  decide +kernel

/-- The take's index lies in the array. -/
theorem inb4 (r : Fin 64) (w : Fin 8) : val_main_call4_v12 (F := Ideal) (ix2 r w) = 1#1 := by
  have e : ∀ z : Fin 1, val_main_call4_v11 (F := Ideal) (ix3 r w z) = 1#1 := by
    intro z
    simp only [val_main_call4_v11_apply, val_main_call4_v10_apply, val_main_call4_v9_apply, val_main_call4_v8_apply, val_main_call4_v7_apply,
      val_main_call4_v6_apply, val_main_call4_c_1_apply, val_main_call4_c_2_apply, start4]
    revert r w
    decide +kernel
  unfold val_main_call4_v12
  generalize val_main_call4_v11 (F := Ideal) = y at e ⊢
  pointwise [val_main_call4_c_3]
  simp only [e]
  decide

/-- The start index of a take: the window's index, which is not negative. -/
theorem start5 (c : Fin 64) (v : Fin 16) (z : Fin 1) : val_main_call5_v5 (F := Ideal) (ix3 c v z) = BitVec.ofNat 32 (cs c.val + v.val) := by
  have e : val_main_call5_v5 (F := Ideal) (ix3 c v z) = val_main_call5_v4 (F := Ideal) (ix2 c v) := by
    rw [val_main_call5_v5_apply]; congr 1; funext a; match a with | ⟨0, _⟩ => rfl | ⟨1, _⟩ => rfl
  rw [e]
  clear e
  simp only [val_main_call5_v4_apply, val_main_call5_v3_apply, val_main_call5_v2_apply, val_main_call5_v1_apply, val_main_call5_v0_apply,
    val_main_call5_c_apply, val_main_call5_c_0_apply, col_idx]
  revert c v
  decide +kernel

/-- The take's index lies in the array. -/
theorem inb5 (c : Fin 64) (v : Fin 16) : val_main_call5_v12 (F := Ideal) (ix2 c v) = 1#1 := by
  have e : ∀ z : Fin 1, val_main_call5_v11 (F := Ideal) (ix3 c v z) = 1#1 := by
    intro z
    simp only [val_main_call5_v11_apply, val_main_call5_v10_apply, val_main_call5_v9_apply, val_main_call5_v8_apply, val_main_call5_v7_apply,
      val_main_call5_v6_apply, val_main_call5_c_1_apply, val_main_call5_c_2_apply, start5]
    revert c v
    decide +kernel
  unfold val_main_call5_v12
  generalize val_main_call5_v11 (F := Ideal) = y at e ⊢
  pointwise [val_main_call5_c_3]
  simp only [e]
  decide

end Neigh.Ref

end
-- ==== Proof.Neigh.Loads.lean ====
module

public import proofs.«01_k».proof.Proof.Neigh.RowsAt
public import proofs.«01_k».proof.Proof.Neigh.RefIdx
public import Idealize.ShloMosaic.Lib.WholeRead

/-!
# The loads of a trip read at an index

Trip `k` holds the grid rows `32 k` to `32 k + 31`: its queries are rows of 64 positions, and row `u`'s window starts at
grid row `rs (32 k + u)`.
-/

@[expose] public section

set_option maxRecDepth 16384

noncomputable section

namespace Neigh

open Idealize.ShloMosaic Cert.NeighbourIdeal Cert.NeighbourIdeal.Gen

theorem off1 : ∀ k : Fin k0_t1_loop.trips, k0_off1 k 0 = 0 ∧ k0_off1 k 1 = 2048 * k.val ∧ k0_off1 k 2 = 0 := by
  decide +kernel
theorem off2 : ∀ (k : Fin k0_t1_loop.trips) (u : Fin 32), k0_off2 k (BitVec.ofNat 32 u.val) 0 = 0 ∧ k0_off2 k (BitVec.ofNat 32 u.val) 1 = 64 * rs (32 * k.val + u.val)
    ∧ k0_off2 k (BitVec.ofNat 32 u.val) 2 = 0 := by
  decide +kernel
theorem off3 : ∀ (k : Fin k0_t1_loop.trips) (u : Fin 32), k0_off3 k (BitVec.ofNat 32 u.val) 0 = 0
    ∧ k0_off3 k (BitVec.ofNat 32 u.val) 1 = 32 * k.val + u.val - rs (32 * k.val + u.val)
    ∧ k0_off3 k (BitVec.ofNat 32 u.val) 2 = 0 ∧ k0_off3 k (BitVec.ofNat 32 u.val) 3 = 0 := by
  decide +kernel
theorem trips_two : ∀ k : Fin k0_t1_loop.trips, k.val < 2 := by
  decide +kernel

variable (a : Memref sig .tc .vmem S1x4096x128 .bf16) (ha : a.IsWhole) (x : FVec Ideal S1x4096x128 .bf16) (k : Fin k0_t1_loop.trips)

/-- A trip's rows of a block. -/
theorem qLoad_apply (p : Fin 2048) (d : Fin 128) (n : Fin 4096) (hn : n.val = 2048 * k.val + p.val) :
    qLoad a (ha.unread x) k (ix3 0 p d) = x (ix3 0 n d) := by
  obtain ⟨e0, e1, e2⟩ := off1 k
  unfold qLoad
  rw [Memref.IsWhole.readAt_unread]
  congr 1
  funext b; apply Fin.ext
  match b with
  | ⟨0, _⟩ => show k0_off1 k 0 + 1 * 0 = 0; omega
  | ⟨1, _⟩ => show k0_off1 k 1 + 1 * p.val = n.val; omega
  | ⟨2, _⟩ => show k0_off1 k 2 + 1 * d.val = d.val; omega

/-- A row's window of a block. -/
theorem kLoad_apply (u : Fin 32) (j : Fin 512) (d : Fin 128) (n : Fin 4096) (hn : n.val = 64 * rs (32 * k.val + u.val) + j.val) :
    kLoad a (ha.unread x) k u (ix3 0 j d) = x (ix3 0 n d) := by
  obtain ⟨e0, e1, e2⟩ := off2 k u
  unfold kLoad
  rw [Memref.IsWhole.readAt_unread]
  congr 1
  funext b; apply Fin.ext
  match b with
  | ⟨0, _⟩ => show k0_off2 k (BitVec.ofNat 32 u.val) 0 + 1 * 0 = 0; omega
  | ⟨1, _⟩ => show k0_off2 k (BitVec.ofNat 32 u.val) 1 + 1 * j.val = n.val; omega
  | ⟨2, _⟩ => show k0_off2 k (BitVec.ofNat 32 u.val) 2 + 1 * d.val = d.val; omega

/-- A row's biases: those of its class. -/
theorem bLoad_apply (b : Memref sig .tc .vmem S1x8x64x512 .f32) (hb : b.IsWhole) (y : FVec Ideal S1x8x64x512 .f32) (u : Fin 32) (w : Fin 64) (j : Fin 512)
    (n : Fin 8) (hn : n.val = 32 * k.val + u.val - rs (32 * k.val + u.val)) :
    bLoad b (hb.unread y) k u (ix4 0 0 w j) = y (ix4 0 n w j) := by
  obtain ⟨e0, e1, e2, e3⟩ := off3 k u
  unfold bLoad
  rw [Memref.IsWhole.readAt_unread]
  congr 1
  funext b; apply Fin.ext
  match b with
  | ⟨0, _⟩ => show k0_off3 k (BitVec.ofNat 32 u.val) 0 + 1 * 0 = 0; omega
  | ⟨1, _⟩ => show k0_off3 k (BitVec.ofNat 32 u.val) 1 + 1 * 0 = n.val; omega
  | ⟨2, _⟩ => show k0_off3 k (BitVec.ofNat 32 u.val) 2 + 1 * w.val = w.val; omega
  | ⟨3, _⟩ => show k0_off3 k (BitVec.ofNat 32 u.val) 3 + 1 * j.val = j.val; omega

end Neigh

end
-- ==== Proof.Neigh.Trips.lean ====
module

public import proofs.«01_k».proof.Proof.Neigh.Loads

/-!
# The block a grid point writes, by its two trips

Each trip stores 2048 positions of the block: the rows of `rows` times the gate (`stored`).  What the block holds after the
two trips is settled by what each trip stores at each of its own indices (`out_of_stored`).
-/

@[expose] public section

set_option maxRecDepth 16384

noncomputable section

namespace Neigh

open Idealize.ShloMosaic Idealize.ShloMosaic.TcCoe Idealize.SL.Sem Cert.NeighbourIdeal Cert.NeighbourIdeal.Gen

variable (c : Dev nD) (i : grid0.Coords) (arg2 : Memref sig .tc .vmem S1x4096x128 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x256x128 .bf16) (harg6 : arg6.IsWhole) (arg7 : Memref sig .tc .vmem S1x256x128 .bf16) (harg7 : arg7.IsWhole)
  (arg8 : Memref sig .tc .vmem S1x8x64x512 .f32) (harg8 : arg8.IsWhole) (arg9 : Memref sig .tc .vmem S1x4096x128 .bf16) (harg9 : arg9.IsWhole)
  (x0 x1 x2 x3 : FVec Ideal S1x4096x128 .bf16) (x4 x5 : FVec Ideal S1x256x128 .bf16) (x6 : FVec Ideal S1x8x64x512 .f32)

/-- The context's keys, or values, as loaded. -/
def cLoad (a : Memref sig .tc .vmem S1x256x128 .bf16) (ha : a.IsWhole) (x : FVec Ideal S1x256x128 .bf16) : FVec Ideal S1x256x128 .bf16 :=
  View.readAt (Elt Ideal) a.view (Rect.unit (s := S1x256x128) ![0, 0, 0] ![1, 256, 128] inb_S1x256x128_S1x256x128_0_0_0).toLoadRect (ha.unread x)

theorem cLoad_apply (a : Memref sig .tc .vmem S1x256x128 .bf16) (ha : a.IsWhole) (x : FVec Ideal S1x256x128 .bf16) (j : Fin 256) (d : Fin 128) :
    cLoad a ha x (ix3 0 j d) = x (ix3 0 j d) := by
  unfold cLoad
  rw [Memref.IsWhole.readAt_unread]
  congr 1
  funext b; apply Fin.ext
  match b with
  | ⟨0, _⟩ => rfl
  | ⟨1, _⟩ => show 0 + 1 * j.val = j.val; omega
  | ⟨2, _⟩ => show 0 + 1 * d.val = d.val; omega

/-- What trip `k` stores. -/
def stored (k : Fin k0_t1_loop.trips) : FVec Ideal S1x2048x128 .bf16 :=
  k0_pay4 (rows (qLoad arg2 (harg2.unread x0) k) (kLoad arg3 (harg3.unread x1) k) (kLoad arg4 (harg4.unread x2) k) (bLoad arg8 (harg8.unread x6) k)
    (cLoad arg6 harg6 x4) (cLoad arg7 harg7 x5)) (qLoad arg5 (harg5.unread x3) k)

/-- Every store of the trips before `n` is one trip's. -/
theorem mem_trips (v0 v2 : FVec Ideal S1x256x128 .bf16) (n : ℕ) (p : View.Piece (Elt Ideal) S1x4096x128 .bf16)
    (hp : p ∈ pb_k0_t1 (F := Ideal) Variants.none c none i arg2 harg2 arg3 harg3 arg4 harg4 arg5 harg5 arg6 harg6 arg7 harg7 arg8 harg8 arg9 harg9 v0 v2
      (harg2.unread x0) (harg3.unread x1) (harg4.unread x2) (harg5.unread x3) (harg8.unread x6) n) (hn : n ≤ k0_t1_loop.trips) :
    ∃ k : Fin k0_t1_loop.trips, p = ⟨Rect.unit (s := S1x4096x128) (k0_off1 k) S1x2048x128.size (k0_off1_inb k),
      k0_pay4 (rows (qLoad arg2 (harg2.unread x0) k) (kLoad arg3 (harg3.unread x1) k) (kLoad arg4 (harg4.unread x2) k) (bLoad arg8 (harg8.unread x6) k) v0 v2)
        (qLoad arg5 (harg5.unread x3) k)⟩ := by
  induction n with
  | zero => exact absurd hp List.not_mem_nil
  | succ n ih =>
    rw [pb_k0_t1_succ (k := ⟨n, hn⟩)] at hp
    rcases List.mem_append.mp hp with h | h
    · refine ⟨⟨n, hn⟩, ?_⟩
      rw [← trip_eq]
      unfold tripL_k0_t1 trip_k0_t1 at h
      dsimp only at h
      exact List.mem_singleton.mp h
    · exact ih h (Nat.le_of_succ_le hn)

/-- A block whose indices hold what the trips store there is the block the point writes. -/
theorem out_of_stored (G : S1x4096x128.Idx → EReal)
    (h : ∀ (k : Fin k0_t1_loop.trips) (x : S1x2048x128.Idx), stored arg2 harg2 arg3 harg3 arg4 harg4 arg5 harg5 arg6 harg6 arg7 harg7 arg8 harg8 x0 x1 x2 x3 x4 x5 x6 k x
      = G ((Rect.unit (s := S1x4096x128) (k0_off1 k) S1x2048x128.size (k0_off1_inb k)).emb x)) :
    out0_A_7 (F := Ideal) c i arg2 harg2 arg3 harg3 arg4 harg4 arg5 harg5 arg6 harg6 arg7 harg7 arg8 harg8 arg9 harg9 x0 x1 x2 x3 x4 x5 x6 = G := by
  funext y
  unfold out0_A_7
  refine (View.read_writes_apply_eq_canon _ _ _ _ (cover0_A_7 (F := Ideal) c i arg2 harg2 arg3 harg3 arg4 harg4 arg5 harg5 arg6 harg6 arg7 harg7 arg8 harg8 arg9 harg9 x0 x1 x2 x3 x4 x5 x6 y)).trans ?_
  refine View.canon_apply_of_pieces G _ (fun p hp x => ?_) y (cover0_A_7 (F := Ideal) c i arg2 harg2 arg3 harg3 arg4 harg4 arg5 harg5 arg6 harg6 arg7 harg7 arg8 harg8 arg9 harg9 x0 x1 x2 x3 x4 x5 x6 y)
  unfold kernelRun0_A at hp
  dsimp only at hp
  obtain ⟨k, rfl⟩ := mem_trips c i arg2 harg2 arg3 harg3 arg4 harg4 arg5 harg5 arg6 harg6 arg7 harg7 arg8 harg8 arg9 harg9 x0 x1 x2 x3 x6 _ _ _ p hp (le_refl _)
  exact h k x

end Neigh

end
-- ==== Proof.Neigh.Takes.lean ====
module

public import proofs.«01_k».proof.Proof.Neigh.RefIdx

/-!
# The reference's gathers read at an index

Each takes one axis of its operand at a start index from an integer array, read signed and clamped into the axis.
-/

@[expose] public section

set_option maxRecDepth 16384

noncomputable section

namespace Neigh.Ref

open Idealize.ShloMosaic Cert.NeighbourReferenceIdeal Cert.NeighbourReferenceIdeal.Gen Cert.NeighbourReferenceIdeal.Read

/-- A small natural number's word read back as the index it names. -/
theorem toNat_small (n : ℕ) (h : n < 128) : (BitVec.ofNat 32 n).toInt.toNat = n := by
  have H : ∀ n : Fin 128, (BitVec.ofNat 32 n.val).toInt.toNat = n.val := by decide +kernel
  exact H ⟨n, h⟩

theorem take_row (x : FVec Ideal S4x64x64x16x128 .f32) (ix : IVec S64x8x1 32) (b : Fin 4) (r : Fin 64) (w : Fin 8) (c : Fin 64) (h : Fin 16) (d : Fin 128) (n : Fin 64)
    (hn : ix (ix3 r w 0) = BitVec.ofNat 32 n.val) :
    Host.gather gather_S4x64x64x16x128_S64x8x1_S4x64x8x64x16x128_0345_1_n_n_1_2_416416128 x ix (ix6 b r w c h d) = x (ix5 b n c h d) := by
  have e : Host.gather gather_S4x64x64x16x128_S64x8x1_S4x64x8x64x16x128_0345_1_n_n_1_2_416416128 x ix (ix6 b r w c h d)
    = x (ix5 b ⟨min (ix (ix3 r w 0)).toInt.toNat 63, by omega⟩ c h d) := by
    unfold Host.gather
    congr 1
    funext a
    refine Fin.ext ?_
    match a with
    | ⟨0, _⟩ => exact Nat.zero_add _
    | ⟨1, _⟩ => exact congrArg (fun j => min (ix j).toInt.toNat 63) (funext fun a => Fin.ext (match a with | ⟨0, _⟩ => rfl | ⟨1, _⟩ => rfl | ⟨2, _⟩ => rfl))
    | ⟨2, _⟩ => exact Nat.zero_add _
    | ⟨3, _⟩ => exact Nat.zero_add _
    | ⟨4, _⟩ => exact Nat.zero_add _
  rw [e]
  congr 2
  rw [Fin.ext_iff]
  show min _ 63 = n.val
  rw [hn, toNat_small _ (by omega)]
  omega

theorem take_col (x : FVec Ideal S4x64x8x64x16x128 .f32) (ix : IVec S64x16x1 32) (b : Fin 4) (r : Fin 64) (w : Fin 8) (c : Fin 64) (v : Fin 16) (h : Fin 16) (d : Fin 128) (n : Fin 64)
    (hn : ix (ix3 c v 0) = BitVec.ofNat 32 n.val) :
    Host.gather gather_S4x64x8x64x16x128_S64x16x1_S4x64x8x64x16x16x128_01256_3_n_n_3_2_4648116128 x ix (ix7 b r w c v h d) = x (ix6 b r w n h d) := by
  have e : Host.gather gather_S4x64x8x64x16x128_S64x16x1_S4x64x8x64x16x16x128_01256_3_n_n_3_2_4648116128 x ix (ix7 b r w c v h d)
    = x (ix6 b r w ⟨min (ix (ix3 c v 0)).toInt.toNat 63, by omega⟩ h d) := by
    unfold Host.gather
    congr 1
    funext a
    refine Fin.ext ?_
    match a with
    | ⟨0, _⟩ => exact Nat.zero_add _
    | ⟨1, _⟩ => exact Nat.zero_add _
    | ⟨2, _⟩ => exact Nat.zero_add _
    | ⟨3, _⟩ => exact congrArg (fun j => min (ix j).toInt.toNat 63) (funext fun a => Fin.ext (match a with | ⟨0, _⟩ => rfl | ⟨1, _⟩ => rfl | ⟨2, _⟩ => rfl))
    | ⟨4, _⟩ => exact Nat.zero_add _
    | ⟨5, _⟩ => exact Nat.zero_add _
  rw [e]
  congr 2
  rw [Fin.ext_iff]
  show min _ 63 = n.val
  rw [hn, toNat_small _ (by omega)]
  omega

theorem take_bias_col (x : FVec Ideal S16x15x31 .f32) (ix : IVec S64x16x1 32) (h : Fin 16) (a : Fin 15) (c : Fin 64) (v : Fin 16) (n : Fin 31)
    (hn : ix (ix3 c v 0) = BitVec.ofNat 32 n.val) :
    Host.gather gather_S16x15x31_S64x16x1_S16x15x64x16_01_2_n_n_2_2_16151 x ix (ix4 h a c v) = x (ix3 h a n) := by
  have e : Host.gather gather_S16x15x31_S64x16x1_S16x15x64x16_01_2_n_n_2_2_16151 x ix (ix4 h a c v)
    = x (ix3 h a ⟨min (ix (ix3 c v 0)).toInt.toNat 30, by omega⟩) := by
    unfold Host.gather
    congr 1
    funext a
    refine Fin.ext ?_
    match a with
    | ⟨0, _⟩ => exact Nat.zero_add _
    | ⟨1, _⟩ => exact Nat.zero_add _
    | ⟨2, _⟩ => exact congrArg (fun j => min (ix j).toInt.toNat 30) (funext fun a => Fin.ext (match a with | ⟨0, _⟩ => rfl | ⟨1, _⟩ => rfl | ⟨2, _⟩ => rfl))
  rw [e]
  congr 2
  rw [Fin.ext_iff]
  show min _ 30 = n.val
  rw [hn, toNat_small _ (by omega)]
  omega

theorem take_bias_row (x : FVec Ideal S16x15x64x16 .f32) (ix : IVec S64x8x1 32) (h : Fin 16) (r : Fin 64) (w : Fin 8) (c : Fin 64) (v : Fin 16) (n : Fin 15)
    (hn : ix (ix3 r w 0) = BitVec.ofNat 32 n.val) :
    Host.gather gather_S16x15x64x16_S64x8x1_S16x64x8x64x16_034_1_n_n_1_2_1616416 x ix (ix5 h r w c v) = x (ix4 h n c v) := by
  have e : Host.gather gather_S16x15x64x16_S64x8x1_S16x64x8x64x16_034_1_n_n_1_2_1616416 x ix (ix5 h r w c v)
    = x (ix4 h ⟨min (ix (ix3 r w 0)).toInt.toNat 14, by omega⟩ c v) := by
    unfold Host.gather
    congr 1
    funext a
    refine Fin.ext ?_
    match a with
    | ⟨0, _⟩ => exact Nat.zero_add _
    | ⟨1, _⟩ => exact congrArg (fun j => min (ix j).toInt.toNat 14) (funext fun a => Fin.ext (match a with | ⟨0, _⟩ => rfl | ⟨1, _⟩ => rfl | ⟨2, _⟩ => rfl))
    | ⟨2, _⟩ => exact Nat.zero_add _
    | ⟨3, _⟩ => exact Nat.zero_add _
  rw [e]
  congr 2
  rw [Fin.ext_iff]
  show min _ 14 = n.val
  rw [hn, toNat_small _ (by omega)]
  omega

end Neigh.Ref

end
-- ==== Proof.Neigh.Bias.lean ====
module

public import proofs.«01_k».proof.Proof.Gen.NeighbourIdeal.Frame
public import proofs.«01_k».proof.Proof.Neigh.Takes
public import Idealize.ShloMosaic.Lib.Pointwise
public import Idealize.ShloMosaic.Lib.Pipeline.Frame
public import Idealize.ShloMosaic.Lib.StableHlo.RunRead

/-!
# The position biases the kernel's host code prepares

For each head, each of the 8 row classes `c` (how many rows of the window lie above the query's row) and each column `q`,
the biases of the window's 8 rows of 64 keys: the entry of the table where the key's column lies in the query's window, −∞
where it does not (`bias_apply`).
-/

@[expose] public section

set_option maxRecDepth 16384
set_option maxHeartbeats 1600000

noncomputable section

namespace Neigh

open Idealize.ShloMosaic Cert.NeighbourIdeal Cert.NeighbourIdeal.Gen

/-- The columns of the keys. -/
def keyCol : IVec S1x64 32 := broadcastInDim S1x64 ![1] bcast_S64_S1x64_1 (iotaInDim S64 32 0)
/-- The columns of the queries. -/
def queryCol : IVec S64x1 32 := broadcastInDim S64x1 ![0] bcast_S64_S64x1_0 (iotaInDim S64 32 0)
/-- The first column of each query's window. -/
def firstCol : IVec S64x1 32 :=
  minsi (broadcastInDim S64x1 ![] bcast_S_S64x1 (constantI S_ 32 48#32)) (maxsi (broadcastInDim S64x1 ![] bcast_S_S64x1 (constantI S_ 32 0#32))
    (subi queryCol (broadcastInDim S64x1 ![] bcast_S_S64x1 (constantI S_ 32 8#32))))
/-- Whether a key's column lies in a query's window. -/
def inside : IVec S64x64 1 :=
  andi (cmpi .sge (broadcastInDim S64x64 ![0, 1] bcast_S1x64_S64x64_0_1 keyCol) (broadcastInDim S64x64 ![0, 1] bcast_S64x1_S64x64_0_1 firstCol))
    (cmpi .slt (broadcastInDim S64x64 ![0, 1] bcast_S1x64_S64x64_0_1 keyCol) (broadcastInDim S64x64 ![0, 1] bcast_S64x1_S64x64_0_1
      (addi firstCol (broadcastInDim S64x1 ![] bcast_S_S64x1 (constantI S_ 32 16#32)))))
/-- The key's column less the query's, plus 15. -/
def colDiff : IVec S64x64 32 :=
  addi (subi (broadcastInDim S64x64 ![0, 1] bcast_S1x64_S64x64_0_1 keyCol) (broadcastInDim S64x64 ![0, 1] bcast_S64x1_S64x64_0_1 queryCol))
    (broadcastInDim S64x64 ![] bcast_S_S64x64 (constantI S_ 32 15#32))
/-- The differences clipped to the table's 31 columns. -/
def clipped : IVec S64x64 32 :=
  minsi (broadcastInDim S64x64 ![] bcast_S_S64x64 (constantI S_ 32 30#32)) (maxsi (broadcastInDim S64x64 ![] bcast_S_S64x64 (constantI S_ 32 0#32)) colDiff)
/-- The columns the table is read at. -/
def starts : IVec S64x64x1 32 :=
  broadcastInDim S64x64x1 ![0, 1] bcast_S64x64_S64x64x1_0_1 (select (cmpi .slt clipped (broadcastInDim S64x64 ![] bcast_S_S64x64 (constantI S_ 32 0#32)))
    (addi clipped (broadcastInDim S64x64 ![] bcast_S_S64x64 (constantI S_ 32 31#32))) clipped)

variable {F : FTy → Type} [FloatOps F] [Named F]

/-- The table at each pair of columns, −∞ outside the window. -/
def masked (x : FVec F S16x15x31 .f32) : FVec F S16x15x64x64 .f32 :=
  select (broadcastInDim S16x15x64x64 ![2, 3] bcast_S64x64_S16x15x64x64_2_3 inside)
    (Host.gather gather_S16x15x31_S64x64x1_S16x15x64x64_01_2_n_n_2_2_16151 x starts)
    (broadcastInDim S16x15x64x64 ![] bcast_S_S16x15x64x64 (constant S_ .f32 0xFF800000#32))

theorem classSlice (c : Fin 8) : Shape.Slices S16x15x64x64 ![0, 7 - c.val, 0, 0] S16x8x64x64 := by
  revert c; decide
theorem classJoin (f : Fin 8 → (S16x1x8x64x64.Idx → F .f32)) :
    Shape.Concatenates ((List.ofFn fun u : Fin 8 => (⟨S16x1x8x64x64, f u⟩ : (s : Shape) × (s.Idx → F .f32))).map (·.1)) S16x8x8x64x64 1 :=
  (by decide : Shape.Concatenates (List.replicate 8 S16x1x8x64x64) S16x8x8x64x64 1)

/-- The 8 rows of a class. -/
def classRows (y : FVec F S16x15x64x64 .f32) (c : Fin 8) : FVec F S16x1x8x64x64 .f32 :=
  broadcastInDim S16x1x8x64x64 ![0, 2, 3, 4] bcast_S16x8x64x64_S16x1x8x64x64_0_2_3_4 (extractStridedSlice S16x8x64x64 ![0, 7 - c.val, 0, 0] y (classSlice c))

/-- The biases by class, column of the query, row and column of the key. -/
def classes (y : FVec F S16x15x64x64 .f32) : FVec F S16x8x64x512 .f32 :=
  shapeCast S16x8x64x512 (transpose S16x8x64x8x64 [0, 1, 3, 2, 4] (concatenate S16x8x8x64x64 1 (List.ofFn fun c : Fin 8 => ⟨S16x1x8x64x64, classRows y c⟩) (classJoin _))
    transposes_S16x8x8x64x64_S16x8x64x8x64_0_1_3_2_4) shapeCasts_S16x8x64x8x64_S16x8x64x512

section
variable (W : Valuation τ sig (Elt F))

theorem stA15 : StableHlo.after hostOps0_2 (StableHlo.after hostOps0_1 (StableHlo.after hostOps0 W)) (Proc.tc.devRef main_v15) = inside := by
  simp only [hostOps0, hostOps0_1, hostOps0_2, StableHlo.TRef.unary, StableHlo.TRef.binary, StableHlo.TRef.nullary, StableHlo.TRef.ternary, StableHlo.TRef.toBuf, StableHlo.TRef.ofBuf, cast_eq]
  after_results_simp
  rfl
theorem stA20 : StableHlo.after hostOps0_2 (StableHlo.after hostOps0_1 (StableHlo.after hostOps0 W)) (Proc.tc.devRef main_v20) = colDiff := by
  simp only [hostOps0, hostOps0_1, hostOps0_2, StableHlo.TRef.unary, StableHlo.TRef.binary, StableHlo.TRef.nullary, StableHlo.TRef.ternary, StableHlo.TRef.toBuf, StableHlo.TRef.ofBuf, cast_eq]
  after_results_simp
  rfl
theorem stAc4 : StableHlo.after hostOps0_2 (StableHlo.after hostOps0_1 (StableHlo.after hostOps0 W)) (Proc.tc.devRef main_c_4) = (constantI S_ 32 0#32 : IVec S_ 32) := by
  simp only [hostOps0, hostOps0_1, hostOps0_2, StableHlo.TRef.unary, StableHlo.TRef.binary, StableHlo.TRef.nullary, StableHlo.TRef.ternary, StableHlo.TRef.toBuf, StableHlo.TRef.ofBuf, cast_eq]
  after_results_simp
theorem stAc5 : StableHlo.after hostOps0_2 (StableHlo.after hostOps0_1 (StableHlo.after hostOps0 W)) (Proc.tc.devRef main_c_5) = (constantI S_ 32 30#32 : IVec S_ 32) := by
  simp only [hostOps0, hostOps0_1, hostOps0_2, StableHlo.TRef.unary, StableHlo.TRef.binary, StableHlo.TRef.nullary, StableHlo.TRef.ternary, StableHlo.TRef.toBuf, StableHlo.TRef.ofBuf, cast_eq]
  after_results_simp
theorem stAx : StableHlo.after hostOps0_2 (StableHlo.after hostOps0_1 (StableHlo.after hostOps0 W)) (Proc.tc.devRef main_arg2) = W (Proc.tc.devRef main_arg2) := by
  simp only [hostOps0, hostOps0_1, hostOps0_2, StableHlo.TRef.unary, StableHlo.TRef.binary, StableHlo.TRef.nullary, StableHlo.TRef.ternary, StableHlo.TRef.toBuf, StableHlo.TRef.ofBuf, cast_eq]
  after_results_simp

theorem stB21 (h : W (Proc.tc.devRef main_v20) = colDiff) (h4 : W (Proc.tc.devRef main_c_4) = (constantI S_ 32 0#32 : IVec S_ 32))
    (h5 : W (Proc.tc.devRef main_c_5) = (constantI S_ 32 30#32 : IVec S_ 32)) : StableHlo.after hostOps0_3 W (Proc.tc.devRef main_v21) = clipped := by
  simp only [hostOps0_3, StableHlo.TRef.unary, StableHlo.TRef.binary, StableHlo.TRef.nullary, StableHlo.TRef.ternary, StableHlo.TRef.toBuf, StableHlo.TRef.ofBuf, cast_eq]
  after_results_simp
  simp only [h, h4, h5]
  rfl
theorem stB15 : StableHlo.after hostOps0_3 W (Proc.tc.devRef main_v15) = W (Proc.tc.devRef main_v15) := by
  simp only [hostOps0_3, StableHlo.TRef.unary, StableHlo.TRef.binary, StableHlo.TRef.nullary, StableHlo.TRef.ternary, StableHlo.TRef.toBuf, StableHlo.TRef.ofBuf, cast_eq]
  after_results_simp
theorem stBx : StableHlo.after hostOps0_3 W (Proc.tc.devRef main_arg2) = W (Proc.tc.devRef main_arg2) := by
  simp only [hostOps0_3, StableHlo.TRef.unary, StableHlo.TRef.binary, StableHlo.TRef.nullary, StableHlo.TRef.ternary, StableHlo.TRef.toBuf, StableHlo.TRef.ofBuf, cast_eq]
  after_results_simp

theorem stC28 (h : W (Proc.tc.devRef main_v21) = clipped) : StableHlo.after hostOps0_4 W (Proc.tc.devRef main_v28)
    = Host.gather gather_S16x15x31_S64x64x1_S16x15x64x64_01_2_n_n_2_2_16151 (W (Proc.tc.devRef main_arg2) : FVec F S16x15x31 .f32) starts := by
  simp only [hostOps0_4]
  after_results_simp
  simp only [h]
  rfl
theorem stCc : StableHlo.after hostOps0_4 W (Proc.tc.devRef main_cst) = (constant S_ .f32 0xFF800000#32 : FVec F S_ .f32) := by
  simp only [hostOps0_4]
  after_results_simp
theorem stC15 : StableHlo.after hostOps0_4 W (Proc.tc.devRef main_v15) = W (Proc.tc.devRef main_v15) := by
  simp only [hostOps0_4]
  after_results_simp

theorem stD29 (x : FVec F S16x15x31 .f32) (h : W (Proc.tc.devRef main_v28) = Host.gather gather_S16x15x31_S64x64x1_S16x15x64x64_01_2_n_n_2_2_16151 x starts)
    (h15 : W (Proc.tc.devRef main_v15) = inside) (hc : W (Proc.tc.devRef main_cst) = (constant S_ .f32 0xFF800000#32 : FVec F S_ .f32)) :
    StableHlo.after hostOps0_5 W (Proc.tc.devRef main_v29) = masked x := by
  simp only [hostOps0_5, StableHlo.TRef.unary, StableHlo.TRef.binary, StableHlo.TRef.nullary, StableHlo.TRef.ternary, StableHlo.TRef.toBuf, StableHlo.TRef.ofBuf, cast_eq]
  after_results_simp
  simp only [h, h15, hc]
  rfl

theorem stE48 : StableHlo.after hostOps0_6 W (Proc.tc.devRef main_v48) = classes (W (Proc.tc.devRef main_v29) : FVec F S16x15x64x64 .f32) := by
  simp only [hostOps0_6]
  after_results_simp
  rfl
end

variable (m : (ℓ : Loc nD τ sig) → Buf (Elt F) ℓ) (c : Dev nD)

/-- The array of biases the call reads. -/
theorem V48 : V m c main_v48 = classes (masked (m (c, Proc.tc.devRef main_arg2) : FVec F S16x15x31 .f32)) := by
  have e : V m c main_v48 = (StableHlo.after hostOps0_6 (StableHlo.after hostOps0_5 (StableHlo.after hostOps0_4
      (StableHlo.after hostOps0_3 (StableHlo.after hostOps0_2 (StableHlo.after hostOps0_1 (StableHlo.after hostOps0
        (fun b => m (c, b)))))))) (Proc.tc.devRef main_v48)) := by
    unfold V
    simp only [List.flatten_cons, List.flatten_nil, List.append_nil, StableHlo.after_append]
  rw [e, stE48]
  refine congrArg classes (stD29 _ _ ?_ ?_ (stCc _))
  · rw [stC28 _ (stB21 _ (stA20 _) (stAc4 _) (stAc5 _)), stBx, stAx]
  · rw [stC15, stB15, stA15]

end Neigh

end
-- ==== Proof.Neigh.BiasAt.lean ====
module

public import proofs.«01_k».proof.Proof.Neigh.Bias
public import proofs.«01_k».proof.Proof.Attn.Head

/-!
# The position biases read at an index

A class's row `w` of keys and a query's column `q`: the table's entry where the key's column lies in the query's window, −∞
elsewhere.
-/

@[expose] public section

set_option maxRecDepth 16384

noncomputable section

namespace Neigh

open Idealize.ShloMosaic Cert.NeighbourIdeal Cert.NeighbourIdeal.Gen

theorem inside_in : ∀ q x : Fin 64, cs q.val ≤ x.val ∧ x.val < cs q.val + 16 → inside (ix2 q x) = 1#1 := by
  decide +kernel
theorem inside_out : ∀ q x : Fin 64, ¬(cs q.val ≤ x.val ∧ x.val < cs q.val + 16) → inside (ix2 q x) = 0#1 := by
  decide +kernel
theorem starts_in : ∀ q x : Fin 64, cs q.val ≤ x.val ∧ x.val < cs q.val + 16 → starts (ix3 q x 0) = BitVec.ofNat 32 (x.val + 15 - q.val) := by
  decide +kernel

theorem take_cols (x : FVec Ideal S16x15x31 .f32) (ix : IVec S64x64x1 32) (h : Fin 16) (a : Fin 15) (c : Fin 64) (v : Fin 64) (n : Fin 31)
    (hn : ix (ix3 c v 0) = BitVec.ofNat 32 n.val) :
    Host.gather gather_S16x15x31_S64x64x1_S16x15x64x64_01_2_n_n_2_2_16151 x ix (ix4 h a c v) = x (ix3 h a n) := by
  have e : Host.gather gather_S16x15x31_S64x64x1_S16x15x64x64_01_2_n_n_2_2_16151 x ix (ix4 h a c v)
    = x (ix3 h a ⟨min (ix (ix3 c v 0)).toInt.toNat 30, by omega⟩) := by
    unfold Host.gather
    congr 1
    funext a
    refine Fin.ext ?_
    match a with
    | ⟨0, _⟩ => exact Nat.zero_add _
    | ⟨1, _⟩ => exact Nat.zero_add _
    | ⟨2, _⟩ => exact congrArg (fun j => min (ix j).toInt.toNat 30) (funext fun a => Fin.ext (match a with | ⟨0, _⟩ => rfl | ⟨1, _⟩ => rfl | ⟨2, _⟩ => rfl))
  rw [e]
  congr 2
  rw [Fin.ext_iff]
  show min _ 30 = n.val
  rw [hn, Ref.toNat_small _ (by omega)]
  omega

theorem masked_apply (x : FVec Ideal S16x15x31 .f32) (h : Fin 16) (a : Fin 15) (q v : Fin 64) :
    masked x (ix4 h a q v) = if inside (ix2 q v) = 1#1 then Host.gather gather_S16x15x31_S64x64x1_S16x15x64x64_01_2_n_n_2_2_16151 x starts (ix4 h a q v) else ⊥ := by
  rw [← Attn.bot_eq]
  unfold masked
  generalize Host.gather gather_S16x15x31_S64x64x1_S16x15x64x64_01_2_n_n_2_2_16151 x starts = g
  generalize inside = i
  pointwise
  rfl

/-- Inside the window: the table's entry. -/
theorem masked_in (x : FVec Ideal S16x15x31 .f32) (h : Fin 16) (a : Fin 15) (q v : Fin 64) (hv : cs q.val ≤ v.val ∧ v.val < cs q.val + 16)
    (n : Fin 31) (hn : n.val = v.val + 15 - q.val) : masked x (ix4 h a q v) = x (ix3 h a n) := by
  rw [masked_apply, if_pos (inside_in q v hv)]
  exact take_cols x starts h a q v n (by rw [hn]; exact starts_in q v hv)
/-- Outside it: −∞. -/
theorem masked_out (x : FVec Ideal S16x15x31 .f32) (h : Fin 16) (a : Fin 15) (q v : Fin 64) (hv : ¬(cs q.val ≤ v.val ∧ v.val < cs q.val + 16)) :
    masked x (ix4 h a q v) = ⊥ := by
  rw [masked_apply, inside_out q v hv]
  exact if_neg (by decide)

theorem classes_apply (y : FVec Ideal S16x15x64x64 .f32) (h : Fin 16) (c : Fin 8) (q : Fin 64) (w : Fin 8) (v : Fin 64) (j : Fin 512) (hj : j.val = w.val * 64 + v.val)
    (a : Fin 15) (ha : a.val = 7 - c.val + w.val) : classes y (ix4 h c q j) = y (ix4 h a q v) := by
  unfold classes
  refine (shapeCast_apply (s := S16x8x64x8x64) (t := S16x8x64x512) _ _ (ix4 h c q j) (ix5 h c q w v) ?_).trans ?_
  · simp only [Shape.rowMajor_val_four, Shape.rowMajor_val_five]
    show (((h.val * 8 + c.val) * 64 + q.val) * 8 + w.val) * 64 + v.val = ((h.val * 8 + c.val) * 64 + q.val) * 512 + j.val
    omega
  have e1 : ∀ z : FVec Ideal S16x8x8x64x64 .f32, transpose S16x8x64x8x64 [0, 1, 3, 2, 4] z transposes_S16x8x8x64x64_S16x8x64x8x64_0_1_3_2_4 (ix5 h c q w v)
      = z (ix5 h c w q v) := by
    intro z
    pointwise
  rw [e1]
  refine (concatenate_ofFn_unit_apply (s₁ := S16x1x8x64x64) (t := S16x8x8x64x64) 1 (classRows y) (classJoin _) rfl rfl (ix5 h c w q v) c rfl (ix5 h 0 w q v) ?_).trans ?_
  · intro b hb
    match b with
    | ⟨0, _⟩ => rfl
    | ⟨1, _⟩ => exact absurd rfl hb
    | ⟨2, _⟩ => rfl
    | ⟨3, _⟩ => rfl
    | ⟨4, _⟩ => rfl
  · have e2 : ∀ z : FVec Ideal S16x8x64x64 .f32, broadcastInDim S16x1x8x64x64 ![0, 2, 3, 4] bcast_S16x8x64x64_S16x1x8x64x64_0_2_3_4 z (ix5 h 0 w q v) = z (ix4 h w q v) := by
      intro z
      pointwise
    refine (e2 _).trans ?_
    unfold extractStridedSlice
    congr 1
    funext d; apply Fin.ext
    match d with
    | ⟨0, _⟩ => exact Nat.zero_add _
    | ⟨1, _⟩ => exact ha.symm
    | ⟨2, _⟩ => exact Nat.zero_add _
    | ⟨3, _⟩ => exact Nat.zero_add _

end Neigh

end
-- ==== Proof.Neigh.Windows.lean ====
module

public import proofs.«01_k».proof.Proof.Neigh.Trips
public import proofs.«01_k».proof.Proof.Neigh.BiasAt

/-!
# The blocks a grid point reads

A grid point is a batch entry and a head; each window's block at it, at an index, over the argument arrays.
-/

@[expose] public section

set_option maxRecDepth 16384

noncomputable section

namespace Neigh

open Idealize.ShloMosaic Idealize.ShloMosaic.TcCoe Cert.NeighbourIdeal Cert.NeighbourIdeal.Gen

variable (m : (ℓ : Loc nD τ sig) → Buf (Elt Ideal) ℓ) (c : Dev nD)

/-- The argument arrays. -/
abbrev Arg0 : Vec Ideal S4x4096x12288 .bf16 := m ((c.tc : Thread nD τ).loc main_arg0)
abbrev Arg1 : Vec Ideal S4x256x12288 .bf16 := m ((c.tc : Thread nD τ).loc main_arg1)
abbrev Arg2 : Vec Ideal S16x15x31 .f32 := m ((c.tc : Thread nD τ).loc main_arg2)

/-- A grid point's batch entry. -/
def batch (t : Fin cfg0.N) : Fin 4 := ⟨t.val / 16, by have : t.val < 64 := t.isLt; omega⟩
/-- A grid point's head. -/
def head (t : Fin cfg0.N) : Fin 16 := ⟨t.val % 16, by omega⟩

theorem idx0 : ∀ t : Fin cfg0.N, win0_0.index t (0 : Fin 3) = t.val / 16 ∧ win0_0.index t (1 : Fin 3) = 0 ∧ win0_0.index t (2 : Fin 3) = 32 + t.val % 16 :=
  (by decide +kernel : ∀ t : Fin grid0.N, _)

theorem idx1 : ∀ t : Fin cfg0.N, win0_1.index t (0 : Fin 3) = t.val / 16 ∧ win0_1.index t (1 : Fin 3) = 0 ∧ win0_1.index t (2 : Fin 3) = 48 + t.val % 16 :=
  (by decide +kernel : ∀ t : Fin grid0.N, _)

theorem idx2 : ∀ t : Fin cfg0.N, win0_2.index t (0 : Fin 3) = t.val / 16 ∧ win0_2.index t (1 : Fin 3) = 0 ∧ win0_2.index t (2 : Fin 3) = 64 + t.val % 16 :=
  (by decide +kernel : ∀ t : Fin grid0.N, _)

theorem idx3 : ∀ t : Fin cfg0.N, win0_3.index t (0 : Fin 3) = t.val / 16 ∧ win0_3.index t (1 : Fin 3) = 0 ∧ win0_3.index t (2 : Fin 3) = 80 + t.val % 16 :=
  (by decide +kernel : ∀ t : Fin grid0.N, _)

theorem idx4 : ∀ t : Fin cfg0.N, win0_4.index t (0 : Fin 3) = t.val / 16 ∧ win0_4.index t (1 : Fin 3) = 0 ∧ win0_4.index t (2 : Fin 3) = 48 + t.val % 16 :=
  (by decide +kernel : ∀ t : Fin grid0.N, _)

theorem idx5 : ∀ t : Fin cfg0.N, win0_5.index t (0 : Fin 3) = t.val / 16 ∧ win0_5.index t (1 : Fin 3) = 0 ∧ win0_5.index t (2 : Fin 3) = 64 + t.val % 16 :=
  (by decide +kernel : ∀ t : Fin grid0.N, _)

theorem idx7 : ∀ t : Fin cfg0.N, win0_7.index t (0 : Fin 3) = t.val / 16 ∧ win0_7.index t (1 : Fin 3) = 0 ∧ win0_7.index t (2 : Fin 3) = 0 + t.val % 16 :=
  (by decide +kernel : ∀ t : Fin grid0.N, _)

theorem idx6 : ∀ t : Fin cfg0.N, win0_6.index t (0 : Fin 4) = t.val % 16 ∧ win0_6.index t (1 : Fin 4) = 0 ∧ win0_6.index t (2 : Fin 4) = 0 ∧ win0_6.index t (3 : Fin 4) = 0 :=
  (by decide +kernel : ∀ t : Fin grid0.N, _)

/-- The queries. -/
theorem iblk0_apply (t : Fin cfg0.N) (p : Fin 4096) (d : Fin 128) (l : Fin 12288) (hl : l.val = 4096 + ((head t).val * 128 + d.val)) :
    iblk m c 0 t (ix3 0 p d) = Arg0 m c (ix3 (batch t) p l) := by
  obtain ⟨e0, e1, e2⟩ := idx0 t
  show V m c main_arg0 (((cfg0.win 0).blk t).view.emb (ix3 0 p d)) = _
  rw [V_main_arg0]
  congr 1
  have hh : (head t).val = t.val % 16 := rfl
  funext a; apply Fin.ext
  match a with
  | ⟨0, _⟩ => show win0_0.index t (0 : Fin 3) * 1 + 1 * 0 = t.val / 16; omega
  | ⟨1, _⟩ => show win0_0.index t (1 : Fin 3) * 4096 + 1 * p.val = p.val; omega
  | ⟨2, _⟩ => show win0_0.index t (2 : Fin 3) * 128 + 1 * d.val = l.val; omega

/-- The keys. -/
theorem iblk1_apply (t : Fin cfg0.N) (p : Fin 4096) (d : Fin 128) (l : Fin 12288) (hl : l.val = 6144 + ((head t).val * 128 + d.val)) :
    iblk m c 1 t (ix3 0 p d) = Arg0 m c (ix3 (batch t) p l) := by
  obtain ⟨e0, e1, e2⟩ := idx1 t
  show V m c main_arg0 (((cfg0.win 1).blk t).view.emb (ix3 0 p d)) = _
  rw [V_main_arg0]
  congr 1
  have hh : (head t).val = t.val % 16 := rfl
  funext a; apply Fin.ext
  match a with
  | ⟨0, _⟩ => show win0_1.index t (0 : Fin 3) * 1 + 1 * 0 = t.val / 16; omega
  | ⟨1, _⟩ => show win0_1.index t (1 : Fin 3) * 4096 + 1 * p.val = p.val; omega
  | ⟨2, _⟩ => show win0_1.index t (2 : Fin 3) * 128 + 1 * d.val = l.val; omega

/-- The values. -/
theorem iblk2_apply (t : Fin cfg0.N) (p : Fin 4096) (d : Fin 128) (l : Fin 12288) (hl : l.val = 8192 + ((head t).val * 128 + d.val)) :
    iblk m c 2 t (ix3 0 p d) = Arg0 m c (ix3 (batch t) p l) := by
  obtain ⟨e0, e1, e2⟩ := idx2 t
  show V m c main_arg0 (((cfg0.win 2).blk t).view.emb (ix3 0 p d)) = _
  rw [V_main_arg0]
  congr 1
  have hh : (head t).val = t.val % 16 := rfl
  funext a; apply Fin.ext
  match a with
  | ⟨0, _⟩ => show win0_2.index t (0 : Fin 3) * 1 + 1 * 0 = t.val / 16; omega
  | ⟨1, _⟩ => show win0_2.index t (1 : Fin 3) * 4096 + 1 * p.val = p.val; omega
  | ⟨2, _⟩ => show win0_2.index t (2 : Fin 3) * 128 + 1 * d.val = l.val; omega

/-- The gates. -/
theorem iblk3_apply (t : Fin cfg0.N) (p : Fin 4096) (d : Fin 128) (l : Fin 12288) (hl : l.val = 10240 + ((head t).val * 128 + d.val)) :
    iblk m c 3 t (ix3 0 p d) = Arg0 m c (ix3 (batch t) p l) := by
  obtain ⟨e0, e1, e2⟩ := idx3 t
  show V m c main_arg0 (((cfg0.win 3).blk t).view.emb (ix3 0 p d)) = _
  rw [V_main_arg0]
  congr 1
  have hh : (head t).val = t.val % 16 := rfl
  funext a; apply Fin.ext
  match a with
  | ⟨0, _⟩ => show win0_3.index t (0 : Fin 3) * 1 + 1 * 0 = t.val / 16; omega
  | ⟨1, _⟩ => show win0_3.index t (1 : Fin 3) * 4096 + 1 * p.val = p.val; omega
  | ⟨2, _⟩ => show win0_3.index t (2 : Fin 3) * 128 + 1 * d.val = l.val; omega

/-- The context keys. -/
theorem iblk4_apply (t : Fin cfg0.N) (p : Fin 256) (d : Fin 128) (l : Fin 12288) (hl : l.val = 6144 + ((head t).val * 128 + d.val)) :
    iblk m c 4 t (ix3 0 p d) = Arg1 m c (ix3 (batch t) p l) := by
  obtain ⟨e0, e1, e2⟩ := idx4 t
  show V m c main_arg1 (((cfg0.win 4).blk t).view.emb (ix3 0 p d)) = _
  rw [V_main_arg1]
  congr 1
  have hh : (head t).val = t.val % 16 := rfl
  funext a; apply Fin.ext
  match a with
  | ⟨0, _⟩ => show win0_4.index t (0 : Fin 3) * 1 + 1 * 0 = t.val / 16; omega
  | ⟨1, _⟩ => show win0_4.index t (1 : Fin 3) * 256 + 1 * p.val = p.val; omega
  | ⟨2, _⟩ => show win0_4.index t (2 : Fin 3) * 128 + 1 * d.val = l.val; omega

/-- The context values. -/
theorem iblk5_apply (t : Fin cfg0.N) (p : Fin 256) (d : Fin 128) (l : Fin 12288) (hl : l.val = 8192 + ((head t).val * 128 + d.val)) :
    iblk m c 5 t (ix3 0 p d) = Arg1 m c (ix3 (batch t) p l) := by
  obtain ⟨e0, e1, e2⟩ := idx5 t
  show V m c main_arg1 (((cfg0.win 5).blk t).view.emb (ix3 0 p d)) = _
  rw [V_main_arg1]
  congr 1
  have hh : (head t).val = t.val % 16 := rfl
  funext a; apply Fin.ext
  match a with
  | ⟨0, _⟩ => show win0_5.index t (0 : Fin 3) * 1 + 1 * 0 = t.val / 16; omega
  | ⟨1, _⟩ => show win0_5.index t (1 : Fin 3) * 256 + 1 * p.val = p.val; omega
  | ⟨2, _⟩ => show win0_5.index t (2 : Fin 3) * 128 + 1 * d.val = l.val; omega

/-- The position biases. -/
theorem iblk6_apply (t : Fin cfg0.N) (n : Fin 8) (w : Fin 64) (j : Fin 512) :
    iblk m c 6 t (ix4 0 n w j) = classes (F := Ideal) (masked (Arg2 m c)) (ix4 (head t) n w j) := by
  obtain ⟨e0, e1, e2, e3⟩ := idx6 t
  show V m c main_v48 (((cfg0.win 6).blk t).view.emb (ix4 0 n w j)) = _
  rw [V48]
  show classes (F := Ideal) (masked (Arg2 m c)) _ = _
  congr 1
  funext a; apply Fin.ext
  match a with
  | ⟨0, _⟩ => show win0_6.index t (0 : Fin 4) * 1 + 1 * 0 = t.val % 16; omega
  | ⟨1, _⟩ => show win0_6.index t (1 : Fin 4) * 8 + 1 * n.val = n.val; omega
  | ⟨2, _⟩ => show win0_6.index t (2 : Fin 4) * 64 + 1 * w.val = w.val; omega
  | ⟨3, _⟩ => show win0_6.index t (3 : Fin 4) * 512 + 1 * j.val = j.val; omega

/-- Where a grid point's block lies in the output array. -/
theorem emb7 (t : Fin cfg0.N) (p : Fin 4096) (d : Fin 128) :
    ((cfg0.win 7).blk t).view.emb (ix3 0 p d) = (ix3 (batch t) p ⟨(head t).val * 128 + d.val, by omega⟩ : S4x4096x2048.Idx) := by
  obtain ⟨e0, e1, e2⟩ := idx7 t
  funext a; apply Fin.ext
  match a with
  | ⟨0, _⟩ => show win0_7.index t (0 : Fin 3) * 1 + 1 * 0 = t.val / 16; omega
  | ⟨1, _⟩ => show win0_7.index t (1 : Fin 3) * 4096 + 1 * p.val = p.val; omega
  | ⟨2, _⟩ => show win0_7.index t (2 : Fin 3) * 128 + 1 * d.val = t.val % 16 * 128 + d.val; omega

/-- Every index of the output array lies in some grid point's block. -/
theorem cover (i : S4x4096x2048.Idx) : ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 2048 := (i 2).isLt
  have ht : (i 0).val * 16 + (i 2).val / 128 < cfg0.N := by show _ < 64; omega
  obtain ⟨t, hv⟩ : ∃ t : Fin cfg0.N, t.val = (i 0).val * 16 + (i 2).val / 128 := ⟨⟨_, ht⟩, rfl⟩
  refine ⟨t, flush0_7 _, ?_⟩
  obtain ⟨e0, e1, e2⟩ := idx7 t
  show i ∈ ((View.whole main_v49).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 4096 ≤ (i 1).val ∧ (i 1).val < win0_7.index t (1 : Fin 3) * 4096 + 4096
    omega
  | ⟨2, _⟩ =>
    show win0_7.index t (2 : Fin 3) * 128 ≤ (i 2).val ∧ (i 2).val < win0_7.index t (2 : Fin 3) * 128 + 128
    omega

end Neigh

end
-- ==== Proof.Neigh.Weights.lean ====
module

public import proofs.«01_k».proof.Proof.Neigh.RowsAt
public import proofs.«01_k».proof.Proof.Attn.Softmax

/-!
# A window's weights and the softmax

A query's window is 512 keys of which 128 are not masked; a masked key has score `⊥`, so its weight is zero whatever
its value is, and the quotient is the softmax over the 128 keys and the 256 of the context (`attend_eq`).  The reference
takes the softmax over those 384 keys directly (`ref_eq`).
-/

@[expose] public section

noncomputable section

namespace Neigh

open Idealize.ShloMosaic
open scoped BigOperators

/-- The largest of numbers that are real or `⊥` is real or `⊥`. -/
theorem fold_max_real_or_bot {ι : Type*} (S : Finset ι) (f : ι → EReal) (hf : ∀ i, f i = ⊥ ∨ ∃ r : ℝ, f i = r) :
    S.fold max ⊥ f = ⊥ ∨ ∃ r : ℝ, S.fold max ⊥ f = r := by
  classical
  induction S using Finset.induction_on with
  | empty => exact .inl rfl
  | insert a T ha ih =>
    rw [Finset.fold_insert ha]
    rcases hf a with h | ⟨x, hx⟩
    · rw [h, max_eq_right bot_le]; exact ih
    · rw [hx]
      rcases ih with h | ⟨r, hr⟩
      · rw [h, max_eq_left bot_le]; exact .inr ⟨x, rfl⟩
      · rw [hr]; exact .inr ⟨max x r, (EReal.coe_strictMono.monotone.map_max).symm⟩

/-- A query's result is the softmax-weighted sum over the keys that are not masked and the context. -/
theorem attend_eq (e : Fin 128 → Fin 512) (he : Function.Injective e) (s : ℕ → ℝ) (v : ℕ → EReal) (sw : Fin 512 → EReal) (sc : Fin 256 → EReal)
    (vw : Fin 512 → EReal) (vc : Fin 256 → EReal) (hin : ∀ t : Fin 128, sw (e t) = ((s t.val * (Real.log 2)⁻¹ : ℝ) : EReal))
    (hout : ∀ j, j ∉ Set.range e → sw j = ⊥) (hsc : ∀ c : Fin 256, sc c = ((s (128 + c.val) * (Real.log 2)⁻¹ : ℝ) : EReal))
    (hvw : ∀ t : Fin 128, vw (e t) = v t.val) (hvc : ∀ c : Fin 256, vc c = v (128 + c.val)) :
    attend sw sc vw vc = Attn.softmaxSum s v 384 := by
  obtain ⟨M, hM⟩ : ∃ M : ℝ, max (Finset.univ.fold max ⊥ sw) (Finset.univ.fold max ⊥ sc) = (M : EReal) := by
    obtain ⟨C, hC⟩ := Attn.fold_max_real Finset.univ sc (fun c _ => ⟨_, hsc c⟩) ⟨0, Finset.mem_univ _⟩
    have h : ∀ j, sw j = ⊥ ∨ ∃ r : ℝ, sw j = r := fun j => by
      by_cases hj : j ∈ Set.range e
      · obtain ⟨t, rfl⟩ := hj; exact .inr ⟨_, hin t⟩
      · exact .inl (hout j hj)
    rw [hC]
    rcases fold_max_real_or_bot Finset.univ sw h with h | ⟨r, hr⟩
    · rw [h, max_eq_right bot_le]; exact ⟨C, rfl⟩
    · rw [hr]; exact ⟨max r C, (EReal.coe_strictMono.monotone.map_max).symm⟩
  have hex : ∀ x : ℝ, Ideal.exp2 ((x : EReal) - (M : EReal)) = ((Attn.wt x M : ℝ) : EReal) := fun x => by
    rw [← EReal.coe_sub, Ideal.exp2_coe]; rfl
  have hbot : Ideal.exp2 ((⊥ : EReal) - (M : EReal)) = 0 := by rw [sub_eq_add_neg, EReal.bot_add]; rfl
  have split : ∀ g : ℕ → EReal, ∑ t ∈ Finset.range 384, g t = (∑ t : Fin 128, g t.val) + ∑ c : Fin 256, g (128 + c.val) := fun g => by
    rw [Fin.sum_univ_eq_sum_range g 128, Fin.sum_univ_eq_sum_range (fun c => g (128 + c)) 256, ← Finset.sum_range_add]
  unfold attend
  rw [hM]
  refine Attn.Running.quotient (m := (M : EReal)) (by norm_num) (.inr ⟨M, rfl, ?_, ?_⟩)
  · rw [Attn.coe_sum, split]
    congr 1
    · refine (Fintype.sum_of_injective e he _ _ (fun j hj => ?_) fun t => ?_).symm
      · rw [hout j hj, hbot]
      · rw [hin, hex]
    · exact Finset.sum_congr rfl fun c _ => by rw [hsc, hex]
  · rw [split]
    congr 1
    · refine (Fintype.sum_of_injective e he _ _ (fun j hj => ?_) fun t => ?_).symm
      · rw [hout j hj, hbot, zero_mul]
      · rw [hin, hex, hvw]
    · exact Finset.sum_congr rfl fun c _ => by rw [hsc, hex, hvc]

/-- The reference's result: the weights of the window's keys, row by row, on their values, and those of the context's. -/
theorem ref_eq (s : ℕ → ℝ) (v : ℕ → EReal) (sc : Fin 384 → EReal) (hsc : ∀ t, sc t = (s t.val : EReal)) (M : ℝ) (p : Fin 384 → EReal)
    (hp : ∀ t, p t = Ideal.div (Ideal.exp (sc t - (M : EReal))) (0 + ∑ u : Fin 384, Ideal.exp (sc u - (M : EReal))))
    (vw : Fin 8 → Fin 16 → EReal) (hvw : ∀ w x, vw w x = v (w.val * 16 + x.val)) (vc : Fin 256 → EReal) (hvc : ∀ c : Fin 256, vc c = v (128 + c.val)) :
    (∑ w : Fin 8, ∑ x : Fin 16, p ⟨w.val * 16 + x.val, by omega⟩ * vw w x) + ∑ c : Fin 256, vc c * p ⟨128 + c.val, by omega⟩ = Attn.softmaxSum s v 384 := by
  rw [← Attn.softmaxSum_eq (s := s) (n := 384) (by norm_num) sc (fun t => v t.val) v hsc (fun _ => rfl) M]
  refine Eq.symm ((Fin.sum_univ_add (a := 128) (b := 256) _).trans ?_)
  congr 1
  · rw [← Fintype.sum_prod_type', ← (finProdFinEquiv (m := 8) (n := 16)).sum_comp]
    refine Finset.sum_congr rfl fun q _ => ?_
    have e : (finProdFinEquiv q).val = q.1.val * 16 + q.2.val := by
      show q.2.val + 16 * q.1.val = _; omega
    have e2 : ∀ h, (⟨q.1.val * 16 + q.2.val, h⟩ : Fin 384) = Fin.castAdd 256 (finProdFinEquiv q) := fun h => Fin.ext e.symm
    rw [hvw, e2, hp, mul_comm]
    congr 2
  · refine Finset.sum_congr rfl fun c _ => ?_
    rw [hvc, hp]
    rfl

end Neigh

end
-- ==== Proof.Neigh.RefScore.lean ====
module

public import proofs.«01_k».proof.Proof.Neigh.Takes
public import proofs.«01_k».proof.Proof.Attn.Head

/-!
# The reference's scores at an index

The score of the key at place `(w, v)` of the window of the query at row `r` and column `c`, and that of a context's key.
-/

@[expose] public section

set_option maxRecDepth 16384

noncomputable section

namespace Neigh.Ref

open Idealize.ShloMosaic Cert.NeighbourReferenceIdeal Cert.NeighbourReferenceIdeal.Gen Cert.NeighbourReferenceIdeal.Read
open scoped BigOperators

variable (x0 : FVec Ideal S4x4096x12288 .bf16) (x1 : FVec Ideal S4x256x12288 .bf16) (x2 : FVec Ideal S16x15x31 .f32)

/-- Lane `d` of head `h` of one of the four parts of the latent tokens' projections, the part that starts at column `o`. -/
def lane (o : ℕ) (ho : o ≤ 10240) (b : Fin 4) (p : Fin 4096) (h : Fin 16) (d : Fin 128) : EReal := x0 (ix3 b p ⟨o + (h.val * 128 + d.val), by omega⟩)
/-- The same of the context's. -/
def ctxLane (o : ℕ) (ho : o ≤ 10240) (b : Fin 4) (p : Fin 256) (h : Fin 16) (d : Fin 128) : EReal := x1 (ix3 b p ⟨o + (h.val * 128 + d.val), by omega⟩)

theorem q_apply (b : Fin 4) (r c : Fin 64) (h : Fin 16) (d : Fin 128) :
    val_main_v52 (F := Ideal) x0 (ix5 b r c h d) = lane x0 4096 (by norm_num) b ⟨r.val * 64 + c.val, by omega⟩ h d := by
  unfold lane
  pointwise [val_main_v52, val_main_v10, val_main_v2, val_main_v0]
theorem k_apply (b : Fin 4) (r c : Fin 64) (h : Fin 16) (d : Fin 128) :
    val_main_v50 (F := Ideal) x0 (ix5 b r c h d) = lane x0 6144 (by norm_num) b ⟨r.val * 64 + c.val, by omega⟩ h d := by
  unfold lane
  pointwise [val_main_v50, val_main_v11, val_main_v3, val_main_v0]
theorem v_apply (b : Fin 4) (r c : Fin 64) (h : Fin 16) (d : Fin 128) :
    val_main_v51 (F := Ideal) x0 (ix5 b r c h d) = lane x0 8192 (by norm_num) b ⟨r.val * 64 + c.val, by omega⟩ h d := by
  unfold lane
  pointwise [val_main_v51, val_main_v12, val_main_v4, val_main_v0]
theorem kc_apply (b : Fin 4) (p : Fin 256) (h : Fin 16) (d : Fin 128) :
    val_main_v8 (F := Ideal) x1 (ix4 b p h d) = ctxLane x1 6144 (by norm_num) b p h d := by
  unfold ctxLane
  pointwise [val_main_v8, val_main_v6, val_main_v1]
theorem vc_apply (b : Fin 4) (p : Fin 256) (h : Fin 16) (d : Fin 128) :
    val_main_v9 (F := Ideal) x1 (ix4 b p h d) = ctxLane x1 8192 (by norm_num) b p h d := by
  unfold ctxLane
  pointwise [val_main_v9, val_main_v7, val_main_v1]

/-- The row and the column of a place of a window. -/
def rowAt (r : Fin 64) (w : Fin 8) : Fin 64 := ⟨rs r.val + w.val, by have := rs_le r.val; omega⟩
def colAt (c : Fin 64) (v : Fin 16) : Fin 64 := ⟨cs c.val + v.val, by have := cs_le c.val; omega⟩

theorem krow_apply (b : Fin 4) (r : Fin 64) (w : Fin 8) (c : Fin 64) (h : Fin 16) (d : Fin 128) :
    val_main_v53 (F := Ideal) x0 (ix6 b r w c h d) = val_main_v50 (F := Ideal) x0 (ix5 b (rowAt r w) c h d) := by
  have e : val_main_call2_v14 (F := Ideal) (ix6 b r w c h d) = 1#1 := by
    rw [val_main_call2_v14_apply, show idx_main_call2_v14 (ix6 b r w c h d) = ix2 r w from funext fun a => match a with | ⟨0, _⟩ => rfl | ⟨1, _⟩ => rfl]
    exact inb2 r w
  rw [val_main_v53_apply, e]
  refine (if_pos rfl).trans ?_
  exact take_row _ _ b r w c h d (rowAt r w) (start2 r w 0)
theorem kwin_apply (b : Fin 4) (r : Fin 64) (w : Fin 8) (c : Fin 64) (v : Fin 16) (h : Fin 16) (d : Fin 128) :
    val_main_v54 (F := Ideal) x0 (ix7 b r w c v h d) = lane x0 6144 (by norm_num) b ⟨(rowAt r w).val * 64 + (colAt c v).val, by omega⟩ h d := by
  have e : val_main_call3_v14 (F := Ideal) (ix7 b r w c v h d) = 1#1 := by
    rw [val_main_call3_v14_apply, show idx_main_call3_v14 (ix7 b r w c v h d) = ix2 c v from funext fun a => match a with | ⟨0, _⟩ => rfl | ⟨1, _⟩ => rfl]
    exact inb3 c v
  rw [val_main_v54_apply, e]
  refine (if_pos rfl).trans ?_
  exact ((take_col _ _ b r w c v h d (colAt c v) (start3 c v 0)).trans (krow_apply x0 b r w _ h d)).trans (k_apply x0 b _ _ h d)
theorem vrow_apply (b : Fin 4) (r : Fin 64) (w : Fin 8) (c : Fin 64) (h : Fin 16) (d : Fin 128) :
    val_main_v55 (F := Ideal) x0 (ix6 b r w c h d) = val_main_v51 (F := Ideal) x0 (ix5 b (rowAt r w) c h d) := by
  have e : val_main_call4_v14 (F := Ideal) (ix6 b r w c h d) = 1#1 := by
    rw [val_main_call4_v14_apply, show idx_main_call4_v14 (ix6 b r w c h d) = ix2 r w from funext fun a => match a with | ⟨0, _⟩ => rfl | ⟨1, _⟩ => rfl]
    exact inb4 r w
  rw [val_main_v55_apply, e]
  refine (if_pos rfl).trans ?_
  exact take_row _ _ b r w c h d (rowAt r w) (start4 r w 0)
theorem vwin_apply (b : Fin 4) (r : Fin 64) (w : Fin 8) (c : Fin 64) (v : Fin 16) (h : Fin 16) (d : Fin 128) :
    val_main_v56 (F := Ideal) x0 (ix7 b r w c v h d) = lane x0 8192 (by norm_num) b ⟨(rowAt r w).val * 64 + (colAt c v).val, by omega⟩ h d := by
  have e : val_main_call5_v14 (F := Ideal) (ix7 b r w c v h d) = 1#1 := by
    rw [val_main_call5_v14_apply, show idx_main_call5_v14 (ix7 b r w c v h d) = ix2 c v from funext fun a => match a with | ⟨0, _⟩ => rfl | ⟨1, _⟩ => rfl]
    exact inb5 c v
  rw [val_main_v56_apply, e]
  refine (if_pos rfl).trans ?_
  exact ((take_col _ _ b r w c v h d (colAt c v) (start5 c v 0)).trans (vrow_apply x0 b r w _ h d)).trans (v_apply x0 b _ _ h d)

/-- The bias of a place of a window. -/
def biasAt (h : Fin 16) (r : Fin 64) (w : Fin 8) (c : Fin 64) (v : Fin 16) : EReal :=
  x2 (ix3 h ⟨rs r.val + w.val + 7 - r.val, by unfold rs; omega⟩ ⟨cs c.val + v.val + 15 - c.val, by unfold cs; omega⟩)

theorem bias_apply (h : Fin 16) (r : Fin 64) (w : Fin 8) (c : Fin 64) (v : Fin 16) :
    val_main_v63 (F := Ideal) x2 (ix5 h r w c v) = biasAt x2 h r w c v :=
  (take_bias_row _ _ h r w c v ⟨rs r.val + w.val + 7 - r.val, by unfold rs; omega⟩ (row_off r w)).trans
    (take_bias_col _ _ h _ c v ⟨cs c.val + v.val + 15 - c.val, by unfold cs; omega⟩ (col_off c v))

/-- The score of the key at a place of the window. -/
theorem win_score (b : Fin 4) (h : Fin 16) (r c : Fin 64) (w : Fin 8) (v : Fin 16) :
    val_main_v70 (F := Ideal) x0 x2 (ix6 b h r c w v)
      = (∑ d : Fin 128, lane x0 4096 (by norm_num) b ⟨r.val * 64 + c.val, by omega⟩ h d
          * lane x0 6144 (by norm_num) b ⟨(rowAt r w).val * 64 + (colAt c v).val, by omega⟩ h d) * (Attn.scale : EReal) + biasAt x2 h r w c v := by
  have e1 : val_main_v69 (F := Ideal) x2 (ix6 b h r c w v) = biasAt x2 h r w c v := by
    rw [← bias_apply]
    unfold val_main_v69 val_main_v68 val_main_v64
    generalize val_main_v63 (F := Ideal) x2 = y
    pointwise
  have e2 : val_main_v65 (F := Ideal) x0 (ix6 b h r c w v) = ∑ d : Fin 128, lane x0 4096 (by norm_num) b ⟨r.val * 64 + c.val, by omega⟩ h d
          * lane x0 6144 (by norm_num) b ⟨(rowAt r w).val * 64 + (colAt c v).val, by omega⟩ h d := by
    rw [val_main_v65_apply]
    refine Finset.sum_congr rfl fun d _ => ?_
    rw [show lidx_main_v65 (ix6 b h r c w v) d = ix5 b r c h d from funext fun a => match a with | ⟨0, _⟩ => rfl | ⟨1, _⟩ => rfl | ⟨2, _⟩ => rfl | ⟨3, _⟩ => rfl | ⟨4, _⟩ => rfl,
      show ridx_main_v65 (ix6 b h r c w v) d = ix7 b r w c v h d from funext fun a => match a with | ⟨0, _⟩ => rfl | ⟨1, _⟩ => rfl | ⟨2, _⟩ => rfl | ⟨3, _⟩ => rfl | ⟨4, _⟩ => rfl | ⟨5, _⟩ => rfl | ⟨6, _⟩ => rfl]
    exact congrArg₂ (· * ·) (q_apply x0 b r c h d) (kwin_apply x0 b r w c v h d)
  have e3 : val_main_v66 (F := Ideal) (ix6 b h r c w v) = (Attn.scale : EReal) := by
    rw [val_main_v66_apply]; exact Attn.scale_eq
  rw [val_main_v70_apply, val_main_v67_apply, e1, e2, e3]
  rfl

/-- The score of a context's key. -/
theorem ctx_score (b : Fin 4) (h : Fin 16) (r c : Fin 64) (t : Fin 256) :
    val_main_v73 (F := Ideal) x0 x1 (ix5 b h r c t)
      = (∑ d : Fin 128, lane x0 4096 (by norm_num) b ⟨r.val * 64 + c.val, by omega⟩ h d
          * ctxLane x1 6144 (by norm_num) b t h d) * (Attn.scale : EReal) := by
  have e2 : val_main_v71 (F := Ideal) x0 x1 (ix5 b h r c t) = ∑ d : Fin 128, lane x0 4096 (by norm_num) b ⟨r.val * 64 + c.val, by omega⟩ h d
          * ctxLane x1 6144 (by norm_num) b t h d := by
    rw [val_main_v71_apply]
    refine Finset.sum_congr rfl fun d _ => ?_
    rw [show lidx_main_v71 (ix5 b h r c t) d = ix5 b r c h d from funext fun a => match a with | ⟨0, _⟩ => rfl | ⟨1, _⟩ => rfl | ⟨2, _⟩ => rfl | ⟨3, _⟩ => rfl | ⟨4, _⟩ => rfl,
      show ridx_main_v71 (ix5 b h r c t) d = ix4 b t h d from funext fun a => match a with | ⟨0, _⟩ => rfl | ⟨1, _⟩ => rfl | ⟨2, _⟩ => rfl | ⟨3, _⟩ => rfl]
    exact congrArg₂ (· * ·) (q_apply x0 b r c h d) (kc_apply x1 b t h d)
  have e3 : val_main_v72 (F := Ideal) (ix5 b h r c t) = (Attn.scale : EReal) := by
    rw [val_main_v72_apply]; exact Attn.scale_eq
  rw [val_main_v73_apply, e2, e3]
  rfl

end Neigh.Ref

end
-- ==== Proof.Neigh.RefOut.lean ====
module

public import proofs.«01_k».proof.Proof.Neigh.RefScore
public import proofs.«01_k».proof.Proof.Neigh.Weights
public import proofs.«01_k».proof.Proof.Attn.RefOut

/-!
# The reference's result at an index

With real scores the reference's weights are a softmax's, and its result is the softmax-weighted sum of the window's and
the context's values, gated (`out_apply`).
-/

@[expose] public section

set_option maxRecDepth 16384

noncomputable section

namespace Neigh.Ref

open Idealize.ShloMosaic Cert.NeighbourReferenceIdeal Cert.NeighbourReferenceIdeal.Gen Cert.NeighbourReferenceIdeal.Read
open scoped BigOperators

variable (x0 : FVec Ideal S4x4096x12288 .bf16) (x1 : FVec Ideal S4x256x12288 .bf16) (x2 : FVec Ideal S16x15x31 .f32)

theorem joined_win (b : Fin 4) (h : Fin 16) (r c : Fin 64) (w : Fin 8) (v : Fin 16) :
    val_main_v75 (F := Ideal) x0 x1 x2 (ix5 b h r c ⟨w.val * 16 + v.val, by omega⟩) = val_main_v70 (F := Ideal) x0 x2 (ix6 b h r c w v) := by
  unfold val_main_v75 val_main_v74
  generalize val_main_v70 (F := Ideal) x0 x2 = y
  generalize val_main_v73 (F := Ideal) x0 x1 = y'
  pointwise
  exact dif_pos (by omega)

theorem joined_ctx (b : Fin 4) (h : Fin 16) (r c : Fin 64) (t : Fin 256) :
    val_main_v75 (F := Ideal) x0 x1 x2 (ix5 b h r c ⟨128 + t.val, by omega⟩) = val_main_v73 (F := Ideal) x0 x1 (ix5 b h r c t) := by
  unfold val_main_v75
  generalize val_main_v74 (F := Ideal) x0 x2 = y
  generalize val_main_v73 (F := Ideal) x0 x1 = y'
  pointwise

theorem weight_apply (b : Fin 4) (h : Fin 16) (r c : Fin 64) (t : Fin 384) :
    val_main_v86 (F := Ideal) x0 x1 x2 (ix5 b h r c t)
      = Ideal.div (Ideal.exp (val_main_v75 (F := Ideal) x0 x1 x2 (ix5 b h r c t) - val_main_v78 (F := Ideal) x0 x1 x2 (ix4 b h r c)))
          (0 + ∑ u : Fin 384, Ideal.exp (val_main_v75 (F := Ideal) x0 x1 x2 (ix5 b h r c u) - val_main_v78 (F := Ideal) x0 x1 x2 (ix4 b h r c))) := by
  have z : (val_main_cst_14 (F := Ideal) (Shape.Idx.first Gen.h_S_)) = (0 : EReal) := Ideal.ofBits_zero_f32
  rw [← z]
  unfold val_main_v86 val_main_v85 val_main_v84 val_main_v83 val_main_v82 val_main_v81 val_main_v80 val_main_v79
  generalize val_main_v78 (F := Ideal) x0 x1 x2 = y
  generalize val_main_v75 (F := Ideal) x0 x1 x2 = y'
  pointwise

theorem max_real (hs : ∀ b h r c t, ∃ x : ℝ, val_main_v75 (F := Ideal) x0 x1 x2 (ix5 b h r c t) = x) (j : S4x16x64x64.Idx) :
    ∃ M : ℝ, val_main_v78 (F := Ideal) x0 x1 x2 j = M := by
  have e1 : ∃ M : ℝ, val_main_v76 (F := Ideal) x0 x1 x2 j = M := by
    unfold val_main_v76
    generalize val_main_v75 (F := Ideal) x0 x1 x2 = y at hs ⊢
    exact Attn.Ref.reduce_max_real _ _ y _ Attn.bot_eq (by norm_num) hs j
  obtain ⟨M, hM⟩ := e1
  refine ⟨M, ?_⟩
  rw [val_main_v78_apply, hM]
  have e2 : val_main_v77 (F := Ideal) j = ⊥ := by rw [val_main_v77_apply]; exact Attn.bot_eq
  rw [e2]
  exact max_eq_right bot_le

theorem win_sum (b : Fin 4) (h : Fin 16) (r c : Fin 64) (d : Fin 128) :
    val_main_v90 (F := Ideal) x0 x1 x2 (ix5 b r c h d)
      = ∑ w : Fin 8, ∑ v : Fin 16, val_main_v86 (F := Ideal) x0 x1 x2 (ix5 b h r c ⟨w.val * 16 + v.val, by omega⟩)
          * val_main_v56 (F := Ideal) x0 (ix7 b r w c v h d) := by
  unfold val_main_v90 val_main_v88 val_main_v87
  generalize val_main_v86 (F := Ideal) x0 x1 x2 = y
  generalize val_main_v56 (F := Ideal) x0 = y'
  pointwise
  exact Finset.sum_comm

theorem ctx_sum (b : Fin 4) (h : Fin 16) (r c : Fin 64) (d : Fin 128) :
    val_main_v92 (F := Ideal) x0 x1 x2 (ix5 b r c h d)
      = ∑ t : Fin 256, val_main_v9 (F := Ideal) x1 (ix4 b t h d) * val_main_v86 (F := Ideal) x0 x1 x2 (ix5 b h r c ⟨128 + t.val, by omega⟩) := by
  unfold val_main_v92 val_main_v91 val_main_v89
  generalize val_main_v86 (F := Ideal) x0 x1 x2 = y
  generalize val_main_v9 (F := Ideal) x1 = y'
  pointwise

theorem joined_apply (b : Fin 4) (h : Fin 16) (r c : Fin 64) (d : Fin 128) (p : Fin 4096) (l : Fin 2048) (hp : p.val = r.val * 64 + c.val)
    (hl : l.val = h.val * 128 + d.val) :
    val_main_v94 (F := Ideal) x0 x1 x2 (ix3 b p l)
      = val_main_v90 (F := Ideal) x0 x1 x2 (ix5 b r c h d) + val_main_v92 (F := Ideal) x0 x1 x2 (ix5 b r c h d) := by
  have e : idx_main_v94 (ix3 b p l) = ix5 b r c h d := by
    funext a
    apply Fin.ext
    match a with
    | ⟨0, _⟩ => show ((b.val * 4096 + p.val) * 2048 + l.val) / 8388608 = b.val; omega
    | ⟨1, _⟩ => show ((b.val * 4096 + p.val) * 2048 + l.val) / 131072 % 64 = r.val; omega
    | ⟨2, _⟩ => show ((b.val * 4096 + p.val) * 2048 + l.val) / 2048 % 64 = c.val; omega
    | ⟨3, _⟩ => show ((b.val * 4096 + p.val) * 2048 + l.val) / 128 % 16 = h.val; omega
    | ⟨4, _⟩ => show ((b.val * 4096 + p.val) * 2048 + l.val) % 128 = d.val; omega
  rw [val_main_v94_apply, e, val_main_v93_apply]
  rfl

/-- The gate of a position's lane. -/
def gate (x : EReal) : EReal := x * Ideal.div 1 (1 + Ideal.exp (-x))

theorem gated_apply (b : Fin 4) (p : Fin 4096) (c : Fin 2048) :
    val_main_v95 (F := Ideal) x0 (ix3 b p c) = gate (x0 (ix3 b p ⟨10240 + c.val, by omega⟩)) := by
  unfold gate
  rw [← Attn.one_eq]
  pointwise [val_main_v95, val_main_v5, val_main_v0, val_main_call6_v5, val_main_call6_v4, val_main_call6_v3, val_main_call6_v2, val_main_call6_v1, val_main_call6_v0, val_main_call6_cst, val_main_call6_cst_0]

theorem last_apply (i : S4x4096x2048.Idx) :
    val_main_v97 (F := Ideal) x0 x1 x2 i = val_main_v94 (F := Ideal) x0 x1 x2 i * val_main_v95 (F := Ideal) x0 i := by
  rw [val_main_v97_apply, val_main_v96_apply]
  rfl

/-- The reference's result: `s` the scores of a query, window first, and `v` the values' lane; the softmax-weighted sum, gated. -/
theorem out_apply (b : Fin 4) (h : Fin 16) (r c : Fin 64) (d : Fin 128) (s : ℕ → ℝ) (v : ℕ → EReal)
    (hall : ∀ b h r c t, ∃ x : ℝ, val_main_v75 (F := Ideal) x0 x1 x2 (ix5 b h r c t) = x)
    (hs : ∀ t : Fin 384, val_main_v75 (F := Ideal) x0 x1 x2 (ix5 b h r c t) = (s t.val : EReal))
    (hvw : ∀ (w : Fin 8) (x : Fin 16), lane x0 8192 (by norm_num) b ⟨(rowAt r w).val * 64 + (colAt c x).val, by omega⟩ h d = v (w.val * 16 + x.val))
    (hvc : ∀ t : Fin 256, ctxLane x1 8192 (by norm_num) b t h d = v (128 + t.val))
    (p : Fin 4096) (l : Fin 2048) (hp : p.val = r.val * 64 + c.val) (hl : l.val = h.val * 128 + d.val) :
    val_main_v97 (F := Ideal) x0 x1 x2 (ix3 b p l) = Attn.softmaxSum s v 384 * gate (x0 (ix3 b p ⟨10240 + l.val, by omega⟩)) := by
  obtain ⟨M, hM⟩ := max_real x0 x1 x2 hall (ix4 b h r c)
  have e3 : val_main_v94 (F := Ideal) x0 x1 x2 (ix3 b p l) = Attn.softmaxSum s v 384 := by
    rw [joined_apply x0 x1 x2 b h r c d p l hp hl, win_sum, ctx_sum]
    exact ref_eq s v _ hs M (fun t => val_main_v86 (F := Ideal) x0 x1 x2 (ix5 b h r c t))
      (fun t => (weight_apply x0 x1 x2 b h r c t).trans (by rw [hM]))
      (fun w x => val_main_v56 (F := Ideal) x0 (ix7 b r w c x h d)) (fun w x => (vwin_apply x0 b r w c x h d).trans (hvw w x))
      (fun t => val_main_v9 (F := Ideal) x1 (ix4 b t h d)) (fun t => (vc_apply x1 b t h d).trans (hvc t))
  rw [last_apply, e3, gated_apply]

end Neigh.Ref

end
-- ==== Proof.Neigh.Scores.lean ====
module

public import proofs.«01_k».proof.Proof.Neigh.RefOut

/-!
# The scores of a query, real numbers in both programs

With real queries, keys and biases the reference's scores of a query are real numbers `s`, the window's first; the
kernel's, taken to base two, are `s` over the logarithm of two (`scores`).
-/

@[expose] public section

set_option maxRecDepth 16384

noncomputable section

namespace Neigh.Ref

open Idealize.ShloMosaic Cert.NeighbourReferenceIdeal Cert.NeighbourReferenceIdeal.Gen Cert.NeighbourReferenceIdeal.Read
open scoped BigOperators

variable (x0 : Vec Ideal S4x4096x12288 .bf16) (x1 : Vec Ideal S4x256x12288 .bf16) (x2 : Vec Ideal S16x15x31 .f32)

theorem le_q : 4096 ≤ 10240 := by norm_num
theorem le_k : 6144 ≤ 10240 := by norm_num
theorem le_v : 8192 ≤ 10240 := by norm_num

/-- A real score and a real bias: their sum, and the sum to base two. -/
theorem biased (q k : Fin 128 → EReal) (hq : ∀ d, ∃ r : ℝ, q d = r) (hk : ∀ d, ∃ r : ℝ, k d = r) (z : EReal) (hz : ∃ r : ℝ, z = r)
    (κ κ' : EReal) (hκ : κ = ((Attn.scale * (Real.log 2)⁻¹ : ℝ) : EReal)) (hκ' : κ' = (((Real.log 2)⁻¹ : ℝ) : EReal)) :
    ∃ s : ℝ, (∑ d, (q d * κ) * k d) + z * κ' = ((s * (Real.log 2)⁻¹ : ℝ) : EReal) ∧ (∑ d, q d * k d) * (Attn.scale : EReal) + z = (s : EReal) := by
  obtain ⟨s, h1, h2⟩ := Attn.score_eq q k hq hk κ hκ
  obtain ⟨b, rfl⟩ := hz
  refine ⟨s + b, ?_, ?_⟩
  · rw [h1, hκ', ← EReal.coe_mul, ← EReal.coe_add, add_mul]
  · rw [EReal.coe_add, ← h2]
    simp only [mul_comm]

/-- A real score without a bias. -/
theorem plain (q k : Fin 128 → EReal) (hq : ∀ d, ∃ r : ℝ, q d = r) (hk : ∀ d, ∃ r : ℝ, k d = r)
    (κ : EReal) (hκ : κ = ((Attn.scale * (Real.log 2)⁻¹ : ℝ) : EReal)) :
    ∃ s : ℝ, (∑ d, (q d * κ) * k d) = ((s * (Real.log 2)⁻¹ : ℝ) : EReal) ∧ (∑ d, q d * k d) * (Attn.scale : EReal) = (s : EReal) := by
  obtain ⟨s, h1, h2⟩ := Attn.score_eq q k hq hk κ hκ
  refine ⟨s, h1, ?_⟩
  rw [← h2]
  simp only [mul_comm]

variable (hq : ∀ b p h d, ∃ r : ℝ, lane x0 4096 le_q b p h d = r) (hk : ∀ b p h d, ∃ r : ℝ, lane x0 6144 le_k b p h d = r)
  (hkc : ∀ b p h d, ∃ r : ℝ, ctxLane x1 6144 le_k b p h d = r) (hx2 : ∀ i, ∃ r : ℝ, x2 i = r)
include hq hk hkc hx2

/-- A query's scores: the window's keys, then the context's. -/
theorem scores (κ κ' : EReal) (hκ : κ = ((Attn.scale * (Real.log 2)⁻¹ : ℝ) : EReal)) (hκ' : κ' = (((Real.log 2)⁻¹ : ℝ) : EReal))
    (b : Fin 4) (h : Fin 16) (r c : Fin 64) : ∃ s : ℕ → ℝ,
      (∀ (w : Fin 8) (v : Fin 16), (∑ d : Fin 128, (lane x0 4096 le_q b ⟨r.val * 64 + c.val, by omega⟩ h d * κ)
          * lane x0 6144 le_k b ⟨(rowAt r w).val * 64 + (colAt c v).val, by omega⟩ h d) + biasAt x2 h r w c v * κ'
        = ((s (w.val * 16 + v.val) * (Real.log 2)⁻¹ : ℝ) : EReal)) ∧
      (∀ t : Fin 256, (∑ d : Fin 128, (lane x0 4096 le_q b ⟨r.val * 64 + c.val, by omega⟩ h d * κ)
          * ctxLane x1 6144 le_k b t h d) = ((s (128 + t.val) * (Real.log 2)⁻¹ : ℝ) : EReal)) ∧
      (∀ t : Fin 384, val_main_v75 (F := Ideal) x0 x1 x2 (ix5 b h r c t) = (s t.val : EReal)) := by
  have hw : ∀ (w : Fin 8) (v : Fin 16), _ := fun w v => biased (fun d => lane x0 4096 le_q b ⟨r.val * 64 + c.val, by omega⟩ h d)
    (fun d => lane x0 6144 le_k b ⟨(rowAt r w).val * 64 + (colAt c v).val, by omega⟩ h d) (fun d => hq _ _ _ _) (fun d => hk _ _ _ _)
    (biasAt x2 h r w c v) (hx2 _) κ κ' hκ hκ'
  have hc : ∀ t : Fin 256, _ := fun t => plain (fun d => lane x0 4096 le_q b ⟨r.val * 64 + c.val, by omega⟩ h d)
    (fun d => ctxLane x1 6144 le_k b t h d) (fun d => hq _ _ _ _) (fun d => hkc _ _ _ _) κ hκ
  choose f f1 f2 using hw
  choose g g1 g2 using hc
  have sw : ∀ (w : Fin 8) (v : Fin 16), (fun n : ℕ => if n < 128 then f ⟨n / 16 % 8, by omega⟩ ⟨n % 16, by omega⟩ else g ⟨(n - 128) % 256, by omega⟩) (w.val * 16 + v.val) = f w v := by
    intro w v
    refine (if_pos (by omega)).trans ?_
    congr 1 <;> apply Fin.ext <;> simp only <;> omega
  have sc : ∀ t : Fin 256, (fun n : ℕ => if n < 128 then f ⟨n / 16 % 8, by omega⟩ ⟨n % 16, by omega⟩ else g ⟨(n - 128) % 256, by omega⟩) (128 + t.val) = g t := by
    intro t
    refine (if_neg (by omega)).trans ?_
    congr 1; apply Fin.ext; simp only; omega
  generalize (fun n : ℕ => if n < 128 then f ⟨n / 16 % 8, by omega⟩ ⟨n % 16, by omega⟩ else g ⟨(n - 128) % 256, by omega⟩) = s at sw sc
  refine ⟨s, fun w v => (sw w v).symm ▸ f1 w v, fun t => (sc t).symm ▸ g1 t, fun t => ?_⟩
  by_cases ht : t.val < 128
  · obtain ⟨w, v, hwv⟩ : ∃ (w : Fin 8) (v : Fin 16), t.val = w.val * 16 + v.val :=
      ⟨⟨t.val / 16, by omega⟩, ⟨t.val % 16, by omega⟩, by simp only; omega⟩
    have e : t = ⟨w.val * 16 + v.val, by omega⟩ := Fin.ext hwv
    rw [hwv, sw w v, e, joined_win, win_score]
    exact f2 w v
  · obtain ⟨k, hk'⟩ : ∃ k : Fin 256, t.val = 128 + k.val := ⟨⟨t.val - 128, by omega⟩, by simp only; omega⟩
    have e : t = ⟨128 + k.val, by omega⟩ := Fin.ext hk'
    rw [hk', sc k, e, joined_ctx, ctx_score]
    exact g2 k

/-- Every score of the reference is real. -/
theorem scores_real (b : Fin 4) (h : Fin 16) (r c : Fin 64) (t : Fin 384) : ∃ x : ℝ, val_main_v75 (F := Ideal) x0 x1 x2 (ix5 b h r c t) = x := by
  obtain ⟨s, -, -, hs⟩ := scores x0 x1 x2 hq hk hkc hx2 _ _ rfl rfl b h r c
  exact ⟨_, hs t⟩

end Neigh.Ref

end
-- ==== Proof.Neigh.Value.lean ====
module

public import proofs.«01_k».proof.Proof.Neigh.Windows
public import proofs.«01_k».proof.Proof.Neigh.Weights
public import proofs.«01_k».proof.Proof.Neigh.Scores
public import proofs.«01_k».proof.Proof.Gen.NeighbourIdeal.Value

/-!
# The neighbourhood attention's output array

A query of the kernel takes the softmax over all 512 keys of its eight grid rows, of which the bias leaves the window's 128,
and the context; the reference's over the window and the context (`row_eq`).  The grid points' blocks tile the output array
(`out_eq`).
-/

@[expose] public section

set_option maxRecDepth 16384

noncomputable section

namespace Neigh

open Idealize.ShloMosaic Idealize.ShloMosaic.TcCoe Cert.NeighbourIdeal Cert.NeighbourIdeal.Gen
open scoped BigOperators

theorem κs_eq : κs = ((Attn.scale * (Real.log 2)⁻¹ : ℝ) : EReal) :=
  IdealRules.named_const.ideal_named_scalar _ _ _ _ rfl
theorem κl_eq : κl = (((Real.log 2)⁻¹ : ℝ) : EReal) :=
  IdealRules.named_const.ideal_named_scalar _ _ _ _ rfl

/-- Where a window's key lies among the 512 keys of the eight grid rows. -/
def place (w : Fin 64) (t : Fin 128) : Fin 512 := ⟨64 * (t.val / 16) + cs w.val + t.val % 16, by have := cs_le w.val; omega⟩

theorem place_injective (w : Fin 64) : Function.Injective (place w) := by
  intro a b h
  have h' : 64 * (a.val / 16) + cs w.val + a.val % 16 = 64 * (b.val / 16) + cs w.val + b.val % 16 := congrArg Fin.val h
  have := cs_le w.val
  apply Fin.ext; omega

/-- A key whose column the window does not hold is not in it. -/
theorem not_place (w : Fin 64) (j : Fin 512) (h : j ∉ Set.range (place w)) : ¬(cs w.val ≤ j.val % 64 ∧ j.val % 64 < cs w.val + 16) := by
  rintro ⟨h1, h2⟩
  refine h ⟨⟨j.val / 64 * 16 + (j.val % 64 - cs w.val), by omega⟩, Fin.ext ?_⟩
  show 64 * ((j.val / 64 * 16 + (j.val % 64 - cs w.val)) / 16) + cs w.val + (j.val / 64 * 16 + (j.val % 64 - cs w.val)) % 16 = j.val
  omega

variable (m : (ℓ : Loc nD τ sig) → Buf (Elt Ideal) ℓ) (c : Dev nD)

/-- What the output array is shown to hold: the reference's result. -/
abbrev result : Vec Ideal S4x4096x2048 .bf16 :=
  Cert.NeighbourReferenceIdeal.Read.val_main_v97 (F := Ideal) (Arg0 m c) (Arg1 m c) (Arg2 m c)

/-- The bias of a window's key is the reference's. -/
theorem bias_in (h : Fin 16) (r w : Fin 64) (a : Fin 8) (v : Fin 16) (n : Fin 8) (hn : n.val = r.val - rs r.val) (j : Fin 512)
    (hj : j.val = 64 * a.val + cs w.val + v.val) :
    classes (F := Ideal) (masked (Arg2 m c)) (ix4 h n w j) = Ref.biasAt (Arg2 m c) h r a w v := by
  have h1 := cs_le w.val
  have h2 : rs r.val ≤ r.val + 0 ∧ r.val ≤ rs r.val + 7 := by have := r.isLt; unfold rs; omega
  have h3 : cs w.val ≤ w.val ∧ w.val ≤ cs w.val + 15 := by have := w.isLt; unfold cs; omega
  rw [classes_apply (masked (F := Ideal) (Arg2 m c)) h n w a ⟨cs w.val + v.val, by omega⟩ j (by simp only; omega) ⟨7 - n.val + a.val, by omega⟩ rfl,
    masked_in (Arg2 m c) h _ w ⟨cs w.val + v.val, by omega⟩ ⟨by simp only; omega, by simp only; omega⟩ ⟨cs w.val + v.val + 15 - w.val, by omega⟩ rfl]
  unfold Ref.biasAt
  congr 1
  funext b; apply Fin.ext
  match b with
  | ⟨0, _⟩ => rfl
  | ⟨1, _⟩ => show 7 - n.val + a.val = rs r.val + a.val + 7 - r.val; omega
  | ⟨2, _⟩ => rfl

/-- The bias of a key outside the window is −∞. -/
theorem bias_out (h : Fin 16) (w : Fin 64) (n : Fin 8) (j : Fin 512) (hj : j ∉ Set.range (place w)) :
    classes (F := Ideal) (masked (Arg2 m c)) (ix4 h n w j) = ⊥ := by
  rw [classes_apply (masked (F := Ideal) (Arg2 m c)) h n w ⟨j.val / 64, by omega⟩ ⟨j.val % 64, by omega⟩ j (by simp only; omega) ⟨7 - n.val + j.val / 64, by omega⟩ rfl]
  exact masked_out (Arg2 m c) h _ w _ (not_place w j hj)

/-- −∞ to base two is −∞, and so is what it is added to. -/
theorem bot_bias (x : EReal) : x + ⊥ * κl = ⊥ := by
  have h : (0 : ℝ) < (Real.log 2)⁻¹ := inv_pos.mpr (Real.log_pos (by norm_num))
  rw [κl_eq, EReal.bot_mul_coe_of_pos h, EReal.add_bot]

variable (hq : ∀ b p h d, ∃ r : ℝ, Ref.lane (Arg0 m c) 4096 Ref.le_q b p h d = r) (hk : ∀ b p h d, ∃ r : ℝ, Ref.lane (Arg0 m c) 6144 Ref.le_k b p h d = r)
  (hkc : ∀ b p h d, ∃ r : ℝ, Ref.ctxLane (Arg1 m c) 6144 Ref.le_k b p h d = r) (hx2 : ∀ i, ∃ r : ℝ, Arg2 m c i = r)
include hq hk hkc hx2

/-- A query's result is the reference's. -/
theorem row_eq (b : Fin 4) (h : Fin 16) (r w : Fin 64) (n : Fin 8) (hn : n.val = r.val - rs r.val) (e : Fin 128)
    (q : Fin 128 → EReal) (kw vw : Fin 512 → Fin 128 → EReal) (kc vc : Fin 256 → Fin 128 → EReal) (g : EReal)
    (eq : ∀ d, q d = Ref.lane (Arg0 m c) 4096 Ref.le_q b ⟨r.val * 64 + w.val, by omega⟩ h d)
    (ekw : ∀ j d, kw j d = Ref.lane (Arg0 m c) 6144 Ref.le_k b ⟨64 * rs r.val + j.val, by have := rs_le r.val; omega⟩ h d)
    (evw : ∀ j d, vw j d = Ref.lane (Arg0 m c) 8192 Ref.le_v b ⟨64 * rs r.val + j.val, by have := rs_le r.val; omega⟩ h d)
    (ekc : ∀ j d, kc j d = Ref.ctxLane (Arg1 m c) 6144 Ref.le_k b j h d)
    (evc : ∀ j d, vc j d = Ref.ctxLane (Arg1 m c) 8192 Ref.le_v b j h d)
    (p : Fin 4096) (l : Fin 2048) (hp : p.val = r.val * 64 + w.val) (hl : l.val = h.val * 128 + e.val)
    (eg : g = Arg0 m c (ix3 b p ⟨10240 + l.val, by omega⟩)) :
    attend (fun j => (∑ d : Fin 128, (q d * κs) * kw j d) + classes (F := Ideal) (masked (Arg2 m c)) (ix4 h n w j) * κl)
        (fun j => ∑ d : Fin 128, (q d * κs) * kc j d) (fun j => vw j e) (fun j => vc j e) * (g * Ideal.div 1 (1 + Ideal.exp (-g)))
      = result m c (ix3 b p l) := by
  obtain ⟨s, h1, h2, h3⟩ := Ref.scores (Arg0 m c) (Arg1 m c) (Arg2 m c) hq hk hkc hx2 κs κl κs_eq κl_eq b h r w
  have hcs := cs_le w.val
  have hrs := rs_le r.val
  have at_place : ∀ t : Fin 128, ∀ (a : Fin 8) (v : Fin 16), t.val = a.val * 16 + v.val →
      (⟨64 * rs r.val + (place w t).val, by omega⟩ : Fin 4096) = ⟨(Ref.rowAt r a).val * 64 + (Ref.colAt w v).val, by omega⟩ := fun t a v hav =>
    Fin.ext (by show 64 * rs r.val + (64 * (t.val / 16) + cs w.val + t.val % 16) = (rs r.val + a.val) * 64 + (cs w.val + v.val); omega)
  obtain ⟨V, hVw, hVc⟩ : ∃ V : ℕ → EReal, (∀ t : Fin 128, vw (place w t) e = V t.val) ∧ (∀ j : Fin 256, vc j e = V (128 + j.val)) := by
    refine ⟨fun k => if hk : k < 128 then vw (place w ⟨k, hk⟩) e else vc ⟨(k - 128) % 256, by omega⟩ e, fun t => ?_, fun j => ?_⟩
    · show _ = if hk : t.val < 128 then vw (place w ⟨t.val, hk⟩) e else vc ⟨(t.val - 128) % 256, by omega⟩ e
      rw [dif_pos t.isLt]
    · show _ = if hk : 128 + j.val < 128 then vw (place w ⟨128 + j.val, hk⟩) e else vc ⟨(128 + j.val - 128) % 256, by omega⟩ e
      rw [dif_neg (by omega)]
      congr 1; apply Fin.ext; simp only; omega
  rw [attend_eq (place w) (place_injective w) s V _ _ _ _ (fun t => ?_) (fun j hj => ?_) (fun j => ?_) hVw hVc, eg]
  · refine (Ref.out_apply (Arg0 m c) (Arg1 m c) (Arg2 m c) b h r w e s V (Ref.scores_real _ _ _ hq hk hkc hx2) h3 (fun a v => ?_) (fun t => ?_) p l hp hl).symm
    · rw [← at_place ⟨a.val * 16 + v.val, by omega⟩ a v rfl, ← evw]
      exact hVw ⟨a.val * 16 + v.val, by omega⟩
    · rw [← evc]; exact hVc t
  · obtain ⟨a, v, hav⟩ : ∃ (a : Fin 8) (v : Fin 16), t.val = a.val * 16 + v.val :=
      ⟨⟨t.val / 16, by omega⟩, ⟨t.val % 16, by omega⟩, by simp only; omega⟩
    have hb := bias_in m c h r w a v n hn (place w t) (by show 64 * (t.val / 16) + cs w.val + t.val % 16 = _; omega)
    have := h1 a v
    rw [← hav] at this
    simp only [hb, eq, ekw, at_place t a v hav]
    exact this
  · simp only [bias_out m c h w n j hj]
    exact bot_bias _
  · simp only [eq, ekc]
    exact h2 j

end Neigh

end
-- ==== Proof.Neigh.Out.lean ====
module

public import proofs.«01_k».proof.Proof.Neigh.Value

/-!
# The neighbourhood attention's output array, block by block

What a trip of a grid point stores is the reference's result at the positions and lanes where it stores it (`stored_eq`); so is
the block that the point writes (`point_eq`).
-/

@[expose] public section

set_option maxRecDepth 16384

noncomputable section

namespace Neigh

open Idealize.ShloMosaic Idealize.ShloMosaic.TcCoe Cert.NeighbourIdeal Cert.NeighbourIdeal.Gen
open scoped BigOperators

variable (m : (ℓ : Loc nD τ sig) → Buf (Elt Ideal) ℓ) (c : Dev nD)

/-- Where a trip's stored index lies in the block. -/
theorem emb_trip (k : Fin k0_t1_loop.trips) (p : Fin 2048) (e : Fin 128) (n : Fin 4096) (hn : n.val = 2048 * k.val + p.val) :
    (Rect.unit (s := S1x4096x128) (k0_off1 k) S1x2048x128.size (k0_off1_inb k)).emb (ix3 0 p e) = ix3 0 n e := by
  obtain ⟨e0, e1, e2⟩ := off1 k
  funext b; apply Fin.ext
  match b with
  | ⟨0, _⟩ => show k0_off1 k 0 + 1 * 0 = 0; omega
  | ⟨1, _⟩ => show k0_off1 k 1 + 1 * p.val = n.val; omega
  | ⟨2, _⟩ => show k0_off1 k 2 + 1 * e.val = e.val; omega

variable (hq : ∀ b p h d, ∃ r : ℝ, Ref.lane (Arg0 m c) 4096 Ref.le_q b p h d = r) (hk : ∀ b p h d, ∃ r : ℝ, Ref.lane (Arg0 m c) 6144 Ref.le_k b p h d = r)
  (hkc : ∀ b p h d, ∃ r : ℝ, Ref.ctxLane (Arg1 m c) 6144 Ref.le_k b p h d = r) (hx2 : ∀ i, ∃ r : ℝ, Arg2 m c i = r)
include hq hk hkc hx2

/-- What a trip stores, at a position and a lane. -/
theorem stored_eq (t : Fin cfg0.N) (k : Fin k0_t1_loop.trips) (u : Fin 32) (w : Fin 64) (e : Fin 128) (n : Fin 4096) (hn : n.val = 2048 * k.val + (64 * u.val + w.val)) :
    stored (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (iblk m c 4 t) (iblk m c 5 t) (iblk m c 6 t) k (ix3 0 ⟨64 * u.val + w.val, by omega⟩ e)
      = result m c (ix3 (batch t) n ⟨(head t).val * 128 + e.val, by omega⟩) := by
  have hk2 := trips_two k
  have hrs := rs_le (32 * k.val + u.val)
  have hr : rs (32 * k.val + u.val) ≤ 32 * k.val + u.val ∧ 32 * k.val + u.val ≤ rs (32 * k.val + u.val) + 7 := by unfold rs; omega
  unfold stored
  rw [stored_apply, rows_attend]
  have eb : ∀ j, bLoad (ms0_6 t) ((hs0_6 t).unread (iblk m c 6 t)) k u (ix4 0 0 w j)
      = classes (F := Ideal) (masked (Arg2 m c)) (ix4 (head t) ⟨32 * k.val + u.val - rs (32 * k.val + u.val), by omega⟩ w j) := fun j =>
    (bLoad_apply k (ms0_6 t) (hs0_6 t) (iblk m c 6 t) u w j ⟨32 * k.val + u.val - rs (32 * k.val + u.val), by omega⟩ rfl).trans (iblk6_apply m c t _ w j)
  simp only [eb]
  refine row_eq m c hq hk hkc hx2 (batch t) (head t) ⟨32 * k.val + u.val, by omega⟩ w ⟨32 * k.val + u.val - rs (32 * k.val + u.val), by omega⟩ rfl e
    (fun d => qLoad (ms0_0 t) ((hs0_0 t).unread (iblk m c 0 t)) k (ix3 0 ⟨64 * u.val + w.val, by omega⟩ d))
    (fun j d => kLoad (ms0_1 t) ((hs0_1 t).unread (iblk m c 1 t)) k u (ix3 0 j d)) (fun j d => kLoad (ms0_2 t) ((hs0_2 t).unread (iblk m c 2 t)) k u (ix3 0 j d))
    (fun j d => cLoad (ms0_4 t) (hs0_4 t) (iblk m c 4 t) (ix3 0 j d)) (fun j d => cLoad (ms0_5 t) (hs0_5 t) (iblk m c 5 t) (ix3 0 j d))
    (qLoad (ms0_3 t) ((hs0_3 t).unread (iblk m c 3 t)) k (ix3 0 ⟨64 * u.val + w.val, by omega⟩ e))
    (fun d => ?_) (fun j d => ?_) (fun j d => ?_) (fun j d => ?_) (fun j d => ?_) n ⟨(head t).val * 128 + e.val, by omega⟩ ?_ rfl ?_
  · exact (qLoad_apply (ms0_0 t) (hs0_0 t) (iblk m c 0 t) k ⟨64 * u.val + w.val, by omega⟩ d ⟨(32 * k.val + u.val) * 64 + w.val, by omega⟩ (by simp only; omega)).trans
      (iblk0_apply m c t _ d ⟨4096 + ((head t).val * 128 + d.val), by omega⟩ rfl)
  · exact (kLoad_apply (ms0_1 t) (hs0_1 t) (iblk m c 1 t) k u j d ⟨64 * rs (32 * k.val + u.val) + j.val, by omega⟩ rfl).trans
      (iblk1_apply m c t _ d ⟨6144 + ((head t).val * 128 + d.val), by omega⟩ rfl)
  · exact (kLoad_apply (ms0_2 t) (hs0_2 t) (iblk m c 2 t) k u j d ⟨64 * rs (32 * k.val + u.val) + j.val, by omega⟩ rfl).trans
      (iblk2_apply m c t _ d ⟨8192 + ((head t).val * 128 + d.val), by omega⟩ rfl)
  · exact (cLoad_apply (ms0_4 t) (hs0_4 t) (iblk m c 4 t) j d).trans (iblk4_apply m c t j d ⟨6144 + ((head t).val * 128 + d.val), by omega⟩ rfl)
  · exact (cLoad_apply (ms0_5 t) (hs0_5 t) (iblk m c 5 t) j d).trans (iblk5_apply m c t j d ⟨8192 + ((head t).val * 128 + d.val), by omega⟩ rfl)
  · show n.val = (32 * k.val + u.val) * 64 + w.val; omega
  · exact (qLoad_apply (ms0_3 t) (hs0_3 t) (iblk m c 3 t) k ⟨64 * u.val + w.val, by omega⟩ e n hn).trans
      (iblk3_apply m c t n e ⟨10240 + ((head t).val * 128 + e.val), by omega⟩ rfl)

/-- The block a grid point writes. -/
theorem point_eq (t : Fin cfg0.N) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (iblk m c 0 t) (iblk m c 1 t) (iblk m c 2 t) (iblk m c 3 t) (iblk m c 4 t) (iblk m c 5 t) (iblk m c 6 t)
      = fun y => result m c (((cfg0.win 7).blk t).view.emb y) := by
  refine out_of_stored c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (iblk m c 0 t) (iblk m c 1 t) (iblk m c 2 t) (iblk m c 3 t) (iblk m c 4 t) (iblk m c 5 t) (iblk m c 6 t)
    (fun y => result m c (((cfg0.win 7).blk t).view.emb y)) (fun k x => ?_)
  have hk2 := trips_two k
  obtain ⟨z, p, e, rfl⟩ : ∃ (z : Fin 1) (p : Fin 2048) (e : Fin 128), x = ix3 z p e :=
    ⟨x 0, x 1, x 2, funext fun a => match a with | ⟨0, _⟩ => rfl | ⟨1, _⟩ => rfl | ⟨2, _⟩ => rfl⟩
  obtain rfl : z = 0 := Subsingleton.elim _ _
  obtain ⟨u, w, rfl⟩ : ∃ (u : Fin 32) (w : Fin 64), p = ⟨64 * u.val + w.val, by omega⟩ :=
    ⟨⟨p.val / 64, by omega⟩, ⟨p.val % 64, by omega⟩, Fin.ext (by simp only; omega)⟩
  rw [emb_trip k ⟨64 * u.val + w.val, by omega⟩ e ⟨2048 * k.val + (64 * u.val + w.val), by omega⟩ rfl]
  refine (stored_eq m c hq hk hkc hx2 t k u w e ⟨2048 * k.val + (64 * u.val + w.val), by omega⟩ rfl).trans ?_
  exact congrArg (result m c) (emb7 t ⟨2048 * k.val + (64 * u.val + w.val), by omega⟩ e).symm

end Neigh

end
-- ==== Proof.Neigh.Tiled.lean ====
module

public import proofs.«01_k».proof.Proof.Neigh.Out

/-!
# The neighbourhood attention's output array, whole

The grid points' blocks tile the output array, and each is the reference's result read there (`out_eq`).
-/

@[expose] public section

set_option maxRecDepth 16384

noncomputable section

namespace Neigh

open Idealize.ShloMosaic Idealize.ShloMosaic.TcCoe Cert.NeighbourIdeal Cert.NeighbourIdeal.Gen

variable (m : (ℓ : Loc nD τ sig) → Buf (Elt Ideal) ℓ) (c : Dev nD)

/-- An array read at a grid point's block is what the point's write-back takes of the block. -/
theorem cut_read (t : Fin cfg0.N) (R : Vec Ideal S4x4096x2048 .bf16) :
    (cfg0.win 7).cut (grid0.coords t) (fun y => R (((cfg0.win 7).blk t).view.emb y)) = ((cfg0.win 7).blk t).view.read (Elt Ideal) R := rfl

variable (hq : ∀ b p h d, ∃ r : ℝ, Ref.lane (Arg0 m c) 4096 Ref.le_q b p h d = r) (hk : ∀ b p h d, ∃ r : ℝ, Ref.lane (Arg0 m c) 6144 Ref.le_k b p h d = r)
  (hkc : ∀ b p h d, ∃ r : ℝ, Ref.ctxLane (Arg1 m c) 6144 Ref.le_k b p h d = r) (hx2 : ∀ i, ∃ r : ℝ, Arg2 m c i = r)
include hq hk hkc hx2

/-- What a grid point writes back is the reference's result read at its block. -/
theorem flushed_eq (t : Fin cfg0.N) : (dats m 0 c).flushed 7 t = ((cfg0.win 7).blk t).view.read (Elt Ideal) (result m c) := by
  rw [Cert.NeighbourIdeal.Value.flushed7_A m c t, point_eq m c hq hk hkc hx2 t]
  generalize result m c = R
  exact cut_read t R

/-- The output array after the run is the reference's result of the same arguments. -/
theorem out_eq : (dats m 0 c).arrAt 7 cfg0.N = result m c :=
  (dats m 0 c).arrAt_eq_of_cover 7 (result m c) (fun t _ => flushed_eq m c hq hk hkc hx2 t) cover

end Neigh

end
-- ==== Proof.Neigh.Claims.lean ====
module

public import proofs.«01_k».proof.Defs
public import proofs.«01_k».proof.Proof.Neigh.Tiled
public import proofs.«01_k».proof.Proof.Attn.Claims
public import proofs.«01_k».proof.Proof.Gen.Neighbour.Frame
public import proofs.«01_k».proof.Proof.Gen.NeighbourReferenceIdeal.Run

/-!
# The neighbourhood attention's claims

The precondition makes every query, key and bias real; then the kernel's output array and the reference's result are one
array (`algebraic`).  The frames are the generated ones.
-/

@[expose] public section

set_option maxRecDepth 16384

noncomputable section

namespace Neigh.Claims

open Idealize.ShloMosaic Idealize.SL.Sem Idealize.ShloMosaic.StableHlo

/-- The shapes' conditions that the precondition states. -/
instance preFacts : Cert.Pre_finite_scores.Facts where
  slices_S4x4096x12288_S4x4096x4096_0_0_4096 := by decide
  bitsLt_bf16_f32 := by decide
  slices_S4x256x12288_S4x256x2048_0_0_6144 := by decide
  bcast_S_S4x4096x4096 := by decide
  reducesTo_S4x4096x4096_S_d0_1_2 := by decide
  h_S_ := by decide
  bcast_S_S4x256x2048 := by decide
  reducesTo_S4x256x2048_S_d0_1_2 := by decide
  bcast_S_S16x15x31 := by decide
  reducesTo_S16x15x31_S_d0_1_2 := by decide

variable (a0 : FVec Ideal Cert.Pre_finite_scores.S4x4096x12288 .bf16) (a1 : FVec Ideal Cert.Pre_finite_scores.S4x256x12288 .bf16)
  (a2 : FVec Ideal Cert.Pre_finite_scores.S16x15x31 .f32)

/-- The queries and the keys lie in the columns 4096 to 8191. -/
theorem columns_real (h : (Cert.Pre_finite_scores.fn (F := Ideal) a0 a1 a2).1 = fun _ => 1#1) (b : Fin 4) (p : Fin 4096) (l : Fin 12288)
    (hl : 4096 ≤ l.val ∧ l.val < 8192) : ∃ r : ℝ, a0 (ix3 b p l) = r := by
  haveI : Subsingleton Cert.Pre_finite_scores.S_.Idx := ⟨fun a b => funext fun k => k.elim0⟩
  unfold Cert.Pre_finite_scores.fn at h
  dsimp only at h
  have h' := Host.reduce_andi_all _ _ _ _ ix0 (congrFun h ix0) (ix3 b p ⟨l.val - 4096, by omega⟩)
  have e := Attn.Claims.real_of_abs_lt _ h'
  obtain ⟨r, hr⟩ := e
  refine ⟨r, Eq.trans ?_ hr⟩
  show a0 (ix3 b p l) = a0 _
  congr 1
  funext a; apply Fin.ext
  match a with
  | ⟨0, _⟩ => show b.val = 0 + b.val; omega
  | ⟨1, _⟩ => show p.val = 0 + p.val; omega
  | ⟨2, _⟩ => show l.val = 4096 + (l.val - 4096); omega

/-- The context's keys lie in the columns 6144 to 8191. -/
theorem context_real (h : (Cert.Pre_finite_scores.fn (F := Ideal) a0 a1 a2).2.1 = fun _ => 1#1) (b : Fin 4) (p : Fin 256) (l : Fin 12288)
    (hl : 6144 ≤ l.val ∧ l.val < 8192) : ∃ r : ℝ, a1 (ix3 b p l) = r := by
  haveI : Subsingleton Cert.Pre_finite_scores.S_.Idx := ⟨fun a b => funext fun k => k.elim0⟩
  unfold Cert.Pre_finite_scores.fn at h
  dsimp only at h
  have h' := Host.reduce_andi_all _ _ _ _ ix0 (congrFun h ix0) (ix3 b p ⟨l.val - 6144, by omega⟩)
  have e := Attn.Claims.real_of_abs_lt _ h'
  obtain ⟨r, hr⟩ := e
  refine ⟨r, Eq.trans ?_ hr⟩
  show a1 (ix3 b p l) = a1 _
  congr 1
  funext a; apply Fin.ext
  match a with
  | ⟨0, _⟩ => show b.val = 0 + b.val; omega
  | ⟨1, _⟩ => show p.val = 0 + p.val; omega
  | ⟨2, _⟩ => show l.val = 6144 + (l.val - 6144); omega

theorem biases_real (h : (Cert.Pre_finite_scores.fn (F := Ideal) a0 a1 a2).2.2 = fun _ => 1#1) (i : Cert.Pre_finite_scores.S16x15x31.Idx) : ∃ r : ℝ, a2 i = r := by
  haveI : Subsingleton Cert.Pre_finite_scores.S_.Idx := ⟨fun a b => funext fun k => k.elim0⟩
  unfold Cert.Pre_finite_scores.fn at h
  dsimp only at h
  have h' := Host.reduce_andi_all _ _ _ _ ix0 (congrFun h ix0) i
  exact Attn.Claims.real_of_abs_lt _ h'

/-- The kernel's frame. -/
theorem frame_p : Cert.quiescent_Neighbour := fun m ρ _ => Cert.Neighbour.Gen.frame m ρ
/-- The idealized kernel's frame. -/
theorem frame_pi : Cert.quiescent_NeighbourIdeal := fun m ρ _ => Cert.NeighbourIdeal.Gen.frame m ρ
/-- The same under the precondition. -/
theorem frame_pi_pre : Cert.quiescent_NeighbourIdeal_pre_finite_scores := fun m ρ _ => Cert.NeighbourIdeal.Gen.frame m ρ
/-- The reference's frame. -/
theorem frame_ri : Cert.quiescent_NeighbourReferenceIdeal := fun m ρ _ =>
  (θ_run Cert.NeighbourReferenceIdeal.defs _ _).mono (fun r h => ⟨fun c => (h c).2, sem_eq_zero_of_no_sems (by decide) r.2⟩)
    (Cert.NeighbourReferenceIdeal.Value.run (F := Ideal) m ρ)
/-- The same under the precondition. -/
theorem frame_ri_pre : Cert.quiescent_NeighbourReferenceIdeal_pre_finite_scores := fun m ρ _ => frame_ri m ρ trivial

/-- The two named constants' rewrites. -/
theorem preserves : Cert.preserves_Neighbour_NeighbourIdeal :=
  ⟨IdealRules.named_const.statement Cert.NeighbourIdeal.κ "na_scale" .f32 0x3E0293EE#32 (((11863283 / 134217728) * (Real.log 2)⁻¹ : ℝ) : EReal) rfl,
    IdealRules.named_const.statement Cert.NeighbourIdeal.κ "log2e" .f32 0x3FB8AA3B#32 (((Real.log 2)⁻¹ : ℝ) : EReal) rfl⟩

/-- From arguments that agree, the queries, the keys and the biases finite, the kernel and the reference end with equal results. -/
theorem algebraic : Cert.algebraic_NeighbourIdeal_NeighbourReferenceIdeal_pre_finite_scores := by
  intro m g m' g' hpre hargs
  refine ⟨fun c => result m c, ?_, ?_⟩
  · refine (θ_run Cert.NeighbourIdeal.defs _ _).mono (fun r h c => ?_) (Cert.NeighbourIdeal.Value.run_blocks m g)
    obtain ⟨h0, h1⟩ := h c
    obtain ⟨p0, p1, p2⟩ := hpre c
    exact ⟨h0.trans (out_eq m c
      (fun b p h d => columns_real _ _ _ p0 b p ⟨4096 + (h.val * 128 + d.val), by omega⟩ ⟨by simp only; omega, by simp only; omega⟩)
      (fun b p h d => columns_real _ _ _ p0 b p ⟨6144 + (h.val * 128 + d.val), by omega⟩ ⟨by simp only; omega, by simp only; omega⟩)
      (fun b p h d => context_real _ _ _ p1 b p ⟨6144 + (h.val * 128 + d.val), by omega⟩ ⟨by simp only; omega, by simp only; omega⟩)
      (biases_real _ _ _ p2)), h1⟩
  · refine (θ_run Cert.NeighbourReferenceIdeal.defs _ _).mono (fun r h c => ?_) (Cert.NeighbourReferenceIdeal.Value.run (F := Ideal) m' g')
    obtain ⟨h0, h1⟩ := h c
    refine ⟨h0.trans ((Cert.NeighbourReferenceIdeal.Read.val_main_v97_eq (launchContents m' c)).trans ?_), h1⟩
    rw [launchContents_devRef, launchContents_devRef, launchContents_devRef]
    obtain ⟨e0, e1, e2⟩ := hargs c
    rw [e0, e1, e2]

end Neigh.Claims

end
-- ==== Proof.lean ====
/-
  The proof of `Cert.Claim` (proofs.«01_k».proof.Defs): the frames and the rewrites' statements, and that each idealized
  kernel's results are the reference's.  Proof/Attn holds the attention call's proof, Proof/Neigh
  that of the neighbourhood attention, Proof/Proj those of the projections and the norms.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Attn.Claims
public import proofs.«01_k».proof.Proof.Proj.InEven
public import proofs.«01_k».proof.Proof.Proj.InOdd
public import proofs.«01_k».proof.Proof.Proj.OutProj
public import proofs.«01_k».proof.Proof.Proj.FinalNorm
public import proofs.«01_k».proof.Proof.Proj.InEvenCtx
public import proofs.«01_k».proof.Proof.Proj.InOddCtx
public import proofs.«01_k».proof.Proof.Proj.OutProjCtx
public import proofs.«01_k».proof.Proof.Proj.Modulate
public import proofs.«01_k».proof.Proof.Neigh.Claims
public import proofs.«01_k».proof.Proof.Gen.Neighbour.Frame
public import proofs.«01_k».proof.Proof.Gen.NeighbourIdeal.Value
public import proofs.«01_k».proof.Proof.Gen.NeighbourReferenceIdeal.Run
public import proofs.«01_k».proof.Proof.Gen.NeighbourReferenceIdeal.Read
public import proofs.«01_k».proof.Proof.Gen.InEvenCtx.Frame
public import proofs.«01_k».proof.Proof.Gen.InEvenCtxIdeal.Value
public import proofs.«01_k».proof.Proof.Gen.InEvenCtxReferenceIdeal.Run
public import proofs.«01_k».proof.Proof.Gen.InOddCtx.Frame
public import proofs.«01_k».proof.Proof.Gen.InOddCtxIdeal.Value
public import proofs.«01_k».proof.Proof.Gen.InOddCtxReferenceIdeal.Run
public import proofs.«01_k».proof.Proof.Gen.OutProjCtx.Frame
public import proofs.«01_k».proof.Proof.Gen.OutProjCtxIdeal.Value
public import proofs.«01_k».proof.Proof.Gen.OutProjCtxReferenceIdeal.Run
public import proofs.«01_k».proof.Proof.Gen.Modulate.Frame
public import proofs.«01_k».proof.Proof.Gen.ModulateIdeal.Value
public import proofs.«01_k».proof.Proof.Gen.ModulateReferenceIdeal.Run
public import proofs.«01_k».proof.Proof.Gen.InEven.Frame
public import proofs.«01_k».proof.Proof.Gen.InEvenIdeal.Value
public import proofs.«01_k».proof.Proof.Gen.InEvenReferenceIdeal.Run
public import proofs.«01_k».proof.Proof.Gen.InOdd.Frame
public import proofs.«01_k».proof.Proof.Gen.InOddIdeal.Value
public import proofs.«01_k».proof.Proof.Gen.InOddReferenceIdeal.Run
public import proofs.«01_k».proof.Proof.Gen.OutProj.Frame
public import proofs.«01_k».proof.Proof.Gen.OutProjIdeal.Value
public import proofs.«01_k».proof.Proof.Gen.OutProjReferenceIdeal.Run
public import proofs.«01_k».proof.Proof.Gen.FinalNorm.Frame
public import proofs.«01_k».proof.Proof.Gen.FinalNormIdeal.Value
public import proofs.«01_k».proof.Proof.Gen.FinalNormReferenceIdeal.Run

@[expose] public section

noncomputable section

namespace Cert.Proof

/-- The certificate: every program's facts, the frames, the rewrites' statements and the equalities. -/
theorem claim : Cert.Claim :=
  ⟨Cert.Kernel.Gen.facts, Cert.KernelIdeal.Gen.facts, Cert.ReferenceIdeal.Gen.facts,
    Cert.InEven.Gen.facts, Cert.InEvenIdeal.Gen.facts, Cert.InEvenReferenceIdeal.Gen.facts,
    Cert.InOdd.Gen.facts, Cert.InOddIdeal.Gen.facts, Cert.InOddReferenceIdeal.Gen.facts,
    Cert.OutProj.Gen.facts, Cert.OutProjIdeal.Gen.facts, Cert.OutProjReferenceIdeal.Gen.facts,
    Cert.FinalNorm.Gen.facts, Cert.FinalNormIdeal.Gen.facts, Cert.FinalNormReferenceIdeal.Gen.facts,
    Cert.InEvenCtx.Gen.facts, Cert.InEvenCtxIdeal.Gen.facts, Cert.InEvenCtxReferenceIdeal.Gen.facts,
    Cert.InOddCtx.Gen.facts, Cert.InOddCtxIdeal.Gen.facts, Cert.InOddCtxReferenceIdeal.Gen.facts,
    Cert.OutProjCtx.Gen.facts, Cert.OutProjCtxIdeal.Gen.facts, Cert.OutProjCtxReferenceIdeal.Gen.facts,
    Cert.Modulate.Gen.facts, Cert.ModulateIdeal.Gen.facts, Cert.ModulateReferenceIdeal.Gen.facts,
    Cert.Neighbour.Gen.facts, Cert.NeighbourIdeal.Gen.facts, Cert.NeighbourReferenceIdeal.Gen.facts,
    Attn.Claims.preFacts, Neigh.Claims.preFacts,
    Attn.Claims.frame_p, Attn.Claims.frame_pi, Attn.Claims.frame_pi_pre, Attn.Claims.frame_ri, Attn.Claims.frame_ri_pre,
    Proj.InEven.frame_p, Proj.InEven.frame_pi, Proj.InEven.frame_ri,
    Proj.InOdd.frame_p, Proj.InOdd.frame_pi, Proj.InOdd.frame_ri,
    Proj.OutProj.frame_p, Proj.OutProj.frame_pi, Proj.OutProj.frame_ri,
    Proj.FinalNorm.frame_p, Proj.FinalNorm.frame_pi, Proj.FinalNorm.frame_ri,
    Proj.InEvenCtx.frame_p, Proj.InEvenCtx.frame_pi, Proj.InEvenCtx.frame_ri,
    Proj.InOddCtx.frame_p, Proj.InOddCtx.frame_pi, Proj.InOddCtx.frame_ri,
    Proj.OutProjCtx.frame_p, Proj.OutProjCtx.frame_pi, Proj.OutProjCtx.frame_ri,
    Proj.Modulate.frame_p, Proj.Modulate.frame_pi, Proj.Modulate.frame_ri,
    Neigh.Claims.frame_p, Neigh.Claims.frame_pi, Neigh.Claims.frame_pi_pre, Neigh.Claims.frame_ri, Neigh.Claims.frame_ri_pre,
    Attn.Claims.preserves, Attn.Claims.algebraic,
    Proj.InEven.preserves, Proj.InEven.algebraic,
    Proj.InOdd.preserves, Proj.InOdd.algebraic,
    Proj.OutProj.preserves, Proj.OutProj.algebraic,
    Proj.FinalNorm.preserves, Proj.FinalNorm.algebraic,
    Proj.InEvenCtx.preserves, Proj.InEvenCtx.algebraic,
    Proj.InOddCtx.preserves, Proj.InOddCtx.algebraic,
    Proj.OutProjCtx.preserves, Proj.OutProjCtx.algebraic,
    Proj.Modulate.preserves, Proj.Modulate.algebraic,
    Neigh.Claims.preserves, Neigh.Claims.algebraic⟩

end Cert.Proof

end
